-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S_ : Shape := ⟨0, ![]⟩
abbrev S1 : Shape := ⟨1, ![1]⟩
abbrev S31 : Shape := ⟨1, ![31]⟩
abbrev S2 : Shape := ⟨1, ![2]⟩
abbrev S31x1 : Shape := ⟨2, ![31, 1]⟩
abbrev S64 : Shape := ⟨1, ![64]⟩
abbrev S2x128x1024 : Shape := ⟨3, ![2, 128, 1024]⟩
abbrev S128x4096 : Shape := ⟨2, ![128, 4096]⟩
abbrev S128x128 : Shape := ⟨2, ![128, 128]⟩
abbrev S128x1024 : Shape := ⟨2, ![128, 1024]⟩
abbrev S1x128x1024 : Shape := ⟨3, ![1, 128, 1024]⟩

abbrev nBuf : Space → Nat
  | .hbm => 145
  | .vmem => 19
  | .smem => 1
  | _ => 0

abbrev hbmTy0_0 (i : Nat) : BufTy := match i % 128 with
  | 0 => ⟨S4096x128, .bf16⟩
  | 1 => ⟨S128x8192, .bf16⟩
  | 2 => ⟨S32, .i32⟩
  | 3 => ⟨S32, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S31, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i1⟩
  | 31 => ⟨S_, .i32⟩
  | 32 => ⟨S_, .i1⟩
  | 33 => ⟨S_, .i1⟩
  | 34 => ⟨S_, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S1, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i1⟩
  | 57 => ⟨S_, .i32⟩
  | 58 => ⟨S_, .i1⟩
  | 59 => ⟨S_, .i1⟩
  | 60 => ⟨S_, .i1⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S1, .i32⟩
  | 69 => ⟨S_, .i32⟩
  | 70 => ⟨S1, .i32⟩
  | 71 => ⟨S1, .i32⟩
  | 72 => ⟨S2, .i32⟩
  | 73 => ⟨S_, .i32⟩
  | 74 => ⟨S_, .i32⟩
  | 75 => ⟨S31, .i32⟩
  | 76 => ⟨S31, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S31, .i32⟩
  | 84 => ⟨S31, .i32⟩
  | 85 => ⟨S_, .i32⟩
  | 86 => ⟨S31, .i32⟩
  | 87 => ⟨S31, .i1⟩
  | 88 => ⟨S_, .i32⟩
  | 89 => ⟨S31, .i32⟩
  | 90 => ⟨S31, .i1⟩
  | 91 => ⟨S_, .i32⟩
  | 92 => ⟨S_, .i1⟩
  | 93 => ⟨S31, .i1⟩
  | 94 => ⟨S31, .i1⟩
  | 95 => ⟨S31, .i1⟩
  | 96 => ⟨S31, .i32⟩
  | 97 => ⟨S31, .i32⟩
  | 98 => ⟨S31, .i32⟩
  | 99 => ⟨S_, .i32⟩
  | 100 => ⟨S31, .i32⟩
  | 101 => ⟨S31, .i1⟩
  | 102 => ⟨S_, .i32⟩
  | 103 => ⟨S31, .i32⟩
  | 104 => ⟨S31, .i32⟩
  | 105 => ⟨S31, .i32⟩
  | 106 => ⟨S31x1, .i32⟩
  | 107 => ⟨S31, .i32⟩
  | 108 => ⟨S_, .i32⟩
  | 109 => ⟨S_, .i32⟩
  | 110 => ⟨S31, .i32⟩
  | 111 => ⟨S31, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S31, .i32⟩
  | 119 => ⟨S31, .i32⟩
  | 120 => ⟨S_, .i32⟩
  | 121 => ⟨S31, .i32⟩
  | 122 => ⟨S31, .i1⟩
  | 123 => ⟨S_, .i32⟩
  | 124 => ⟨S31, .i32⟩
  | 125 => ⟨S31, .i1⟩
  | 126 => ⟨S_, .i32⟩
  | 127 => ⟨S_, .i1⟩
  | _ => ⟨S4096x128, .bf16⟩

abbrev hbmTy0_1 (i : Nat) : BufTy := match i % 128 with
  | 0 => ⟨S31, .i1⟩
  | 1 => ⟨S31, .i1⟩
  | 2 => ⟨S31, .i1⟩
  | 3 => ⟨S31, .i32⟩
  | 4 => ⟨S31, .i32⟩
  | 5 => ⟨S31, .i32⟩
  | 6 => ⟨S_, .i32⟩
  | 7 => ⟨S31, .i32⟩
  | 8 => ⟨S31, .i1⟩
  | 9 => ⟨S_, .i32⟩
  | 10 => ⟨S31, .i32⟩
  | 11 => ⟨S31, .i32⟩
  | 12 => ⟨S31, .i32⟩
  | 13 => ⟨S31x1, .i32⟩
  | 14 => ⟨S31, .i32⟩
  | 15 => ⟨S64, .i32⟩
  | 16 => ⟨S128x8192, .f32⟩
  | _ => ⟨S4096x128, .bf16⟩

abbrev hbmTy (i : Nat) : BufTy := match i / 128 with
  | 0 => hbmTy0_0 i
  | 1 => hbmTy0_1 i
  | _ => ⟨S4096x128, .bf16⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S128x8192, .bf16⟩
  | .local _ .vmem, ⟨2, _⟩ => ⟨S128x8192, .f32⟩
  | .local _ .vmem, ⟨3, _⟩ => ⟨S2x128x1024, .bf16⟩
  | .local _ .vmem, ⟨4, _⟩ => ⟨S2x128x1024, .bf16⟩
  | .local _ .vmem, ⟨5, _⟩ => ⟨S2x128x1024, .bf16⟩
  | .local _ .vmem, ⟨6, _⟩ => ⟨S2x128x1024, .bf16⟩
  | .local _ .vmem, ⟨7, _⟩ => ⟨S2x128x1024, .bf16⟩
  | .local _ .vmem, ⟨8, _⟩ => ⟨S2x128x1024, .bf16⟩
  | .local _ .vmem, ⟨9, _⟩ => ⟨S2x128x1024, .bf16⟩
  | .local _ .vmem, ⟨10, _⟩ => ⟨S2x128x1024, .bf16⟩
  | .local _ .vmem, ⟨11, _⟩ => ⟨S2x128x1024, .bf16⟩
  | .local _ .vmem, ⟨12, _⟩ => ⟨S2x128x1024, .bf16⟩
  | .local _ .vmem, ⟨13, _⟩ => ⟨S2x128x1024, .bf16⟩
  | .local _ .vmem, ⟨14, _⟩ => ⟨S2x128x1024, .bf16⟩
  | .local _ .vmem, ⟨15, _⟩ => ⟨S2x128x1024, .bf16⟩
  | .local _ .vmem, ⟨16, _⟩ => ⟨S2x128x1024, .bf16⟩
  | .local _ .vmem, ⟨17, _⟩ => ⟨S2x128x1024, .bf16⟩
  | .local _ .vmem, ⟨18, _⟩ => ⟨S2x128x1024, .bf16⟩
  | .local _ .smem, ⟨0, _⟩ => ⟨S64, .i32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 9 36 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_c_6 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_c_1 : Ref sig .tc := ⟨.hbm, 27, rfl⟩
abbrev main_call0_v4 : Ref sig .tc := ⟨.hbm, 28, rfl⟩
abbrev main_call0_c_2 : Ref sig .tc := ⟨.hbm, 29, rfl⟩
abbrev main_call0_v5 : Ref sig .tc := ⟨.hbm, 30, rfl⟩
abbrev main_call0_c_3 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_v12 : Ref sig .tc := ⟨.hbm, 36, rfl⟩
abbrev main_c_7 : Ref sig .tc := ⟨.hbm, 37, rfl⟩
abbrev main_v13 : Ref sig .tc := ⟨.hbm, 38, rfl⟩
abbrev main_c_8 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_9 : Ref sig .tc := ⟨.hbm, 44, rfl⟩
abbrev main_v18 : Ref sig .tc := ⟨.hbm, 45, rfl⟩
abbrev main_c_10 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_c_1 : Ref sig .tc := ⟨.hbm, 53, rfl⟩
abbrev main_call1_v4 : Ref sig .tc := ⟨.hbm, 54, rfl⟩
abbrev main_call1_c_2 : Ref sig .tc := ⟨.hbm, 55, rfl⟩
abbrev main_call1_v5 : Ref sig .tc := ⟨.hbm, 56, rfl⟩
abbrev main_call1_c_3 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_v19 : Ref sig .tc := ⟨.hbm, 62, rfl⟩
abbrev main_c_11 : Ref sig .tc := ⟨.hbm, 63, rfl⟩
abbrev main_v20 : Ref sig .tc := ⟨.hbm, 64, rfl⟩
abbrev main_c_12 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_13 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_c_14 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_v5 : Ref sig .tc := ⟨.hbm, 86, rfl⟩
abbrev main_call2_v6 : Ref sig .tc := ⟨.hbm, 87, rfl⟩
abbrev main_call2_c_2 : Ref sig .tc := ⟨.hbm, 88, rfl⟩
abbrev main_call2_v7 : Ref sig .tc := ⟨.hbm, 89, rfl⟩
abbrev main_call2_v8 : Ref sig .tc := ⟨.hbm, 90, rfl⟩
abbrev main_call2_c_3 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_v31 : Ref sig .tc := ⟨.hbm, 98, rfl⟩
abbrev main_c_15 : Ref sig .tc := ⟨.hbm, 99, rfl⟩
abbrev main_v32 : Ref sig .tc := ⟨.hbm, 100, rfl⟩
abbrev main_v33 : Ref sig .tc := ⟨.hbm, 101, rfl⟩
abbrev main_c_16 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_c_17 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_c_18 : Ref sig .tc := ⟨.hbm, 112, rfl⟩
abbrev main_call3_v0 : Ref sig .tc := ⟨.hbm, 113, rfl⟩
abbrev main_call3_c : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_c_1 : Ref sig .tc := ⟨.hbm, 120, rfl⟩
abbrev main_call3_v5 : Ref sig .tc := ⟨.hbm, 121, rfl⟩
abbrev main_call3_v6 : Ref sig .tc := ⟨.hbm, 122, rfl⟩
abbrev main_call3_c_2 : Ref sig .tc := ⟨.hbm, 123, rfl⟩
abbrev main_call3_v7 : Ref sig .tc := ⟨.hbm, 124, rfl⟩
abbrev main_call3_v8 : Ref sig .tc := ⟨.hbm, 125, rfl⟩
abbrev main_call3_c_3 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_v42 : Ref sig .tc := ⟨.hbm, 133, rfl⟩
abbrev main_c_19 : Ref sig .tc := ⟨.hbm, 134, rfl⟩
abbrev main_v43 : Ref sig .tc := ⟨.hbm, 135, rfl⟩
abbrev main_v44 : Ref sig .tc := ⟨.hbm, 136, rfl⟩
abbrev main_c_20 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 8

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_off1 (v9 : BitVec 32) : Fin 2 → Nat :=
  let c128_i32 : BitVec 32 := 128#32
  let v12 : BitVec 32 := Scalar.muli v9 c128_i32
  let v13 : Index := Scalar.indexCast v12
  let c0_6 : Index := 0#32
  ![v13.toNat, 0]

def k0_chk3 (v9 : BitVec 32) : Prop :=
  (∀ a, (k0_off1 v9) a + S128x128.size a ≤ S4096x128.size a)
theorem k0_off1_inb : ∀ (v9 : BitVec 32) (k0_hw3 : k0_chk3 v9), ∀ a, (k0_off1 v9) a + S128x128.size a ≤ S4096x128.size a := fun v9 k0_hw3 => k0_hw3

def k0_off2 (v10 : BitVec 32) : Fin 2 → Nat :=
  let c128_i32_7 : BitVec 32 := 128#32
  let v18 : BitVec 32 := Scalar.muli v10 c128_i32_7
  let v19 : Index := Scalar.indexCast v18
  let c0_8 : Index := 0#32
  ![v19.toNat, 0]

def k0_chk4 (v10 : BitVec 32) : Prop :=
  (∀ a, (k0_off2 v10) a + S128x128.size a ≤ S4096x128.size a)
theorem k0_off2_inb : ∀ (v10 : BitVec 32) (k0_hw4 : k0_chk4 v10), ∀ a, (k0_off2 v10) a + S128x128.size a ≤ S4096x128.size a := fun v10 k0_hw4 => k0_hw4

def k0_dev3 (v0 : BitVec 32) : Nat :=
  let c0_i32_18 : BitVec 32 := 0#32
  let c1_i32_17 : BitVec 32 := 1#32
  let v35 : BitVec 32 := Scalar.muli v0 c1_i32_17
  let v36 : BitVec 32 := Scalar.addi c0_i32_18 v35
  v36.toNat
def k0_dev4 (v1 : BitVec 32) : Nat :=
  let c0_i32_31 : BitVec 32 := 0#32
  let c1_i32_30 : BitVec 32 := 1#32
  let v49 : BitVec 32 := Scalar.muli v1 c1_i32_30
  let v50 : BitVec 32 := Scalar.addi c0_i32_31 v49
  v50.toNat
def k0_dev5 (v0 : BitVec 32) : Nat :=
  let c0_i32_44 : BitVec 32 := 0#32
  let c1_i32_43 : BitVec 32 := 1#32
  let v63 : BitVec 32 := Scalar.muli v0 c1_i32_43
  let v64 : BitVec 32 := Scalar.addi c0_i32_44 v63
  v64.toNat
def k0_dev6 (v1 : BitVec 32) : Nat :=
  let c0_i32_57 : BitVec 32 := 0#32
  let c1_i32_56 : BitVec 32 := 1#32
  let v77 : BitVec 32 := Scalar.muli v1 c1_i32_56
  let v78 : BitVec 32 := Scalar.addi c0_i32_57 v77
  v78.toNat
def k0_dev7 (v0 : BitVec 32) : Nat :=
  let c0_i32_70 : BitVec 32 := 0#32
  let c1_i32_69 : BitVec 32 := 1#32
  let v91 : BitVec 32 := Scalar.muli v0 c1_i32_69
  let v92 : BitVec 32 := Scalar.addi c0_i32_70 v91
  v92.toNat
def k0_dev8 (v1 : BitVec 32) : Nat :=
  let c0_i32_83 : BitVec 32 := 0#32
  let c1_i32_82 : BitVec 32 := 1#32
  let v105 : BitVec 32 := Scalar.muli v1 c1_i32_82
  let v106 : BitVec 32 := Scalar.addi c0_i32_83 v105
  v106.toNat
def k0_dev9 (v0 : BitVec 32) : Nat :=
  let c0_i32_96 : BitVec 32 := 0#32
  let c1_i32_95 : BitVec 32 := 1#32
  let v119 : BitVec 32 := Scalar.muli v0 c1_i32_95
  let v120 : BitVec 32 := Scalar.addi c0_i32_96 v119
  v120.toNat
def k0_dev10 (v1 : BitVec 32) : Nat :=
  let c0_i32_109 : BitVec 32 := 0#32
  let c1_i32_108 : BitVec 32 := 1#32
  let v133 : BitVec 32 := Scalar.muli v1 c1_i32_108
  let v134 : BitVec 32 := Scalar.addi c0_i32_109 v133
  v134.toNat
def k0_off3 (v143 : BitVec 32) : Fin 2 → Nat :=
  let c128_i32_114 : BitVec 32 := 128#32
  let v146 : BitVec 32 := Scalar.muli v143 c128_i32_114
  let v147 : Index := Scalar.indexCast v146
  let c0_115 : Index := 0#32
  ![v147.toNat, 0]

def k0_chk5 (v143 : BitVec 32) : Prop :=
  (∀ a, (k0_off3 v143) a + S128x128.size a ≤ S4096x128.size a)
theorem k0_off3_inb : ∀ (v143 : BitVec 32) (k0_hw5 : k0_chk5 v143), ∀ a, (k0_off3 v143) a + S128x128.size a ≤ S4096x128.size a := fun v143 k0_hw5 => k0_hw5

def k0_off4 (v144 : BitVec 32) : Fin 2 → Nat :=
  let c128_i32_117 : BitVec 32 := 128#32
  let v152 : BitVec 32 := Scalar.muli v144 c128_i32_117
  let v153 : Index := Scalar.indexCast v152
  let c0_118 : Index := 0#32
  ![v153.toNat, 0]

def k0_chk6 (v144 : BitVec 32) : Prop :=
  (∀ a, (k0_off4 v144) a + S128x128.size a ≤ S4096x128.size a)
theorem k0_off4_inb : ∀ (v144 : BitVec 32) (k0_hw6 : k0_chk6 v144), ∀ a, (k0_off4 v144) a + S128x128.size a ≤ S4096x128.size a := fun v144 k0_hw6 => k0_hw6

def k0_dev11 (v0 : BitVec 32) : Nat :=
  let c0_i32_141 : BitVec 32 := 0#32
  let c1_i32_140 : BitVec 32 := 1#32
  let v181 : BitVec 32 := Scalar.muli v0 c1_i32_140
  let v182 : BitVec 32 := Scalar.addi c0_i32_141 v181
  v182.toNat
def k0_dev12 (v1 : BitVec 32) : Nat :=
  let c0_i32_148 : BitVec 32 := 0#32
  let c1_i32_147 : BitVec 32 := 1#32
  let v191 : BitVec 32 := Scalar.muli v1 c1_i32_147
  let v192 : BitVec 32 := Scalar.addi c0_i32_148 v191
  v192.toNat
def k0_dev13 (v1 : BitVec 32) : Nat :=
  let c0_i32_170 : BitVec 32 := 0#32
  let c1_i32_169 : BitVec 32 := 1#32
  let v209 : BitVec 32 := Scalar.muli v1 c1_i32_169
  let v210 : BitVec 32 := Scalar.addi c0_i32_170 v209
  v210.toNat
def k0_dev14 (v0 : BitVec 32) : Nat :=
  let c0_i32_177 : BitVec 32 := 0#32
  let c1_i32_176 : BitVec 32 := 1#32
  let v219 : BitVec 32 := Scalar.muli v0 c1_i32_176
  let v220 : BitVec 32 := Scalar.addi c0_i32_177 v219
  v220.toNat
def k0_dev15 (v0 : BitVec 32) : Nat :=
  let c0_i32_199 : BitVec 32 := 0#32
  let c1_i32_198 : BitVec 32 := 1#32
  let v237 : BitVec 32 := Scalar.muli v0 c1_i32_198
  let v238 : BitVec 32 := Scalar.addi c0_i32_199 v237
  v238.toNat
def k0_dev16 (v1 : BitVec 32) : Nat :=
  let c0_i32_206 : BitVec 32 := 0#32
  let c1_i32_205 : BitVec 32 := 1#32
  let v247 : BitVec 32 := Scalar.muli v1 c1_i32_205
  let v248 : BitVec 32 := Scalar.addi c0_i32_206 v247
  v248.toNat
def k0_dev17 (v1 : BitVec 32) : Nat :=
  let c0_i32_228 : BitVec 32 := 0#32
  let c1_i32_227 : BitVec 32 := 1#32
  let v265 : BitVec 32 := Scalar.muli v1 c1_i32_227
  let v266 : BitVec 32 := Scalar.addi c0_i32_228 v265
  v266.toNat
def k0_dev18 (v0 : BitVec 32) : Nat :=
  let c0_i32_235 : BitVec 32 := 0#32
  let c1_i32_234 : BitVec 32 := 1#32
  let v275 : BitVec 32 := Scalar.muli v0 c1_i32_234
  let v276 : BitVec 32 := Scalar.addi c0_i32_235 v275
  v276.toNat
def k0_dev19 (v0 : BitVec 32) : Nat :=
  let c0_i32_257 : BitVec 32 := 0#32
  let c1_i32_256 : BitVec 32 := 1#32
  let v293 : BitVec 32 := Scalar.muli v0 c1_i32_256
  let v294 : BitVec 32 := Scalar.addi c0_i32_257 v293
  v294.toNat
def k0_dev20 (v1 : BitVec 32) : Nat :=
  let c0_i32_264 : BitVec 32 := 0#32
  let c1_i32_263 : BitVec 32 := 1#32
  let v303 : BitVec 32 := Scalar.muli v1 c1_i32_263
  let v304 : BitVec 32 := Scalar.addi c0_i32_264 v303
  v304.toNat
def k0_dev21 (v1 : BitVec 32) : Nat :=
  let c0_i32_286 : BitVec 32 := 0#32
  let c1_i32_285 : BitVec 32 := 1#32
  let v321 : BitVec 32 := Scalar.muli v1 c1_i32_285
  let v322 : BitVec 32 := Scalar.addi c0_i32_286 v321
  v322.toNat
def k0_dev22 (v0 : BitVec 32) : Nat :=
  let c0_i32_293 : BitVec 32 := 0#32
  let c1_i32_292 : BitVec 32 := 1#32
  let v331 : BitVec 32 := Scalar.muli v0 c1_i32_292
  let v332 : BitVec 32 := Scalar.addi c0_i32_293 v331
  v332.toNat
def k0_dev23 (v0 : BitVec 32) : Nat :=
  let c0_i32_315 : BitVec 32 := 0#32
  let c1_i32_314 : BitVec 32 := 1#32
  let v349 : BitVec 32 := Scalar.muli v0 c1_i32_314
  let v350 : BitVec 32 := Scalar.addi c0_i32_315 v349
  v350.toNat
def k0_dev24 (v1 : BitVec 32) : Nat :=
  let c0_i32_322 : BitVec 32 := 0#32
  let c1_i32_321 : BitVec 32 := 1#32
  let v359 : BitVec 32 := Scalar.muli v1 c1_i32_321
  let v360 : BitVec 32 := Scalar.addi c0_i32_322 v359
  v360.toNat
def k0_dev25 (v1 : BitVec 32) : Nat :=
  let c0_i32_344 : BitVec 32 := 0#32
  let c1_i32_343 : BitVec 32 := 1#32
  let v377 : BitVec 32 := Scalar.muli v1 c1_i32_343
  let v378 : BitVec 32 := Scalar.addi c0_i32_344 v377
  v378.toNat
def k0_dev26 (v0 : BitVec 32) : Nat :=
  let c0_i32_351 : BitVec 32 := 0#32
  let c1_i32_350 : BitVec 32 := 1#32
  let v387 : BitVec 32 := Scalar.muli v0 c1_i32_350
  let v388 : BitVec 32 := Scalar.addi c0_i32_351 v387
  v388.toNat
def k0_off5 (v389 : BitVec 32) : Fin 2 → Nat :=
  let c128_i32_352 : BitVec 32 := 128#32
  let v392 : BitVec 32 := Scalar.muli v389 c128_i32_352
  let v393 : Index := Scalar.indexCast v392
  let c0_353 : Index := 0#32
  ![v393.toNat, 0]

def k0_chk7 (v389 : BitVec 32) : Prop :=
  (∀ a, (k0_off5 v389) a + S128x128.size a ≤ S4096x128.size a)
theorem k0_off5_inb : ∀ (v389 : BitVec 32) (k0_hw7 : k0_chk7 v389), ∀ a, (k0_off5 v389) a + S128x128.size a ≤ S4096x128.size a := fun v389 k0_hw7 => k0_hw7

def k0_off6 (v390 : BitVec 32) : Fin 2 → Nat :=
  let c128_i32_355 : BitVec 32 := 128#32
  let v398 : BitVec 32 := Scalar.muli v390 c128_i32_355
  let v399 : Index := Scalar.indexCast v398
  let c0_356 : Index := 0#32
  ![v399.toNat, 0]

def k0_chk8 (v390 : BitVec 32) : Prop :=
  (∀ a, (k0_off6 v390) a + S128x128.size a ≤ S4096x128.size a)
theorem k0_off6_inb : ∀ (v390 : BitVec 32) (k0_hw8 : k0_chk8 v390), ∀ a, (k0_off6 v390) a + S128x128.size a ≤ S4096x128.size a := fun v390 k0_hw8 => k0_hw8

def k0_dev27 (v0 : BitVec 32) : Nat :=
  let c0_i32_390 : BitVec 32 := 0#32
  let c1_i32_389 : BitVec 32 := 1#32
  let v433 : BitVec 32 := Scalar.muli v0 c1_i32_389
  let v434 : BitVec 32 := Scalar.addi c0_i32_390 v433
  v434.toNat
def k0_dev28 (v1 : BitVec 32) : Nat :=
  let c0_i32_397 : BitVec 32 := 0#32
  let c1_i32_396 : BitVec 32 := 1#32
  let v443 : BitVec 32 := Scalar.muli v1 c1_i32_396
  let v444 : BitVec 32 := Scalar.addi c0_i32_397 v443
  v444.toNat
def k0_dev29 (v1 : BitVec 32) : Nat :=
  let c0_i32_430 : BitVec 32 := 0#32
  let c1_i32_429 : BitVec 32 := 1#32
  let v467 : BitVec 32 := Scalar.muli v1 c1_i32_429
  let v468 : BitVec 32 := Scalar.addi c0_i32_430 v467
  v468.toNat
def k0_dev30 (v0 : BitVec 32) : Nat :=
  let c0_i32_437 : BitVec 32 := 0#32
  let c1_i32_436 : BitVec 32 := 1#32
  let v477 : BitVec 32 := Scalar.muli v0 c1_i32_436
  let v478 : BitVec 32 := Scalar.addi c0_i32_437 v477
  v478.toNat
def k0_dev31 (v0 : BitVec 32) : Nat :=
  let c0_i32_470 : BitVec 32 := 0#32
  let c1_i32_469 : BitVec 32 := 1#32
  let v501 : BitVec 32 := Scalar.muli v0 c1_i32_469
  let v502 : BitVec 32 := Scalar.addi c0_i32_470 v501
  v502.toNat
def k0_dev32 (v1 : BitVec 32) : Nat :=
  let c0_i32_477 : BitVec 32 := 0#32
  let c1_i32_476 : BitVec 32 := 1#32
  let v511 : BitVec 32 := Scalar.muli v1 c1_i32_476
  let v512 : BitVec 32 := Scalar.addi c0_i32_477 v511
  v512.toNat
def k0_dev33 (v1 : BitVec 32) : Nat :=
  let c0_i32_510 : BitVec 32 := 0#32
  let c1_i32_509 : BitVec 32 := 1#32
  let v535 : BitVec 32 := Scalar.muli v1 c1_i32_509
  let v536 : BitVec 32 := Scalar.addi c0_i32_510 v535
  v536.toNat
def k0_dev34 (v0 : BitVec 32) : Nat :=
  let c0_i32_517 : BitVec 32 := 0#32
  let c1_i32_516 : BitVec 32 := 1#32
  let v545 : BitVec 32 := Scalar.muli v0 c1_i32_516
  let v546 : BitVec 32 := Scalar.addi c0_i32_517 v545
  v546.toNat
def k0_dev35 (v0 : BitVec 32) : Nat :=
  let c0_i32_550 : BitVec 32 := 0#32
  let c1_i32_549 : BitVec 32 := 1#32
  let v569 : BitVec 32 := Scalar.muli v0 c1_i32_549
  let v570 : BitVec 32 := Scalar.addi c0_i32_550 v569
  v570.toNat
def k0_dev36 (v1 : BitVec 32) : Nat :=
  let c0_i32_557 : BitVec 32 := 0#32
  let c1_i32_556 : BitVec 32 := 1#32
  let v579 : BitVec 32 := Scalar.muli v1 c1_i32_556
  let v580 : BitVec 32 := Scalar.addi c0_i32_557 v579
  v580.toNat
def k0_dev37 (v1 : BitVec 32) : Nat :=
  let c0_i32_590 : BitVec 32 := 0#32
  let c1_i32_589 : BitVec 32 := 1#32
  let v603 : BitVec 32 := Scalar.muli v1 c1_i32_589
  let v604 : BitVec 32 := Scalar.addi c0_i32_590 v603
  v604.toNat
def k0_dev38 (v0 : BitVec 32) : Nat :=
  let c0_i32_597 : BitVec 32 := 0#32
  let c1_i32_596 : BitVec 32 := 1#32
  let v613 : BitVec 32 := Scalar.muli v0 c1_i32_596
  let v614 : BitVec 32 := Scalar.addi c0_i32_597 v613
  v614.toNat
def k0_dev39 (v0 : BitVec 32) : Nat :=
  let c0_i32_630 : BitVec 32 := 0#32
  let c1_i32_629 : BitVec 32 := 1#32
  let v637 : BitVec 32 := Scalar.muli v0 c1_i32_629
  let v638 : BitVec 32 := Scalar.addi c0_i32_630 v637
  v638.toNat
def k0_dev40 (v1 : BitVec 32) : Nat :=
  let c0_i32_637 : BitVec 32 := 0#32
  let c1_i32_636 : BitVec 32 := 1#32
  let v647 : BitVec 32 := Scalar.muli v1 c1_i32_636
  let v648 : BitVec 32 := Scalar.addi c0_i32_637 v647
  v648.toNat
def k0_dev41 (v1 : BitVec 32) : Nat :=
  let c0_i32_670 : BitVec 32 := 0#32
  let c1_i32_669 : BitVec 32 := 1#32
  let v671 : BitVec 32 := Scalar.muli v1 c1_i32_669
  let v672 : BitVec 32 := Scalar.addi c0_i32_670 v671
  v672.toNat
def k0_dev42 (v0 : BitVec 32) : Nat :=
  let c0_i32_677 : BitVec 32 := 0#32
  let c1_i32_676 : BitVec 32 := 1#32
  let v681 : BitVec 32 := Scalar.muli v0 c1_i32_676
  let v682 : BitVec 32 := Scalar.addi c0_i32_677 v681
  v682.toNat
def k0_off7 (v683 : BitVec 32) : Fin 2 → Nat :=
  let c128_i32_678 : BitVec 32 := 128#32
  let v686 : BitVec 32 := Scalar.muli v683 c128_i32_678
  let v687 : Index := Scalar.indexCast v686
  let c0_679 : Index := 0#32
  ![v687.toNat, 0]

def k0_chk9 (v683 : BitVec 32) : Prop :=
  (∀ a, (k0_off7 v683) a + S128x128.size a ≤ S4096x128.size a)
theorem k0_off7_inb : ∀ (v683 : BitVec 32) (k0_hw9 : k0_chk9 v683), ∀ a, (k0_off7 v683) a + S128x128.size a ≤ S4096x128.size a := fun v683 k0_hw9 => k0_hw9

def k0_off8 (v684 : BitVec 32) : Fin 2 → Nat :=
  let c128_i32_681 : BitVec 32 := 128#32
  let v692 : BitVec 32 := Scalar.muli v684 c128_i32_681
  let v693 : Index := Scalar.indexCast v692
  let c0_682 : Index := 0#32
  ![v693.toNat, 0]

def k0_chk10 (v684 : BitVec 32) : Prop :=
  (∀ a, (k0_off8 v684) a + S128x128.size a ≤ S4096x128.size a)
theorem k0_off8_inb : ∀ (v684 : BitVec 32) (k0_hw10 : k0_chk10 v684), ∀ a, (k0_off8 v684) a + S128x128.size a ≤ S4096x128.size a := fun v684 k0_hw10 => k0_hw10

def k0_dev43 (v0 : BitVec 32) : Nat :=
  let c0_i32_716 : BitVec 32 := 0#32
  let c1_i32_715 : BitVec 32 := 1#32
  let v727 : BitVec 32 := Scalar.muli v0 c1_i32_715
  let v728 : BitVec 32 := Scalar.addi c0_i32_716 v727
  v728.toNat
def k0_dev44 (v1 : BitVec 32) : Nat :=
  let c0_i32_723 : BitVec 32 := 0#32
  let c1_i32_722 : BitVec 32 := 1#32
  let v737 : BitVec 32 := Scalar.muli v1 c1_i32_722
  let v738 : BitVec 32 := Scalar.addi c0_i32_723 v737
  v738.toNat
def k0_dev45 (v1 : BitVec 32) : Nat :=
  let c0_i32_756 : BitVec 32 := 0#32
  let c1_i32_755 : BitVec 32 := 1#32
  let v761 : BitVec 32 := Scalar.muli v1 c1_i32_755
  let v762 : BitVec 32 := Scalar.addi c0_i32_756 v761
  v762.toNat
def k0_dev46 (v0 : BitVec 32) : Nat :=
  let c0_i32_763 : BitVec 32 := 0#32
  let c1_i32_762 : BitVec 32 := 1#32
  let v771 : BitVec 32 := Scalar.muli v0 c1_i32_762
  let v772 : BitVec 32 := Scalar.addi c0_i32_763 v771
  v772.toNat
def k0_dev47 (v0 : BitVec 32) : Nat :=
  let c0_i32_796 : BitVec 32 := 0#32
  let c1_i32_795 : BitVec 32 := 1#32
  let v795 : BitVec 32 := Scalar.muli v0 c1_i32_795
  let v796 : BitVec 32 := Scalar.addi c0_i32_796 v795
  v796.toNat
def k0_dev48 (v1 : BitVec 32) : Nat :=
  let c0_i32_803 : BitVec 32 := 0#32
  let c1_i32_802 : BitVec 32 := 1#32
  let v805 : BitVec 32 := Scalar.muli v1 c1_i32_802
  let v806 : BitVec 32 := Scalar.addi c0_i32_803 v805
  v806.toNat
def k0_dev49 (v1 : BitVec 32) : Nat :=
  let c0_i32_836 : BitVec 32 := 0#32
  let c1_i32_835 : BitVec 32 := 1#32
  let v829 : BitVec 32 := Scalar.muli v1 c1_i32_835
  let v830 : BitVec 32 := Scalar.addi c0_i32_836 v829
  v830.toNat
def k0_dev50 (v0 : BitVec 32) : Nat :=
  let c0_i32_843 : BitVec 32 := 0#32
  let c1_i32_842 : BitVec 32 := 1#32
  let v839 : BitVec 32 := Scalar.muli v0 c1_i32_842
  let v840 : BitVec 32 := Scalar.addi c0_i32_843 v839
  v840.toNat
def k0_dev51 (v0 : BitVec 32) : Nat :=
  let c0_i32_876 : BitVec 32 := 0#32
  let c1_i32_875 : BitVec 32 := 1#32
  let v863 : BitVec 32 := Scalar.muli v0 c1_i32_875
  let v864 : BitVec 32 := Scalar.addi c0_i32_876 v863
  v864.toNat
def k0_dev52 (v1 : BitVec 32) : Nat :=
  let c0_i32_883 : BitVec 32 := 0#32
  let c1_i32_882 : BitVec 32 := 1#32
  let v873 : BitVec 32 := Scalar.muli v1 c1_i32_882
  let v874 : BitVec 32 := Scalar.addi c0_i32_883 v873
  v874.toNat
def k0_dev53 (v1 : BitVec 32) : Nat :=
  let c0_i32_916 : BitVec 32 := 0#32
  let c1_i32_915 : BitVec 32 := 1#32
  let v897 : BitVec 32 := Scalar.muli v1 c1_i32_915
  let v898 : BitVec 32 := Scalar.addi c0_i32_916 v897
  v898.toNat
def k0_dev54 (v0 : BitVec 32) : Nat :=
  let c0_i32_923 : BitVec 32 := 0#32
  let c1_i32_922 : BitVec 32 := 1#32
  let v907 : BitVec 32 := Scalar.muli v0 c1_i32_922
  let v908 : BitVec 32 := Scalar.addi c0_i32_923 v907
  v908.toNat
def k0_dev55 (v0 : BitVec 32) : Nat :=
  let c0_i32_956 : BitVec 32 := 0#32
  let c1_i32_955 : BitVec 32 := 1#32
  let v931 : BitVec 32 := Scalar.muli v0 c1_i32_955
  let v932 : BitVec 32 := Scalar.addi c0_i32_956 v931
  v932.toNat
def k0_dev56 (v1 : BitVec 32) : Nat :=
  let c0_i32_963 : BitVec 32 := 0#32
  let c1_i32_962 : BitVec 32 := 1#32
  let v941 : BitVec 32 := Scalar.muli v1 c1_i32_962
  let v942 : BitVec 32 := Scalar.addi c0_i32_963 v941
  v942.toNat
def k0_dev57 (v1 : BitVec 32) : Nat :=
  let c0_i32_996 : BitVec 32 := 0#32
  let c1_i32_995 : BitVec 32 := 1#32
  let v965 : BitVec 32 := Scalar.muli v1 c1_i32_995
  let v966 : BitVec 32 := Scalar.addi c0_i32_996 v965
  v966.toNat
def k0_dev58 (v0 : BitVec 32) : Nat :=
  let c0_i32_1003 : BitVec 32 := 0#32
  let c1_i32_1002 : BitVec 32 := 1#32
  let v975 : BitVec 32 := Scalar.muli v0 c1_i32_1002
  let v976 : BitVec 32 := Scalar.addi c0_i32_1003 v975
  v976.toNat
def k0_off9 (v977 : BitVec 32) : Fin 2 → Nat :=
  let c128_i32_1004 : BitVec 32 := 128#32
  let v980 : BitVec 32 := Scalar.muli v977 c128_i32_1004
  let v981 : Index := Scalar.indexCast v980
  let c0_1005 : Index := 0#32
  ![v981.toNat, 0]

def k0_chk11 (v977 : BitVec 32) : Prop :=
  (∀ a, (k0_off9 v977) a + S128x128.size a ≤ S4096x128.size a)
theorem k0_off9_inb : ∀ (v977 : BitVec 32) (k0_hw11 : k0_chk11 v977), ∀ a, (k0_off9 v977) a + S128x128.size a ≤ S4096x128.size a := fun v977 k0_hw11 => k0_hw11

def k0_off10 (v978 : BitVec 32) : Fin 2 → Nat :=
  let c128_i32_1007 : BitVec 32 := 128#32
  let v986 : BitVec 32 := Scalar.muli v978 c128_i32_1007
  let v987 : Index := Scalar.indexCast v986
  let c0_1008 : Index := 0#32
  ![v987.toNat, 0]

def k0_chk12 (v978 : BitVec 32) : Prop :=
  (∀ a, (k0_off10 v978) a + S128x128.size a ≤ S4096x128.size a)
theorem k0_off10_inb : ∀ (v978 : BitVec 32) (k0_hw12 : k0_chk12 v978), ∀ a, (k0_off10 v978) a + S128x128.size a ≤ S4096x128.size a := fun v978 k0_hw12 => k0_hw12

def k0_dev59 (v0 : BitVec 32) : Nat :=
  let c0_i32_1042 : BitVec 32 := 0#32
  let c1_i32_1041 : BitVec 32 := 1#32
  let v1021 : BitVec 32 := Scalar.muli v0 c1_i32_1041
  let v1022 : BitVec 32 := Scalar.addi c0_i32_1042 v1021
  v1022.toNat
def k0_dev60 (v1 : BitVec 32) : Nat :=
  let c0_i32_1049 : BitVec 32 := 0#32
  let c1_i32_1048 : BitVec 32 := 1#32
  let v1031 : BitVec 32 := Scalar.muli v1 c1_i32_1048
  let v1032 : BitVec 32 := Scalar.addi c0_i32_1049 v1031
  v1032.toNat
def k0_dev61 (v1 : BitVec 32) : Nat :=
  let c0_i32_1082 : BitVec 32 := 0#32
  let c1_i32_1081 : BitVec 32 := 1#32
  let v1055 : BitVec 32 := Scalar.muli v1 c1_i32_1081
  let v1056 : BitVec 32 := Scalar.addi c0_i32_1082 v1055
  v1056.toNat
def k0_dev62 (v0 : BitVec 32) : Nat :=
  let c0_i32_1089 : BitVec 32 := 0#32
  let c1_i32_1088 : BitVec 32 := 1#32
  let v1065 : BitVec 32 := Scalar.muli v0 c1_i32_1088
  let v1066 : BitVec 32 := Scalar.addi c0_i32_1089 v1065
  v1066.toNat
def k0_dev63 (v0 : BitVec 32) : Nat :=
  let c0_i32_1122 : BitVec 32 := 0#32
  let c1_i32_1121 : BitVec 32 := 1#32
  let v1089 : BitVec 32 := Scalar.muli v0 c1_i32_1121
  let v1090 : BitVec 32 := Scalar.addi c0_i32_1122 v1089
  v1090.toNat
def k0_dev64 (v1 : BitVec 32) : Nat :=
  let c0_i32_1129 : BitVec 32 := 0#32
  let c1_i32_1128 : BitVec 32 := 1#32
  let v1099 : BitVec 32 := Scalar.muli v1 c1_i32_1128
  let v1100 : BitVec 32 := Scalar.addi c0_i32_1129 v1099
  v1100.toNat
def k0_dev65 (v1 : BitVec 32) : Nat :=
  let c0_i32_1162 : BitVec 32 := 0#32
  let c1_i32_1161 : BitVec 32 := 1#32
  let v1123 : BitVec 32 := Scalar.muli v1 c1_i32_1161
  let v1124 : BitVec 32 := Scalar.addi c0_i32_1162 v1123
  v1124.toNat
def k0_dev66 (v0 : BitVec 32) : Nat :=
  let c0_i32_1169 : BitVec 32 := 0#32
  let c1_i32_1168 : BitVec 32 := 1#32
  let v1133 : BitVec 32 := Scalar.muli v0 c1_i32_1168
  let v1134 : BitVec 32 := Scalar.addi c0_i32_1169 v1133
  v1134.toNat
def k0_dev67 (v0 : BitVec 32) : Nat :=
  let c0_i32_1202 : BitVec 32 := 0#32
  let c1_i32_1201 : BitVec 32 := 1#32
  let v1157 : BitVec 32 := Scalar.muli v0 c1_i32_1201
  let v1158 : BitVec 32 := Scalar.addi c0_i32_1202 v1157
  v1158.toNat
def k0_dev68 (v1 : BitVec 32) : Nat :=
  let c0_i32_1209 : BitVec 32 := 0#32
  let c1_i32_1208 : BitVec 32 := 1#32
  let v1167 : BitVec 32 := Scalar.muli v1 c1_i32_1208
  let v1168 : BitVec 32 := Scalar.addi c0_i32_1209 v1167
  v1168.toNat
def k0_dev69 (v1 : BitVec 32) : Nat :=
  let c0_i32_1242 : BitVec 32 := 0#32
  let c1_i32_1241 : BitVec 32 := 1#32
  let v1191 : BitVec 32 := Scalar.muli v1 c1_i32_1241
  let v1192 : BitVec 32 := Scalar.addi c0_i32_1242 v1191
  v1192.toNat
def k0_dev70 (v0 : BitVec 32) : Nat :=
  let c0_i32_1249 : BitVec 32 := 0#32
  let c1_i32_1248 : BitVec 32 := 1#32
  let v1201 : BitVec 32 := Scalar.muli v0 c1_i32_1248
  let v1202 : BitVec 32 := Scalar.addi c0_i32_1249 v1201
  v1202.toNat
def k0_dev71 (v0 : BitVec 32) : Nat :=
  let c0_i32_1282 : BitVec 32 := 0#32
  let c1_i32_1281 : BitVec 32 := 1#32
  let v1225 : BitVec 32 := Scalar.muli v0 c1_i32_1281
  let v1226 : BitVec 32 := Scalar.addi c0_i32_1282 v1225
  v1226.toNat
def k0_dev72 (v1 : BitVec 32) : Nat :=
  let c0_i32_1289 : BitVec 32 := 0#32
  let c1_i32_1288 : BitVec 32 := 1#32
  let v1235 : BitVec 32 := Scalar.muli v1 c1_i32_1288
  let v1236 : BitVec 32 := Scalar.addi c0_i32_1289 v1235
  v1236.toNat
def k0_dev73 (v1 : BitVec 32) : Nat :=
  let c0_i32_1322 : BitVec 32 := 0#32
  let c1_i32_1321 : BitVec 32 := 1#32
  let v1259 : BitVec 32 := Scalar.muli v1 c1_i32_1321
  let v1260 : BitVec 32 := Scalar.addi c0_i32_1322 v1259
  v1260.toNat
def k0_dev74 (v0 : BitVec 32) : Nat :=
  let c0_i32_1329 : BitVec 32 := 0#32
  let c1_i32_1328 : BitVec 32 := 1#32
  let v1269 : BitVec 32 := Scalar.muli v0 c1_i32_1328
  let v1270 : BitVec 32 := Scalar.addi c0_i32_1329 v1269
  v1270.toNat
def k0_off11 (v1271 : BitVec 32) : Fin 2 → Nat :=
  let c128_i32_1330 : BitVec 32 := 128#32
  let v1274 : BitVec 32 := Scalar.muli v1271 c128_i32_1330
  let v1275 : Index := Scalar.indexCast v1274
  let c0_1331 : Index := 0#32
  ![v1275.toNat, 0]

def k0_chk13 (v1271 : BitVec 32) : Prop :=
  (∀ a, (k0_off11 v1271) a + S128x128.size a ≤ S4096x128.size a)
theorem k0_off11_inb : ∀ (v1271 : BitVec 32) (k0_hw13 : k0_chk13 v1271), ∀ a, (k0_off11 v1271) a + S128x128.size a ≤ S4096x128.size a := fun v1271 k0_hw13 => k0_hw13

def k0_off12 (v1272 : BitVec 32) : Fin 2 → Nat :=
  let c128_i32_1333 : BitVec 32 := 128#32
  let v1280 : BitVec 32 := Scalar.muli v1272 c128_i32_1333
  let v1281 : Index := Scalar.indexCast v1280
  let c0_1334 : Index := 0#32
  ![v1281.toNat, 0]

def k0_chk14 (v1272 : BitVec 32) : Prop :=
  (∀ a, (k0_off12 v1272) a + S128x128.size a ≤ S4096x128.size a)
theorem k0_off12_inb : ∀ (v1272 : BitVec 32) (k0_hw14 : k0_chk14 v1272), ∀ a, (k0_off12 v1272) a + S128x128.size a ≤ S4096x128.size a := fun v1272 k0_hw14 => k0_hw14

def k0_dev75 (v0 : BitVec 32) : Nat :=
  let c0_i32_1368 : BitVec 32 := 0#32
  let c1_i32_1367 : BitVec 32 := 1#32
  let v1315 : BitVec 32 := Scalar.muli v0 c1_i32_1367
  let v1316 : BitVec 32 := Scalar.addi c0_i32_1368 v1315
  v1316.toNat
def k0_dev76 (v1 : BitVec 32) : Nat :=
  let c0_i32_1375 : BitVec 32 := 0#32
  let c1_i32_1374 : BitVec 32 := 1#32
  let v1325 : BitVec 32 := Scalar.muli v1 c1_i32_1374
  let v1326 : BitVec 32 := Scalar.addi c0_i32_1375 v1325
  v1326.toNat
def k0_dev77 (v1 : BitVec 32) : Nat :=
  let c0_i32_1408 : BitVec 32 := 0#32
  let c1_i32_1407 : BitVec 32 := 1#32
  let v1349 : BitVec 32 := Scalar.muli v1 c1_i32_1407
  let v1350 : BitVec 32 := Scalar.addi c0_i32_1408 v1349
  v1350.toNat
def k0_dev78 (v0 : BitVec 32) : Nat :=
  let c0_i32_1415 : BitVec 32 := 0#32
  let c1_i32_1414 : BitVec 32 := 1#32
  let v1359 : BitVec 32 := Scalar.muli v0 c1_i32_1414
  let v1360 : BitVec 32 := Scalar.addi c0_i32_1415 v1359
  v1360.toNat
def k0_dev79 (v0 : BitVec 32) : Nat :=
  let c0_i32_1448 : BitVec 32 := 0#32
  let c1_i32_1447 : BitVec 32 := 1#32
  let v1383 : BitVec 32 := Scalar.muli v0 c1_i32_1447
  let v1384 : BitVec 32 := Scalar.addi c0_i32_1448 v1383
  v1384.toNat
def k0_dev80 (v1 : BitVec 32) : Nat :=
  let c0_i32_1455 : BitVec 32 := 0#32
  let c1_i32_1454 : BitVec 32 := 1#32
  let v1393 : BitVec 32 := Scalar.muli v1 c1_i32_1454
  let v1394 : BitVec 32 := Scalar.addi c0_i32_1455 v1393
  v1394.toNat
def k0_dev81 (v1 : BitVec 32) : Nat :=
  let c0_i32_1488 : BitVec 32 := 0#32
  let c1_i32_1487 : BitVec 32 := 1#32
  let v1417 : BitVec 32 := Scalar.muli v1 c1_i32_1487
  let v1418 : BitVec 32 := Scalar.addi c0_i32_1488 v1417
  v1418.toNat
def k0_dev82 (v0 : BitVec 32) : Nat :=
  let c0_i32_1495 : BitVec 32 := 0#32
  let c1_i32_1494 : BitVec 32 := 1#32
  let v1427 : BitVec 32 := Scalar.muli v0 c1_i32_1494
  let v1428 : BitVec 32 := Scalar.addi c0_i32_1495 v1427
  v1428.toNat
def k0_dev83 (v0 : BitVec 32) : Nat :=
  let c0_i32_1528 : BitVec 32 := 0#32
  let c1_i32_1527 : BitVec 32 := 1#32
  let v1451 : BitVec 32 := Scalar.muli v0 c1_i32_1527
  let v1452 : BitVec 32 := Scalar.addi c0_i32_1528 v1451
  v1452.toNat
def k0_dev84 (v1 : BitVec 32) : Nat :=
  let c0_i32_1535 : BitVec 32 := 0#32
  let c1_i32_1534 : BitVec 32 := 1#32
  let v1461 : BitVec 32 := Scalar.muli v1 c1_i32_1534
  let v1462 : BitVec 32 := Scalar.addi c0_i32_1535 v1461
  v1462.toNat
def k0_dev85 (v1 : BitVec 32) : Nat :=
  let c0_i32_1568 : BitVec 32 := 0#32
  let c1_i32_1567 : BitVec 32 := 1#32
  let v1485 : BitVec 32 := Scalar.muli v1 c1_i32_1567
  let v1486 : BitVec 32 := Scalar.addi c0_i32_1568 v1485
  v1486.toNat
def k0_dev86 (v0 : BitVec 32) : Nat :=
  let c0_i32_1575 : BitVec 32 := 0#32
  let c1_i32_1574 : BitVec 32 := 1#32
  let v1495 : BitVec 32 := Scalar.muli v0 c1_i32_1574
  let v1496 : BitVec 32 := Scalar.addi c0_i32_1575 v1495
  v1496.toNat
def k0_dev87 (v0 : BitVec 32) : Nat :=
  let c0_i32_1608 : BitVec 32 := 0#32
  let c1_i32_1607 : BitVec 32 := 1#32
  let v1519 : BitVec 32 := Scalar.muli v0 c1_i32_1607
  let v1520 : BitVec 32 := Scalar.addi c0_i32_1608 v1519
  v1520.toNat
def k0_dev88 (v1 : BitVec 32) : Nat :=
  let c0_i32_1615 : BitVec 32 := 0#32
  let c1_i32_1614 : BitVec 32 := 1#32
  let v1529 : BitVec 32 := Scalar.muli v1 c1_i32_1614
  let v1530 : BitVec 32 := Scalar.addi c0_i32_1615 v1529
  v1530.toNat
def k0_dev89 (v1 : BitVec 32) : Nat :=
  let c0_i32_1648 : BitVec 32 := 0#32
  let c1_i32_1647 : BitVec 32 := 1#32
  let v1553 : BitVec 32 := Scalar.muli v1 c1_i32_1647
  let v1554 : BitVec 32 := Scalar.addi c0_i32_1648 v1553
  v1554.toNat
def k0_dev90 (v0 : BitVec 32) : Nat :=
  let c0_i32_1655 : BitVec 32 := 0#32
  let c1_i32_1654 : BitVec 32 := 1#32
  let v1563 : BitVec 32 := Scalar.muli v0 c1_i32_1654
  let v1564 : BitVec 32 := Scalar.addi c0_i32_1655 v1563
  v1564.toNat
def k0_off13 (v1565 : BitVec 32) : Fin 2 → Nat :=
  let c128_i32_1656 : BitVec 32 := 128#32
  let v1568 : BitVec 32 := Scalar.muli v1565 c128_i32_1656
  let v1569 : Index := Scalar.indexCast v1568
  let c0_1657 : Index := 0#32
  ![v1569.toNat, 0]

def k0_chk15 (v1565 : BitVec 32) : Prop :=
  (∀ a, (k0_off13 v1565) a + S128x128.size a ≤ S4096x128.size a)
theorem k0_off13_inb : ∀ (v1565 : BitVec 32) (k0_hw15 : k0_chk15 v1565), ∀ a, (k0_off13 v1565) a + S128x128.size a ≤ S4096x128.size a := fun v1565 k0_hw15 => k0_hw15

def k0_off14 (v1566 : BitVec 32) : Fin 2 → Nat :=
  let c128_i32_1659 : BitVec 32 := 128#32
  let v1574 : BitVec 32 := Scalar.muli v1566 c128_i32_1659
  let v1575 : Index := Scalar.indexCast v1574
  let c0_1660 : Index := 0#32
  ![v1575.toNat, 0]

def k0_chk16 (v1566 : BitVec 32) : Prop :=
  (∀ a, (k0_off14 v1566) a + S128x128.size a ≤ S4096x128.size a)
theorem k0_off14_inb : ∀ (v1566 : BitVec 32) (k0_hw16 : k0_chk16 v1566), ∀ a, (k0_off14 v1566) a + S128x128.size a ≤ S4096x128.size a := fun v1566 k0_hw16 => k0_hw16

def k0_dev91 (v0 : BitVec 32) : Nat :=
  let c0_i32_1694 : BitVec 32 := 0#32
  let c1_i32_1693 : BitVec 32 := 1#32
  let v1609 : BitVec 32 := Scalar.muli v0 c1_i32_1693
  let v1610 : BitVec 32 := Scalar.addi c0_i32_1694 v1609
  v1610.toNat
def k0_dev92 (v1 : BitVec 32) : Nat :=
  let c0_i32_1701 : BitVec 32 := 0#32
  let c1_i32_1700 : BitVec 32 := 1#32
  let v1619 : BitVec 32 := Scalar.muli v1 c1_i32_1700
  let v1620 : BitVec 32 := Scalar.addi c0_i32_1701 v1619
  v1620.toNat
def k0_dev93 (v1 : BitVec 32) : Nat :=
  let c0_i32_1734 : BitVec 32 := 0#32
  let c1_i32_1733 : BitVec 32 := 1#32
  let v1643 : BitVec 32 := Scalar.muli v1 c1_i32_1733
  let v1644 : BitVec 32 := Scalar.addi c0_i32_1734 v1643
  v1644.toNat
def k0_dev94 (v0 : BitVec 32) : Nat :=
  let c0_i32_1741 : BitVec 32 := 0#32
  let c1_i32_1740 : BitVec 32 := 1#32
  let v1653 : BitVec 32 := Scalar.muli v0 c1_i32_1740
  let v1654 : BitVec 32 := Scalar.addi c0_i32_1741 v1653
  v1654.toNat
def k0_dev95 (v0 : BitVec 32) : Nat :=
  let c0_i32_1774 : BitVec 32 := 0#32
  let c1_i32_1773 : BitVec 32 := 1#32
  let v1677 : BitVec 32 := Scalar.muli v0 c1_i32_1773
  let v1678 : BitVec 32 := Scalar.addi c0_i32_1774 v1677
  v1678.toNat
def k0_dev96 (v1 : BitVec 32) : Nat :=
  let c0_i32_1781 : BitVec 32 := 0#32
  let c1_i32_1780 : BitVec 32 := 1#32
  let v1687 : BitVec 32 := Scalar.muli v1 c1_i32_1780
  let v1688 : BitVec 32 := Scalar.addi c0_i32_1781 v1687
  v1688.toNat
def k0_dev97 (v1 : BitVec 32) : Nat :=
  let c0_i32_1814 : BitVec 32 := 0#32
  let c1_i32_1813 : BitVec 32 := 1#32
  let v1711 : BitVec 32 := Scalar.muli v1 c1_i32_1813
  let v1712 : BitVec 32 := Scalar.addi c0_i32_1814 v1711
  v1712.toNat
def k0_dev98 (v0 : BitVec 32) : Nat :=
  let c0_i32_1821 : BitVec 32 := 0#32
  let c1_i32_1820 : BitVec 32 := 1#32
  let v1721 : BitVec 32 := Scalar.muli v0 c1_i32_1820
  let v1722 : BitVec 32 := Scalar.addi c0_i32_1821 v1721
  v1722.toNat
def k0_dev99 (v0 : BitVec 32) : Nat :=
  let c0_i32_1854 : BitVec 32 := 0#32
  let c1_i32_1853 : BitVec 32 := 1#32
  let v1745 : BitVec 32 := Scalar.muli v0 c1_i32_1853
  let v1746 : BitVec 32 := Scalar.addi c0_i32_1854 v1745
  v1746.toNat
def k0_dev100 (v1 : BitVec 32) : Nat :=
  let c0_i32_1861 : BitVec 32 := 0#32
  let c1_i32_1860 : BitVec 32 := 1#32
  let v1755 : BitVec 32 := Scalar.muli v1 c1_i32_1860
  let v1756 : BitVec 32 := Scalar.addi c0_i32_1861 v1755
  v1756.toNat
def k0_dev101 (v1 : BitVec 32) : Nat :=
  let c0_i32_1894 : BitVec 32 := 0#32
  let c1_i32_1893 : BitVec 32 := 1#32
  let v1779 : BitVec 32 := Scalar.muli v1 c1_i32_1893
  let v1780 : BitVec 32 := Scalar.addi c0_i32_1894 v1779
  v1780.toNat
def k0_dev102 (v0 : BitVec 32) : Nat :=
  let c0_i32_1901 : BitVec 32 := 0#32
  let c1_i32_1900 : BitVec 32 := 1#32
  let v1789 : BitVec 32 := Scalar.muli v0 c1_i32_1900
  let v1790 : BitVec 32 := Scalar.addi c0_i32_1901 v1789
  v1790.toNat
def k0_dev103 (v0 : BitVec 32) : Nat :=
  let c0_i32_1934 : BitVec 32 := 0#32
  let c1_i32_1933 : BitVec 32 := 1#32
  let v1813 : BitVec 32 := Scalar.muli v0 c1_i32_1933
  let v1814 : BitVec 32 := Scalar.addi c0_i32_1934 v1813
  v1814.toNat
def k0_dev104 (v1 : BitVec 32) : Nat :=
  let c0_i32_1941 : BitVec 32 := 0#32
  let c1_i32_1940 : BitVec 32 := 1#32
  let v1823 : BitVec 32 := Scalar.muli v1 c1_i32_1940
  let v1824 : BitVec 32 := Scalar.addi c0_i32_1941 v1823
  v1824.toNat
def k0_dev105 (v1 : BitVec 32) : Nat :=
  let c0_i32_1974 : BitVec 32 := 0#32
  let c1_i32_1973 : BitVec 32 := 1#32
  let v1847 : BitVec 32 := Scalar.muli v1 c1_i32_1973
  let v1848 : BitVec 32 := Scalar.addi c0_i32_1974 v1847
  v1848.toNat
def k0_dev106 (v0 : BitVec 32) : Nat :=
  let c0_i32_1981 : BitVec 32 := 0#32
  let c1_i32_1980 : BitVec 32 := 1#32
  let v1857 : BitVec 32 := Scalar.muli v0 c1_i32_1980
  let v1858 : BitVec 32 := Scalar.addi c0_i32_1981 v1857
  v1858.toNat
def k0_off15 (v1859 : BitVec 32) : Fin 2 → Nat :=
  let c128_i32_1982 : BitVec 32 := 128#32
  let v1862 : BitVec 32 := Scalar.muli v1859 c128_i32_1982
  let v1863 : Index := Scalar.indexCast v1862
  let c0_1983 : Index := 0#32
  ![v1863.toNat, 0]

def k0_chk17 (v1859 : BitVec 32) : Prop :=
  (∀ a, (k0_off15 v1859) a + S128x128.size a ≤ S4096x128.size a)
theorem k0_off15_inb : ∀ (v1859 : BitVec 32) (k0_hw17 : k0_chk17 v1859), ∀ a, (k0_off15 v1859) a + S128x128.size a ≤ S4096x128.size a := fun v1859 k0_hw17 => k0_hw17

def k0_off16 (v1860 : BitVec 32) : Fin 2 → Nat :=
  let c128_i32_1985 : BitVec 32 := 128#32
  let v1868 : BitVec 32 := Scalar.muli v1860 c128_i32_1985
  let v1869 : Index := Scalar.indexCast v1868
  let c0_1986 : Index := 0#32
  ![v1869.toNat, 0]

def k0_chk18 (v1860 : BitVec 32) : Prop :=
  (∀ a, (k0_off16 v1860) a + S128x128.size a ≤ S4096x128.size a)
theorem k0_off16_inb : ∀ (v1860 : BitVec 32) (k0_hw18 : k0_chk18 v1860), ∀ a, (k0_off16 v1860) a + S128x128.size a ≤ S4096x128.size a := fun v1860 k0_hw18 => k0_hw18

def k0_dev107 (v0 : BitVec 32) : Nat :=
  let c0_i32_2020 : BitVec 32 := 0#32
  let c1_i32_2019 : BitVec 32 := 1#32
  let v1903 : BitVec 32 := Scalar.muli v0 c1_i32_2019
  let v1904 : BitVec 32 := Scalar.addi c0_i32_2020 v1903
  v1904.toNat
def k0_dev108 (v1 : BitVec 32) : Nat :=
  let c0_i32_2027 : BitVec 32 := 0#32
  let c1_i32_2026 : BitVec 32 := 1#32
  let v1913 : BitVec 32 := Scalar.muli v1 c1_i32_2026
  let v1914 : BitVec 32 := Scalar.addi c0_i32_2027 v1913
  v1914.toNat
def k0_dev109 (v1 : BitVec 32) : Nat :=
  let c0_i32_2060 : BitVec 32 := 0#32
  let c1_i32_2059 : BitVec 32 := 1#32
  let v1937 : BitVec 32 := Scalar.muli v1 c1_i32_2059
  let v1938 : BitVec 32 := Scalar.addi c0_i32_2060 v1937
  v1938.toNat
def k0_dev110 (v0 : BitVec 32) : Nat :=
  let c0_i32_2067 : BitVec 32 := 0#32
  let c1_i32_2066 : BitVec 32 := 1#32
  let v1947 : BitVec 32 := Scalar.muli v0 c1_i32_2066
  let v1948 : BitVec 32 := Scalar.addi c0_i32_2067 v1947
  v1948.toNat
def k0_dev111 (v0 : BitVec 32) : Nat :=
  let c0_i32_2100 : BitVec 32 := 0#32
  let c1_i32_2099 : BitVec 32 := 1#32
  let v1971 : BitVec 32 := Scalar.muli v0 c1_i32_2099
  let v1972 : BitVec 32 := Scalar.addi c0_i32_2100 v1971
  v1972.toNat
def k0_dev112 (v1 : BitVec 32) : Nat :=
  let c0_i32_2107 : BitVec 32 := 0#32
  let c1_i32_2106 : BitVec 32 := 1#32
  let v1981 : BitVec 32 := Scalar.muli v1 c1_i32_2106
  let v1982 : BitVec 32 := Scalar.addi c0_i32_2107 v1981
  v1982.toNat
def k0_dev113 (v1 : BitVec 32) : Nat :=
  let c0_i32_2140 : BitVec 32 := 0#32
  let c1_i32_2139 : BitVec 32 := 1#32
  let v2005 : BitVec 32 := Scalar.muli v1 c1_i32_2139
  let v2006 : BitVec 32 := Scalar.addi c0_i32_2140 v2005
  v2006.toNat
def k0_dev114 (v0 : BitVec 32) : Nat :=
  let c0_i32_2147 : BitVec 32 := 0#32
  let c1_i32_2146 : BitVec 32 := 1#32
  let v2015 : BitVec 32 := Scalar.muli v0 c1_i32_2146
  let v2016 : BitVec 32 := Scalar.addi c0_i32_2147 v2015
  v2016.toNat
def k0_dev115 (v0 : BitVec 32) : Nat :=
  let c0_i32_2180 : BitVec 32 := 0#32
  let c1_i32_2179 : BitVec 32 := 1#32
  let v2039 : BitVec 32 := Scalar.muli v0 c1_i32_2179
  let v2040 : BitVec 32 := Scalar.addi c0_i32_2180 v2039
  v2040.toNat
def k0_dev116 (v1 : BitVec 32) : Nat :=
  let c0_i32_2187 : BitVec 32 := 0#32
  let c1_i32_2186 : BitVec 32 := 1#32
  let v2049 : BitVec 32 := Scalar.muli v1 c1_i32_2186
  let v2050 : BitVec 32 := Scalar.addi c0_i32_2187 v2049
  v2050.toNat
def k0_dev117 (v1 : BitVec 32) : Nat :=
  let c0_i32_2220 : BitVec 32 := 0#32
  let c1_i32_2219 : BitVec 32 := 1#32
  let v2073 : BitVec 32 := Scalar.muli v1 c1_i32_2219
  let v2074 : BitVec 32 := Scalar.addi c0_i32_2220 v2073
  v2074.toNat
def k0_dev118 (v0 : BitVec 32) : Nat :=
  let c0_i32_2227 : BitVec 32 := 0#32
  let c1_i32_2226 : BitVec 32 := 1#32
  let v2083 : BitVec 32 := Scalar.muli v0 c1_i32_2226
  let v2084 : BitVec 32 := Scalar.addi c0_i32_2227 v2083
  v2084.toNat
def k0_dev119 (v0 : BitVec 32) : Nat :=
  let c0_i32_2260 : BitVec 32 := 0#32
  let c1_i32_2259 : BitVec 32 := 1#32
  let v2107 : BitVec 32 := Scalar.muli v0 c1_i32_2259
  let v2108 : BitVec 32 := Scalar.addi c0_i32_2260 v2107
  v2108.toNat
def k0_dev120 (v1 : BitVec 32) : Nat :=
  let c0_i32_2267 : BitVec 32 := 0#32
  let c1_i32_2266 : BitVec 32 := 1#32
  let v2117 : BitVec 32 := Scalar.muli v1 c1_i32_2266
  let v2118 : BitVec 32 := Scalar.addi c0_i32_2267 v2117
  v2118.toNat
def k0_dev121 (v1 : BitVec 32) : Nat :=
  let c0_i32_2300 : BitVec 32 := 0#32
  let c1_i32_2299 : BitVec 32 := 1#32
  let v2141 : BitVec 32 := Scalar.muli v1 c1_i32_2299
  let v2142 : BitVec 32 := Scalar.addi c0_i32_2300 v2141
  v2142.toNat
def k0_dev122 (v0 : BitVec 32) : Nat :=
  let c0_i32_2307 : BitVec 32 := 0#32
  let c1_i32_2306 : BitVec 32 := 1#32
  let v2151 : BitVec 32 := Scalar.muli v0 c1_i32_2306
  let v2152 : BitVec 32 := Scalar.addi c0_i32_2307 v2151
  v2152.toNat
def k0_off17 (v2153 : BitVec 32) : Fin 2 → Nat :=
  let c128_i32_2308 : BitVec 32 := 128#32
  let v2156 : BitVec 32 := Scalar.muli v2153 c128_i32_2308
  let v2157 : Index := Scalar.indexCast v2156
  let c0_2309 : Index := 0#32
  ![v2157.toNat, 0]

def k0_chk19 (v2153 : BitVec 32) : Prop :=
  (∀ a, (k0_off17 v2153) a + S128x128.size a ≤ S4096x128.size a)
theorem k0_off17_inb : ∀ (v2153 : BitVec 32) (k0_hw19 : k0_chk19 v2153), ∀ a, (k0_off17 v2153) a + S128x128.size a ≤ S4096x128.size a := fun v2153 k0_hw19 => k0_hw19

def k0_off18 (v2154 : BitVec 32) : Fin 2 → Nat :=
  let c128_i32_2311 : BitVec 32 := 128#32
  let v2162 : BitVec 32 := Scalar.muli v2154 c128_i32_2311
  let v2163 : Index := Scalar.indexCast v2162
  let c0_2312 : Index := 0#32
  ![v2163.toNat, 0]

def k0_chk20 (v2154 : BitVec 32) : Prop :=
  (∀ a, (k0_off18 v2154) a + S128x128.size a ≤ S4096x128.size a)
theorem k0_off18_inb : ∀ (v2154 : BitVec 32) (k0_hw20 : k0_chk20 v2154), ∀ a, (k0_off18 v2154) a + S128x128.size a ≤ S4096x128.size a := fun v2154 k0_hw20 => k0_hw20

def k0_dev123 (v0 : BitVec 32) : Nat :=
  let c0_i32_2346 : BitVec 32 := 0#32
  let c1_i32_2345 : BitVec 32 := 1#32
  let v2197 : BitVec 32 := Scalar.muli v0 c1_i32_2345
  let v2198 : BitVec 32 := Scalar.addi c0_i32_2346 v2197
  v2198.toNat
def k0_dev124 (v1 : BitVec 32) : Nat :=
  let c0_i32_2353 : BitVec 32 := 0#32
  let c1_i32_2352 : BitVec 32 := 1#32
  let v2207 : BitVec 32 := Scalar.muli v1 c1_i32_2352
  let v2208 : BitVec 32 := Scalar.addi c0_i32_2353 v2207
  v2208.toNat
def k0_dev125 (v1 : BitVec 32) : Nat :=
  let c0_i32_2386 : BitVec 32 := 0#32
  let c1_i32_2385 : BitVec 32 := 1#32
  let v2231 : BitVec 32 := Scalar.muli v1 c1_i32_2385
  let v2232 : BitVec 32 := Scalar.addi c0_i32_2386 v2231
  v2232.toNat
def k0_dev126 (v0 : BitVec 32) : Nat :=
  let c0_i32_2393 : BitVec 32 := 0#32
  let c1_i32_2392 : BitVec 32 := 1#32
  let v2241 : BitVec 32 := Scalar.muli v0 c1_i32_2392
  let v2242 : BitVec 32 := Scalar.addi c0_i32_2393 v2241
  v2242.toNat
def k0_dev127 (v0 : BitVec 32) : Nat :=
  let c0_i32_2426 : BitVec 32 := 0#32
  let c1_i32_2425 : BitVec 32 := 1#32
  let v2265 : BitVec 32 := Scalar.muli v0 c1_i32_2425
  let v2266 : BitVec 32 := Scalar.addi c0_i32_2426 v2265
  v2266.toNat
def k0_dev128 (v1 : BitVec 32) : Nat :=
  let c0_i32_2433 : BitVec 32 := 0#32
  let c1_i32_2432 : BitVec 32 := 1#32
  let v2275 : BitVec 32 := Scalar.muli v1 c1_i32_2432
  let v2276 : BitVec 32 := Scalar.addi c0_i32_2433 v2275
  v2276.toNat
def k0_dev129 (v1 : BitVec 32) : Nat :=
  let c0_i32_2466 : BitVec 32 := 0#32
  let c1_i32_2465 : BitVec 32 := 1#32
  let v2299 : BitVec 32 := Scalar.muli v1 c1_i32_2465
  let v2300 : BitVec 32 := Scalar.addi c0_i32_2466 v2299
  v2300.toNat
def k0_dev130 (v0 : BitVec 32) : Nat :=
  let c0_i32_2473 : BitVec 32 := 0#32
  let c1_i32_2472 : BitVec 32 := 1#32
  let v2309 : BitVec 32 := Scalar.muli v0 c1_i32_2472
  let v2310 : BitVec 32 := Scalar.addi c0_i32_2473 v2309
  v2310.toNat
def k0_dev131 (v0 : BitVec 32) : Nat :=
  let c0_i32_2506 : BitVec 32 := 0#32
  let c1_i32_2505 : BitVec 32 := 1#32
  let v2333 : BitVec 32 := Scalar.muli v0 c1_i32_2505
  let v2334 : BitVec 32 := Scalar.addi c0_i32_2506 v2333
  v2334.toNat
def k0_dev132 (v1 : BitVec 32) : Nat :=
  let c0_i32_2513 : BitVec 32 := 0#32
  let c1_i32_2512 : BitVec 32 := 1#32
  let v2343 : BitVec 32 := Scalar.muli v1 c1_i32_2512
  let v2344 : BitVec 32 := Scalar.addi c0_i32_2513 v2343
  v2344.toNat
def k0_dev133 (v1 : BitVec 32) : Nat :=
  let c0_i32_2546 : BitVec 32 := 0#32
  let c1_i32_2545 : BitVec 32 := 1#32
  let v2367 : BitVec 32 := Scalar.muli v1 c1_i32_2545
  let v2368 : BitVec 32 := Scalar.addi c0_i32_2546 v2367
  v2368.toNat
def k0_dev134 (v0 : BitVec 32) : Nat :=
  let c0_i32_2553 : BitVec 32 := 0#32
  let c1_i32_2552 : BitVec 32 := 1#32
  let v2377 : BitVec 32 := Scalar.muli v0 c1_i32_2552
  let v2378 : BitVec 32 := Scalar.addi c0_i32_2553 v2377
  v2378.toNat
def k0_dev135 (v0 : BitVec 32) : Nat :=
  let c0_i32_2586 : BitVec 32 := 0#32
  let c1_i32_2585 : BitVec 32 := 1#32
  let v2401 : BitVec 32 := Scalar.muli v0 c1_i32_2585
  let v2402 : BitVec 32 := Scalar.addi c0_i32_2586 v2401
  v2402.toNat
def k0_dev136 (v1 : BitVec 32) : Nat :=
  let c0_i32_2593 : BitVec 32 := 0#32
  let c1_i32_2592 : BitVec 32 := 1#32
  let v2411 : BitVec 32 := Scalar.muli v1 c1_i32_2592
  let v2412 : BitVec 32 := Scalar.addi c0_i32_2593 v2411
  v2412.toNat
def k0_dev137 (v1 : BitVec 32) : Nat :=
  let c0_i32_2626 : BitVec 32 := 0#32
  let c1_i32_2625 : BitVec 32 := 1#32
  let v2435 : BitVec 32 := Scalar.muli v1 c1_i32_2625
  let v2436 : BitVec 32 := Scalar.addi c0_i32_2626 v2435
  v2436.toNat
def k0_dev138 (v0 : BitVec 32) : Nat :=
  let c0_i32_2633 : BitVec 32 := 0#32
  let c1_i32_2632 : BitVec 32 := 1#32
  let v2445 : BitVec 32 := Scalar.muli v0 c1_i32_2632
  let v2446 : BitVec 32 := Scalar.addi c0_i32_2633 v2445
  v2446.toNat
def k0_off19 (v2447 : BitVec 32) : Fin 2 → Nat :=
  let c128_i32_2634 : BitVec 32 := 128#32
  let v2450 : BitVec 32 := Scalar.muli v2447 c128_i32_2634
  let v2451 : Index := Scalar.indexCast v2450
  let c0_2635 : Index := 0#32
  ![v2451.toNat, 0]

def k0_chk21 (v2447 : BitVec 32) : Prop :=
  (∀ a, (k0_off19 v2447) a + S128x128.size a ≤ S4096x128.size a)
theorem k0_off19_inb : ∀ (v2447 : BitVec 32) (k0_hw21 : k0_chk21 v2447), ∀ a, (k0_off19 v2447) a + S128x128.size a ≤ S4096x128.size a := fun v2447 k0_hw21 => k0_hw21

def k0_off20 (v2448 : BitVec 32) : Fin 2 → Nat :=
  let c128_i32_2637 : BitVec 32 := 128#32
  let v2456 : BitVec 32 := Scalar.muli v2448 c128_i32_2637
  let v2457 : Index := Scalar.indexCast v2456
  let c0_2638 : Index := 0#32
  ![v2457.toNat, 0]

def k0_chk22 (v2448 : BitVec 32) : Prop :=
  (∀ a, (k0_off20 v2448) a + S128x128.size a ≤ S4096x128.size a)
theorem k0_off20_inb : ∀ (v2448 : BitVec 32) (k0_hw22 : k0_chk22 v2448), ∀ a, (k0_off20 v2448) a + S128x128.size a ≤ S4096x128.size a := fun v2448 k0_hw22 => k0_hw22

def k0_dev139 (v0 : BitVec 32) : Nat :=
  let c0_i32_2672 : BitVec 32 := 0#32
  let c1_i32_2671 : BitVec 32 := 1#32
  let v2491 : BitVec 32 := Scalar.muli v0 c1_i32_2671
  let v2492 : BitVec 32 := Scalar.addi c0_i32_2672 v2491
  v2492.toNat
def k0_dev140 (v1 : BitVec 32) : Nat :=
  let c0_i32_2679 : BitVec 32 := 0#32
  let c1_i32_2678 : BitVec 32 := 1#32
  let v2501 : BitVec 32 := Scalar.muli v1 c1_i32_2678
  let v2502 : BitVec 32 := Scalar.addi c0_i32_2679 v2501
  v2502.toNat
def k0_dev141 (v1 : BitVec 32) : Nat :=
  let c0_i32_2712 : BitVec 32 := 0#32
  let c1_i32_2711 : BitVec 32 := 1#32
  let v2525 : BitVec 32 := Scalar.muli v1 c1_i32_2711
  let v2526 : BitVec 32 := Scalar.addi c0_i32_2712 v2525
  v2526.toNat
def k0_dev142 (v0 : BitVec 32) : Nat :=
  let c0_i32_2719 : BitVec 32 := 0#32
  let c1_i32_2718 : BitVec 32 := 1#32
  let v2535 : BitVec 32 := Scalar.muli v0 c1_i32_2718
  let v2536 : BitVec 32 := Scalar.addi c0_i32_2719 v2535
  v2536.toNat
def k0_dev143 (v0 : BitVec 32) : Nat :=
  let c0_i32_2752 : BitVec 32 := 0#32
  let c1_i32_2751 : BitVec 32 := 1#32
  let v2559 : BitVec 32 := Scalar.muli v0 c1_i32_2751
  let v2560 : BitVec 32 := Scalar.addi c0_i32_2752 v2559
  v2560.toNat
def k0_dev144 (v1 : BitVec 32) : Nat :=
  let c0_i32_2759 : BitVec 32 := 0#32
  let c1_i32_2758 : BitVec 32 := 1#32
  let v2569 : BitVec 32 := Scalar.muli v1 c1_i32_2758
  let v2570 : BitVec 32 := Scalar.addi c0_i32_2759 v2569
  v2570.toNat
def k0_dev145 (v1 : BitVec 32) : Nat :=
  let c0_i32_2792 : BitVec 32 := 0#32
  let c1_i32_2791 : BitVec 32 := 1#32
  let v2593 : BitVec 32 := Scalar.muli v1 c1_i32_2791
  let v2594 : BitVec 32 := Scalar.addi c0_i32_2792 v2593
  v2594.toNat
def k0_dev146 (v0 : BitVec 32) : Nat :=
  let c0_i32_2799 : BitVec 32 := 0#32
  let c1_i32_2798 : BitVec 32 := 1#32
  let v2603 : BitVec 32 := Scalar.muli v0 c1_i32_2798
  let v2604 : BitVec 32 := Scalar.addi c0_i32_2799 v2603
  v2604.toNat
def k0_dev147 (v0 : BitVec 32) : Nat :=
  let c0_i32_2832 : BitVec 32 := 0#32
  let c1_i32_2831 : BitVec 32 := 1#32
  let v2627 : BitVec 32 := Scalar.muli v0 c1_i32_2831
  let v2628 : BitVec 32 := Scalar.addi c0_i32_2832 v2627
  v2628.toNat
def k0_dev148 (v1 : BitVec 32) : Nat :=
  let c0_i32_2839 : BitVec 32 := 0#32
  let c1_i32_2838 : BitVec 32 := 1#32
  let v2637 : BitVec 32 := Scalar.muli v1 c1_i32_2838
  let v2638 : BitVec 32 := Scalar.addi c0_i32_2839 v2637
  v2638.toNat
def k0_dev149 (v1 : BitVec 32) : Nat :=
  let c0_i32_2872 : BitVec 32 := 0#32
  let c1_i32_2871 : BitVec 32 := 1#32
  let v2661 : BitVec 32 := Scalar.muli v1 c1_i32_2871
  let v2662 : BitVec 32 := Scalar.addi c0_i32_2872 v2661
  v2662.toNat
def k0_dev150 (v0 : BitVec 32) : Nat :=
  let c0_i32_2879 : BitVec 32 := 0#32
  let c1_i32_2878 : BitVec 32 := 1#32
  let v2671 : BitVec 32 := Scalar.muli v0 c1_i32_2878
  let v2672 : BitVec 32 := Scalar.addi c0_i32_2879 v2671
  v2672.toNat
def k0_dev151 (v0 : BitVec 32) : Nat :=
  let c0_i32_2912 : BitVec 32 := 0#32
  let c1_i32_2911 : BitVec 32 := 1#32
  let v2695 : BitVec 32 := Scalar.muli v0 c1_i32_2911
  let v2696 : BitVec 32 := Scalar.addi c0_i32_2912 v2695
  v2696.toNat
def k0_dev152 (v1 : BitVec 32) : Nat :=
  let c0_i32_2919 : BitVec 32 := 0#32
  let c1_i32_2918 : BitVec 32 := 1#32
  let v2705 : BitVec 32 := Scalar.muli v1 c1_i32_2918
  let v2706 : BitVec 32 := Scalar.addi c0_i32_2919 v2705
  v2706.toNat
def k0_dev153 (v1 : BitVec 32) : Nat :=
  let c0_i32_2952 : BitVec 32 := 0#32
  let c1_i32_2951 : BitVec 32 := 1#32
  let v2729 : BitVec 32 := Scalar.muli v1 c1_i32_2951
  let v2730 : BitVec 32 := Scalar.addi c0_i32_2952 v2729
  v2730.toNat
def k0_dev154 (v0 : BitVec 32) : Nat :=
  let c0_i32_2959 : BitVec 32 := 0#32
  let c1_i32_2958 : BitVec 32 := 1#32
  let v2739 : BitVec 32 := Scalar.muli v0 c1_i32_2958
  let v2740 : BitVec 32 := Scalar.addi c0_i32_2959 v2739
  v2740.toNat
def k0_off21 (v2741 : BitVec 32) : Fin 2 → Nat :=
  let c128_i32_2960 : BitVec 32 := 128#32
  let v2744 : BitVec 32 := Scalar.muli v2741 c128_i32_2960
  let v2745 : Index := Scalar.indexCast v2744
  let c0_2961 : Index := 0#32
  ![v2745.toNat, 0]

def k0_chk23 (v2741 : BitVec 32) : Prop :=
  (∀ a, (k0_off21 v2741) a + S128x128.size a ≤ S4096x128.size a)
theorem k0_off21_inb : ∀ (v2741 : BitVec 32) (k0_hw23 : k0_chk23 v2741), ∀ a, (k0_off21 v2741) a + S128x128.size a ≤ S4096x128.size a := fun v2741 k0_hw23 => k0_hw23

def k0_off22 (v2742 : BitVec 32) : Fin 2 → Nat :=
  let c128_i32_2963 : BitVec 32 := 128#32
  let v2750 : BitVec 32 := Scalar.muli v2742 c128_i32_2963
  let v2751 : Index := Scalar.indexCast v2750
  let c0_2964 : Index := 0#32
  ![v2751.toNat, 0]

def k0_chk24 (v2742 : BitVec 32) : Prop :=
  (∀ a, (k0_off22 v2742) a + S128x128.size a ≤ S4096x128.size a)
theorem k0_off22_inb : ∀ (v2742 : BitVec 32) (k0_hw24 : k0_chk24 v2742), ∀ a, (k0_off22 v2742) a + S128x128.size a ≤ S4096x128.size a := fun v2742 k0_hw24 => k0_hw24

def k0_dev155 (v0 : BitVec 32) : Nat :=
  let c0_i32_2998 : BitVec 32 := 0#32
  let c1_i32_2997 : BitVec 32 := 1#32
  let v2785 : BitVec 32 := Scalar.muli v0 c1_i32_2997
  let v2786 : BitVec 32 := Scalar.addi c0_i32_2998 v2785
  v2786.toNat
def k0_dev156 (v1 : BitVec 32) : Nat :=
  let c0_i32_3005 : BitVec 32 := 0#32
  let c1_i32_3004 : BitVec 32 := 1#32
  let v2795 : BitVec 32 := Scalar.muli v1 c1_i32_3004
  let v2796 : BitVec 32 := Scalar.addi c0_i32_3005 v2795
  v2796.toNat
def k0_dev157 (v1 : BitVec 32) : Nat :=
  let c0_i32_3038 : BitVec 32 := 0#32
  let c1_i32_3037 : BitVec 32 := 1#32
  let v2819 : BitVec 32 := Scalar.muli v1 c1_i32_3037
  let v2820 : BitVec 32 := Scalar.addi c0_i32_3038 v2819
  v2820.toNat
def k0_dev158 (v0 : BitVec 32) : Nat :=
  let c0_i32_3045 : BitVec 32 := 0#32
  let c1_i32_3044 : BitVec 32 := 1#32
  let v2829 : BitVec 32 := Scalar.muli v0 c1_i32_3044
  let v2830 : BitVec 32 := Scalar.addi c0_i32_3045 v2829
  v2830.toNat
def k0_dev159 (v0 : BitVec 32) : Nat :=
  let c0_i32_3078 : BitVec 32 := 0#32
  let c1_i32_3077 : BitVec 32 := 1#32
  let v2853 : BitVec 32 := Scalar.muli v0 c1_i32_3077
  let v2854 : BitVec 32 := Scalar.addi c0_i32_3078 v2853
  v2854.toNat
def k0_dev160 (v1 : BitVec 32) : Nat :=
  let c0_i32_3085 : BitVec 32 := 0#32
  let c1_i32_3084 : BitVec 32 := 1#32
  let v2863 : BitVec 32 := Scalar.muli v1 c1_i32_3084
  let v2864 : BitVec 32 := Scalar.addi c0_i32_3085 v2863
  v2864.toNat
def k0_dev161 (v1 : BitVec 32) : Nat :=
  let c0_i32_3118 : BitVec 32 := 0#32
  let c1_i32_3117 : BitVec 32 := 1#32
  let v2887 : BitVec 32 := Scalar.muli v1 c1_i32_3117
  let v2888 : BitVec 32 := Scalar.addi c0_i32_3118 v2887
  v2888.toNat
def k0_dev162 (v0 : BitVec 32) : Nat :=
  let c0_i32_3125 : BitVec 32 := 0#32
  let c1_i32_3124 : BitVec 32 := 1#32
  let v2897 : BitVec 32 := Scalar.muli v0 c1_i32_3124
  let v2898 : BitVec 32 := Scalar.addi c0_i32_3125 v2897
  v2898.toNat
def k0_dev163 (v0 : BitVec 32) : Nat :=
  let c0_i32_3158 : BitVec 32 := 0#32
  let c1_i32_3157 : BitVec 32 := 1#32
  let v2921 : BitVec 32 := Scalar.muli v0 c1_i32_3157
  let v2922 : BitVec 32 := Scalar.addi c0_i32_3158 v2921
  v2922.toNat
def k0_dev164 (v1 : BitVec 32) : Nat :=
  let c0_i32_3165 : BitVec 32 := 0#32
  let c1_i32_3164 : BitVec 32 := 1#32
  let v2931 : BitVec 32 := Scalar.muli v1 c1_i32_3164
  let v2932 : BitVec 32 := Scalar.addi c0_i32_3165 v2931
  v2932.toNat
def k0_dev165 (v1 : BitVec 32) : Nat :=
  let c0_i32_3198 : BitVec 32 := 0#32
  let c1_i32_3197 : BitVec 32 := 1#32
  let v2955 : BitVec 32 := Scalar.muli v1 c1_i32_3197
  let v2956 : BitVec 32 := Scalar.addi c0_i32_3198 v2955
  v2956.toNat
def k0_dev166 (v0 : BitVec 32) : Nat :=
  let c0_i32_3205 : BitVec 32 := 0#32
  let c1_i32_3204 : BitVec 32 := 1#32
  let v2965 : BitVec 32 := Scalar.muli v0 c1_i32_3204
  let v2966 : BitVec 32 := Scalar.addi c0_i32_3205 v2965
  v2966.toNat
def k0_dev167 (v0 : BitVec 32) : Nat :=
  let c0_i32_3238 : BitVec 32 := 0#32
  let c1_i32_3237 : BitVec 32 := 1#32
  let v2989 : BitVec 32 := Scalar.muli v0 c1_i32_3237
  let v2990 : BitVec 32 := Scalar.addi c0_i32_3238 v2989
  v2990.toNat
def k0_dev168 (v1 : BitVec 32) : Nat :=
  let c0_i32_3245 : BitVec 32 := 0#32
  let c1_i32_3244 : BitVec 32 := 1#32
  let v2999 : BitVec 32 := Scalar.muli v1 c1_i32_3244
  let v3000 : BitVec 32 := Scalar.addi c0_i32_3245 v2999
  v3000.toNat
def k0_dev169 (v1 : BitVec 32) : Nat :=
  let c0_i32_3278 : BitVec 32 := 0#32
  let c1_i32_3277 : BitVec 32 := 1#32
  let v3023 : BitVec 32 := Scalar.muli v1 c1_i32_3277
  let v3024 : BitVec 32 := Scalar.addi c0_i32_3278 v3023
  v3024.toNat
def k0_dev170 (v0 : BitVec 32) : Nat :=
  let c0_i32_3285 : BitVec 32 := 0#32
  let c1_i32_3284 : BitVec 32 := 1#32
  let v3033 : BitVec 32 := Scalar.muli v0 c1_i32_3284
  let v3034 : BitVec 32 := Scalar.addi c0_i32_3285 v3033
  v3034.toNat
def k0_off23 (v3035 : BitVec 32) : Fin 2 → Nat :=
  let c128_i32_3286 : BitVec 32 := 128#32
  let v3038 : BitVec 32 := Scalar.muli v3035 c128_i32_3286
  let v3039 : Index := Scalar.indexCast v3038
  let c0_3287 : Index := 0#32
  ![v3039.toNat, 0]

def k0_chk25 (v3035 : BitVec 32) : Prop :=
  (∀ a, (k0_off23 v3035) a + S128x128.size a ≤ S4096x128.size a)
theorem k0_off23_inb : ∀ (v3035 : BitVec 32) (k0_hw25 : k0_chk25 v3035), ∀ a, (k0_off23 v3035) a + S128x128.size a ≤ S4096x128.size a := fun v3035 k0_hw25 => k0_hw25

def k0_off24 (v3036 : BitVec 32) : Fin 2 → Nat :=
  let c128_i32_3289 : BitVec 32 := 128#32
  let v3044 : BitVec 32 := Scalar.muli v3036 c128_i32_3289
  let v3045 : Index := Scalar.indexCast v3044
  let c0_3290 : Index := 0#32
  ![v3045.toNat, 0]

def k0_chk26 (v3036 : BitVec 32) : Prop :=
  (∀ a, (k0_off24 v3036) a + S128x128.size a ≤ S4096x128.size a)
theorem k0_off24_inb : ∀ (v3036 : BitVec 32) (k0_hw26 : k0_chk26 v3036), ∀ a, (k0_off24 v3036) a + S128x128.size a ≤ S4096x128.size a := fun v3036 k0_hw26 => k0_hw26

def k0_dev171 (v0 : BitVec 32) : Nat :=
  let c0_i32_3324 : BitVec 32 := 0#32
  let c1_i32_3323 : BitVec 32 := 1#32
  let v3079 : BitVec 32 := Scalar.muli v0 c1_i32_3323
  let v3080 : BitVec 32 := Scalar.addi c0_i32_3324 v3079
  v3080.toNat
def k0_dev172 (v1 : BitVec 32) : Nat :=
  let c0_i32_3331 : BitVec 32 := 0#32
  let c1_i32_3330 : BitVec 32 := 1#32
  let v3089 : BitVec 32 := Scalar.muli v1 c1_i32_3330
  let v3090 : BitVec 32 := Scalar.addi c0_i32_3331 v3089
  v3090.toNat
def k0_dev173 (v1 : BitVec 32) : Nat :=
  let c0_i32_3364 : BitVec 32 := 0#32
  let c1_i32_3363 : BitVec 32 := 1#32
  let v3113 : BitVec 32 := Scalar.muli v1 c1_i32_3363
  let v3114 : BitVec 32 := Scalar.addi c0_i32_3364 v3113
  v3114.toNat
def k0_dev174 (v0 : BitVec 32) : Nat :=
  let c0_i32_3371 : BitVec 32 := 0#32
  let c1_i32_3370 : BitVec 32 := 1#32
  let v3123 : BitVec 32 := Scalar.muli v0 c1_i32_3370
  let v3124 : BitVec 32 := Scalar.addi c0_i32_3371 v3123
  v3124.toNat
def k0_dev175 (v0 : BitVec 32) : Nat :=
  let c0_i32_3404 : BitVec 32 := 0#32
  let c1_i32_3403 : BitVec 32 := 1#32
  let v3147 : BitVec 32 := Scalar.muli v0 c1_i32_3403
  let v3148 : BitVec 32 := Scalar.addi c0_i32_3404 v3147
  v3148.toNat
def k0_dev176 (v1 : BitVec 32) : Nat :=
  let c0_i32_3411 : BitVec 32 := 0#32
  let c1_i32_3410 : BitVec 32 := 1#32
  let v3157 : BitVec 32 := Scalar.muli v1 c1_i32_3410
  let v3158 : BitVec 32 := Scalar.addi c0_i32_3411 v3157
  v3158.toNat
def k0_dev177 (v1 : BitVec 32) : Nat :=
  let c0_i32_3444 : BitVec 32 := 0#32
  let c1_i32_3443 : BitVec 32 := 1#32
  let v3181 : BitVec 32 := Scalar.muli v1 c1_i32_3443
  let v3182 : BitVec 32 := Scalar.addi c0_i32_3444 v3181
  v3182.toNat
def k0_dev178 (v0 : BitVec 32) : Nat :=
  let c0_i32_3451 : BitVec 32 := 0#32
  let c1_i32_3450 : BitVec 32 := 1#32
  let v3191 : BitVec 32 := Scalar.muli v0 c1_i32_3450
  let v3192 : BitVec 32 := Scalar.addi c0_i32_3451 v3191
  v3192.toNat
def k0_dev179 (v0 : BitVec 32) : Nat :=
  let c0_i32_3484 : BitVec 32 := 0#32
  let c1_i32_3483 : BitVec 32 := 1#32
  let v3215 : BitVec 32 := Scalar.muli v0 c1_i32_3483
  let v3216 : BitVec 32 := Scalar.addi c0_i32_3484 v3215
  v3216.toNat
def k0_dev180 (v1 : BitVec 32) : Nat :=
  let c0_i32_3491 : BitVec 32 := 0#32
  let c1_i32_3490 : BitVec 32 := 1#32
  let v3225 : BitVec 32 := Scalar.muli v1 c1_i32_3490
  let v3226 : BitVec 32 := Scalar.addi c0_i32_3491 v3225
  v3226.toNat
def k0_dev181 (v1 : BitVec 32) : Nat :=
  let c0_i32_3524 : BitVec 32 := 0#32
  let c1_i32_3523 : BitVec 32 := 1#32
  let v3249 : BitVec 32 := Scalar.muli v1 c1_i32_3523
  let v3250 : BitVec 32 := Scalar.addi c0_i32_3524 v3249
  v3250.toNat
def k0_dev182 (v0 : BitVec 32) : Nat :=
  let c0_i32_3531 : BitVec 32 := 0#32
  let c1_i32_3530 : BitVec 32 := 1#32
  let v3259 : BitVec 32 := Scalar.muli v0 c1_i32_3530
  let v3260 : BitVec 32 := Scalar.addi c0_i32_3531 v3259
  v3260.toNat
def k0_dev183 (v0 : BitVec 32) : Nat :=
  let c0_i32_3564 : BitVec 32 := 0#32
  let c1_i32_3563 : BitVec 32 := 1#32
  let v3283 : BitVec 32 := Scalar.muli v0 c1_i32_3563
  let v3284 : BitVec 32 := Scalar.addi c0_i32_3564 v3283
  v3284.toNat
def k0_dev184 (v1 : BitVec 32) : Nat :=
  let c0_i32_3571 : BitVec 32 := 0#32
  let c1_i32_3570 : BitVec 32 := 1#32
  let v3293 : BitVec 32 := Scalar.muli v1 c1_i32_3570
  let v3294 : BitVec 32 := Scalar.addi c0_i32_3571 v3293
  v3294.toNat
def k0_dev185 (v1 : BitVec 32) : Nat :=
  let c0_i32_3604 : BitVec 32 := 0#32
  let c1_i32_3603 : BitVec 32 := 1#32
  let v3317 : BitVec 32 := Scalar.muli v1 c1_i32_3603
  let v3318 : BitVec 32 := Scalar.addi c0_i32_3604 v3317
  v3318.toNat
def k0_dev186 (v0 : BitVec 32) : Nat :=
  let c0_i32_3611 : BitVec 32 := 0#32
  let c1_i32_3610 : BitVec 32 := 1#32
  let v3327 : BitVec 32 := Scalar.muli v0 c1_i32_3610
  let v3328 : BitVec 32 := Scalar.addi c0_i32_3611 v3327
  v3328.toNat
def k0_off25 (v3329 : BitVec 32) : Fin 2 → Nat :=
  let c128_i32_3612 : BitVec 32 := 128#32
  let v3332 : BitVec 32 := Scalar.muli v3329 c128_i32_3612
  let v3333 : Index := Scalar.indexCast v3332
  let c0_3613 : Index := 0#32
  ![v3333.toNat, 0]

def k0_chk27 (v3329 : BitVec 32) : Prop :=
  (∀ a, (k0_off25 v3329) a + S128x128.size a ≤ S4096x128.size a)
theorem k0_off25_inb : ∀ (v3329 : BitVec 32) (k0_hw27 : k0_chk27 v3329), ∀ a, (k0_off25 v3329) a + S128x128.size a ≤ S4096x128.size a := fun v3329 k0_hw27 => k0_hw27

def k0_off26 (v3330 : BitVec 32) : Fin 2 → Nat :=
  let c128_i32_3615 : BitVec 32 := 128#32
  let v3338 : BitVec 32 := Scalar.muli v3330 c128_i32_3615
  let v3339 : Index := Scalar.indexCast v3338
  let c0_3616 : Index := 0#32
  ![v3339.toNat, 0]

def k0_chk28 (v3330 : BitVec 32) : Prop :=
  (∀ a, (k0_off26 v3330) a + S128x128.size a ≤ S4096x128.size a)
theorem k0_off26_inb : ∀ (v3330 : BitVec 32) (k0_hw28 : k0_chk28 v3330), ∀ a, (k0_off26 v3330) a + S128x128.size a ≤ S4096x128.size a := fun v3330 k0_hw28 => k0_hw28

def k0_dev187 (v0 : BitVec 32) : Nat :=
  let c0_i32_3650 : BitVec 32 := 0#32
  let c1_i32_3649 : BitVec 32 := 1#32
  let v3373 : BitVec 32 := Scalar.muli v0 c1_i32_3649
  let v3374 : BitVec 32 := Scalar.addi c0_i32_3650 v3373
  v3374.toNat
def k0_dev188 (v1 : BitVec 32) : Nat :=
  let c0_i32_3657 : BitVec 32 := 0#32
  let c1_i32_3656 : BitVec 32 := 1#32
  let v3383 : BitVec 32 := Scalar.muli v1 c1_i32_3656
  let v3384 : BitVec 32 := Scalar.addi c0_i32_3657 v3383
  v3384.toNat
def k0_dev189 (v1 : BitVec 32) : Nat :=
  let c0_i32_3690 : BitVec 32 := 0#32
  let c1_i32_3689 : BitVec 32 := 1#32
  let v3407 : BitVec 32 := Scalar.muli v1 c1_i32_3689
  let v3408 : BitVec 32 := Scalar.addi c0_i32_3690 v3407
  v3408.toNat
def k0_dev190 (v0 : BitVec 32) : Nat :=
  let c0_i32_3697 : BitVec 32 := 0#32
  let c1_i32_3696 : BitVec 32 := 1#32
  let v3417 : BitVec 32 := Scalar.muli v0 c1_i32_3696
  let v3418 : BitVec 32 := Scalar.addi c0_i32_3697 v3417
  v3418.toNat
def k0_dev191 (v0 : BitVec 32) : Nat :=
  let c0_i32_3730 : BitVec 32 := 0#32
  let c1_i32_3729 : BitVec 32 := 1#32
  let v3441 : BitVec 32 := Scalar.muli v0 c1_i32_3729
  let v3442 : BitVec 32 := Scalar.addi c0_i32_3730 v3441
  v3442.toNat
def k0_dev192 (v1 : BitVec 32) : Nat :=
  let c0_i32_3737 : BitVec 32 := 0#32
  let c1_i32_3736 : BitVec 32 := 1#32
  let v3451 : BitVec 32 := Scalar.muli v1 c1_i32_3736
  let v3452 : BitVec 32 := Scalar.addi c0_i32_3737 v3451
  v3452.toNat
def k0_dev193 (v1 : BitVec 32) : Nat :=
  let c0_i32_3770 : BitVec 32 := 0#32
  let c1_i32_3769 : BitVec 32 := 1#32
  let v3475 : BitVec 32 := Scalar.muli v1 c1_i32_3769
  let v3476 : BitVec 32 := Scalar.addi c0_i32_3770 v3475
  v3476.toNat
def k0_dev194 (v0 : BitVec 32) : Nat :=
  let c0_i32_3777 : BitVec 32 := 0#32
  let c1_i32_3776 : BitVec 32 := 1#32
  let v3485 : BitVec 32 := Scalar.muli v0 c1_i32_3776
  let v3486 : BitVec 32 := Scalar.addi c0_i32_3777 v3485
  v3486.toNat
def k0_dev195 (v0 : BitVec 32) : Nat :=
  let c0_i32_3810 : BitVec 32 := 0#32
  let c1_i32_3809 : BitVec 32 := 1#32
  let v3509 : BitVec 32 := Scalar.muli v0 c1_i32_3809
  let v3510 : BitVec 32 := Scalar.addi c0_i32_3810 v3509
  v3510.toNat
def k0_dev196 (v1 : BitVec 32) : Nat :=
  let c0_i32_3817 : BitVec 32 := 0#32
  let c1_i32_3816 : BitVec 32 := 1#32
  let v3519 : BitVec 32 := Scalar.muli v1 c1_i32_3816
  let v3520 : BitVec 32 := Scalar.addi c0_i32_3817 v3519
  v3520.toNat
def k0_dev197 (v1 : BitVec 32) : Nat :=
  let c0_i32_3850 : BitVec 32 := 0#32
  let c1_i32_3849 : BitVec 32 := 1#32
  let v3543 : BitVec 32 := Scalar.muli v1 c1_i32_3849
  let v3544 : BitVec 32 := Scalar.addi c0_i32_3850 v3543
  v3544.toNat
def k0_dev198 (v0 : BitVec 32) : Nat :=
  let c0_i32_3857 : BitVec 32 := 0#32
  let c1_i32_3856 : BitVec 32 := 1#32
  let v3553 : BitVec 32 := Scalar.muli v0 c1_i32_3856
  let v3554 : BitVec 32 := Scalar.addi c0_i32_3857 v3553
  v3554.toNat
def k0_dev199 (v0 : BitVec 32) : Nat :=
  let c0_i32_3890 : BitVec 32 := 0#32
  let c1_i32_3889 : BitVec 32 := 1#32
  let v3577 : BitVec 32 := Scalar.muli v0 c1_i32_3889
  let v3578 : BitVec 32 := Scalar.addi c0_i32_3890 v3577
  v3578.toNat
def k0_dev200 (v1 : BitVec 32) : Nat :=
  let c0_i32_3897 : BitVec 32 := 0#32
  let c1_i32_3896 : BitVec 32 := 1#32
  let v3587 : BitVec 32 := Scalar.muli v1 c1_i32_3896
  let v3588 : BitVec 32 := Scalar.addi c0_i32_3897 v3587
  v3588.toNat
def k0_dev201 (v1 : BitVec 32) : Nat :=
  let c0_i32_3930 : BitVec 32 := 0#32
  let c1_i32_3929 : BitVec 32 := 1#32
  let v3611 : BitVec 32 := Scalar.muli v1 c1_i32_3929
  let v3612 : BitVec 32 := Scalar.addi c0_i32_3930 v3611
  v3612.toNat
def k0_dev202 (v0 : BitVec 32) : Nat :=
  let c0_i32_3937 : BitVec 32 := 0#32
  let c1_i32_3936 : BitVec 32 := 1#32
  let v3621 : BitVec 32 := Scalar.muli v0 c1_i32_3936
  let v3622 : BitVec 32 := Scalar.addi c0_i32_3937 v3621
  v3622.toNat
def k0_off27 (v3623 : BitVec 32) : Fin 2 → Nat :=
  let c128_i32_3938 : BitVec 32 := 128#32
  let v3626 : BitVec 32 := Scalar.muli v3623 c128_i32_3938
  let v3627 : Index := Scalar.indexCast v3626
  let c0_3939 : Index := 0#32
  ![v3627.toNat, 0]

def k0_chk29 (v3623 : BitVec 32) : Prop :=
  (∀ a, (k0_off27 v3623) a + S128x128.size a ≤ S4096x128.size a)
theorem k0_off27_inb : ∀ (v3623 : BitVec 32) (k0_hw29 : k0_chk29 v3623), ∀ a, (k0_off27 v3623) a + S128x128.size a ≤ S4096x128.size a := fun v3623 k0_hw29 => k0_hw29

def k0_off28 (v3624 : BitVec 32) : Fin 2 → Nat :=
  let c128_i32_3941 : BitVec 32 := 128#32
  let v3632 : BitVec 32 := Scalar.muli v3624 c128_i32_3941
  let v3633 : Index := Scalar.indexCast v3632
  let c0_3942 : Index := 0#32
  ![v3633.toNat, 0]

def k0_chk30 (v3624 : BitVec 32) : Prop :=
  (∀ a, (k0_off28 v3624) a + S128x128.size a ≤ S4096x128.size a)
theorem k0_off28_inb : ∀ (v3624 : BitVec 32) (k0_hw30 : k0_chk30 v3624), ∀ a, (k0_off28 v3624) a + S128x128.size a ≤ S4096x128.size a := fun v3624 k0_hw30 => k0_hw30

def k0_dev203 (v0 : BitVec 32) : Nat :=
  let c0_i32_3976 : BitVec 32 := 0#32
  let c1_i32_3975 : BitVec 32 := 1#32
  let v3667 : BitVec 32 := Scalar.muli v0 c1_i32_3975
  let v3668 : BitVec 32 := Scalar.addi c0_i32_3976 v3667
  v3668.toNat
def k0_dev204 (v1 : BitVec 32) : Nat :=
  let c0_i32_3983 : BitVec 32 := 0#32
  let c1_i32_3982 : BitVec 32 := 1#32
  let v3677 : BitVec 32 := Scalar.muli v1 c1_i32_3982
  let v3678 : BitVec 32 := Scalar.addi c0_i32_3983 v3677
  v3678.toNat
def k0_dev205 (v1 : BitVec 32) : Nat :=
  let c0_i32_4016 : BitVec 32 := 0#32
  let c1_i32_4015 : BitVec 32 := 1#32
  let v3701 : BitVec 32 := Scalar.muli v1 c1_i32_4015
  let v3702 : BitVec 32 := Scalar.addi c0_i32_4016 v3701
  v3702.toNat
def k0_dev206 (v0 : BitVec 32) : Nat :=
  let c0_i32_4023 : BitVec 32 := 0#32
  let c1_i32_4022 : BitVec 32 := 1#32
  let v3711 : BitVec 32 := Scalar.muli v0 c1_i32_4022
  let v3712 : BitVec 32 := Scalar.addi c0_i32_4023 v3711
  v3712.toNat
def k0_dev207 (v0 : BitVec 32) : Nat :=
  let c0_i32_4056 : BitVec 32 := 0#32
  let c1_i32_4055 : BitVec 32 := 1#32
  let v3735 : BitVec 32 := Scalar.muli v0 c1_i32_4055
  let v3736 : BitVec 32 := Scalar.addi c0_i32_4056 v3735
  v3736.toNat
def k0_dev208 (v1 : BitVec 32) : Nat :=
  let c0_i32_4063 : BitVec 32 := 0#32
  let c1_i32_4062 : BitVec 32 := 1#32
  let v3745 : BitVec 32 := Scalar.muli v1 c1_i32_4062
  let v3746 : BitVec 32 := Scalar.addi c0_i32_4063 v3745
  v3746.toNat
def k0_dev209 (v1 : BitVec 32) : Nat :=
  let c0_i32_4096 : BitVec 32 := 0#32
  let c1_i32_4095 : BitVec 32 := 1#32
  let v3769 : BitVec 32 := Scalar.muli v1 c1_i32_4095
  let v3770 : BitVec 32 := Scalar.addi c0_i32_4096 v3769
  v3770.toNat
def k0_dev210 (v0 : BitVec 32) : Nat :=
  let c0_i32_4103 : BitVec 32 := 0#32
  let c1_i32_4102 : BitVec 32 := 1#32
  let v3779 : BitVec 32 := Scalar.muli v0 c1_i32_4102
  let v3780 : BitVec 32 := Scalar.addi c0_i32_4103 v3779
  v3780.toNat
def k0_dev211 (v0 : BitVec 32) : Nat :=
  let c0_i32_4136 : BitVec 32 := 0#32
  let c1_i32_4135 : BitVec 32 := 1#32
  let v3803 : BitVec 32 := Scalar.muli v0 c1_i32_4135
  let v3804 : BitVec 32 := Scalar.addi c0_i32_4136 v3803
  v3804.toNat
def k0_dev212 (v1 : BitVec 32) : Nat :=
  let c0_i32_4143 : BitVec 32 := 0#32
  let c1_i32_4142 : BitVec 32 := 1#32
  let v3813 : BitVec 32 := Scalar.muli v1 c1_i32_4142
  let v3814 : BitVec 32 := Scalar.addi c0_i32_4143 v3813
  v3814.toNat
def k0_dev213 (v1 : BitVec 32) : Nat :=
  let c0_i32_4176 : BitVec 32 := 0#32
  let c1_i32_4175 : BitVec 32 := 1#32
  let v3837 : BitVec 32 := Scalar.muli v1 c1_i32_4175
  let v3838 : BitVec 32 := Scalar.addi c0_i32_4176 v3837
  v3838.toNat
def k0_dev214 (v0 : BitVec 32) : Nat :=
  let c0_i32_4183 : BitVec 32 := 0#32
  let c1_i32_4182 : BitVec 32 := 1#32
  let v3847 : BitVec 32 := Scalar.muli v0 c1_i32_4182
  let v3848 : BitVec 32 := Scalar.addi c0_i32_4183 v3847
  v3848.toNat
def k0_dev215 (v0 : BitVec 32) : Nat :=
  let c0_i32_4216 : BitVec 32 := 0#32
  let c1_i32_4215 : BitVec 32 := 1#32
  let v3871 : BitVec 32 := Scalar.muli v0 c1_i32_4215
  let v3872 : BitVec 32 := Scalar.addi c0_i32_4216 v3871
  v3872.toNat
def k0_dev216 (v1 : BitVec 32) : Nat :=
  let c0_i32_4223 : BitVec 32 := 0#32
  let c1_i32_4222 : BitVec 32 := 1#32
  let v3881 : BitVec 32 := Scalar.muli v1 c1_i32_4222
  let v3882 : BitVec 32 := Scalar.addi c0_i32_4223 v3881
  v3882.toNat
def k0_dev217 (v1 : BitVec 32) : Nat :=
  let c0_i32_4256 : BitVec 32 := 0#32
  let c1_i32_4255 : BitVec 32 := 1#32
  let v3905 : BitVec 32 := Scalar.muli v1 c1_i32_4255
  let v3906 : BitVec 32 := Scalar.addi c0_i32_4256 v3905
  v3906.toNat
def k0_dev218 (v0 : BitVec 32) : Nat :=
  let c0_i32_4263 : BitVec 32 := 0#32
  let c1_i32_4262 : BitVec 32 := 1#32
  let v3915 : BitVec 32 := Scalar.muli v0 c1_i32_4262
  let v3916 : BitVec 32 := Scalar.addi c0_i32_4263 v3915
  v3916.toNat
def k0_off29 (v3917 : BitVec 32) : Fin 2 → Nat :=
  let c128_i32_4264 : BitVec 32 := 128#32
  let v3920 : BitVec 32 := Scalar.muli v3917 c128_i32_4264
  let v3921 : Index := Scalar.indexCast v3920
  let c0_4265 : Index := 0#32
  ![v3921.toNat, 0]

def k0_chk31 (v3917 : BitVec 32) : Prop :=
  (∀ a, (k0_off29 v3917) a + S128x128.size a ≤ S4096x128.size a)
theorem k0_off29_inb : ∀ (v3917 : BitVec 32) (k0_hw31 : k0_chk31 v3917), ∀ a, (k0_off29 v3917) a + S128x128.size a ≤ S4096x128.size a := fun v3917 k0_hw31 => k0_hw31

def k0_off30 (v3918 : BitVec 32) : Fin 2 → Nat :=
  let c128_i32_4267 : BitVec 32 := 128#32
  let v3926 : BitVec 32 := Scalar.muli v3918 c128_i32_4267
  let v3927 : Index := Scalar.indexCast v3926
  let c0_4268 : Index := 0#32
  ![v3927.toNat, 0]

def k0_chk32 (v3918 : BitVec 32) : Prop :=
  (∀ a, (k0_off30 v3918) a + S128x128.size a ≤ S4096x128.size a)
theorem k0_off30_inb : ∀ (v3918 : BitVec 32) (k0_hw32 : k0_chk32 v3918), ∀ a, (k0_off30 v3918) a + S128x128.size a ≤ S4096x128.size a := fun v3918 k0_hw32 => k0_hw32

def k0_dev219 (v0 : BitVec 32) : Nat :=
  let c0_i32_4302 : BitVec 32 := 0#32
  let c1_i32_4301 : BitVec 32 := 1#32
  let v3961 : BitVec 32 := Scalar.muli v0 c1_i32_4301
  let v3962 : BitVec 32 := Scalar.addi c0_i32_4302 v3961
  v3962.toNat
def k0_dev220 (v1 : BitVec 32) : Nat :=
  let c0_i32_4309 : BitVec 32 := 0#32
  let c1_i32_4308 : BitVec 32 := 1#32
  let v3971 : BitVec 32 := Scalar.muli v1 c1_i32_4308
  let v3972 : BitVec 32 := Scalar.addi c0_i32_4309 v3971
  v3972.toNat
def k0_dev221 (v1 : BitVec 32) : Nat :=
  let c0_i32_4342 : BitVec 32 := 0#32
  let c1_i32_4341 : BitVec 32 := 1#32
  let v3995 : BitVec 32 := Scalar.muli v1 c1_i32_4341
  let v3996 : BitVec 32 := Scalar.addi c0_i32_4342 v3995
  v3996.toNat
def k0_dev222 (v0 : BitVec 32) : Nat :=
  let c0_i32_4349 : BitVec 32 := 0#32
  let c1_i32_4348 : BitVec 32 := 1#32
  let v4005 : BitVec 32 := Scalar.muli v0 c1_i32_4348
  let v4006 : BitVec 32 := Scalar.addi c0_i32_4349 v4005
  v4006.toNat
def k0_dev223 (v0 : BitVec 32) : Nat :=
  let c0_i32_4382 : BitVec 32 := 0#32
  let c1_i32_4381 : BitVec 32 := 1#32
  let v4029 : BitVec 32 := Scalar.muli v0 c1_i32_4381
  let v4030 : BitVec 32 := Scalar.addi c0_i32_4382 v4029
  v4030.toNat
def k0_dev224 (v1 : BitVec 32) : Nat :=
  let c0_i32_4389 : BitVec 32 := 0#32
  let c1_i32_4388 : BitVec 32 := 1#32
  let v4039 : BitVec 32 := Scalar.muli v1 c1_i32_4388
  let v4040 : BitVec 32 := Scalar.addi c0_i32_4389 v4039
  v4040.toNat
def k0_dev225 (v1 : BitVec 32) : Nat :=
  let c0_i32_4422 : BitVec 32 := 0#32
  let c1_i32_4421 : BitVec 32 := 1#32
  let v4063 : BitVec 32 := Scalar.muli v1 c1_i32_4421
  let v4064 : BitVec 32 := Scalar.addi c0_i32_4422 v4063
  v4064.toNat
def k0_dev226 (v0 : BitVec 32) : Nat :=
  let c0_i32_4429 : BitVec 32 := 0#32
  let c1_i32_4428 : BitVec 32 := 1#32
  let v4073 : BitVec 32 := Scalar.muli v0 c1_i32_4428
  let v4074 : BitVec 32 := Scalar.addi c0_i32_4429 v4073
  v4074.toNat
def k0_dev227 (v0 : BitVec 32) : Nat :=
  let c0_i32_4462 : BitVec 32 := 0#32
  let c1_i32_4461 : BitVec 32 := 1#32
  let v4097 : BitVec 32 := Scalar.muli v0 c1_i32_4461
  let v4098 : BitVec 32 := Scalar.addi c0_i32_4462 v4097
  v4098.toNat
def k0_dev228 (v1 : BitVec 32) : Nat :=
  let c0_i32_4469 : BitVec 32 := 0#32
  let c1_i32_4468 : BitVec 32 := 1#32
  let v4107 : BitVec 32 := Scalar.muli v1 c1_i32_4468
  let v4108 : BitVec 32 := Scalar.addi c0_i32_4469 v4107
  v4108.toNat
def k0_dev229 (v1 : BitVec 32) : Nat :=
  let c0_i32_4502 : BitVec 32 := 0#32
  let c1_i32_4501 : BitVec 32 := 1#32
  let v4131 : BitVec 32 := Scalar.muli v1 c1_i32_4501
  let v4132 : BitVec 32 := Scalar.addi c0_i32_4502 v4131
  v4132.toNat
def k0_dev230 (v0 : BitVec 32) : Nat :=
  let c0_i32_4509 : BitVec 32 := 0#32
  let c1_i32_4508 : BitVec 32 := 1#32
  let v4141 : BitVec 32 := Scalar.muli v0 c1_i32_4508
  let v4142 : BitVec 32 := Scalar.addi c0_i32_4509 v4141
  v4142.toNat
def k0_dev231 (v0 : BitVec 32) : Nat :=
  let c0_i32_4542 : BitVec 32 := 0#32
  let c1_i32_4541 : BitVec 32 := 1#32
  let v4165 : BitVec 32 := Scalar.muli v0 c1_i32_4541
  let v4166 : BitVec 32 := Scalar.addi c0_i32_4542 v4165
  v4166.toNat
def k0_dev232 (v1 : BitVec 32) : Nat :=
  let c0_i32_4549 : BitVec 32 := 0#32
  let c1_i32_4548 : BitVec 32 := 1#32
  let v4175 : BitVec 32 := Scalar.muli v1 c1_i32_4548
  let v4176 : BitVec 32 := Scalar.addi c0_i32_4549 v4175
  v4176.toNat
def k0_dev233 (v1 : BitVec 32) : Nat :=
  let c0_i32_4582 : BitVec 32 := 0#32
  let c1_i32_4581 : BitVec 32 := 1#32
  let v4199 : BitVec 32 := Scalar.muli v1 c1_i32_4581
  let v4200 : BitVec 32 := Scalar.addi c0_i32_4582 v4199
  v4200.toNat
def k0_dev234 (v0 : BitVec 32) : Nat :=
  let c0_i32_4589 : BitVec 32 := 0#32
  let c1_i32_4588 : BitVec 32 := 1#32
  let v4209 : BitVec 32 := Scalar.muli v0 c1_i32_4588
  let v4210 : BitVec 32 := Scalar.addi c0_i32_4589 v4209
  v4210.toNat
def k0_off31 (v4211 : BitVec 32) : Fin 2 → Nat :=
  let c128_i32_4590 : BitVec 32 := 128#32
  let v4214 : BitVec 32 := Scalar.muli v4211 c128_i32_4590
  let v4215 : Index := Scalar.indexCast v4214
  let c0_4591 : Index := 0#32
  ![v4215.toNat, 0]

def k0_chk33 (v4211 : BitVec 32) : Prop :=
  (∀ a, (k0_off31 v4211) a + S128x128.size a ≤ S4096x128.size a)
theorem k0_off31_inb : ∀ (v4211 : BitVec 32) (k0_hw33 : k0_chk33 v4211), ∀ a, (k0_off31 v4211) a + S128x128.size a ≤ S4096x128.size a := fun v4211 k0_hw33 => k0_hw33

def k0_off32 (v4212 : BitVec 32) : Fin 2 → Nat :=
  let c128_i32_4593 : BitVec 32 := 128#32
  let v4220 : BitVec 32 := Scalar.muli v4212 c128_i32_4593
  let v4221 : Index := Scalar.indexCast v4220
  let c0_4594 : Index := 0#32
  ![v4221.toNat, 0]

def k0_chk34 (v4212 : BitVec 32) : Prop :=
  (∀ a, (k0_off32 v4212) a + S128x128.size a ≤ S4096x128.size a)
theorem k0_off32_inb : ∀ (v4212 : BitVec 32) (k0_hw34 : k0_chk34 v4212), ∀ a, (k0_off32 v4212) a + S128x128.size a ≤ S4096x128.size a := fun v4212 k0_hw34 => k0_hw34

def k0_dev235 (v0 : BitVec 32) : Nat :=
  let c0_i32_4628 : BitVec 32 := 0#32
  let c1_i32_4627 : BitVec 32 := 1#32
  let v4255 : BitVec 32 := Scalar.muli v0 c1_i32_4627
  let v4256 : BitVec 32 := Scalar.addi c0_i32_4628 v4255
  v4256.toNat
def k0_dev236 (v1 : BitVec 32) : Nat :=
  let c0_i32_4635 : BitVec 32 := 0#32
  let c1_i32_4634 : BitVec 32 := 1#32
  let v4265 : BitVec 32 := Scalar.muli v1 c1_i32_4634
  let v4266 : BitVec 32 := Scalar.addi c0_i32_4635 v4265
  v4266.toNat
def k0_dev237 (v1 : BitVec 32) : Nat :=
  let c0_i32_4668 : BitVec 32 := 0#32
  let c1_i32_4667 : BitVec 32 := 1#32
  let v4289 : BitVec 32 := Scalar.muli v1 c1_i32_4667
  let v4290 : BitVec 32 := Scalar.addi c0_i32_4668 v4289
  v4290.toNat
def k0_dev238 (v0 : BitVec 32) : Nat :=
  let c0_i32_4675 : BitVec 32 := 0#32
  let c1_i32_4674 : BitVec 32 := 1#32
  let v4299 : BitVec 32 := Scalar.muli v0 c1_i32_4674
  let v4300 : BitVec 32 := Scalar.addi c0_i32_4675 v4299
  v4300.toNat
def k0_dev239 (v0 : BitVec 32) : Nat :=
  let c0_i32_4708 : BitVec 32 := 0#32
  let c1_i32_4707 : BitVec 32 := 1#32
  let v4323 : BitVec 32 := Scalar.muli v0 c1_i32_4707
  let v4324 : BitVec 32 := Scalar.addi c0_i32_4708 v4323
  v4324.toNat
def k0_dev240 (v1 : BitVec 32) : Nat :=
  let c0_i32_4715 : BitVec 32 := 0#32
  let c1_i32_4714 : BitVec 32 := 1#32
  let v4333 : BitVec 32 := Scalar.muli v1 c1_i32_4714
  let v4334 : BitVec 32 := Scalar.addi c0_i32_4715 v4333
  v4334.toNat
def k0_dev241 (v1 : BitVec 32) : Nat :=
  let c0_i32_4748 : BitVec 32 := 0#32
  let c1_i32_4747 : BitVec 32 := 1#32
  let v4357 : BitVec 32 := Scalar.muli v1 c1_i32_4747
  let v4358 : BitVec 32 := Scalar.addi c0_i32_4748 v4357
  v4358.toNat
def k0_dev242 (v0 : BitVec 32) : Nat :=
  let c0_i32_4755 : BitVec 32 := 0#32
  let c1_i32_4754 : BitVec 32 := 1#32
  let v4367 : BitVec 32 := Scalar.muli v0 c1_i32_4754
  let v4368 : BitVec 32 := Scalar.addi c0_i32_4755 v4367
  v4368.toNat
def k0_dev243 (v0 : BitVec 32) : Nat :=
  let c0_i32_4788 : BitVec 32 := 0#32
  let c1_i32_4787 : BitVec 32 := 1#32
  let v4391 : BitVec 32 := Scalar.muli v0 c1_i32_4787
  let v4392 : BitVec 32 := Scalar.addi c0_i32_4788 v4391
  v4392.toNat
def k0_dev244 (v1 : BitVec 32) : Nat :=
  let c0_i32_4795 : BitVec 32 := 0#32
  let c1_i32_4794 : BitVec 32 := 1#32
  let v4401 : BitVec 32 := Scalar.muli v1 c1_i32_4794
  let v4402 : BitVec 32 := Scalar.addi c0_i32_4795 v4401
  v4402.toNat
def k0_dev245 (v1 : BitVec 32) : Nat :=
  let c0_i32_4828 : BitVec 32 := 0#32
  let c1_i32_4827 : BitVec 32 := 1#32
  let v4425 : BitVec 32 := Scalar.muli v1 c1_i32_4827
  let v4426 : BitVec 32 := Scalar.addi c0_i32_4828 v4425
  v4426.toNat
def k0_dev246 (v0 : BitVec 32) : Nat :=
  let c0_i32_4835 : BitVec 32 := 0#32
  let c1_i32_4834 : BitVec 32 := 1#32
  let v4435 : BitVec 32 := Scalar.muli v0 c1_i32_4834
  let v4436 : BitVec 32 := Scalar.addi c0_i32_4835 v4435
  v4436.toNat
def k0_dev247 (v0 : BitVec 32) : Nat :=
  let c0_i32_4868 : BitVec 32 := 0#32
  let c1_i32_4867 : BitVec 32 := 1#32
  let v4459 : BitVec 32 := Scalar.muli v0 c1_i32_4867
  let v4460 : BitVec 32 := Scalar.addi c0_i32_4868 v4459
  v4460.toNat
def k0_dev248 (v1 : BitVec 32) : Nat :=
  let c0_i32_4875 : BitVec 32 := 0#32
  let c1_i32_4874 : BitVec 32 := 1#32
  let v4469 : BitVec 32 := Scalar.muli v1 c1_i32_4874
  let v4470 : BitVec 32 := Scalar.addi c0_i32_4875 v4469
  v4470.toNat
def k0_dev249 (v1 : BitVec 32) : Nat :=
  let c0_i32_4908 : BitVec 32 := 0#32
  let c1_i32_4907 : BitVec 32 := 1#32
  let v4493 : BitVec 32 := Scalar.muli v1 c1_i32_4907
  let v4494 : BitVec 32 := Scalar.addi c0_i32_4908 v4493
  v4494.toNat
def k0_dev250 (v0 : BitVec 32) : Nat :=
  let c0_i32_4915 : BitVec 32 := 0#32
  let c1_i32_4914 : BitVec 32 := 1#32
  let v4503 : BitVec 32 := Scalar.muli v0 c1_i32_4914
  let v4504 : BitVec 32 := Scalar.addi c0_i32_4915 v4503
  v4504.toNat
def k0_off33 (v4505 : BitVec 32) : Fin 2 → Nat :=
  let c128_i32_4916 : BitVec 32 := 128#32
  let v4508 : BitVec 32 := Scalar.muli v4505 c128_i32_4916
  let v4509 : Index := Scalar.indexCast v4508
  let c0_4917 : Index := 0#32
  ![v4509.toNat, 0]

def k0_chk35 (v4505 : BitVec 32) : Prop :=
  (∀ a, (k0_off33 v4505) a + S128x128.size a ≤ S4096x128.size a)
theorem k0_off33_inb : ∀ (v4505 : BitVec 32) (k0_hw35 : k0_chk35 v4505), ∀ a, (k0_off33 v4505) a + S128x128.size a ≤ S4096x128.size a := fun v4505 k0_hw35 => k0_hw35

def k0_off34 (v4506 : BitVec 32) : Fin 2 → Nat :=
  let c128_i32_4919 : BitVec 32 := 128#32
  let v4514 : BitVec 32 := Scalar.muli v4506 c128_i32_4919
  let v4515 : Index := Scalar.indexCast v4514
  let c0_4920 : Index := 0#32
  ![v4515.toNat, 0]

def k0_chk36 (v4506 : BitVec 32) : Prop :=
  (∀ a, (k0_off34 v4506) a + S128x128.size a ≤ S4096x128.size a)
theorem k0_off34_inb : ∀ (v4506 : BitVec 32) (k0_hw36 : k0_chk36 v4506), ∀ a, (k0_off34 v4506) a + S128x128.size a ≤ S4096x128.size a := fun v4506 k0_hw36 => k0_hw36

def k0_dev251 (v0 : BitVec 32) : Nat :=
  let c0_i32_4954 : BitVec 32 := 0#32
  let c1_i32_4953 : BitVec 32 := 1#32
  let v4549 : BitVec 32 := Scalar.muli v0 c1_i32_4953
  let v4550 : BitVec 32 := Scalar.addi c0_i32_4954 v4549
  v4550.toNat
def k0_dev252 (v1 : BitVec 32) : Nat :=
  let c0_i32_4961 : BitVec 32 := 0#32
  let c1_i32_4960 : BitVec 32 := 1#32
  let v4559 : BitVec 32 := Scalar.muli v1 c1_i32_4960
  let v4560 : BitVec 32 := Scalar.addi c0_i32_4961 v4559
  v4560.toNat
def k0_dev253 (v1 : BitVec 32) : Nat :=
  let c0_i32_4994 : BitVec 32 := 0#32
  let c1_i32_4993 : BitVec 32 := 1#32
  let v4583 : BitVec 32 := Scalar.muli v1 c1_i32_4993
  let v4584 : BitVec 32 := Scalar.addi c0_i32_4994 v4583
  v4584.toNat
def k0_dev254 (v0 : BitVec 32) : Nat :=
  let c0_i32_5001 : BitVec 32 := 0#32
  let c1_i32_5000 : BitVec 32 := 1#32
  let v4593 : BitVec 32 := Scalar.muli v0 c1_i32_5000
  let v4594 : BitVec 32 := Scalar.addi c0_i32_5001 v4593
  v4594.toNat
def k0_dev255 (v0 : BitVec 32) : Nat :=
  let c0_i32_5034 : BitVec 32 := 0#32
  let c1_i32_5033 : BitVec 32 := 1#32
  let v4617 : BitVec 32 := Scalar.muli v0 c1_i32_5033
  let v4618 : BitVec 32 := Scalar.addi c0_i32_5034 v4617
  v4618.toNat
def k0_dev256 (v1 : BitVec 32) : Nat :=
  let c0_i32_5041 : BitVec 32 := 0#32
  let c1_i32_5040 : BitVec 32 := 1#32
  let v4627 : BitVec 32 := Scalar.muli v1 c1_i32_5040
  let v4628 : BitVec 32 := Scalar.addi c0_i32_5041 v4627
  v4628.toNat
def k0_dev257 (v1 : BitVec 32) : Nat :=
  let c0_i32_5074 : BitVec 32 := 0#32
  let c1_i32_5073 : BitVec 32 := 1#32
  let v4651 : BitVec 32 := Scalar.muli v1 c1_i32_5073
  let v4652 : BitVec 32 := Scalar.addi c0_i32_5074 v4651
  v4652.toNat
def k0_dev258 (v0 : BitVec 32) : Nat :=
  let c0_i32_5081 : BitVec 32 := 0#32
  let c1_i32_5080 : BitVec 32 := 1#32
  let v4661 : BitVec 32 := Scalar.muli v0 c1_i32_5080
  let v4662 : BitVec 32 := Scalar.addi c0_i32_5081 v4661
  v4662.toNat
def k0_dev259 (v0 : BitVec 32) : Nat :=
  let c0_i32_5114 : BitVec 32 := 0#32
  let c1_i32_5113 : BitVec 32 := 1#32
  let v4685 : BitVec 32 := Scalar.muli v0 c1_i32_5113
  let v4686 : BitVec 32 := Scalar.addi c0_i32_5114 v4685
  v4686.toNat
def k0_dev260 (v1 : BitVec 32) : Nat :=
  let c0_i32_5121 : BitVec 32 := 0#32
  let c1_i32_5120 : BitVec 32 := 1#32
  let v4695 : BitVec 32 := Scalar.muli v1 c1_i32_5120
  let v4696 : BitVec 32 := Scalar.addi c0_i32_5121 v4695
  v4696.toNat
def k0_dev261 (v1 : BitVec 32) : Nat :=
  let c0_i32_5154 : BitVec 32 := 0#32
  let c1_i32_5153 : BitVec 32 := 1#32
  let v4719 : BitVec 32 := Scalar.muli v1 c1_i32_5153
  let v4720 : BitVec 32 := Scalar.addi c0_i32_5154 v4719
  v4720.toNat
def k0_dev262 (v0 : BitVec 32) : Nat :=
  let c0_i32_5161 : BitVec 32 := 0#32
  let c1_i32_5160 : BitVec 32 := 1#32
  let v4729 : BitVec 32 := Scalar.muli v0 c1_i32_5160
  let v4730 : BitVec 32 := Scalar.addi c0_i32_5161 v4729
  v4730.toNat
def k0_dev263 (v0 : BitVec 32) : Nat :=
  let c0_i32_5194 : BitVec 32 := 0#32
  let c1_i32_5193 : BitVec 32 := 1#32
  let v4753 : BitVec 32 := Scalar.muli v0 c1_i32_5193
  let v4754 : BitVec 32 := Scalar.addi c0_i32_5194 v4753
  v4754.toNat
def k0_dev264 (v1 : BitVec 32) : Nat :=
  let c0_i32_5201 : BitVec 32 := 0#32
  let c1_i32_5200 : BitVec 32 := 1#32
  let v4763 : BitVec 32 := Scalar.muli v1 c1_i32_5200
  let v4764 : BitVec 32 := Scalar.addi c0_i32_5201 v4763
  v4764.toNat
def k0_dev265 (v1 : BitVec 32) : Nat :=
  let c0_i32_5234 : BitVec 32 := 0#32
  let c1_i32_5233 : BitVec 32 := 1#32
  let v4787 : BitVec 32 := Scalar.muli v1 c1_i32_5233
  let v4788 : BitVec 32 := Scalar.addi c0_i32_5234 v4787
  v4788.toNat
def k0_dev266 (v0 : BitVec 32) : Nat :=
  let c0_i32_5241 : BitVec 32 := 0#32
  let c1_i32_5240 : BitVec 32 := 1#32
  let v4797 : BitVec 32 := Scalar.muli v0 c1_i32_5240
  let v4798 : BitVec 32 := Scalar.addi c0_i32_5241 v4797
  v4798.toNat
def k0_off35 (v4799 : BitVec 32) : Fin 2 → Nat :=
  let c128_i32_5242 : BitVec 32 := 128#32
  let v4802 : BitVec 32 := Scalar.muli v4799 c128_i32_5242
  let v4803 : Index := Scalar.indexCast v4802
  let c0_5243 : Index := 0#32
  ![v4803.toNat, 0]

def k0_chk37 (v4799 : BitVec 32) : Prop :=
  (∀ a, (k0_off35 v4799) a + S128x128.size a ≤ S4096x128.size a)
theorem k0_off35_inb : ∀ (v4799 : BitVec 32) (k0_hw37 : k0_chk37 v4799), ∀ a, (k0_off35 v4799) a + S128x128.size a ≤ S4096x128.size a := fun v4799 k0_hw37 => k0_hw37

def k0_off36 (v4800 : BitVec 32) : Fin 2 → Nat :=
  let c128_i32_5245 : BitVec 32 := 128#32
  let v4808 : BitVec 32 := Scalar.muli v4800 c128_i32_5245
  let v4809 : Index := Scalar.indexCast v4808
  let c0_5246 : Index := 0#32
  ![v4809.toNat, 0]

def k0_chk38 (v4800 : BitVec 32) : Prop :=
  (∀ a, (k0_off36 v4800) a + S128x128.size a ≤ S4096x128.size a)
theorem k0_off36_inb : ∀ (v4800 : BitVec 32) (k0_hw38 : k0_chk38 v4800), ∀ a, (k0_off36 v4800) a + S128x128.size a ≤ S4096x128.size a := fun v4800 k0_hw38 => k0_hw38

def k0_dev267 (v0 : BitVec 32) : Nat :=
  let c0_i32_5280 : BitVec 32 := 0#32
  let c1_i32_5279 : BitVec 32 := 1#32
  let v4843 : BitVec 32 := Scalar.muli v0 c1_i32_5279
  let v4844 : BitVec 32 := Scalar.addi c0_i32_5280 v4843
  v4844.toNat
def k0_dev268 (v1 : BitVec 32) : Nat :=
  let c0_i32_5287 : BitVec 32 := 0#32
  let c1_i32_5286 : BitVec 32 := 1#32
  let v4853 : BitVec 32 := Scalar.muli v1 c1_i32_5286
  let v4854 : BitVec 32 := Scalar.addi c0_i32_5287 v4853
  v4854.toNat
def k0_dev269 (v1 : BitVec 32) : Nat :=
  let c0_i32_5320 : BitVec 32 := 0#32
  let c1_i32_5319 : BitVec 32 := 1#32
  let v4877 : BitVec 32 := Scalar.muli v1 c1_i32_5319
  let v4878 : BitVec 32 := Scalar.addi c0_i32_5320 v4877
  v4878.toNat
def k0_dev270 (v0 : BitVec 32) : Nat :=
  let c0_i32_5327 : BitVec 32 := 0#32
  let c1_i32_5326 : BitVec 32 := 1#32
  let v4887 : BitVec 32 := Scalar.muli v0 c1_i32_5326
  let v4888 : BitVec 32 := Scalar.addi c0_i32_5327 v4887
  v4888.toNat
def k0_dev271 (v0 : BitVec 32) : Nat :=
  let c0_i32_5360 : BitVec 32 := 0#32
  let c1_i32_5359 : BitVec 32 := 1#32
  let v4911 : BitVec 32 := Scalar.muli v0 c1_i32_5359
  let v4912 : BitVec 32 := Scalar.addi c0_i32_5360 v4911
  v4912.toNat
def k0_dev272 (v1 : BitVec 32) : Nat :=
  let c0_i32_5367 : BitVec 32 := 0#32
  let c1_i32_5366 : BitVec 32 := 1#32
  let v4921 : BitVec 32 := Scalar.muli v1 c1_i32_5366
  let v4922 : BitVec 32 := Scalar.addi c0_i32_5367 v4921
  v4922.toNat
def k0_dev273 (v1 : BitVec 32) : Nat :=
  let c0_i32_5400 : BitVec 32 := 0#32
  let c1_i32_5399 : BitVec 32 := 1#32
  let v4945 : BitVec 32 := Scalar.muli v1 c1_i32_5399
  let v4946 : BitVec 32 := Scalar.addi c0_i32_5400 v4945
  v4946.toNat
def k0_dev274 (v0 : BitVec 32) : Nat :=
  let c0_i32_5407 : BitVec 32 := 0#32
  let c1_i32_5406 : BitVec 32 := 1#32
  let v4955 : BitVec 32 := Scalar.muli v0 c1_i32_5406
  let v4956 : BitVec 32 := Scalar.addi c0_i32_5407 v4955
  v4956.toNat
def k0_dev275 (v0 : BitVec 32) : Nat :=
  let c0_i32_5440 : BitVec 32 := 0#32
  let c1_i32_5439 : BitVec 32 := 1#32
  let v4979 : BitVec 32 := Scalar.muli v0 c1_i32_5439
  let v4980 : BitVec 32 := Scalar.addi c0_i32_5440 v4979
  v4980.toNat
def k0_dev276 (v1 : BitVec 32) : Nat :=
  let c0_i32_5447 : BitVec 32 := 0#32
  let c1_i32_5446 : BitVec 32 := 1#32
  let v4989 : BitVec 32 := Scalar.muli v1 c1_i32_5446
  let v4990 : BitVec 32 := Scalar.addi c0_i32_5447 v4989
  v4990.toNat
def k0_dev277 (v1 : BitVec 32) : Nat :=
  let c0_i32_5480 : BitVec 32 := 0#32
  let c1_i32_5479 : BitVec 32 := 1#32
  let v5013 : BitVec 32 := Scalar.muli v1 c1_i32_5479
  let v5014 : BitVec 32 := Scalar.addi c0_i32_5480 v5013
  v5014.toNat
def k0_dev278 (v0 : BitVec 32) : Nat :=
  let c0_i32_5487 : BitVec 32 := 0#32
  let c1_i32_5486 : BitVec 32 := 1#32
  let v5023 : BitVec 32 := Scalar.muli v0 c1_i32_5486
  let v5024 : BitVec 32 := Scalar.addi c0_i32_5487 v5023
  v5024.toNat
def k0_dev279 (v0 : BitVec 32) : Nat :=
  let c0_i32_5520 : BitVec 32 := 0#32
  let c1_i32_5519 : BitVec 32 := 1#32
  let v5047 : BitVec 32 := Scalar.muli v0 c1_i32_5519
  let v5048 : BitVec 32 := Scalar.addi c0_i32_5520 v5047
  v5048.toNat
def k0_dev280 (v1 : BitVec 32) : Nat :=
  let c0_i32_5527 : BitVec 32 := 0#32
  let c1_i32_5526 : BitVec 32 := 1#32
  let v5057 : BitVec 32 := Scalar.muli v1 c1_i32_5526
  let v5058 : BitVec 32 := Scalar.addi c0_i32_5527 v5057
  v5058.toNat
def k0_dev281 (v1 : BitVec 32) : Nat :=
  let c0_i32_5560 : BitVec 32 := 0#32
  let c1_i32_5559 : BitVec 32 := 1#32
  let v5081 : BitVec 32 := Scalar.muli v1 c1_i32_5559
  let v5082 : BitVec 32 := Scalar.addi c0_i32_5560 v5081
  v5082.toNat
def k0_dev282 (v0 : BitVec 32) : Nat :=
  let c0_i32_5567 : BitVec 32 := 0#32
  let c1_i32_5566 : BitVec 32 := 1#32
  let v5091 : BitVec 32 := Scalar.muli v0 c1_i32_5566
  let v5092 : BitVec 32 := Scalar.addi c0_i32_5567 v5091
  v5092.toNat
def k0_off37 (v5093 : BitVec 32) : Fin 2 → Nat :=
  let c128_i32_5568 : BitVec 32 := 128#32
  let v5096 : BitVec 32 := Scalar.muli v5093 c128_i32_5568
  let v5097 : Index := Scalar.indexCast v5096
  let c0_5569 : Index := 0#32
  ![v5097.toNat, 0]

def k0_chk39 (v5093 : BitVec 32) : Prop :=
  (∀ a, (k0_off37 v5093) a + S128x128.size a ≤ S4096x128.size a)
theorem k0_off37_inb : ∀ (v5093 : BitVec 32) (k0_hw39 : k0_chk39 v5093), ∀ a, (k0_off37 v5093) a + S128x128.size a ≤ S4096x128.size a := fun v5093 k0_hw39 => k0_hw39

def k0_off38 (v5094 : BitVec 32) : Fin 2 → Nat :=
  let c128_i32_5571 : BitVec 32 := 128#32
  let v5102 : BitVec 32 := Scalar.muli v5094 c128_i32_5571
  let v5103 : Index := Scalar.indexCast v5102
  let c0_5572 : Index := 0#32
  ![v5103.toNat, 0]

def k0_chk40 (v5094 : BitVec 32) : Prop :=
  (∀ a, (k0_off38 v5094) a + S128x128.size a ≤ S4096x128.size a)
theorem k0_off38_inb : ∀ (v5094 : BitVec 32) (k0_hw40 : k0_chk40 v5094), ∀ a, (k0_off38 v5094) a + S128x128.size a ≤ S4096x128.size a := fun v5094 k0_hw40 => k0_hw40

def k0_dev283 (v0 : BitVec 32) : Nat :=
  let c0_i32_5606 : BitVec 32 := 0#32
  let c1_i32_5605 : BitVec 32 := 1#32
  let v5137 : BitVec 32 := Scalar.muli v0 c1_i32_5605
  let v5138 : BitVec 32 := Scalar.addi c0_i32_5606 v5137
  v5138.toNat
def k0_dev284 (v1 : BitVec 32) : Nat :=
  let c0_i32_5613 : BitVec 32 := 0#32
  let c1_i32_5612 : BitVec 32 := 1#32
  let v5147 : BitVec 32 := Scalar.muli v1 c1_i32_5612
  let v5148 : BitVec 32 := Scalar.addi c0_i32_5613 v5147
  v5148.toNat
def k0_dev285 (v1 : BitVec 32) : Nat :=
  let c0_i32_5646 : BitVec 32 := 0#32
  let c1_i32_5645 : BitVec 32 := 1#32
  let v5171 : BitVec 32 := Scalar.muli v1 c1_i32_5645
  let v5172 : BitVec 32 := Scalar.addi c0_i32_5646 v5171
  v5172.toNat
def k0_dev286 (v0 : BitVec 32) : Nat :=
  let c0_i32_5653 : BitVec 32 := 0#32
  let c1_i32_5652 : BitVec 32 := 1#32
  let v5181 : BitVec 32 := Scalar.muli v0 c1_i32_5652
  let v5182 : BitVec 32 := Scalar.addi c0_i32_5653 v5181
  v5182.toNat
def k0_dev287 (v0 : BitVec 32) : Nat :=
  let c0_i32_5686 : BitVec 32 := 0#32
  let c1_i32_5685 : BitVec 32 := 1#32
  let v5205 : BitVec 32 := Scalar.muli v0 c1_i32_5685
  let v5206 : BitVec 32 := Scalar.addi c0_i32_5686 v5205
  v5206.toNat
def k0_dev288 (v1 : BitVec 32) : Nat :=
  let c0_i32_5693 : BitVec 32 := 0#32
  let c1_i32_5692 : BitVec 32 := 1#32
  let v5215 : BitVec 32 := Scalar.muli v1 c1_i32_5692
  let v5216 : BitVec 32 := Scalar.addi c0_i32_5693 v5215
  v5216.toNat
def k0_dev289 (v1 : BitVec 32) : Nat :=
  let c0_i32_5726 : BitVec 32 := 0#32
  let c1_i32_5725 : BitVec 32 := 1#32
  let v5239 : BitVec 32 := Scalar.muli v1 c1_i32_5725
  let v5240 : BitVec 32 := Scalar.addi c0_i32_5726 v5239
  v5240.toNat
def k0_dev290 (v0 : BitVec 32) : Nat :=
  let c0_i32_5733 : BitVec 32 := 0#32
  let c1_i32_5732 : BitVec 32 := 1#32
  let v5249 : BitVec 32 := Scalar.muli v0 c1_i32_5732
  let v5250 : BitVec 32 := Scalar.addi c0_i32_5733 v5249
  v5250.toNat
def k0_dev291 (v0 : BitVec 32) : Nat :=
  let c0_i32_5766 : BitVec 32 := 0#32
  let c1_i32_5765 : BitVec 32 := 1#32
  let v5273 : BitVec 32 := Scalar.muli v0 c1_i32_5765
  let v5274 : BitVec 32 := Scalar.addi c0_i32_5766 v5273
  v5274.toNat
def k0_dev292 (v1 : BitVec 32) : Nat :=
  let c0_i32_5773 : BitVec 32 := 0#32
  let c1_i32_5772 : BitVec 32 := 1#32
  let v5283 : BitVec 32 := Scalar.muli v1 c1_i32_5772
  let v5284 : BitVec 32 := Scalar.addi c0_i32_5773 v5283
  v5284.toNat
def k0_dev293 (v1 : BitVec 32) : Nat :=
  let c0_i32_5806 : BitVec 32 := 0#32
  let c1_i32_5805 : BitVec 32 := 1#32
  let v5307 : BitVec 32 := Scalar.muli v1 c1_i32_5805
  let v5308 : BitVec 32 := Scalar.addi c0_i32_5806 v5307
  v5308.toNat
def k0_dev294 (v0 : BitVec 32) : Nat :=
  let c0_i32_5813 : BitVec 32 := 0#32
  let c1_i32_5812 : BitVec 32 := 1#32
  let v5317 : BitVec 32 := Scalar.muli v0 c1_i32_5812
  let v5318 : BitVec 32 := Scalar.addi c0_i32_5813 v5317
  v5318.toNat
def k0_dev295 (v0 : BitVec 32) : Nat :=
  let c0_i32_5846 : BitVec 32 := 0#32
  let c1_i32_5845 : BitVec 32 := 1#32
  let v5341 : BitVec 32 := Scalar.muli v0 c1_i32_5845
  let v5342 : BitVec 32 := Scalar.addi c0_i32_5846 v5341
  v5342.toNat
def k0_dev296 (v1 : BitVec 32) : Nat :=
  let c0_i32_5853 : BitVec 32 := 0#32
  let c1_i32_5852 : BitVec 32 := 1#32
  let v5351 : BitVec 32 := Scalar.muli v1 c1_i32_5852
  let v5352 : BitVec 32 := Scalar.addi c0_i32_5853 v5351
  v5352.toNat
def k0_dev297 (v1 : BitVec 32) : Nat :=
  let c0_i32_5886 : BitVec 32 := 0#32
  let c1_i32_5885 : BitVec 32 := 1#32
  let v5375 : BitVec 32 := Scalar.muli v1 c1_i32_5885
  let v5376 : BitVec 32 := Scalar.addi c0_i32_5886 v5375
  v5376.toNat
def k0_dev298 (v0 : BitVec 32) : Nat :=
  let c0_i32_5893 : BitVec 32 := 0#32
  let c1_i32_5892 : BitVec 32 := 1#32
  let v5385 : BitVec 32 := Scalar.muli v0 c1_i32_5892
  let v5386 : BitVec 32 := Scalar.addi c0_i32_5893 v5385
  v5386.toNat
def k0_off39 (v5387 : BitVec 32) : Fin 2 → Nat :=
  let c128_i32_5894 : BitVec 32 := 128#32
  let v5390 : BitVec 32 := Scalar.muli v5387 c128_i32_5894
  let v5391 : Index := Scalar.indexCast v5390
  let c0_5895 : Index := 0#32
  ![v5391.toNat, 0]

def k0_chk41 (v5387 : BitVec 32) : Prop :=
  (∀ a, (k0_off39 v5387) a + S128x128.size a ≤ S4096x128.size a)
theorem k0_off39_inb : ∀ (v5387 : BitVec 32) (k0_hw41 : k0_chk41 v5387), ∀ a, (k0_off39 v5387) a + S128x128.size a ≤ S4096x128.size a := fun v5387 k0_hw41 => k0_hw41

def k0_off40 (v5388 : BitVec 32) : Fin 2 → Nat :=
  let c128_i32_5897 : BitVec 32 := 128#32
  let v5396 : BitVec 32 := Scalar.muli v5388 c128_i32_5897
  let v5397 : Index := Scalar.indexCast v5396
  let c0_5898 : Index := 0#32
  ![v5397.toNat, 0]

def k0_chk42 (v5388 : BitVec 32) : Prop :=
  (∀ a, (k0_off40 v5388) a + S128x128.size a ≤ S4096x128.size a)
theorem k0_off40_inb : ∀ (v5388 : BitVec 32) (k0_hw42 : k0_chk42 v5388), ∀ a, (k0_off40 v5388) a + S128x128.size a ≤ S4096x128.size a := fun v5388 k0_hw42 => k0_hw42

def k0_dev299 (v0 : BitVec 32) : Nat :=
  let c0_i32_5932 : BitVec 32 := 0#32
  let c1_i32_5931 : BitVec 32 := 1#32
  let v5431 : BitVec 32 := Scalar.muli v0 c1_i32_5931
  let v5432 : BitVec 32 := Scalar.addi c0_i32_5932 v5431
  v5432.toNat
def k0_dev300 (v1 : BitVec 32) : Nat :=
  let c0_i32_5939 : BitVec 32 := 0#32
  let c1_i32_5938 : BitVec 32 := 1#32
  let v5441 : BitVec 32 := Scalar.muli v1 c1_i32_5938
  let v5442 : BitVec 32 := Scalar.addi c0_i32_5939 v5441
  v5442.toNat
def k0_dev301 (v1 : BitVec 32) : Nat :=
  let c0_i32_5972 : BitVec 32 := 0#32
  let c1_i32_5971 : BitVec 32 := 1#32
  let v5465 : BitVec 32 := Scalar.muli v1 c1_i32_5971
  let v5466 : BitVec 32 := Scalar.addi c0_i32_5972 v5465
  v5466.toNat
def k0_dev302 (v0 : BitVec 32) : Nat :=
  let c0_i32_5979 : BitVec 32 := 0#32
  let c1_i32_5978 : BitVec 32 := 1#32
  let v5475 : BitVec 32 := Scalar.muli v0 c1_i32_5978
  let v5476 : BitVec 32 := Scalar.addi c0_i32_5979 v5475
  v5476.toNat
def k0_dev303 (v0 : BitVec 32) : Nat :=
  let c0_i32_6012 : BitVec 32 := 0#32
  let c1_i32_6011 : BitVec 32 := 1#32
  let v5499 : BitVec 32 := Scalar.muli v0 c1_i32_6011
  let v5500 : BitVec 32 := Scalar.addi c0_i32_6012 v5499
  v5500.toNat
def k0_dev304 (v1 : BitVec 32) : Nat :=
  let c0_i32_6019 : BitVec 32 := 0#32
  let c1_i32_6018 : BitVec 32 := 1#32
  let v5509 : BitVec 32 := Scalar.muli v1 c1_i32_6018
  let v5510 : BitVec 32 := Scalar.addi c0_i32_6019 v5509
  v5510.toNat
def k0_dev305 (v1 : BitVec 32) : Nat :=
  let c0_i32_6052 : BitVec 32 := 0#32
  let c1_i32_6051 : BitVec 32 := 1#32
  let v5533 : BitVec 32 := Scalar.muli v1 c1_i32_6051
  let v5534 : BitVec 32 := Scalar.addi c0_i32_6052 v5533
  v5534.toNat
def k0_dev306 (v0 : BitVec 32) : Nat :=
  let c0_i32_6059 : BitVec 32 := 0#32
  let c1_i32_6058 : BitVec 32 := 1#32
  let v5543 : BitVec 32 := Scalar.muli v0 c1_i32_6058
  let v5544 : BitVec 32 := Scalar.addi c0_i32_6059 v5543
  v5544.toNat
def k0_dev307 (v0 : BitVec 32) : Nat :=
  let c0_i32_6092 : BitVec 32 := 0#32
  let c1_i32_6091 : BitVec 32 := 1#32
  let v5567 : BitVec 32 := Scalar.muli v0 c1_i32_6091
  let v5568 : BitVec 32 := Scalar.addi c0_i32_6092 v5567
  v5568.toNat
def k0_dev308 (v1 : BitVec 32) : Nat :=
  let c0_i32_6099 : BitVec 32 := 0#32
  let c1_i32_6098 : BitVec 32 := 1#32
  let v5577 : BitVec 32 := Scalar.muli v1 c1_i32_6098
  let v5578 : BitVec 32 := Scalar.addi c0_i32_6099 v5577
  v5578.toNat
def k0_dev309 (v1 : BitVec 32) : Nat :=
  let c0_i32_6132 : BitVec 32 := 0#32
  let c1_i32_6131 : BitVec 32 := 1#32
  let v5601 : BitVec 32 := Scalar.muli v1 c1_i32_6131
  let v5602 : BitVec 32 := Scalar.addi c0_i32_6132 v5601
  v5602.toNat
def k0_dev310 (v0 : BitVec 32) : Nat :=
  let c0_i32_6139 : BitVec 32 := 0#32
  let c1_i32_6138 : BitVec 32 := 1#32
  let v5611 : BitVec 32 := Scalar.muli v0 c1_i32_6138
  let v5612 : BitVec 32 := Scalar.addi c0_i32_6139 v5611
  v5612.toNat
def k0_dev311 (v0 : BitVec 32) : Nat :=
  let c0_i32_6172 : BitVec 32 := 0#32
  let c1_i32_6171 : BitVec 32 := 1#32
  let v5635 : BitVec 32 := Scalar.muli v0 c1_i32_6171
  let v5636 : BitVec 32 := Scalar.addi c0_i32_6172 v5635
  v5636.toNat
def k0_dev312 (v1 : BitVec 32) : Nat :=
  let c0_i32_6179 : BitVec 32 := 0#32
  let c1_i32_6178 : BitVec 32 := 1#32
  let v5645 : BitVec 32 := Scalar.muli v1 c1_i32_6178
  let v5646 : BitVec 32 := Scalar.addi c0_i32_6179 v5645
  v5646.toNat
def k0_dev313 (v1 : BitVec 32) : Nat :=
  let c0_i32_6212 : BitVec 32 := 0#32
  let c1_i32_6211 : BitVec 32 := 1#32
  let v5669 : BitVec 32 := Scalar.muli v1 c1_i32_6211
  let v5670 : BitVec 32 := Scalar.addi c0_i32_6212 v5669
  v5670.toNat
def k0_dev314 (v0 : BitVec 32) : Nat :=
  let c0_i32_6219 : BitVec 32 := 0#32
  let c1_i32_6218 : BitVec 32 := 1#32
  let v5679 : BitVec 32 := Scalar.muli v0 c1_i32_6218
  let v5680 : BitVec 32 := Scalar.addi c0_i32_6219 v5679
  v5680.toNat
def k0_off41 (v5681 : BitVec 32) : Fin 2 → Nat :=
  let c128_i32_6220 : BitVec 32 := 128#32
  let v5684 : BitVec 32 := Scalar.muli v5681 c128_i32_6220
  let v5685 : Index := Scalar.indexCast v5684
  let c0_6221 : Index := 0#32
  ![v5685.toNat, 0]

def k0_chk43 (v5681 : BitVec 32) : Prop :=
  (∀ a, (k0_off41 v5681) a + S128x128.size a ≤ S4096x128.size a)
theorem k0_off41_inb : ∀ (v5681 : BitVec 32) (k0_hw43 : k0_chk43 v5681), ∀ a, (k0_off41 v5681) a + S128x128.size a ≤ S4096x128.size a := fun v5681 k0_hw43 => k0_hw43

def k0_off42 (v5682 : BitVec 32) : Fin 2 → Nat :=
  let c128_i32_6223 : BitVec 32 := 128#32
  let v5690 : BitVec 32 := Scalar.muli v5682 c128_i32_6223
  let v5691 : Index := Scalar.indexCast v5690
  let c0_6224 : Index := 0#32
  ![v5691.toNat, 0]

def k0_chk44 (v5682 : BitVec 32) : Prop :=
  (∀ a, (k0_off42 v5682) a + S128x128.size a ≤ S4096x128.size a)
theorem k0_off42_inb : ∀ (v5682 : BitVec 32) (k0_hw44 : k0_chk44 v5682), ∀ a, (k0_off42 v5682) a + S128x128.size a ≤ S4096x128.size a := fun v5682 k0_hw44 => k0_hw44

def k0_dev315 (v0 : BitVec 32) : Nat :=
  let c0_i32_6258 : BitVec 32 := 0#32
  let c1_i32_6257 : BitVec 32 := 1#32
  let v5725 : BitVec 32 := Scalar.muli v0 c1_i32_6257
  let v5726 : BitVec 32 := Scalar.addi c0_i32_6258 v5725
  v5726.toNat
def k0_dev316 (v1 : BitVec 32) : Nat :=
  let c0_i32_6265 : BitVec 32 := 0#32
  let c1_i32_6264 : BitVec 32 := 1#32
  let v5735 : BitVec 32 := Scalar.muli v1 c1_i32_6264
  let v5736 : BitVec 32 := Scalar.addi c0_i32_6265 v5735
  v5736.toNat
def k0_dev317 (v1 : BitVec 32) : Nat :=
  let c0_i32_6298 : BitVec 32 := 0#32
  let c1_i32_6297 : BitVec 32 := 1#32
  let v5759 : BitVec 32 := Scalar.muli v1 c1_i32_6297
  let v5760 : BitVec 32 := Scalar.addi c0_i32_6298 v5759
  v5760.toNat
def k0_dev318 (v0 : BitVec 32) : Nat :=
  let c0_i32_6305 : BitVec 32 := 0#32
  let c1_i32_6304 : BitVec 32 := 1#32
  let v5769 : BitVec 32 := Scalar.muli v0 c1_i32_6304
  let v5770 : BitVec 32 := Scalar.addi c0_i32_6305 v5769
  v5770.toNat
def k0_dev319 (v0 : BitVec 32) : Nat :=
  let c0_i32_6338 : BitVec 32 := 0#32
  let c1_i32_6337 : BitVec 32 := 1#32
  let v5793 : BitVec 32 := Scalar.muli v0 c1_i32_6337
  let v5794 : BitVec 32 := Scalar.addi c0_i32_6338 v5793
  v5794.toNat
def k0_dev320 (v1 : BitVec 32) : Nat :=
  let c0_i32_6345 : BitVec 32 := 0#32
  let c1_i32_6344 : BitVec 32 := 1#32
  let v5803 : BitVec 32 := Scalar.muli v1 c1_i32_6344
  let v5804 : BitVec 32 := Scalar.addi c0_i32_6345 v5803
  v5804.toNat
def k0_dev321 (v1 : BitVec 32) : Nat :=
  let c0_i32_6378 : BitVec 32 := 0#32
  let c1_i32_6377 : BitVec 32 := 1#32
  let v5827 : BitVec 32 := Scalar.muli v1 c1_i32_6377
  let v5828 : BitVec 32 := Scalar.addi c0_i32_6378 v5827
  v5828.toNat
def k0_dev322 (v0 : BitVec 32) : Nat :=
  let c0_i32_6385 : BitVec 32 := 0#32
  let c1_i32_6384 : BitVec 32 := 1#32
  let v5837 : BitVec 32 := Scalar.muli v0 c1_i32_6384
  let v5838 : BitVec 32 := Scalar.addi c0_i32_6385 v5837
  v5838.toNat
def k0_dev323 (v0 : BitVec 32) : Nat :=
  let c0_i32_6418 : BitVec 32 := 0#32
  let c1_i32_6417 : BitVec 32 := 1#32
  let v5861 : BitVec 32 := Scalar.muli v0 c1_i32_6417
  let v5862 : BitVec 32 := Scalar.addi c0_i32_6418 v5861
  v5862.toNat
def k0_dev324 (v1 : BitVec 32) : Nat :=
  let c0_i32_6425 : BitVec 32 := 0#32
  let c1_i32_6424 : BitVec 32 := 1#32
  let v5871 : BitVec 32 := Scalar.muli v1 c1_i32_6424
  let v5872 : BitVec 32 := Scalar.addi c0_i32_6425 v5871
  v5872.toNat
def k0_dev325 (v1 : BitVec 32) : Nat :=
  let c0_i32_6458 : BitVec 32 := 0#32
  let c1_i32_6457 : BitVec 32 := 1#32
  let v5895 : BitVec 32 := Scalar.muli v1 c1_i32_6457
  let v5896 : BitVec 32 := Scalar.addi c0_i32_6458 v5895
  v5896.toNat
def k0_dev326 (v0 : BitVec 32) : Nat :=
  let c0_i32_6465 : BitVec 32 := 0#32
  let c1_i32_6464 : BitVec 32 := 1#32
  let v5905 : BitVec 32 := Scalar.muli v0 c1_i32_6464
  let v5906 : BitVec 32 := Scalar.addi c0_i32_6465 v5905
  v5906.toNat
def k0_dev327 (v0 : BitVec 32) : Nat :=
  let c0_i32_6498 : BitVec 32 := 0#32
  let c1_i32_6497 : BitVec 32 := 1#32
  let v5929 : BitVec 32 := Scalar.muli v0 c1_i32_6497
  let v5930 : BitVec 32 := Scalar.addi c0_i32_6498 v5929
  v5930.toNat
def k0_dev328 (v1 : BitVec 32) : Nat :=
  let c0_i32_6505 : BitVec 32 := 0#32
  let c1_i32_6504 : BitVec 32 := 1#32
  let v5939 : BitVec 32 := Scalar.muli v1 c1_i32_6504
  let v5940 : BitVec 32 := Scalar.addi c0_i32_6505 v5939
  v5940.toNat
def k0_dev329 (v1 : BitVec 32) : Nat :=
  let c0_i32_6538 : BitVec 32 := 0#32
  let c1_i32_6537 : BitVec 32 := 1#32
  let v5963 : BitVec 32 := Scalar.muli v1 c1_i32_6537
  let v5964 : BitVec 32 := Scalar.addi c0_i32_6538 v5963
  v5964.toNat
def k0_dev330 (v0 : BitVec 32) : Nat :=
  let c0_i32_6545 : BitVec 32 := 0#32
  let c1_i32_6544 : BitVec 32 := 1#32
  let v5973 : BitVec 32 := Scalar.muli v0 c1_i32_6544
  let v5974 : BitVec 32 := Scalar.addi c0_i32_6545 v5973
  v5974.toNat
def k0_off43 (v5975 : BitVec 32) : Fin 2 → Nat :=
  let c128_i32_6546 : BitVec 32 := 128#32
  let v5978 : BitVec 32 := Scalar.muli v5975 c128_i32_6546
  let v5979 : Index := Scalar.indexCast v5978
  let c0_6547 : Index := 0#32
  ![v5979.toNat, 0]

def k0_chk45 (v5975 : BitVec 32) : Prop :=
  (∀ a, (k0_off43 v5975) a + S128x128.size a ≤ S4096x128.size a)
theorem k0_off43_inb : ∀ (v5975 : BitVec 32) (k0_hw45 : k0_chk45 v5975), ∀ a, (k0_off43 v5975) a + S128x128.size a ≤ S4096x128.size a := fun v5975 k0_hw45 => k0_hw45

def k0_off44 (v5976 : BitVec 32) : Fin 2 → Nat :=
  let c128_i32_6549 : BitVec 32 := 128#32
  let v5984 : BitVec 32 := Scalar.muli v5976 c128_i32_6549
  let v5985 : Index := Scalar.indexCast v5984
  let c0_6550 : Index := 0#32
  ![v5985.toNat, 0]

def k0_chk46 (v5976 : BitVec 32) : Prop :=
  (∀ a, (k0_off44 v5976) a + S128x128.size a ≤ S4096x128.size a)
theorem k0_off44_inb : ∀ (v5976 : BitVec 32) (k0_hw46 : k0_chk46 v5976), ∀ a, (k0_off44 v5976) a + S128x128.size a ≤ S4096x128.size a := fun v5976 k0_hw46 => k0_hw46

def k0_dev331 (v0 : BitVec 32) : Nat :=
  let c0_i32_6584 : BitVec 32 := 0#32
  let c1_i32_6583 : BitVec 32 := 1#32
  let v6019 : BitVec 32 := Scalar.muli v0 c1_i32_6583
  let v6020 : BitVec 32 := Scalar.addi c0_i32_6584 v6019
  v6020.toNat
def k0_dev332 (v1 : BitVec 32) : Nat :=
  let c0_i32_6591 : BitVec 32 := 0#32
  let c1_i32_6590 : BitVec 32 := 1#32
  let v6029 : BitVec 32 := Scalar.muli v1 c1_i32_6590
  let v6030 : BitVec 32 := Scalar.addi c0_i32_6591 v6029
  v6030.toNat
def k0_dev333 (v1 : BitVec 32) : Nat :=
  let c0_i32_6624 : BitVec 32 := 0#32
  let c1_i32_6623 : BitVec 32 := 1#32
  let v6053 : BitVec 32 := Scalar.muli v1 c1_i32_6623
  let v6054 : BitVec 32 := Scalar.addi c0_i32_6624 v6053
  v6054.toNat
def k0_dev334 (v0 : BitVec 32) : Nat :=
  let c0_i32_6631 : BitVec 32 := 0#32
  let c1_i32_6630 : BitVec 32 := 1#32
  let v6063 : BitVec 32 := Scalar.muli v0 c1_i32_6630
  let v6064 : BitVec 32 := Scalar.addi c0_i32_6631 v6063
  v6064.toNat
def k0_dev335 (v0 : BitVec 32) : Nat :=
  let c0_i32_6664 : BitVec 32 := 0#32
  let c1_i32_6663 : BitVec 32 := 1#32
  let v6087 : BitVec 32 := Scalar.muli v0 c1_i32_6663
  let v6088 : BitVec 32 := Scalar.addi c0_i32_6664 v6087
  v6088.toNat
def k0_dev336 (v1 : BitVec 32) : Nat :=
  let c0_i32_6671 : BitVec 32 := 0#32
  let c1_i32_6670 : BitVec 32 := 1#32
  let v6097 : BitVec 32 := Scalar.muli v1 c1_i32_6670
  let v6098 : BitVec 32 := Scalar.addi c0_i32_6671 v6097
  v6098.toNat
def k0_dev337 (v1 : BitVec 32) : Nat :=
  let c0_i32_6704 : BitVec 32 := 0#32
  let c1_i32_6703 : BitVec 32 := 1#32
  let v6121 : BitVec 32 := Scalar.muli v1 c1_i32_6703
  let v6122 : BitVec 32 := Scalar.addi c0_i32_6704 v6121
  v6122.toNat
def k0_dev338 (v0 : BitVec 32) : Nat :=
  let c0_i32_6711 : BitVec 32 := 0#32
  let c1_i32_6710 : BitVec 32 := 1#32
  let v6131 : BitVec 32 := Scalar.muli v0 c1_i32_6710
  let v6132 : BitVec 32 := Scalar.addi c0_i32_6711 v6131
  v6132.toNat
def k0_dev339 (v0 : BitVec 32) : Nat :=
  let c0_i32_6744 : BitVec 32 := 0#32
  let c1_i32_6743 : BitVec 32 := 1#32
  let v6155 : BitVec 32 := Scalar.muli v0 c1_i32_6743
  let v6156 : BitVec 32 := Scalar.addi c0_i32_6744 v6155
  v6156.toNat
def k0_dev340 (v1 : BitVec 32) : Nat :=
  let c0_i32_6751 : BitVec 32 := 0#32
  let c1_i32_6750 : BitVec 32 := 1#32
  let v6165 : BitVec 32 := Scalar.muli v1 c1_i32_6750
  let v6166 : BitVec 32 := Scalar.addi c0_i32_6751 v6165
  v6166.toNat
def k0_dev341 (v1 : BitVec 32) : Nat :=
  let c0_i32_6784 : BitVec 32 := 0#32
  let c1_i32_6783 : BitVec 32 := 1#32
  let v6189 : BitVec 32 := Scalar.muli v1 c1_i32_6783
  let v6190 : BitVec 32 := Scalar.addi c0_i32_6784 v6189
  v6190.toNat
def k0_dev342 (v0 : BitVec 32) : Nat :=
  let c0_i32_6791 : BitVec 32 := 0#32
  let c1_i32_6790 : BitVec 32 := 1#32
  let v6199 : BitVec 32 := Scalar.muli v0 c1_i32_6790
  let v6200 : BitVec 32 := Scalar.addi c0_i32_6791 v6199
  v6200.toNat
def k0_dev343 (v0 : BitVec 32) : Nat :=
  let c0_i32_6824 : BitVec 32 := 0#32
  let c1_i32_6823 : BitVec 32 := 1#32
  let v6223 : BitVec 32 := Scalar.muli v0 c1_i32_6823
  let v6224 : BitVec 32 := Scalar.addi c0_i32_6824 v6223
  v6224.toNat
def k0_dev344 (v1 : BitVec 32) : Nat :=
  let c0_i32_6831 : BitVec 32 := 0#32
  let c1_i32_6830 : BitVec 32 := 1#32
  let v6233 : BitVec 32 := Scalar.muli v1 c1_i32_6830
  let v6234 : BitVec 32 := Scalar.addi c0_i32_6831 v6233
  v6234.toNat
def k0_dev345 (v1 : BitVec 32) : Nat :=
  let c0_i32_6864 : BitVec 32 := 0#32
  let c1_i32_6863 : BitVec 32 := 1#32
  let v6257 : BitVec 32 := Scalar.muli v1 c1_i32_6863
  let v6258 : BitVec 32 := Scalar.addi c0_i32_6864 v6257
  v6258.toNat
def k0_dev346 (v0 : BitVec 32) : Nat :=
  let c0_i32_6871 : BitVec 32 := 0#32
  let c1_i32_6870 : BitVec 32 := 1#32
  let v6267 : BitVec 32 := Scalar.muli v0 c1_i32_6870
  let v6268 : BitVec 32 := Scalar.addi c0_i32_6871 v6267
  v6268.toNat
def k0_off45 (v6269 : BitVec 32) : Fin 2 → Nat :=
  let c128_i32_6872 : BitVec 32 := 128#32
  let v6272 : BitVec 32 := Scalar.muli v6269 c128_i32_6872
  let v6273 : Index := Scalar.indexCast v6272
  let c0_6873 : Index := 0#32
  ![v6273.toNat, 0]

def k0_chk47 (v6269 : BitVec 32) : Prop :=
  (∀ a, (k0_off45 v6269) a + S128x128.size a ≤ S4096x128.size a)
theorem k0_off45_inb : ∀ (v6269 : BitVec 32) (k0_hw47 : k0_chk47 v6269), ∀ a, (k0_off45 v6269) a + S128x128.size a ≤ S4096x128.size a := fun v6269 k0_hw47 => k0_hw47

def k0_off46 (v6270 : BitVec 32) : Fin 2 → Nat :=
  let c128_i32_6875 : BitVec 32 := 128#32
  let v6278 : BitVec 32 := Scalar.muli v6270 c128_i32_6875
  let v6279 : Index := Scalar.indexCast v6278
  let c0_6876 : Index := 0#32
  ![v6279.toNat, 0]

def k0_chk48 (v6270 : BitVec 32) : Prop :=
  (∀ a, (k0_off46 v6270) a + S128x128.size a ≤ S4096x128.size a)
theorem k0_off46_inb : ∀ (v6270 : BitVec 32) (k0_hw48 : k0_chk48 v6270), ∀ a, (k0_off46 v6270) a + S128x128.size a ≤ S4096x128.size a := fun v6270 k0_hw48 => k0_hw48

def k0_dev347 (v0 : BitVec 32) : Nat :=
  let c0_i32_6910 : BitVec 32 := 0#32
  let c1_i32_6909 : BitVec 32 := 1#32
  let v6313 : BitVec 32 := Scalar.muli v0 c1_i32_6909
  let v6314 : BitVec 32 := Scalar.addi c0_i32_6910 v6313
  v6314.toNat
def k0_dev348 (v1 : BitVec 32) : Nat :=
  let c0_i32_6917 : BitVec 32 := 0#32
  let c1_i32_6916 : BitVec 32 := 1#32
  let v6323 : BitVec 32 := Scalar.muli v1 c1_i32_6916
  let v6324 : BitVec 32 := Scalar.addi c0_i32_6917 v6323
  v6324.toNat
def k0_dev349 (v1 : BitVec 32) : Nat :=
  let c0_i32_6950 : BitVec 32 := 0#32
  let c1_i32_6949 : BitVec 32 := 1#32
  let v6347 : BitVec 32 := Scalar.muli v1 c1_i32_6949
  let v6348 : BitVec 32 := Scalar.addi c0_i32_6950 v6347
  v6348.toNat
def k0_dev350 (v0 : BitVec 32) : Nat :=
  let c0_i32_6957 : BitVec 32 := 0#32
  let c1_i32_6956 : BitVec 32 := 1#32
  let v6357 : BitVec 32 := Scalar.muli v0 c1_i32_6956
  let v6358 : BitVec 32 := Scalar.addi c0_i32_6957 v6357
  v6358.toNat
def k0_dev351 (v0 : BitVec 32) : Nat :=
  let c0_i32_6990 : BitVec 32 := 0#32
  let c1_i32_6989 : BitVec 32 := 1#32
  let v6381 : BitVec 32 := Scalar.muli v0 c1_i32_6989
  let v6382 : BitVec 32 := Scalar.addi c0_i32_6990 v6381
  v6382.toNat
def k0_dev352 (v1 : BitVec 32) : Nat :=
  let c0_i32_6997 : BitVec 32 := 0#32
  let c1_i32_6996 : BitVec 32 := 1#32
  let v6391 : BitVec 32 := Scalar.muli v1 c1_i32_6996
  let v6392 : BitVec 32 := Scalar.addi c0_i32_6997 v6391
  v6392.toNat
def k0_dev353 (v1 : BitVec 32) : Nat :=
  let c0_i32_7030 : BitVec 32 := 0#32
  let c1_i32_7029 : BitVec 32 := 1#32
  let v6415 : BitVec 32 := Scalar.muli v1 c1_i32_7029
  let v6416 : BitVec 32 := Scalar.addi c0_i32_7030 v6415
  v6416.toNat
def k0_dev354 (v0 : BitVec 32) : Nat :=
  let c0_i32_7037 : BitVec 32 := 0#32
  let c1_i32_7036 : BitVec 32 := 1#32
  let v6425 : BitVec 32 := Scalar.muli v0 c1_i32_7036
  let v6426 : BitVec 32 := Scalar.addi c0_i32_7037 v6425
  v6426.toNat
def k0_dev355 (v0 : BitVec 32) : Nat :=
  let c0_i32_7070 : BitVec 32 := 0#32
  let c1_i32_7069 : BitVec 32 := 1#32
  let v6449 : BitVec 32 := Scalar.muli v0 c1_i32_7069
  let v6450 : BitVec 32 := Scalar.addi c0_i32_7070 v6449
  v6450.toNat
def k0_dev356 (v1 : BitVec 32) : Nat :=
  let c0_i32_7077 : BitVec 32 := 0#32
  let c1_i32_7076 : BitVec 32 := 1#32
  let v6459 : BitVec 32 := Scalar.muli v1 c1_i32_7076
  let v6460 : BitVec 32 := Scalar.addi c0_i32_7077 v6459
  v6460.toNat
def k0_dev357 (v1 : BitVec 32) : Nat :=
  let c0_i32_7110 : BitVec 32 := 0#32
  let c1_i32_7109 : BitVec 32 := 1#32
  let v6483 : BitVec 32 := Scalar.muli v1 c1_i32_7109
  let v6484 : BitVec 32 := Scalar.addi c0_i32_7110 v6483
  v6484.toNat
def k0_dev358 (v0 : BitVec 32) : Nat :=
  let c0_i32_7117 : BitVec 32 := 0#32
  let c1_i32_7116 : BitVec 32 := 1#32
  let v6493 : BitVec 32 := Scalar.muli v0 c1_i32_7116
  let v6494 : BitVec 32 := Scalar.addi c0_i32_7117 v6493
  v6494.toNat
def k0_dev359 (v0 : BitVec 32) : Nat :=
  let c0_i32_7150 : BitVec 32 := 0#32
  let c1_i32_7149 : BitVec 32 := 1#32
  let v6517 : BitVec 32 := Scalar.muli v0 c1_i32_7149
  let v6518 : BitVec 32 := Scalar.addi c0_i32_7150 v6517
  v6518.toNat
def k0_dev360 (v1 : BitVec 32) : Nat :=
  let c0_i32_7157 : BitVec 32 := 0#32
  let c1_i32_7156 : BitVec 32 := 1#32
  let v6527 : BitVec 32 := Scalar.muli v1 c1_i32_7156
  let v6528 : BitVec 32 := Scalar.addi c0_i32_7157 v6527
  v6528.toNat
def k0_dev361 (v1 : BitVec 32) : Nat :=
  let c0_i32_7190 : BitVec 32 := 0#32
  let c1_i32_7189 : BitVec 32 := 1#32
  let v6551 : BitVec 32 := Scalar.muli v1 c1_i32_7189
  let v6552 : BitVec 32 := Scalar.addi c0_i32_7190 v6551
  v6552.toNat
def k0_dev362 (v0 : BitVec 32) : Nat :=
  let c0_i32_7197 : BitVec 32 := 0#32
  let c1_i32_7196 : BitVec 32 := 1#32
  let v6561 : BitVec 32 := Scalar.muli v0 c1_i32_7196
  let v6562 : BitVec 32 := Scalar.addi c0_i32_7197 v6561
  v6562.toNat
def k0_off47 (v6563 : BitVec 32) : Fin 2 → Nat :=
  let c128_i32_7198 : BitVec 32 := 128#32
  let v6566 : BitVec 32 := Scalar.muli v6563 c128_i32_7198
  let v6567 : Index := Scalar.indexCast v6566
  let c0_7199 : Index := 0#32
  ![v6567.toNat, 0]

def k0_chk49 (v6563 : BitVec 32) : Prop :=
  (∀ a, (k0_off47 v6563) a + S128x128.size a ≤ S4096x128.size a)
theorem k0_off47_inb : ∀ (v6563 : BitVec 32) (k0_hw49 : k0_chk49 v6563), ∀ a, (k0_off47 v6563) a + S128x128.size a ≤ S4096x128.size a := fun v6563 k0_hw49 => k0_hw49

def k0_off48 (v6564 : BitVec 32) : Fin 2 → Nat :=
  let c128_i32_7201 : BitVec 32 := 128#32
  let v6572 : BitVec 32 := Scalar.muli v6564 c128_i32_7201
  let v6573 : Index := Scalar.indexCast v6572
  let c0_7202 : Index := 0#32
  ![v6573.toNat, 0]

def k0_chk50 (v6564 : BitVec 32) : Prop :=
  (∀ a, (k0_off48 v6564) a + S128x128.size a ≤ S4096x128.size a)
theorem k0_off48_inb : ∀ (v6564 : BitVec 32) (k0_hw50 : k0_chk50 v6564), ∀ a, (k0_off48 v6564) a + S128x128.size a ≤ S4096x128.size a := fun v6564 k0_hw50 => k0_hw50

def k0_dev363 (v0 : BitVec 32) : Nat :=
  let c0_i32_7236 : BitVec 32 := 0#32
  let c1_i32_7235 : BitVec 32 := 1#32
  let v6607 : BitVec 32 := Scalar.muli v0 c1_i32_7235
  let v6608 : BitVec 32 := Scalar.addi c0_i32_7236 v6607
  v6608.toNat
def k0_dev364 (v1 : BitVec 32) : Nat :=
  let c0_i32_7243 : BitVec 32 := 0#32
  let c1_i32_7242 : BitVec 32 := 1#32
  let v6617 : BitVec 32 := Scalar.muli v1 c1_i32_7242
  let v6618 : BitVec 32 := Scalar.addi c0_i32_7243 v6617
  v6618.toNat
def k0_dev365 (v1 : BitVec 32) : Nat :=
  let c0_i32_7276 : BitVec 32 := 0#32
  let c1_i32_7275 : BitVec 32 := 1#32
  let v6641 : BitVec 32 := Scalar.muli v1 c1_i32_7275
  let v6642 : BitVec 32 := Scalar.addi c0_i32_7276 v6641
  v6642.toNat
def k0_dev366 (v0 : BitVec 32) : Nat :=
  let c0_i32_7283 : BitVec 32 := 0#32
  let c1_i32_7282 : BitVec 32 := 1#32
  let v6651 : BitVec 32 := Scalar.muli v0 c1_i32_7282
  let v6652 : BitVec 32 := Scalar.addi c0_i32_7283 v6651
  v6652.toNat
def k0_dev367 (v0 : BitVec 32) : Nat :=
  let c0_i32_7316 : BitVec 32 := 0#32
  let c1_i32_7315 : BitVec 32 := 1#32
  let v6675 : BitVec 32 := Scalar.muli v0 c1_i32_7315
  let v6676 : BitVec 32 := Scalar.addi c0_i32_7316 v6675
  v6676.toNat
def k0_dev368 (v1 : BitVec 32) : Nat :=
  let c0_i32_7323 : BitVec 32 := 0#32
  let c1_i32_7322 : BitVec 32 := 1#32
  let v6685 : BitVec 32 := Scalar.muli v1 c1_i32_7322
  let v6686 : BitVec 32 := Scalar.addi c0_i32_7323 v6685
  v6686.toNat
def k0_dev369 (v1 : BitVec 32) : Nat :=
  let c0_i32_7356 : BitVec 32 := 0#32
  let c1_i32_7355 : BitVec 32 := 1#32
  let v6709 : BitVec 32 := Scalar.muli v1 c1_i32_7355
  let v6710 : BitVec 32 := Scalar.addi c0_i32_7356 v6709
  v6710.toNat
def k0_dev370 (v0 : BitVec 32) : Nat :=
  let c0_i32_7363 : BitVec 32 := 0#32
  let c1_i32_7362 : BitVec 32 := 1#32
  let v6719 : BitVec 32 := Scalar.muli v0 c1_i32_7362
  let v6720 : BitVec 32 := Scalar.addi c0_i32_7363 v6719
  v6720.toNat
def k0_dev371 (v0 : BitVec 32) : Nat :=
  let c0_i32_7396 : BitVec 32 := 0#32
  let c1_i32_7395 : BitVec 32 := 1#32
  let v6743 : BitVec 32 := Scalar.muli v0 c1_i32_7395
  let v6744 : BitVec 32 := Scalar.addi c0_i32_7396 v6743
  v6744.toNat
def k0_dev372 (v1 : BitVec 32) : Nat :=
  let c0_i32_7403 : BitVec 32 := 0#32
  let c1_i32_7402 : BitVec 32 := 1#32
  let v6753 : BitVec 32 := Scalar.muli v1 c1_i32_7402
  let v6754 : BitVec 32 := Scalar.addi c0_i32_7403 v6753
  v6754.toNat
def k0_dev373 (v1 : BitVec 32) : Nat :=
  let c0_i32_7436 : BitVec 32 := 0#32
  let c1_i32_7435 : BitVec 32 := 1#32
  let v6777 : BitVec 32 := Scalar.muli v1 c1_i32_7435
  let v6778 : BitVec 32 := Scalar.addi c0_i32_7436 v6777
  v6778.toNat
def k0_dev374 (v0 : BitVec 32) : Nat :=
  let c0_i32_7443 : BitVec 32 := 0#32
  let c1_i32_7442 : BitVec 32 := 1#32
  let v6787 : BitVec 32 := Scalar.muli v0 c1_i32_7442
  let v6788 : BitVec 32 := Scalar.addi c0_i32_7443 v6787
  v6788.toNat
def k0_dev375 (v0 : BitVec 32) : Nat :=
  let c0_i32_7476 : BitVec 32 := 0#32
  let c1_i32_7475 : BitVec 32 := 1#32
  let v6811 : BitVec 32 := Scalar.muli v0 c1_i32_7475
  let v6812 : BitVec 32 := Scalar.addi c0_i32_7476 v6811
  v6812.toNat
def k0_dev376 (v1 : BitVec 32) : Nat :=
  let c0_i32_7483 : BitVec 32 := 0#32
  let c1_i32_7482 : BitVec 32 := 1#32
  let v6821 : BitVec 32 := Scalar.muli v1 c1_i32_7482
  let v6822 : BitVec 32 := Scalar.addi c0_i32_7483 v6821
  v6822.toNat
def k0_dev377 (v1 : BitVec 32) : Nat :=
  let c0_i32_7516 : BitVec 32 := 0#32
  let c1_i32_7515 : BitVec 32 := 1#32
  let v6845 : BitVec 32 := Scalar.muli v1 c1_i32_7515
  let v6846 : BitVec 32 := Scalar.addi c0_i32_7516 v6845
  v6846.toNat
def k0_dev378 (v0 : BitVec 32) : Nat :=
  let c0_i32_7523 : BitVec 32 := 0#32
  let c1_i32_7522 : BitVec 32 := 1#32
  let v6855 : BitVec 32 := Scalar.muli v0 c1_i32_7522
  let v6856 : BitVec 32 := Scalar.addi c0_i32_7523 v6855
  v6856.toNat
def k0_off49 (v6857 : BitVec 32) : Fin 2 → Nat :=
  let c128_i32_7524 : BitVec 32 := 128#32
  let v6860 : BitVec 32 := Scalar.muli v6857 c128_i32_7524
  let v6861 : Index := Scalar.indexCast v6860
  let c0_7525 : Index := 0#32
  ![v6861.toNat, 0]

def k0_chk51 (v6857 : BitVec 32) : Prop :=
  (∀ a, (k0_off49 v6857) a + S128x128.size a ≤ S4096x128.size a)
theorem k0_off49_inb : ∀ (v6857 : BitVec 32) (k0_hw51 : k0_chk51 v6857), ∀ a, (k0_off49 v6857) a + S128x128.size a ≤ S4096x128.size a := fun v6857 k0_hw51 => k0_hw51

def k0_off50 (v6858 : BitVec 32) : Fin 2 → Nat :=
  let c128_i32_7527 : BitVec 32 := 128#32
  let v6866 : BitVec 32 := Scalar.muli v6858 c128_i32_7527
  let v6867 : Index := Scalar.indexCast v6866
  let c0_7528 : Index := 0#32
  ![v6867.toNat, 0]

def k0_chk52 (v6858 : BitVec 32) : Prop :=
  (∀ a, (k0_off50 v6858) a + S128x128.size a ≤ S4096x128.size a)
theorem k0_off50_inb : ∀ (v6858 : BitVec 32) (k0_hw52 : k0_chk52 v6858), ∀ a, (k0_off50 v6858) a + S128x128.size a ≤ S4096x128.size a := fun v6858 k0_hw52 => k0_hw52

def k0_dev379 (v0 : BitVec 32) : Nat :=
  let c0_i32_7562 : BitVec 32 := 0#32
  let c1_i32_7561 : BitVec 32 := 1#32
  let v6901 : BitVec 32 := Scalar.muli v0 c1_i32_7561
  let v6902 : BitVec 32 := Scalar.addi c0_i32_7562 v6901
  v6902.toNat
def k0_dev380 (v1 : BitVec 32) : Nat :=
  let c0_i32_7569 : BitVec 32 := 0#32
  let c1_i32_7568 : BitVec 32 := 1#32
  let v6911 : BitVec 32 := Scalar.muli v1 c1_i32_7568
  let v6912 : BitVec 32 := Scalar.addi c0_i32_7569 v6911
  v6912.toNat
def k0_dev381 (v1 : BitVec 32) : Nat :=
  let c0_i32_7602 : BitVec 32 := 0#32
  let c1_i32_7601 : BitVec 32 := 1#32
  let v6935 : BitVec 32 := Scalar.muli v1 c1_i32_7601
  let v6936 : BitVec 32 := Scalar.addi c0_i32_7602 v6935
  v6936.toNat
def k0_dev382 (v0 : BitVec 32) : Nat :=
  let c0_i32_7609 : BitVec 32 := 0#32
  let c1_i32_7608 : BitVec 32 := 1#32
  let v6945 : BitVec 32 := Scalar.muli v0 c1_i32_7608
  let v6946 : BitVec 32 := Scalar.addi c0_i32_7609 v6945
  v6946.toNat
def k0_dev383 (v0 : BitVec 32) : Nat :=
  let c0_i32_7642 : BitVec 32 := 0#32
  let c1_i32_7641 : BitVec 32 := 1#32
  let v6969 : BitVec 32 := Scalar.muli v0 c1_i32_7641
  let v6970 : BitVec 32 := Scalar.addi c0_i32_7642 v6969
  v6970.toNat
def k0_dev384 (v1 : BitVec 32) : Nat :=
  let c0_i32_7649 : BitVec 32 := 0#32
  let c1_i32_7648 : BitVec 32 := 1#32
  let v6979 : BitVec 32 := Scalar.muli v1 c1_i32_7648
  let v6980 : BitVec 32 := Scalar.addi c0_i32_7649 v6979
  v6980.toNat
def k0_dev385 (v1 : BitVec 32) : Nat :=
  let c0_i32_7682 : BitVec 32 := 0#32
  let c1_i32_7681 : BitVec 32 := 1#32
  let v7003 : BitVec 32 := Scalar.muli v1 c1_i32_7681
  let v7004 : BitVec 32 := Scalar.addi c0_i32_7682 v7003
  v7004.toNat
def k0_dev386 (v0 : BitVec 32) : Nat :=
  let c0_i32_7689 : BitVec 32 := 0#32
  let c1_i32_7688 : BitVec 32 := 1#32
  let v7013 : BitVec 32 := Scalar.muli v0 c1_i32_7688
  let v7014 : BitVec 32 := Scalar.addi c0_i32_7689 v7013
  v7014.toNat
def k0_dev387 (v0 : BitVec 32) : Nat :=
  let c0_i32_7722 : BitVec 32 := 0#32
  let c1_i32_7721 : BitVec 32 := 1#32
  let v7037 : BitVec 32 := Scalar.muli v0 c1_i32_7721
  let v7038 : BitVec 32 := Scalar.addi c0_i32_7722 v7037
  v7038.toNat
def k0_dev388 (v1 : BitVec 32) : Nat :=
  let c0_i32_7729 : BitVec 32 := 0#32
  let c1_i32_7728 : BitVec 32 := 1#32
  let v7047 : BitVec 32 := Scalar.muli v1 c1_i32_7728
  let v7048 : BitVec 32 := Scalar.addi c0_i32_7729 v7047
  v7048.toNat
def k0_dev389 (v1 : BitVec 32) : Nat :=
  let c0_i32_7762 : BitVec 32 := 0#32
  let c1_i32_7761 : BitVec 32 := 1#32
  let v7071 : BitVec 32 := Scalar.muli v1 c1_i32_7761
  let v7072 : BitVec 32 := Scalar.addi c0_i32_7762 v7071
  v7072.toNat
def k0_dev390 (v0 : BitVec 32) : Nat :=
  let c0_i32_7769 : BitVec 32 := 0#32
  let c1_i32_7768 : BitVec 32 := 1#32
  let v7081 : BitVec 32 := Scalar.muli v0 c1_i32_7768
  let v7082 : BitVec 32 := Scalar.addi c0_i32_7769 v7081
  v7082.toNat
def k0_dev391 (v0 : BitVec 32) : Nat :=
  let c0_i32_7802 : BitVec 32 := 0#32
  let c1_i32_7801 : BitVec 32 := 1#32
  let v7105 : BitVec 32 := Scalar.muli v0 c1_i32_7801
  let v7106 : BitVec 32 := Scalar.addi c0_i32_7802 v7105
  v7106.toNat
def k0_dev392 (v1 : BitVec 32) : Nat :=
  let c0_i32_7809 : BitVec 32 := 0#32
  let c1_i32_7808 : BitVec 32 := 1#32
  let v7115 : BitVec 32 := Scalar.muli v1 c1_i32_7808
  let v7116 : BitVec 32 := Scalar.addi c0_i32_7809 v7115
  v7116.toNat
def k0_dev393 (v1 : BitVec 32) : Nat :=
  let c0_i32_7842 : BitVec 32 := 0#32
  let c1_i32_7841 : BitVec 32 := 1#32
  let v7139 : BitVec 32 := Scalar.muli v1 c1_i32_7841
  let v7140 : BitVec 32 := Scalar.addi c0_i32_7842 v7139
  v7140.toNat
def k0_dev394 (v0 : BitVec 32) : Nat :=
  let c0_i32_7849 : BitVec 32 := 0#32
  let c1_i32_7848 : BitVec 32 := 1#32
  let v7149 : BitVec 32 := Scalar.muli v0 c1_i32_7848
  let v7150 : BitVec 32 := Scalar.addi c0_i32_7849 v7149
  v7150.toNat
def k0_off51 (v7151 : BitVec 32) : Fin 2 → Nat :=
  let c128_i32_7850 : BitVec 32 := 128#32
  let v7154 : BitVec 32 := Scalar.muli v7151 c128_i32_7850
  let v7155 : Index := Scalar.indexCast v7154
  let c0_7851 : Index := 0#32
  ![v7155.toNat, 0]

def k0_chk53 (v7151 : BitVec 32) : Prop :=
  (∀ a, (k0_off51 v7151) a + S128x128.size a ≤ S4096x128.size a)
theorem k0_off51_inb : ∀ (v7151 : BitVec 32) (k0_hw53 : k0_chk53 v7151), ∀ a, (k0_off51 v7151) a + S128x128.size a ≤ S4096x128.size a := fun v7151 k0_hw53 => k0_hw53

def k0_off52 (v7152 : BitVec 32) : Fin 2 → Nat :=
  let c128_i32_7853 : BitVec 32 := 128#32
  let v7160 : BitVec 32 := Scalar.muli v7152 c128_i32_7853
  let v7161 : Index := Scalar.indexCast v7160
  let c0_7854 : Index := 0#32
  ![v7161.toNat, 0]

def k0_chk54 (v7152 : BitVec 32) : Prop :=
  (∀ a, (k0_off52 v7152) a + S128x128.size a ≤ S4096x128.size a)
theorem k0_off52_inb : ∀ (v7152 : BitVec 32) (k0_hw54 : k0_chk54 v7152), ∀ a, (k0_off52 v7152) a + S128x128.size a ≤ S4096x128.size a := fun v7152 k0_hw54 => k0_hw54

def k0_dev395 (v0 : BitVec 32) : Nat :=
  let c0_i32_7888 : BitVec 32 := 0#32
  let c1_i32_7887 : BitVec 32 := 1#32
  let v7195 : BitVec 32 := Scalar.muli v0 c1_i32_7887
  let v7196 : BitVec 32 := Scalar.addi c0_i32_7888 v7195
  v7196.toNat
def k0_dev396 (v1 : BitVec 32) : Nat :=
  let c0_i32_7895 : BitVec 32 := 0#32
  let c1_i32_7894 : BitVec 32 := 1#32
  let v7205 : BitVec 32 := Scalar.muli v1 c1_i32_7894
  let v7206 : BitVec 32 := Scalar.addi c0_i32_7895 v7205
  v7206.toNat
def k0_dev397 (v1 : BitVec 32) : Nat :=
  let c0_i32_7928 : BitVec 32 := 0#32
  let c1_i32_7927 : BitVec 32 := 1#32
  let v7229 : BitVec 32 := Scalar.muli v1 c1_i32_7927
  let v7230 : BitVec 32 := Scalar.addi c0_i32_7928 v7229
  v7230.toNat
def k0_dev398 (v0 : BitVec 32) : Nat :=
  let c0_i32_7935 : BitVec 32 := 0#32
  let c1_i32_7934 : BitVec 32 := 1#32
  let v7239 : BitVec 32 := Scalar.muli v0 c1_i32_7934
  let v7240 : BitVec 32 := Scalar.addi c0_i32_7935 v7239
  v7240.toNat
def k0_dev399 (v0 : BitVec 32) : Nat :=
  let c0_i32_7968 : BitVec 32 := 0#32
  let c1_i32_7967 : BitVec 32 := 1#32
  let v7263 : BitVec 32 := Scalar.muli v0 c1_i32_7967
  let v7264 : BitVec 32 := Scalar.addi c0_i32_7968 v7263
  v7264.toNat
def k0_dev400 (v1 : BitVec 32) : Nat :=
  let c0_i32_7975 : BitVec 32 := 0#32
  let c1_i32_7974 : BitVec 32 := 1#32
  let v7273 : BitVec 32 := Scalar.muli v1 c1_i32_7974
  let v7274 : BitVec 32 := Scalar.addi c0_i32_7975 v7273
  v7274.toNat
def k0_dev401 (v1 : BitVec 32) : Nat :=
  let c0_i32_8008 : BitVec 32 := 0#32
  let c1_i32_8007 : BitVec 32 := 1#32
  let v7297 : BitVec 32 := Scalar.muli v1 c1_i32_8007
  let v7298 : BitVec 32 := Scalar.addi c0_i32_8008 v7297
  v7298.toNat
def k0_dev402 (v0 : BitVec 32) : Nat :=
  let c0_i32_8015 : BitVec 32 := 0#32
  let c1_i32_8014 : BitVec 32 := 1#32
  let v7307 : BitVec 32 := Scalar.muli v0 c1_i32_8014
  let v7308 : BitVec 32 := Scalar.addi c0_i32_8015 v7307
  v7308.toNat
def k0_dev403 (v0 : BitVec 32) : Nat :=
  let c0_i32_8048 : BitVec 32 := 0#32
  let c1_i32_8047 : BitVec 32 := 1#32
  let v7331 : BitVec 32 := Scalar.muli v0 c1_i32_8047
  let v7332 : BitVec 32 := Scalar.addi c0_i32_8048 v7331
  v7332.toNat
def k0_dev404 (v1 : BitVec 32) : Nat :=
  let c0_i32_8055 : BitVec 32 := 0#32
  let c1_i32_8054 : BitVec 32 := 1#32
  let v7341 : BitVec 32 := Scalar.muli v1 c1_i32_8054
  let v7342 : BitVec 32 := Scalar.addi c0_i32_8055 v7341
  v7342.toNat
def k0_dev405 (v1 : BitVec 32) : Nat :=
  let c0_i32_8088 : BitVec 32 := 0#32
  let c1_i32_8087 : BitVec 32 := 1#32
  let v7365 : BitVec 32 := Scalar.muli v1 c1_i32_8087
  let v7366 : BitVec 32 := Scalar.addi c0_i32_8088 v7365
  v7366.toNat
def k0_dev406 (v0 : BitVec 32) : Nat :=
  let c0_i32_8095 : BitVec 32 := 0#32
  let c1_i32_8094 : BitVec 32 := 1#32
  let v7375 : BitVec 32 := Scalar.muli v0 c1_i32_8094
  let v7376 : BitVec 32 := Scalar.addi c0_i32_8095 v7375
  v7376.toNat
def k0_dev407 (v0 : BitVec 32) : Nat :=
  let c0_i32_8128 : BitVec 32 := 0#32
  let c1_i32_8127 : BitVec 32 := 1#32
  let v7399 : BitVec 32 := Scalar.muli v0 c1_i32_8127
  let v7400 : BitVec 32 := Scalar.addi c0_i32_8128 v7399
  v7400.toNat
def k0_dev408 (v1 : BitVec 32) : Nat :=
  let c0_i32_8135 : BitVec 32 := 0#32
  let c1_i32_8134 : BitVec 32 := 1#32
  let v7409 : BitVec 32 := Scalar.muli v1 c1_i32_8134
  let v7410 : BitVec 32 := Scalar.addi c0_i32_8135 v7409
  v7410.toNat
def k0_dev409 (v1 : BitVec 32) : Nat :=
  let c0_i32_8168 : BitVec 32 := 0#32
  let c1_i32_8167 : BitVec 32 := 1#32
  let v7433 : BitVec 32 := Scalar.muli v1 c1_i32_8167
  let v7434 : BitVec 32 := Scalar.addi c0_i32_8168 v7433
  v7434.toNat
def k0_dev410 (v0 : BitVec 32) : Nat :=
  let c0_i32_8175 : BitVec 32 := 0#32
  let c1_i32_8174 : BitVec 32 := 1#32
  let v7443 : BitVec 32 := Scalar.muli v0 c1_i32_8174
  let v7444 : BitVec 32 := Scalar.addi c0_i32_8175 v7443
  v7444.toNat
def k0_off53 (v7445 : BitVec 32) : Fin 2 → Nat :=
  let c128_i32_8176 : BitVec 32 := 128#32
  let v7448 : BitVec 32 := Scalar.muli v7445 c128_i32_8176
  let v7449 : Index := Scalar.indexCast v7448
  let c0_8177 : Index := 0#32
  ![v7449.toNat, 0]

def k0_chk55 (v7445 : BitVec 32) : Prop :=
  (∀ a, (k0_off53 v7445) a + S128x128.size a ≤ S4096x128.size a)
theorem k0_off53_inb : ∀ (v7445 : BitVec 32) (k0_hw55 : k0_chk55 v7445), ∀ a, (k0_off53 v7445) a + S128x128.size a ≤ S4096x128.size a := fun v7445 k0_hw55 => k0_hw55

def k0_off54 (v7446 : BitVec 32) : Fin 2 → Nat :=
  let c128_i32_8179 : BitVec 32 := 128#32
  let v7454 : BitVec 32 := Scalar.muli v7446 c128_i32_8179
  let v7455 : Index := Scalar.indexCast v7454
  let c0_8180 : Index := 0#32
  ![v7455.toNat, 0]

def k0_chk56 (v7446 : BitVec 32) : Prop :=
  (∀ a, (k0_off54 v7446) a + S128x128.size a ≤ S4096x128.size a)
theorem k0_off54_inb : ∀ (v7446 : BitVec 32) (k0_hw56 : k0_chk56 v7446), ∀ a, (k0_off54 v7446) a + S128x128.size a ≤ S4096x128.size a := fun v7446 k0_hw56 => k0_hw56

def k0_dev411 (v0 : BitVec 32) : Nat :=
  let c0_i32_8214 : BitVec 32 := 0#32
  let c1_i32_8213 : BitVec 32 := 1#32
  let v7489 : BitVec 32 := Scalar.muli v0 c1_i32_8213
  let v7490 : BitVec 32 := Scalar.addi c0_i32_8214 v7489
  v7490.toNat
def k0_dev412 (v1 : BitVec 32) : Nat :=
  let c0_i32_8221 : BitVec 32 := 0#32
  let c1_i32_8220 : BitVec 32 := 1#32
  let v7499 : BitVec 32 := Scalar.muli v1 c1_i32_8220
  let v7500 : BitVec 32 := Scalar.addi c0_i32_8221 v7499
  v7500.toNat
def k0_dev413 (v1 : BitVec 32) : Nat :=
  let c0_i32_8254 : BitVec 32 := 0#32
  let c1_i32_8253 : BitVec 32 := 1#32
  let v7523 : BitVec 32 := Scalar.muli v1 c1_i32_8253
  let v7524 : BitVec 32 := Scalar.addi c0_i32_8254 v7523
  v7524.toNat
def k0_dev414 (v0 : BitVec 32) : Nat :=
  let c0_i32_8261 : BitVec 32 := 0#32
  let c1_i32_8260 : BitVec 32 := 1#32
  let v7533 : BitVec 32 := Scalar.muli v0 c1_i32_8260
  let v7534 : BitVec 32 := Scalar.addi c0_i32_8261 v7533
  v7534.toNat
def k0_dev415 (v0 : BitVec 32) : Nat :=
  let c0_i32_8294 : BitVec 32 := 0#32
  let c1_i32_8293 : BitVec 32 := 1#32
  let v7557 : BitVec 32 := Scalar.muli v0 c1_i32_8293
  let v7558 : BitVec 32 := Scalar.addi c0_i32_8294 v7557
  v7558.toNat
def k0_dev416 (v1 : BitVec 32) : Nat :=
  let c0_i32_8301 : BitVec 32 := 0#32
  let c1_i32_8300 : BitVec 32 := 1#32
  let v7567 : BitVec 32 := Scalar.muli v1 c1_i32_8300
  let v7568 : BitVec 32 := Scalar.addi c0_i32_8301 v7567
  v7568.toNat
def k0_dev417 (v1 : BitVec 32) : Nat :=
  let c0_i32_8334 : BitVec 32 := 0#32
  let c1_i32_8333 : BitVec 32 := 1#32
  let v7591 : BitVec 32 := Scalar.muli v1 c1_i32_8333
  let v7592 : BitVec 32 := Scalar.addi c0_i32_8334 v7591
  v7592.toNat
def k0_dev418 (v0 : BitVec 32) : Nat :=
  let c0_i32_8341 : BitVec 32 := 0#32
  let c1_i32_8340 : BitVec 32 := 1#32
  let v7601 : BitVec 32 := Scalar.muli v0 c1_i32_8340
  let v7602 : BitVec 32 := Scalar.addi c0_i32_8341 v7601
  v7602.toNat
def k0_dev419 (v0 : BitVec 32) : Nat :=
  let c0_i32_8374 : BitVec 32 := 0#32
  let c1_i32_8373 : BitVec 32 := 1#32
  let v7625 : BitVec 32 := Scalar.muli v0 c1_i32_8373
  let v7626 : BitVec 32 := Scalar.addi c0_i32_8374 v7625
  v7626.toNat
def k0_dev420 (v1 : BitVec 32) : Nat :=
  let c0_i32_8381 : BitVec 32 := 0#32
  let c1_i32_8380 : BitVec 32 := 1#32
  let v7635 : BitVec 32 := Scalar.muli v1 c1_i32_8380
  let v7636 : BitVec 32 := Scalar.addi c0_i32_8381 v7635
  v7636.toNat
def k0_dev421 (v1 : BitVec 32) : Nat :=
  let c0_i32_8414 : BitVec 32 := 0#32
  let c1_i32_8413 : BitVec 32 := 1#32
  let v7659 : BitVec 32 := Scalar.muli v1 c1_i32_8413
  let v7660 : BitVec 32 := Scalar.addi c0_i32_8414 v7659
  v7660.toNat
def k0_dev422 (v0 : BitVec 32) : Nat :=
  let c0_i32_8421 : BitVec 32 := 0#32
  let c1_i32_8420 : BitVec 32 := 1#32
  let v7669 : BitVec 32 := Scalar.muli v0 c1_i32_8420
  let v7670 : BitVec 32 := Scalar.addi c0_i32_8421 v7669
  v7670.toNat
def k0_dev423 (v0 : BitVec 32) : Nat :=
  let c0_i32_8454 : BitVec 32 := 0#32
  let c1_i32_8453 : BitVec 32 := 1#32
  let v7693 : BitVec 32 := Scalar.muli v0 c1_i32_8453
  let v7694 : BitVec 32 := Scalar.addi c0_i32_8454 v7693
  v7694.toNat
def k0_dev424 (v1 : BitVec 32) : Nat :=
  let c0_i32_8461 : BitVec 32 := 0#32
  let c1_i32_8460 : BitVec 32 := 1#32
  let v7703 : BitVec 32 := Scalar.muli v1 c1_i32_8460
  let v7704 : BitVec 32 := Scalar.addi c0_i32_8461 v7703
  v7704.toNat
def k0_dev425 (v1 : BitVec 32) : Nat :=
  let c0_i32_8494 : BitVec 32 := 0#32
  let c1_i32_8493 : BitVec 32 := 1#32
  let v7727 : BitVec 32 := Scalar.muli v1 c1_i32_8493
  let v7728 : BitVec 32 := Scalar.addi c0_i32_8494 v7727
  v7728.toNat
def k0_dev426 (v0 : BitVec 32) : Nat :=
  let c0_i32_8501 : BitVec 32 := 0#32
  let c1_i32_8500 : BitVec 32 := 1#32
  let v7737 : BitVec 32 := Scalar.muli v0 c1_i32_8500
  let v7738 : BitVec 32 := Scalar.addi c0_i32_8501 v7737
  v7738.toNat
def k0_off55 (v7739 : BitVec 32) : Fin 2 → Nat :=
  let c128_i32_8502 : BitVec 32 := 128#32
  let v7742 : BitVec 32 := Scalar.muli v7739 c128_i32_8502
  let v7743 : Index := Scalar.indexCast v7742
  let c0_8503 : Index := 0#32
  ![v7743.toNat, 0]

def k0_chk57 (v7739 : BitVec 32) : Prop :=
  (∀ a, (k0_off55 v7739) a + S128x128.size a ≤ S4096x128.size a)
theorem k0_off55_inb : ∀ (v7739 : BitVec 32) (k0_hw57 : k0_chk57 v7739), ∀ a, (k0_off55 v7739) a + S128x128.size a ≤ S4096x128.size a := fun v7739 k0_hw57 => k0_hw57

def k0_off56 (v7740 : BitVec 32) : Fin 2 → Nat :=
  let c128_i32_8505 : BitVec 32 := 128#32
  let v7748 : BitVec 32 := Scalar.muli v7740 c128_i32_8505
  let v7749 : Index := Scalar.indexCast v7748
  let c0_8506 : Index := 0#32
  ![v7749.toNat, 0]

def k0_chk58 (v7740 : BitVec 32) : Prop :=
  (∀ a, (k0_off56 v7740) a + S128x128.size a ≤ S4096x128.size a)
theorem k0_off56_inb : ∀ (v7740 : BitVec 32) (k0_hw58 : k0_chk58 v7740), ∀ a, (k0_off56 v7740) a + S128x128.size a ≤ S4096x128.size a := fun v7740 k0_hw58 => k0_hw58

def k0_dev427 (v0 : BitVec 32) : Nat :=
  let c0_i32_8540 : BitVec 32 := 0#32
  let c1_i32_8539 : BitVec 32 := 1#32
  let v7783 : BitVec 32 := Scalar.muli v0 c1_i32_8539
  let v7784 : BitVec 32 := Scalar.addi c0_i32_8540 v7783
  v7784.toNat
def k0_dev428 (v1 : BitVec 32) : Nat :=
  let c0_i32_8547 : BitVec 32 := 0#32
  let c1_i32_8546 : BitVec 32 := 1#32
  let v7793 : BitVec 32 := Scalar.muli v1 c1_i32_8546
  let v7794 : BitVec 32 := Scalar.addi c0_i32_8547 v7793
  v7794.toNat
def k0_dev429 (v1 : BitVec 32) : Nat :=
  let c0_i32_8580 : BitVec 32 := 0#32
  let c1_i32_8579 : BitVec 32 := 1#32
  let v7817 : BitVec 32 := Scalar.muli v1 c1_i32_8579
  let v7818 : BitVec 32 := Scalar.addi c0_i32_8580 v7817
  v7818.toNat
def k0_dev430 (v0 : BitVec 32) : Nat :=
  let c0_i32_8587 : BitVec 32 := 0#32
  let c1_i32_8586 : BitVec 32 := 1#32
  let v7827 : BitVec 32 := Scalar.muli v0 c1_i32_8586
  let v7828 : BitVec 32 := Scalar.addi c0_i32_8587 v7827
  v7828.toNat
def k0_dev431 (v0 : BitVec 32) : Nat :=
  let c0_i32_8620 : BitVec 32 := 0#32
  let c1_i32_8619 : BitVec 32 := 1#32
  let v7851 : BitVec 32 := Scalar.muli v0 c1_i32_8619
  let v7852 : BitVec 32 := Scalar.addi c0_i32_8620 v7851
  v7852.toNat
def k0_dev432 (v1 : BitVec 32) : Nat :=
  let c0_i32_8627 : BitVec 32 := 0#32
  let c1_i32_8626 : BitVec 32 := 1#32
  let v7861 : BitVec 32 := Scalar.muli v1 c1_i32_8626
  let v7862 : BitVec 32 := Scalar.addi c0_i32_8627 v7861
  v7862.toNat
def k0_dev433 (v1 : BitVec 32) : Nat :=
  let c0_i32_8660 : BitVec 32 := 0#32
  let c1_i32_8659 : BitVec 32 := 1#32
  let v7885 : BitVec 32 := Scalar.muli v1 c1_i32_8659
  let v7886 : BitVec 32 := Scalar.addi c0_i32_8660 v7885
  v7886.toNat
def k0_dev434 (v0 : BitVec 32) : Nat :=
  let c0_i32_8667 : BitVec 32 := 0#32
  let c1_i32_8666 : BitVec 32 := 1#32
  let v7895 : BitVec 32 := Scalar.muli v0 c1_i32_8666
  let v7896 : BitVec 32 := Scalar.addi c0_i32_8667 v7895
  v7896.toNat
def k0_dev435 (v0 : BitVec 32) : Nat :=
  let c0_i32_8700 : BitVec 32 := 0#32
  let c1_i32_8699 : BitVec 32 := 1#32
  let v7919 : BitVec 32 := Scalar.muli v0 c1_i32_8699
  let v7920 : BitVec 32 := Scalar.addi c0_i32_8700 v7919
  v7920.toNat
def k0_dev436 (v1 : BitVec 32) : Nat :=
  let c0_i32_8707 : BitVec 32 := 0#32
  let c1_i32_8706 : BitVec 32 := 1#32
  let v7929 : BitVec 32 := Scalar.muli v1 c1_i32_8706
  let v7930 : BitVec 32 := Scalar.addi c0_i32_8707 v7929
  v7930.toNat
def k0_dev437 (v1 : BitVec 32) : Nat :=
  let c0_i32_8740 : BitVec 32 := 0#32
  let c1_i32_8739 : BitVec 32 := 1#32
  let v7953 : BitVec 32 := Scalar.muli v1 c1_i32_8739
  let v7954 : BitVec 32 := Scalar.addi c0_i32_8740 v7953
  v7954.toNat
def k0_dev438 (v0 : BitVec 32) : Nat :=
  let c0_i32_8747 : BitVec 32 := 0#32
  let c1_i32_8746 : BitVec 32 := 1#32
  let v7963 : BitVec 32 := Scalar.muli v0 c1_i32_8746
  let v7964 : BitVec 32 := Scalar.addi c0_i32_8747 v7963
  v7964.toNat
def k0_dev439 (v0 : BitVec 32) : Nat :=
  let c0_i32_8780 : BitVec 32 := 0#32
  let c1_i32_8779 : BitVec 32 := 1#32
  let v7987 : BitVec 32 := Scalar.muli v0 c1_i32_8779
  let v7988 : BitVec 32 := Scalar.addi c0_i32_8780 v7987
  v7988.toNat
def k0_dev440 (v1 : BitVec 32) : Nat :=
  let c0_i32_8787 : BitVec 32 := 0#32
  let c1_i32_8786 : BitVec 32 := 1#32
  let v7997 : BitVec 32 := Scalar.muli v1 c1_i32_8786
  let v7998 : BitVec 32 := Scalar.addi c0_i32_8787 v7997
  v7998.toNat
def k0_dev441 (v1 : BitVec 32) : Nat :=
  let c0_i32_8820 : BitVec 32 := 0#32
  let c1_i32_8819 : BitVec 32 := 1#32
  let v8021 : BitVec 32 := Scalar.muli v1 c1_i32_8819
  let v8022 : BitVec 32 := Scalar.addi c0_i32_8820 v8021
  v8022.toNat
def k0_dev442 (v0 : BitVec 32) : Nat :=
  let c0_i32_8827 : BitVec 32 := 0#32
  let c1_i32_8826 : BitVec 32 := 1#32
  let v8031 : BitVec 32 := Scalar.muli v0 c1_i32_8826
  let v8032 : BitVec 32 := Scalar.addi c0_i32_8827 v8031
  v8032.toNat
def k0_off57 (v8033 : BitVec 32) : Fin 2 → Nat :=
  let c128_i32_8828 : BitVec 32 := 128#32
  let v8036 : BitVec 32 := Scalar.muli v8033 c128_i32_8828
  let v8037 : Index := Scalar.indexCast v8036
  let c0_8829 : Index := 0#32
  ![v8037.toNat, 0]

def k0_chk59 (v8033 : BitVec 32) : Prop :=
  (∀ a, (k0_off57 v8033) a + S128x128.size a ≤ S4096x128.size a)
theorem k0_off57_inb : ∀ (v8033 : BitVec 32) (k0_hw59 : k0_chk59 v8033), ∀ a, (k0_off57 v8033) a + S128x128.size a ≤ S4096x128.size a := fun v8033 k0_hw59 => k0_hw59

def k0_off58 (v8034 : BitVec 32) : Fin 2 → Nat :=
  let c128_i32_8831 : BitVec 32 := 128#32
  let v8042 : BitVec 32 := Scalar.muli v8034 c128_i32_8831
  let v8043 : Index := Scalar.indexCast v8042
  let c0_8832 : Index := 0#32
  ![v8043.toNat, 0]

def k0_chk60 (v8034 : BitVec 32) : Prop :=
  (∀ a, (k0_off58 v8034) a + S128x128.size a ≤ S4096x128.size a)
theorem k0_off58_inb : ∀ (v8034 : BitVec 32) (k0_hw60 : k0_chk60 v8034), ∀ a, (k0_off58 v8034) a + S128x128.size a ≤ S4096x128.size a := fun v8034 k0_hw60 => k0_hw60

def k0_dev443 (v0 : BitVec 32) : Nat :=
  let c0_i32_8866 : BitVec 32 := 0#32
  let c1_i32_8865 : BitVec 32 := 1#32
  let v8077 : BitVec 32 := Scalar.muli v0 c1_i32_8865
  let v8078 : BitVec 32 := Scalar.addi c0_i32_8866 v8077
  v8078.toNat
def k0_dev444 (v1 : BitVec 32) : Nat :=
  let c0_i32_8873 : BitVec 32 := 0#32
  let c1_i32_8872 : BitVec 32 := 1#32
  let v8087 : BitVec 32 := Scalar.muli v1 c1_i32_8872
  let v8088 : BitVec 32 := Scalar.addi c0_i32_8873 v8087
  v8088.toNat
def k0_dev445 (v1 : BitVec 32) : Nat :=
  let c0_i32_8906 : BitVec 32 := 0#32
  let c1_i32_8905 : BitVec 32 := 1#32
  let v8111 : BitVec 32 := Scalar.muli v1 c1_i32_8905
  let v8112 : BitVec 32 := Scalar.addi c0_i32_8906 v8111
  v8112.toNat
def k0_dev446 (v0 : BitVec 32) : Nat :=
  let c0_i32_8913 : BitVec 32 := 0#32
  let c1_i32_8912 : BitVec 32 := 1#32
  let v8121 : BitVec 32 := Scalar.muli v0 c1_i32_8912
  let v8122 : BitVec 32 := Scalar.addi c0_i32_8913 v8121
  v8122.toNat
def k0_dev447 (v0 : BitVec 32) : Nat :=
  let c0_i32_8946 : BitVec 32 := 0#32
  let c1_i32_8945 : BitVec 32 := 1#32
  let v8145 : BitVec 32 := Scalar.muli v0 c1_i32_8945
  let v8146 : BitVec 32 := Scalar.addi c0_i32_8946 v8145
  v8146.toNat
def k0_dev448 (v1 : BitVec 32) : Nat :=
  let c0_i32_8953 : BitVec 32 := 0#32
  let c1_i32_8952 : BitVec 32 := 1#32
  let v8155 : BitVec 32 := Scalar.muli v1 c1_i32_8952
  let v8156 : BitVec 32 := Scalar.addi c0_i32_8953 v8155
  v8156.toNat
def k0_dev449 (v1 : BitVec 32) : Nat :=
  let c0_i32_8986 : BitVec 32 := 0#32
  let c1_i32_8985 : BitVec 32 := 1#32
  let v8179 : BitVec 32 := Scalar.muli v1 c1_i32_8985
  let v8180 : BitVec 32 := Scalar.addi c0_i32_8986 v8179
  v8180.toNat
def k0_dev450 (v0 : BitVec 32) : Nat :=
  let c0_i32_8993 : BitVec 32 := 0#32
  let c1_i32_8992 : BitVec 32 := 1#32
  let v8189 : BitVec 32 := Scalar.muli v0 c1_i32_8992
  let v8190 : BitVec 32 := Scalar.addi c0_i32_8993 v8189
  v8190.toNat
def k0_dev451 (v0 : BitVec 32) : Nat :=
  let c0_i32_9026 : BitVec 32 := 0#32
  let c1_i32_9025 : BitVec 32 := 1#32
  let v8213 : BitVec 32 := Scalar.muli v0 c1_i32_9025
  let v8214 : BitVec 32 := Scalar.addi c0_i32_9026 v8213
  v8214.toNat
def k0_dev452 (v1 : BitVec 32) : Nat :=
  let c0_i32_9033 : BitVec 32 := 0#32
  let c1_i32_9032 : BitVec 32 := 1#32
  let v8223 : BitVec 32 := Scalar.muli v1 c1_i32_9032
  let v8224 : BitVec 32 := Scalar.addi c0_i32_9033 v8223
  v8224.toNat
def k0_dev453 (v1 : BitVec 32) : Nat :=
  let c0_i32_9066 : BitVec 32 := 0#32
  let c1_i32_9065 : BitVec 32 := 1#32
  let v8247 : BitVec 32 := Scalar.muli v1 c1_i32_9065
  let v8248 : BitVec 32 := Scalar.addi c0_i32_9066 v8247
  v8248.toNat
def k0_dev454 (v0 : BitVec 32) : Nat :=
  let c0_i32_9073 : BitVec 32 := 0#32
  let c1_i32_9072 : BitVec 32 := 1#32
  let v8257 : BitVec 32 := Scalar.muli v0 c1_i32_9072
  let v8258 : BitVec 32 := Scalar.addi c0_i32_9073 v8257
  v8258.toNat
def k0_dev455 (v0 : BitVec 32) : Nat :=
  let c0_i32_9106 : BitVec 32 := 0#32
  let c1_i32_9105 : BitVec 32 := 1#32
  let v8281 : BitVec 32 := Scalar.muli v0 c1_i32_9105
  let v8282 : BitVec 32 := Scalar.addi c0_i32_9106 v8281
  v8282.toNat
def k0_dev456 (v1 : BitVec 32) : Nat :=
  let c0_i32_9113 : BitVec 32 := 0#32
  let c1_i32_9112 : BitVec 32 := 1#32
  let v8291 : BitVec 32 := Scalar.muli v1 c1_i32_9112
  let v8292 : BitVec 32 := Scalar.addi c0_i32_9113 v8291
  v8292.toNat
def k0_dev457 (v1 : BitVec 32) : Nat :=
  let c0_i32_9146 : BitVec 32 := 0#32
  let c1_i32_9145 : BitVec 32 := 1#32
  let v8315 : BitVec 32 := Scalar.muli v1 c1_i32_9145
  let v8316 : BitVec 32 := Scalar.addi c0_i32_9146 v8315
  v8316.toNat
def k0_dev458 (v0 : BitVec 32) : Nat :=
  let c0_i32_9153 : BitVec 32 := 0#32
  let c1_i32_9152 : BitVec 32 := 1#32
  let v8325 : BitVec 32 := Scalar.muli v0 c1_i32_9152
  let v8326 : BitVec 32 := Scalar.addi c0_i32_9153 v8325
  v8326.toNat
def k0_off59 (v8327 : BitVec 32) : Fin 2 → Nat :=
  let c128_i32_9154 : BitVec 32 := 128#32
  let v8330 : BitVec 32 := Scalar.muli v8327 c128_i32_9154
  let v8331 : Index := Scalar.indexCast v8330
  let c0_9155 : Index := 0#32
  ![v8331.toNat, 0]

def k0_chk61 (v8327 : BitVec 32) : Prop :=
  (∀ a, (k0_off59 v8327) a + S128x128.size a ≤ S4096x128.size a)
theorem k0_off59_inb : ∀ (v8327 : BitVec 32) (k0_hw61 : k0_chk61 v8327), ∀ a, (k0_off59 v8327) a + S128x128.size a ≤ S4096x128.size a := fun v8327 k0_hw61 => k0_hw61

def k0_off60 (v8328 : BitVec 32) : Fin 2 → Nat :=
  let c128_i32_9157 : BitVec 32 := 128#32
  let v8336 : BitVec 32 := Scalar.muli v8328 c128_i32_9157
  let v8337 : Index := Scalar.indexCast v8336
  let c0_9158 : Index := 0#32
  ![v8337.toNat, 0]

def k0_chk62 (v8328 : BitVec 32) : Prop :=
  (∀ a, (k0_off60 v8328) a + S128x128.size a ≤ S4096x128.size a)
theorem k0_off60_inb : ∀ (v8328 : BitVec 32) (k0_hw62 : k0_chk62 v8328), ∀ a, (k0_off60 v8328) a + S128x128.size a ≤ S4096x128.size a := fun v8328 k0_hw62 => k0_hw62

def k0_dev459 (v0 : BitVec 32) : Nat :=
  let c0_i32_9192 : BitVec 32 := 0#32
  let c1_i32_9191 : BitVec 32 := 1#32
  let v8371 : BitVec 32 := Scalar.muli v0 c1_i32_9191
  let v8372 : BitVec 32 := Scalar.addi c0_i32_9192 v8371
  v8372.toNat
def k0_dev460 (v1 : BitVec 32) : Nat :=
  let c0_i32_9199 : BitVec 32 := 0#32
  let c1_i32_9198 : BitVec 32 := 1#32
  let v8381 : BitVec 32 := Scalar.muli v1 c1_i32_9198
  let v8382 : BitVec 32 := Scalar.addi c0_i32_9199 v8381
  v8382.toNat
def k0_dev461 (v1 : BitVec 32) : Nat :=
  let c0_i32_9232 : BitVec 32 := 0#32
  let c1_i32_9231 : BitVec 32 := 1#32
  let v8405 : BitVec 32 := Scalar.muli v1 c1_i32_9231
  let v8406 : BitVec 32 := Scalar.addi c0_i32_9232 v8405
  v8406.toNat
def k0_dev462 (v0 : BitVec 32) : Nat :=
  let c0_i32_9239 : BitVec 32 := 0#32
  let c1_i32_9238 : BitVec 32 := 1#32
  let v8415 : BitVec 32 := Scalar.muli v0 c1_i32_9238
  let v8416 : BitVec 32 := Scalar.addi c0_i32_9239 v8415
  v8416.toNat
def k0_dev463 (v0 : BitVec 32) : Nat :=
  let c0_i32_9272 : BitVec 32 := 0#32
  let c1_i32_9271 : BitVec 32 := 1#32
  let v8439 : BitVec 32 := Scalar.muli v0 c1_i32_9271
  let v8440 : BitVec 32 := Scalar.addi c0_i32_9272 v8439
  v8440.toNat
def k0_dev464 (v1 : BitVec 32) : Nat :=
  let c0_i32_9279 : BitVec 32 := 0#32
  let c1_i32_9278 : BitVec 32 := 1#32
  let v8449 : BitVec 32 := Scalar.muli v1 c1_i32_9278
  let v8450 : BitVec 32 := Scalar.addi c0_i32_9279 v8449
  v8450.toNat
def k0_dev465 (v1 : BitVec 32) : Nat :=
  let c0_i32_9312 : BitVec 32 := 0#32
  let c1_i32_9311 : BitVec 32 := 1#32
  let v8473 : BitVec 32 := Scalar.muli v1 c1_i32_9311
  let v8474 : BitVec 32 := Scalar.addi c0_i32_9312 v8473
  v8474.toNat
def k0_dev466 (v0 : BitVec 32) : Nat :=
  let c0_i32_9319 : BitVec 32 := 0#32
  let c1_i32_9318 : BitVec 32 := 1#32
  let v8483 : BitVec 32 := Scalar.muli v0 c1_i32_9318
  let v8484 : BitVec 32 := Scalar.addi c0_i32_9319 v8483
  v8484.toNat
def k0_dev467 (v0 : BitVec 32) : Nat :=
  let c0_i32_9352 : BitVec 32 := 0#32
  let c1_i32_9351 : BitVec 32 := 1#32
  let v8507 : BitVec 32 := Scalar.muli v0 c1_i32_9351
  let v8508 : BitVec 32 := Scalar.addi c0_i32_9352 v8507
  v8508.toNat
def k0_dev468 (v1 : BitVec 32) : Nat :=
  let c0_i32_9359 : BitVec 32 := 0#32
  let c1_i32_9358 : BitVec 32 := 1#32
  let v8517 : BitVec 32 := Scalar.muli v1 c1_i32_9358
  let v8518 : BitVec 32 := Scalar.addi c0_i32_9359 v8517
  v8518.toNat
def k0_dev469 (v1 : BitVec 32) : Nat :=
  let c0_i32_9392 : BitVec 32 := 0#32
  let c1_i32_9391 : BitVec 32 := 1#32
  let v8541 : BitVec 32 := Scalar.muli v1 c1_i32_9391
  let v8542 : BitVec 32 := Scalar.addi c0_i32_9392 v8541
  v8542.toNat
def k0_dev470 (v0 : BitVec 32) : Nat :=
  let c0_i32_9399 : BitVec 32 := 0#32
  let c1_i32_9398 : BitVec 32 := 1#32
  let v8551 : BitVec 32 := Scalar.muli v0 c1_i32_9398
  let v8552 : BitVec 32 := Scalar.addi c0_i32_9399 v8551
  v8552.toNat
def k0_dev471 (v0 : BitVec 32) : Nat :=
  let c0_i32_9432 : BitVec 32 := 0#32
  let c1_i32_9431 : BitVec 32 := 1#32
  let v8575 : BitVec 32 := Scalar.muli v0 c1_i32_9431
  let v8576 : BitVec 32 := Scalar.addi c0_i32_9432 v8575
  v8576.toNat
def k0_dev472 (v1 : BitVec 32) : Nat :=
  let c0_i32_9439 : BitVec 32 := 0#32
  let c1_i32_9438 : BitVec 32 := 1#32
  let v8585 : BitVec 32 := Scalar.muli v1 c1_i32_9438
  let v8586 : BitVec 32 := Scalar.addi c0_i32_9439 v8585
  v8586.toNat
def k0_dev473 (v1 : BitVec 32) : Nat :=
  let c0_i32_9472 : BitVec 32 := 0#32
  let c1_i32_9471 : BitVec 32 := 1#32
  let v8609 : BitVec 32 := Scalar.muli v1 c1_i32_9471
  let v8610 : BitVec 32 := Scalar.addi c0_i32_9472 v8609
  v8610.toNat
def k0_dev474 (v0 : BitVec 32) : Nat :=
  let c0_i32_9479 : BitVec 32 := 0#32
  let c1_i32_9478 : BitVec 32 := 1#32
  let v8619 : BitVec 32 := Scalar.muli v0 c1_i32_9478
  let v8620 : BitVec 32 := Scalar.addi c0_i32_9479 v8619
  v8620.toNat
def k0_off61 (v8621 : BitVec 32) : Fin 2 → Nat :=
  let c128_i32_9480 : BitVec 32 := 128#32
  let v8624 : BitVec 32 := Scalar.muli v8621 c128_i32_9480
  let v8625 : Index := Scalar.indexCast v8624
  let c0_9481 : Index := 0#32
  ![v8625.toNat, 0]

def k0_chk63 (v8621 : BitVec 32) : Prop :=
  (∀ a, (k0_off61 v8621) a + S128x128.size a ≤ S4096x128.size a)
theorem k0_off61_inb : ∀ (v8621 : BitVec 32) (k0_hw63 : k0_chk63 v8621), ∀ a, (k0_off61 v8621) a + S128x128.size a ≤ S4096x128.size a := fun v8621 k0_hw63 => k0_hw63

def k0_off62 (v8622 : BitVec 32) : Fin 2 → Nat :=
  let c128_i32_9483 : BitVec 32 := 128#32
  let v8630 : BitVec 32 := Scalar.muli v8622 c128_i32_9483
  let v8631 : Index := Scalar.indexCast v8630
  let c0_9484 : Index := 0#32
  ![v8631.toNat, 0]

def k0_chk64 (v8622 : BitVec 32) : Prop :=
  (∀ a, (k0_off62 v8622) a + S128x128.size a ≤ S4096x128.size a)
theorem k0_off62_inb : ∀ (v8622 : BitVec 32) (k0_hw64 : k0_chk64 v8622), ∀ a, (k0_off62 v8622) a + S128x128.size a ≤ S4096x128.size a := fun v8622 k0_hw64 => k0_hw64

def k0_dev475 (v0 : BitVec 32) : Nat :=
  let c0_i32_9518 : BitVec 32 := 0#32
  let c1_i32_9517 : BitVec 32 := 1#32
  let v8665 : BitVec 32 := Scalar.muli v0 c1_i32_9517
  let v8666 : BitVec 32 := Scalar.addi c0_i32_9518 v8665
  v8666.toNat
def k0_dev476 (v1 : BitVec 32) : Nat :=
  let c0_i32_9525 : BitVec 32 := 0#32
  let c1_i32_9524 : BitVec 32 := 1#32
  let v8675 : BitVec 32 := Scalar.muli v1 c1_i32_9524
  let v8676 : BitVec 32 := Scalar.addi c0_i32_9525 v8675
  v8676.toNat
def k0_dev477 (v1 : BitVec 32) : Nat :=
  let c0_i32_9558 : BitVec 32 := 0#32
  let c1_i32_9557 : BitVec 32 := 1#32
  let v8699 : BitVec 32 := Scalar.muli v1 c1_i32_9557
  let v8700 : BitVec 32 := Scalar.addi c0_i32_9558 v8699
  v8700.toNat
def k0_dev478 (v0 : BitVec 32) : Nat :=
  let c0_i32_9565 : BitVec 32 := 0#32
  let c1_i32_9564 : BitVec 32 := 1#32
  let v8709 : BitVec 32 := Scalar.muli v0 c1_i32_9564
  let v8710 : BitVec 32 := Scalar.addi c0_i32_9565 v8709
  v8710.toNat
def k0_dev479 (v0 : BitVec 32) : Nat :=
  let c0_i32_9598 : BitVec 32 := 0#32
  let c1_i32_9597 : BitVec 32 := 1#32
  let v8733 : BitVec 32 := Scalar.muli v0 c1_i32_9597
  let v8734 : BitVec 32 := Scalar.addi c0_i32_9598 v8733
  v8734.toNat
def k0_dev480 (v1 : BitVec 32) : Nat :=
  let c0_i32_9605 : BitVec 32 := 0#32
  let c1_i32_9604 : BitVec 32 := 1#32
  let v8743 : BitVec 32 := Scalar.muli v1 c1_i32_9604
  let v8744 : BitVec 32 := Scalar.addi c0_i32_9605 v8743
  v8744.toNat
def k0_dev481 (v1 : BitVec 32) : Nat :=
  let c0_i32_9638 : BitVec 32 := 0#32
  let c1_i32_9637 : BitVec 32 := 1#32
  let v8767 : BitVec 32 := Scalar.muli v1 c1_i32_9637
  let v8768 : BitVec 32 := Scalar.addi c0_i32_9638 v8767
  v8768.toNat
def k0_dev482 (v0 : BitVec 32) : Nat :=
  let c0_i32_9645 : BitVec 32 := 0#32
  let c1_i32_9644 : BitVec 32 := 1#32
  let v8777 : BitVec 32 := Scalar.muli v0 c1_i32_9644
  let v8778 : BitVec 32 := Scalar.addi c0_i32_9645 v8777
  v8778.toNat
def k0_dev483 (v0 : BitVec 32) : Nat :=
  let c0_i32_9678 : BitVec 32 := 0#32
  let c1_i32_9677 : BitVec 32 := 1#32
  let v8801 : BitVec 32 := Scalar.muli v0 c1_i32_9677
  let v8802 : BitVec 32 := Scalar.addi c0_i32_9678 v8801
  v8802.toNat
def k0_dev484 (v1 : BitVec 32) : Nat :=
  let c0_i32_9685 : BitVec 32 := 0#32
  let c1_i32_9684 : BitVec 32 := 1#32
  let v8811 : BitVec 32 := Scalar.muli v1 c1_i32_9684
  let v8812 : BitVec 32 := Scalar.addi c0_i32_9685 v8811
  v8812.toNat
def k0_dev485 (v1 : BitVec 32) : Nat :=
  let c0_i32_9718 : BitVec 32 := 0#32
  let c1_i32_9717 : BitVec 32 := 1#32
  let v8835 : BitVec 32 := Scalar.muli v1 c1_i32_9717
  let v8836 : BitVec 32 := Scalar.addi c0_i32_9718 v8835
  v8836.toNat
def k0_dev486 (v0 : BitVec 32) : Nat :=
  let c0_i32_9725 : BitVec 32 := 0#32
  let c1_i32_9724 : BitVec 32 := 1#32
  let v8845 : BitVec 32 := Scalar.muli v0 c1_i32_9724
  let v8846 : BitVec 32 := Scalar.addi c0_i32_9725 v8845
  v8846.toNat
def k0_dev487 (v0 : BitVec 32) : Nat :=
  let c0_i32_9758 : BitVec 32 := 0#32
  let c1_i32_9757 : BitVec 32 := 1#32
  let v8869 : BitVec 32 := Scalar.muli v0 c1_i32_9757
  let v8870 : BitVec 32 := Scalar.addi c0_i32_9758 v8869
  v8870.toNat
def k0_dev488 (v1 : BitVec 32) : Nat :=
  let c0_i32_9765 : BitVec 32 := 0#32
  let c1_i32_9764 : BitVec 32 := 1#32
  let v8879 : BitVec 32 := Scalar.muli v1 c1_i32_9764
  let v8880 : BitVec 32 := Scalar.addi c0_i32_9765 v8879
  v8880.toNat
def k0_dev489 (v1 : BitVec 32) : Nat :=
  let c0_i32_9798 : BitVec 32 := 0#32
  let c1_i32_9797 : BitVec 32 := 1#32
  let v8903 : BitVec 32 := Scalar.muli v1 c1_i32_9797
  let v8904 : BitVec 32 := Scalar.addi c0_i32_9798 v8903
  v8904.toNat
def k0_dev490 (v0 : BitVec 32) : Nat :=
  let c0_i32_9805 : BitVec 32 := 0#32
  let c1_i32_9804 : BitVec 32 := 1#32
  let v8913 : BitVec 32 := Scalar.muli v0 c1_i32_9804
  let v8914 : BitVec 32 := Scalar.addi c0_i32_9805 v8913
  v8914.toNat
def k0_off63 (d8915 : Dev nD) : Fin 2 → Nat :=
  let v8915 : BitVec 32 := Dev.word d8915
  let c1_i32_9806 : BitVec 32 := 1#32
  let v8916 : BitVec 32 := Scalar.divsi v8915 c1_i32_9806
  let c32_i32 : BitVec 32 := 32#32
  let v8917 : BitVec 32 := Scalar.remsi v8916 c32_i32
  let c128_i32_9807 : BitVec 32 := 128#32
  let v8919 : BitVec 32 := Scalar.muli v8917 c128_i32_9807
  let v8920 : Index := Scalar.indexCast v8919
  let c0_9808 : Index := 0#32
  ![v8920.toNat, 0]
def k0_dev491 (v1 : BitVec 32) : Nat :=
  let c0_i32_9832 : BitVec 32 := 0#32
  let c1_i32_9831 : BitVec 32 := 1#32
  let v8963 : BitVec 32 := Scalar.muli v1 c1_i32_9831
  let v8964 : BitVec 32 := Scalar.addi c0_i32_9832 v8963
  v8964.toNat
def k0_dev492 (v0 : BitVec 32) : Nat :=
  let c0_i32_9854 : BitVec 32 := 0#32
  let c1_i32_9853 : BitVec 32 := 1#32
  let v8991 : BitVec 32 := Scalar.muli v0 c1_i32_9853
  let v8992 : BitVec 32 := Scalar.addi c0_i32_9854 v8991
  v8992.toNat
def k0_dev493 (v1 : BitVec 32) : Nat :=
  let c0_i32_9875 : BitVec 32 := 0#32
  let c1_i32_9874 : BitVec 32 := 1#32
  let v9019 : BitVec 32 := Scalar.muli v1 c1_i32_9874
  let v9020 : BitVec 32 := Scalar.addi c0_i32_9875 v9019
  v9020.toNat
def k0_dev494 (v0 : BitVec 32) : Nat :=
  let c0_i32_9896 : BitVec 32 := 0#32
  let c1_i32_9895 : BitVec 32 := 1#32
  let v9047 : BitVec 32 := Scalar.muli v0 c1_i32_9895
  let v9048 : BitVec 32 := Scalar.addi c0_i32_9896 v9047
  v9048.toNat
def k0_dev495 (v1 : BitVec 32) : Nat :=
  let c0_i32_9917 : BitVec 32 := 0#32
  let c1_i32_9916 : BitVec 32 := 1#32
  let v9075 : BitVec 32 := Scalar.muli v1 c1_i32_9916
  let v9076 : BitVec 32 := Scalar.addi c0_i32_9917 v9075
  v9076.toNat
def k0_dev496 (v0 : BitVec 32) : Nat :=
  let c0_i32_9938 : BitVec 32 := 0#32
  let c1_i32_9937 : BitVec 32 := 1#32
  let v9103 : BitVec 32 := Scalar.muli v0 c1_i32_9937
  let v9104 : BitVec 32 := Scalar.addi c0_i32_9938 v9103
  v9104.toNat
def k0_dev497 (v1 : BitVec 32) : Nat :=
  let c0_i32_9959 : BitVec 32 := 0#32
  let c1_i32_9958 : BitVec 32 := 1#32
  let v9131 : BitVec 32 := Scalar.muli v1 c1_i32_9958
  let v9132 : BitVec 32 := Scalar.addi c0_i32_9959 v9131
  v9132.toNat

def k0_chk1_0 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev13 v1) < nD) ∧
  ((k0_dev16 v1) < nD) ∧
  ((k0_dev17 v1) < nD) ∧
  ((k0_dev20 v1) < nD) ∧
  ((k0_dev21 v1) < nD) ∧
  ((k0_dev24 v1) < nD) ∧
  ((k0_dev25 v1) < nD) ∧
  ((k0_dev28 v1) < nD) ∧
  ((k0_dev29 v1) < nD) ∧
  ((k0_dev32 v1) < nD) ∧
  ((k0_dev33 v1) < nD) ∧
  ((k0_dev36 v1) < nD) ∧
  ((k0_dev37 v1) < nD) ∧
  ((k0_dev40 v1) < nD) ∧
  ((k0_dev41 v1) < nD) ∧
  ((k0_dev44 v1) < nD) ∧
  ((k0_dev45 v1) < nD) ∧
  ((k0_dev48 v1) < nD) ∧
  ((k0_dev49 v1) < nD) ∧
  ((k0_dev52 v1) < nD) ∧
  ((k0_dev53 v1) < nD) ∧
  ((k0_dev56 v1) < nD) ∧
  ((k0_dev57 v1) < nD) ∧
  ((k0_dev60 v1) < nD) ∧
  ((k0_dev61 v1) < nD) ∧
  ((k0_dev64 v1) < nD)
def k0_chk1_1 (v1 : BitVec 32) : Prop :=
  ((k0_dev65 v1) < nD) ∧
  ((k0_dev68 v1) < nD) ∧
  ((k0_dev69 v1) < nD) ∧
  ((k0_dev72 v1) < nD) ∧
  ((k0_dev73 v1) < nD) ∧
  ((k0_dev76 v1) < nD) ∧
  ((k0_dev77 v1) < nD) ∧
  ((k0_dev80 v1) < nD) ∧
  ((k0_dev81 v1) < nD) ∧
  ((k0_dev84 v1) < nD) ∧
  ((k0_dev85 v1) < nD) ∧
  ((k0_dev88 v1) < nD) ∧
  ((k0_dev89 v1) < nD) ∧
  ((k0_dev92 v1) < nD) ∧
  ((k0_dev93 v1) < nD) ∧
  ((k0_dev96 v1) < nD) ∧
  ((k0_dev97 v1) < nD) ∧
  ((k0_dev100 v1) < nD) ∧
  ((k0_dev101 v1) < nD) ∧
  ((k0_dev104 v1) < nD) ∧
  ((k0_dev105 v1) < nD) ∧
  ((k0_dev108 v1) < nD) ∧
  ((k0_dev109 v1) < nD) ∧
  ((k0_dev112 v1) < nD) ∧
  ((k0_dev113 v1) < nD) ∧
  ((k0_dev116 v1) < nD) ∧
  ((k0_dev117 v1) < nD) ∧
  ((k0_dev120 v1) < nD) ∧
  ((k0_dev121 v1) < nD) ∧
  ((k0_dev124 v1) < nD) ∧
  ((k0_dev125 v1) < nD) ∧
  ((k0_dev128 v1) < nD)
def k0_chk1_2 (v1 : BitVec 32) : Prop :=
  ((k0_dev129 v1) < nD) ∧
  ((k0_dev132 v1) < nD) ∧
  ((k0_dev133 v1) < nD) ∧
  ((k0_dev136 v1) < nD) ∧
  ((k0_dev137 v1) < nD) ∧
  ((k0_dev140 v1) < nD) ∧
  ((k0_dev141 v1) < nD) ∧
  ((k0_dev144 v1) < nD) ∧
  ((k0_dev145 v1) < nD) ∧
  ((k0_dev148 v1) < nD) ∧
  ((k0_dev149 v1) < nD) ∧
  ((k0_dev152 v1) < nD) ∧
  ((k0_dev153 v1) < nD) ∧
  ((k0_dev156 v1) < nD) ∧
  ((k0_dev157 v1) < nD) ∧
  ((k0_dev160 v1) < nD) ∧
  ((k0_dev161 v1) < nD) ∧
  ((k0_dev164 v1) < nD) ∧
  ((k0_dev165 v1) < nD) ∧
  ((k0_dev168 v1) < nD) ∧
  ((k0_dev169 v1) < nD) ∧
  ((k0_dev172 v1) < nD) ∧
  ((k0_dev173 v1) < nD) ∧
  ((k0_dev176 v1) < nD) ∧
  ((k0_dev177 v1) < nD) ∧
  ((k0_dev180 v1) < nD) ∧
  ((k0_dev181 v1) < nD) ∧
  ((k0_dev184 v1) < nD) ∧
  ((k0_dev185 v1) < nD) ∧
  ((k0_dev188 v1) < nD) ∧
  ((k0_dev189 v1) < nD) ∧
  ((k0_dev192 v1) < nD)
def k0_chk1_3 (v1 : BitVec 32) : Prop :=
  ((k0_dev193 v1) < nD) ∧
  ((k0_dev196 v1) < nD) ∧
  ((k0_dev197 v1) < nD) ∧
  ((k0_dev200 v1) < nD) ∧
  ((k0_dev201 v1) < nD) ∧
  ((k0_dev204 v1) < nD) ∧
  ((k0_dev205 v1) < nD) ∧
  ((k0_dev208 v1) < nD) ∧
  ((k0_dev209 v1) < nD) ∧
  ((k0_dev212 v1) < nD) ∧
  ((k0_dev213 v1) < nD) ∧
  ((k0_dev216 v1) < nD) ∧
  ((k0_dev217 v1) < nD) ∧
  ((k0_dev220 v1) < nD) ∧
  ((k0_dev221 v1) < nD) ∧
  ((k0_dev224 v1) < nD) ∧
  ((k0_dev225 v1) < nD) ∧
  ((k0_dev228 v1) < nD) ∧
  ((k0_dev229 v1) < nD) ∧
  ((k0_dev232 v1) < nD) ∧
  ((k0_dev233 v1) < nD) ∧
  ((k0_dev236 v1) < nD) ∧
  ((k0_dev237 v1) < nD) ∧
  ((k0_dev240 v1) < nD) ∧
  ((k0_dev241 v1) < nD) ∧
  ((k0_dev244 v1) < nD) ∧
  ((k0_dev245 v1) < nD) ∧
  ((k0_dev248 v1) < nD) ∧
  ((k0_dev249 v1) < nD) ∧
  ((k0_dev252 v1) < nD) ∧
  ((k0_dev253 v1) < nD) ∧
  ((k0_dev256 v1) < nD)
def k0_chk1_4 (v1 : BitVec 32) : Prop :=
  ((k0_dev257 v1) < nD) ∧
  ((k0_dev260 v1) < nD) ∧
  ((k0_dev261 v1) < nD) ∧
  ((k0_dev264 v1) < nD) ∧
  ((k0_dev265 v1) < nD) ∧
  ((k0_dev268 v1) < nD) ∧
  ((k0_dev269 v1) < nD) ∧
  ((k0_dev272 v1) < nD) ∧
  ((k0_dev273 v1) < nD) ∧
  ((k0_dev276 v1) < nD) ∧
  ((k0_dev277 v1) < nD) ∧
  ((k0_dev280 v1) < nD) ∧
  ((k0_dev281 v1) < nD) ∧
  ((k0_dev284 v1) < nD) ∧
  ((k0_dev285 v1) < nD) ∧
  ((k0_dev288 v1) < nD) ∧
  ((k0_dev289 v1) < nD) ∧
  ((k0_dev292 v1) < nD) ∧
  ((k0_dev293 v1) < nD) ∧
  ((k0_dev296 v1) < nD) ∧
  ((k0_dev297 v1) < nD) ∧
  ((k0_dev300 v1) < nD) ∧
  ((k0_dev301 v1) < nD) ∧
  ((k0_dev304 v1) < nD) ∧
  ((k0_dev305 v1) < nD) ∧
  ((k0_dev308 v1) < nD) ∧
  ((k0_dev309 v1) < nD) ∧
  ((k0_dev312 v1) < nD) ∧
  ((k0_dev313 v1) < nD) ∧
  ((k0_dev316 v1) < nD) ∧
  ((k0_dev317 v1) < nD) ∧
  ((k0_dev320 v1) < nD)
def k0_chk1_5 (v1 : BitVec 32) : Prop :=
  ((k0_dev321 v1) < nD) ∧
  ((k0_dev324 v1) < nD) ∧
  ((k0_dev325 v1) < nD) ∧
  ((k0_dev328 v1) < nD) ∧
  ((k0_dev329 v1) < nD) ∧
  ((k0_dev332 v1) < nD) ∧
  ((k0_dev333 v1) < nD) ∧
  ((k0_dev336 v1) < nD) ∧
  ((k0_dev337 v1) < nD) ∧
  ((k0_dev340 v1) < nD) ∧
  ((k0_dev341 v1) < nD) ∧
  ((k0_dev344 v1) < nD) ∧
  ((k0_dev345 v1) < nD) ∧
  ((k0_dev348 v1) < nD) ∧
  ((k0_dev349 v1) < nD) ∧
  ((k0_dev352 v1) < nD) ∧
  ((k0_dev353 v1) < nD) ∧
  ((k0_dev356 v1) < nD) ∧
  ((k0_dev357 v1) < nD) ∧
  ((k0_dev360 v1) < nD) ∧
  ((k0_dev361 v1) < nD) ∧
  ((k0_dev364 v1) < nD) ∧
  ((k0_dev365 v1) < nD) ∧
  ((k0_dev368 v1) < nD) ∧
  ((k0_dev369 v1) < nD) ∧
  ((k0_dev372 v1) < nD) ∧
  ((k0_dev373 v1) < nD) ∧
  ((k0_dev376 v1) < nD) ∧
  ((k0_dev377 v1) < nD) ∧
  ((k0_dev380 v1) < nD) ∧
  ((k0_dev381 v1) < nD) ∧
  ((k0_dev384 v1) < nD)
def k0_chk1_6 (v1 : BitVec 32) : Prop :=
  ((k0_dev385 v1) < nD) ∧
  ((k0_dev388 v1) < nD) ∧
  ((k0_dev389 v1) < nD) ∧
  ((k0_dev392 v1) < nD) ∧
  ((k0_dev393 v1) < nD) ∧
  ((k0_dev396 v1) < nD) ∧
  ((k0_dev397 v1) < nD) ∧
  ((k0_dev400 v1) < nD) ∧
  ((k0_dev401 v1) < nD) ∧
  ((k0_dev404 v1) < nD) ∧
  ((k0_dev405 v1) < nD) ∧
  ((k0_dev408 v1) < nD) ∧
  ((k0_dev409 v1) < nD) ∧
  ((k0_dev412 v1) < nD) ∧
  ((k0_dev413 v1) < nD) ∧
  ((k0_dev416 v1) < nD) ∧
  ((k0_dev417 v1) < nD) ∧
  ((k0_dev420 v1) < nD) ∧
  ((k0_dev421 v1) < nD) ∧
  ((k0_dev424 v1) < nD) ∧
  ((k0_dev425 v1) < nD) ∧
  ((k0_dev428 v1) < nD) ∧
  ((k0_dev429 v1) < nD) ∧
  ((k0_dev432 v1) < nD) ∧
  ((k0_dev433 v1) < nD) ∧
  ((k0_dev436 v1) < nD) ∧
  ((k0_dev437 v1) < nD) ∧
  ((k0_dev440 v1) < nD) ∧
  ((k0_dev441 v1) < nD) ∧
  ((k0_dev444 v1) < nD) ∧
  ((k0_dev445 v1) < nD) ∧
  ((k0_dev448 v1) < nD)
def k0_chk1_7 (v1 : BitVec 32) : Prop :=
  ((k0_dev449 v1) < nD) ∧
  ((k0_dev452 v1) < nD) ∧
  ((k0_dev453 v1) < nD) ∧
  ((k0_dev456 v1) < nD) ∧
  ((k0_dev457 v1) < nD) ∧
  ((k0_dev460 v1) < nD) ∧
  ((k0_dev461 v1) < nD) ∧
  ((k0_dev464 v1) < nD) ∧
  ((k0_dev465 v1) < nD) ∧
  ((k0_dev468 v1) < nD) ∧
  ((k0_dev469 v1) < nD) ∧
  ((k0_dev472 v1) < nD) ∧
  ((k0_dev473 v1) < nD) ∧
  ((k0_dev476 v1) < nD) ∧
  ((k0_dev477 v1) < nD) ∧
  ((k0_dev480 v1) < nD) ∧
  ((k0_dev481 v1) < nD) ∧
  ((k0_dev484 v1) < nD) ∧
  ((k0_dev485 v1) < nD) ∧
  ((k0_dev488 v1) < nD) ∧
  ((k0_dev489 v1) < nD) ∧
  ((k0_dev491 v1) < nD) ∧
  ((k0_dev493 v1) < nD) ∧
  ((k0_dev495 v1) < nD) ∧
  ((k0_dev497 v1) < nD)
def k0_chk1 (v1 : BitVec 32) : Prop :=
  k0_chk1_0 v1 ∧
  k0_chk1_1 v1 ∧
  k0_chk1_2 v1 ∧
  k0_chk1_3 v1 ∧
  k0_chk1_4 v1 ∧
  k0_chk1_5 v1 ∧
  k0_chk1_6 v1 ∧
  k0_chk1_7 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev12_lt : ∀ (v1 : BitVec 32) (k0_hw1 : k0_chk1 v1), (k0_dev12 v1) < nD := fun v1 k0_hw1 => k0_hw1.1.2.2.2.2.2.1
theorem k0_dev13_lt : ∀ (v1 : BitVec 32) (k0_hw1 : k0_chk1 v1), (k0_dev13 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev17_lt : ∀ (v1 : BitVec 32) (k0_hw1 : k0_chk1 v1), (k0_dev17 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev21_lt : ∀ (v1 : BitVec 32) (k0_hw1 : k0_chk1 v1), (k0_dev21 v1) < nD := fun v1 k0_hw1 => k0_hw1.1.2.2.2.2.2.2.2.2.2.2.1
theorem k0_dev24_lt : ∀ (v1 : BitVec 32) (k0_hw1 : k0_chk1 v1), (k0_dev24 v1) < nD := fun v1 k0_hw1 => k0_hw1.1.2.2.2.2.2.2.2.2.2.2.2.1
theorem k0_dev25_lt : ∀ (v1 : BitVec 32) (k0_hw1 : k0_chk1 v1), (k0_dev25 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev29_lt : ∀ (v1 : BitVec 32) (k0_hw1 : k0_chk1 v1), (k0_dev29 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev33_lt : ∀ (v1 : BitVec 32) (k0_hw1 : k0_chk1 v1), (k0_dev33 v1) < nD := fun v1 k0_hw1 => k0_hw1.1.2.2.2.2.2.2.2.2.2.2.2.2.2.2.2.2.1
theorem k0_dev36_lt : ∀ (v1 : BitVec 32) (k0_hw1 : k0_chk1 v1), (k0_dev36 v1) < nD := fun v1 k0_hw1 => k0_hw1.1.2.2.2.2.2.2.2.2.2.2.2.2.2.2.2.2.2.1
theorem k0_dev37_lt : ∀ (v1 : BitVec 32) (k0_hw1 : k0_chk1 v1), (k0_dev37 v1) < nD := fun v1 k0_hw1 => k0_hw1.1.2.2.2.2.2.2.2.2.2.2.2.2.2.2.2.2.2.2.1
theorem k0_dev40_lt : ∀ (v1 : BitVec 32) (k0_hw1 : k0_chk1 v1), (k0_dev40 v1) < nD := fun v1 k0_hw1 => k0_hw1.1.2.2.2.2.2.2.2.2.2.2.2.2.2.2.2.2.2.2.2.1
theorem k0_dev41_lt : ∀ (v1 : BitVec 32) (k0_hw1 : k0_chk1 v1), (k0_dev41 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev45_lt : ∀ (v1 : BitVec 32) (k0_hw1 : k0_chk1 v1), (k0_dev45 v1) < nD := fun v1 k0_hw1 => k0_hw1.1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.1.2.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.1.2.2.2.2.2.2.2.2.2.2.2.2.2.2.2.2.2.2.2.2.2.2.2.2.2.2.2.2.2.1
theorem k0_dev61_lt : ∀ (v1 : BitVec 32) (k0_hw1 : k0_chk1 v1), (k0_dev61 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev65_lt : ∀ (v1 : BitVec 32) (k0_hw1 : k0_chk1 v1), (k0_dev65 v1) < nD := fun v1 k0_hw1 => k0_hw1.2.1.1
theorem k0_dev68_lt : ∀ (v1 : BitVec 32) (k0_hw1 : k0_chk1 v1), (k0_dev68 v1) < nD := fun v1 k0_hw1 => k0_hw1.2.1.2.1
theorem k0_dev69_lt : ∀ (v1 : BitVec 32) (k0_hw1 : k0_chk1 v1), (k0_dev69 v1) < nD := fun v1 k0_hw1 => k0_hw1.2.1.2.2.1
theorem k0_dev72_lt : ∀ (v1 : BitVec 32) (k0_hw1 : k0_chk1 v1), (k0_dev72 v1) < nD := fun v1 k0_hw1 => k0_hw1.2.1.2.2.2.1
theorem k0_dev73_lt : ∀ (v1 : BitVec 32) (k0_hw1 : k0_chk1 v1), (k0_dev73 v1) < nD := fun v1 k0_hw1 => k0_hw1.2.1.2.2.2.2.1
theorem k0_dev76_lt : ∀ (v1 : BitVec 32) (k0_hw1 : k0_chk1 v1), (k0_dev76 v1) < nD := fun v1 k0_hw1 => k0_hw1.2.1.2.2.2.2.2.1
theorem k0_dev77_lt : ∀ (v1 : BitVec 32) (k0_hw1 : k0_chk1 v1), (k0_dev77 v1) < nD := fun v1 k0_hw1 => k0_hw1.2.1.2.2.2.2.2.2.1
theorem k0_dev80_lt : ∀ (v1 : BitVec 32) (k0_hw1 : k0_chk1 v1), (k0_dev80 v1) < nD := fun v1 k0_hw1 => k0_hw1.2.1.2.2.2.2.2.2.2.1
theorem k0_dev81_lt : ∀ (v1 : BitVec 32) (k0_hw1 : k0_chk1 v1), (k0_dev81 v1) < nD := fun v1 k0_hw1 => k0_hw1.2.1.2.2.2.2.2.2.2.2.1
theorem k0_dev84_lt : ∀ (v1 : BitVec 32) (k0_hw1 : k0_chk1 v1), (k0_dev84 v1) < nD := fun v1 k0_hw1 => k0_hw1.2.1.2.2.2.2.2.2.2.2.2.1
theorem k0_dev85_lt : ∀ (v1 : BitVec 32) (k0_hw1 : k0_chk1 v1), (k0_dev85 v1) < nD := fun v1 k0_hw1 => k0_hw1.2.1.2.2.2.2.2.2.2.2.2.2.1
theorem k0_dev88_lt : ∀ (v1 : BitVec 32) (k0_hw1 : k0_chk1 v1), (k0_dev88 v1) < nD := fun v1 k0_hw1 => k0_hw1.2.1.2.2.2.2.2.2.2.2.2.2.2.1
theorem k0_dev89_lt : ∀ (v1 : BitVec 32) (k0_hw1 : k0_chk1 v1), (k0_dev89 v1) < nD := fun v1 k0_hw1 => k0_hw1.2.1.2.2.2.2.2.2.2.2.2.2.2.2.1
theorem k0_dev92_lt : ∀ (v1 : BitVec 32) (k0_hw1 : k0_chk1 v1), (k0_dev92 v1) < nD := fun v1 k0_hw1 => k0_hw1.2.1.2.2.2.2.2.2.2.2.2.2.2.2.2.1
theorem k0_dev93_lt : ∀ (v1 : BitVec 32) (k0_hw1 : k0_chk1 v1), (k0_dev93 v1) < nD := fun v1 k0_hw1 => k0_hw1.2.1.2.2.2.2.2.2.2.2.2.2.2.2.2.2.1
theorem k0_dev96_lt : ∀ (v1 : BitVec 32) (k0_hw1 : k0_chk1 v1), (k0_dev96 v1) < nD := fun v1 k0_hw1 => k0_hw1.2.1.2.2.2.2.2.2.2.2.2.2.2.2.2.2.2.1
theorem k0_dev97_lt : ∀ (v1 : BitVec 32) (k0_hw1 : k0_chk1 v1), (k0_dev97 v1) < nD := fun v1 k0_hw1 => k0_hw1.2.1.2.2.2.2.2.2.2.2.2.2.2.2.2.2.2.2.1
theorem k0_dev100_lt : ∀ (v1 : BitVec 32) (k0_hw1 : k0_chk1 v1), (k0_dev100 v1) < nD := fun v1 k0_hw1 => k0_hw1.2.1.2.2.2.2.2.2.2.2.2.2.2.2.2.2.2.2.2.1
theorem k0_dev101_lt : ∀ (v1 : BitVec 32) (k0_hw1 : k0_chk1 v1), (k0_dev101 v1) < nD := fun v1 k0_hw1 => k0_hw1.2.1.2.2.2.2.2.2.2.2.2.2.2.2.2.2.2.2.2.2.1
theorem k0_dev104_lt : ∀ (v1 : BitVec 32) (k0_hw1 : k0_chk1 v1), (k0_dev104 v1) < nD := fun v1 k0_hw1 => k0_hw1.2.1.2.2.2.2.2.2.2.2.2.2.2.2.2.2.2.2.2.2.2.1
theorem k0_dev105_lt : ∀ (v1 : BitVec 32) (k0_hw1 : k0_chk1 v1), (k0_dev105 v1) < nD := fun v1 k0_hw1 => k0_hw1.2.1.2.2.2.2.2.2.2.2.2.2.2.2.2.2.2.2.2.2.2.2.1
theorem k0_dev108_lt : ∀ (v1 : BitVec 32) (k0_hw1 : k0_chk1 v1), (k0_dev108 v1) < nD := fun v1 k0_hw1 => k0_hw1.2.1.2.2.2.2.2.2.2.2.2.2.2.2.2.2.2.2.2.2.2.2.2.1
theorem k0_dev109_lt : ∀ (v1 : BitVec 32) (k0_hw1 : k0_chk1 v1), (k0_dev109 v1) < nD := fun v1 k0_hw1 => k0_hw1.2.1.2.2.2.2.2.2.2.2.2.2.2.2.2.2.2.2.2.2.2.2.2.2.1
theorem k0_dev112_lt : ∀ (v1 : BitVec 32) (k0_hw1 : k0_chk1 v1), (k0_dev112 v1) < nD := fun v1 k0_hw1 => k0_hw1.2.1.2.2.2.2.2.2.2.2.2.2.2.2.2.2.2.2.2.2.2.2.2.2.2.1
theorem k0_dev113_lt : ∀ (v1 : BitVec 32) (k0_hw1 : k0_chk1 v1), (k0_dev113 v1) < nD := fun v1 k0_hw1 => k0_hw1.2.1.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.1.2.2.2.2.2.2.2.2.2.2.2.2.2.2.2.2.2.2.2.2.2.2.2.2.2.1
theorem k0_dev117_lt : ∀ (v1 : BitVec 32) (k0_hw1 : k0_chk1 v1), (k0_dev117 v1) < nD := fun v1 k0_hw1 => k0_hw1.2.1.2.2.2.2.2.2.2.2.2.2.2.2.2.2.2.2.2.2.2.2.2.2.2.2.2.2.1
theorem k0_dev120_lt : ∀ (v1 : BitVec 32) (k0_hw1 : k0_chk1 v1), (k0_dev120 v1) < nD := fun v1 k0_hw1 => k0_hw1.2.1.2.2.2.2.2.2.2.2.2.2.2.2.2.2.2.2.2.2.2.2.2.2.2.2.2.2.2.1
theorem k0_dev121_lt : ∀ (v1 : BitVec 32) (k0_hw1 : k0_chk1 v1), (k0_dev121 v1) < nD := fun v1 k0_hw1 => k0_hw1.2.1.2.2.2.2.2.2.2.2.2.2.2.2.2.2.2.2.2.2.2.2.2.2.2.2.2.2.2.2.1
theorem k0_dev124_lt : ∀ (v1 : BitVec 32) (k0_hw1 : k0_chk1 v1), (k0_dev124 v1) < nD := fun v1 k0_hw1 => k0_hw1.2.1.2.2.2.2.2.2.2.2.2.2.2.2.2.2.2.2.2.2.2.2.2.2.2.2.2.2.2.2.2.1
theorem k0_dev125_lt : ∀ (v1 : BitVec 32) (k0_hw1 : k0_chk1 v1), (k0_dev125 v1) < nD := fun v1 k0_hw1 => k0_hw1.2.1.2.2.2.2.2.2.2.2.2.2.2.2.2.2.2.2.2.2.2.2.2.2.2.2.2.2.2.2.2.2.1
theorem k0_dev128_lt : ∀ (v1 : BitVec 32) (k0_hw1 : k0_chk1 v1), (k0_dev128 v1) < nD := fun v1 k0_hw1 => k0_hw1.2.1.2.2.2.2.2.2.2.2.2.2.2.2.2.2.2.2.2.2.2.2.2.2.2.2.2.2.2.2.2.2.2
theorem k0_dev129_lt : ∀ (v1 : BitVec 32) (k0_hw1 : k0_chk1 v1), (k0_dev129 v1) < nD := fun v1 k0_hw1 => k0_hw1.2.2.1.1
theorem k0_dev132_lt : ∀ (v1 : BitVec 32) (k0_hw1 : k0_chk1 v1), (k0_dev132 v1) < nD := fun v1 k0_hw1 => k0_hw1.2.2.1.2.1
theorem k0_dev133_lt : ∀ (v1 : BitVec 32) (k0_hw1 : k0_chk1 v1), (k0_dev133 v1) < nD := fun v1 k0_hw1 => k0_hw1.2.2.1.2.2.1
theorem k0_dev136_lt : ∀ (v1 : BitVec 32) (k0_hw1 : k0_chk1 v1), (k0_dev136 v1) < nD := fun v1 k0_hw1 => k0_hw1.2.2.1.2.2.2.1
theorem k0_dev137_lt : ∀ (v1 : BitVec 32) (k0_hw1 : k0_chk1 v1), (k0_dev137 v1) < nD := fun v1 k0_hw1 => k0_hw1.2.2.1.2.2.2.2.1
theorem k0_dev140_lt : ∀ (v1 : BitVec 32) (k0_hw1 : k0_chk1 v1), (k0_dev140 v1) < nD := fun v1 k0_hw1 => k0_hw1.2.2.1.2.2.2.2.2.1
theorem k0_dev141_lt : ∀ (v1 : BitVec 32) (k0_hw1 : k0_chk1 v1), (k0_dev141 v1) < nD := fun v1 k0_hw1 => k0_hw1.2.2.1.2.2.2.2.2.2.1
theorem k0_dev144_lt : ∀ (v1 : BitVec 32) (k0_hw1 : k0_chk1 v1), (k0_dev144 v1) < nD := fun v1 k0_hw1 => k0_hw1.2.2.1.2.2.2.2.2.2.2.1
theorem k0_dev145_lt : ∀ (v1 : BitVec 32) (k0_hw1 : k0_chk1 v1), (k0_dev145 v1) < nD := fun v1 k0_hw1 => k0_hw1.2.2.1.2.2.2.2.2.2.2.2.1
theorem k0_dev148_lt : ∀ (v1 : BitVec 32) (k0_hw1 : k0_chk1 v1), (k0_dev148 v1) < nD := fun v1 k0_hw1 => k0_hw1.2.2.1.2.2.2.2.2.2.2.2.2.1
theorem k0_dev149_lt : ∀ (v1 : BitVec 32) (k0_hw1 : k0_chk1 v1), (k0_dev149 v1) < nD := fun v1 k0_hw1 => k0_hw1.2.2.1.2.2.2.2.2.2.2.2.2.2.1
theorem k0_dev152_lt : ∀ (v1 : BitVec 32) (k0_hw1 : k0_chk1 v1), (k0_dev152 v1) < nD := fun v1 k0_hw1 => k0_hw1.2.2.1.2.2.2.2.2.2.2.2.2.2.2.1
theorem k0_dev153_lt : ∀ (v1 : BitVec 32) (k0_hw1 : k0_chk1 v1), (k0_dev153 v1) < nD := fun v1 k0_hw1 => k0_hw1.2.2.1.2.2.2.2.2.2.2.2.2.2.2.2.1
theorem k0_dev156_lt : ∀ (v1 : BitVec 32) (k0_hw1 : k0_chk1 v1), (k0_dev156 v1) < nD := fun v1 k0_hw1 => k0_hw1.2.2.1.2.2.2.2.2.2.2.2.2.2.2.2.2.1
theorem k0_dev157_lt : ∀ (v1 : BitVec 32) (k0_hw1 : k0_chk1 v1), (k0_dev157 v1) < nD := fun v1 k0_hw1 => k0_hw1.2.2.1.2.2.2.2.2.2.2.2.2.2.2.2.2.2.1
theorem k0_dev160_lt : ∀ (v1 : BitVec 32) (k0_hw1 : k0_chk1 v1), (k0_dev160 v1) < nD := fun v1 k0_hw1 => k0_hw1.2.2.1.2.2.2.2.2.2.2.2.2.2.2.2.2.2.2.1
theorem k0_dev161_lt : ∀ (v1 : BitVec 32) (k0_hw1 : k0_chk1 v1), (k0_dev161 v1) < nD := fun v1 k0_hw1 => k0_hw1.2.2.1.2.2.2.2.2.2.2.2.2.2.2.2.2.2.2.2.1
theorem k0_dev164_lt : ∀ (v1 : BitVec 32) (k0_hw1 : k0_chk1 v1), (k0_dev164 v1) < nD := fun v1 k0_hw1 => k0_hw1.2.2.1.2.2.2.2.2.2.2.2.2.2.2.2.2.2.2.2.2.1
theorem k0_dev165_lt : ∀ (v1 : BitVec 32) (k0_hw1 : k0_chk1 v1), (k0_dev165 v1) < nD := fun v1 k0_hw1 => k0_hw1.2.2.1.2.2.2.2.2.2.2.2.2.2.2.2.2.2.2.2.2.2.1
theorem k0_dev168_lt : ∀ (v1 : BitVec 32) (k0_hw1 : k0_chk1 v1), (k0_dev168 v1) < nD := fun v1 k0_hw1 => k0_hw1.2.2.1.2.2.2.2.2.2.2.2.2.2.2.2.2.2.2.2.2.2.2.1
theorem k0_dev169_lt : ∀ (v1 : BitVec 32) (k0_hw1 : k0_chk1 v1), (k0_dev169 v1) < nD := fun v1 k0_hw1 => k0_hw1.2.2.1.2.2.2.2.2.2.2.2.2.2.2.2.2.2.2.2.2.2.2.2.1
theorem k0_dev172_lt : ∀ (v1 : BitVec 32) (k0_hw1 : k0_chk1 v1), (k0_dev172 v1) < nD := fun v1 k0_hw1 => k0_hw1.2.2.1.2.2.2.2.2.2.2.2.2.2.2.2.2.2.2.2.2.2.2.2.2.1
theorem k0_dev173_lt : ∀ (v1 : BitVec 32) (k0_hw1 : k0_chk1 v1), (k0_dev173 v1) < nD := fun v1 k0_hw1 => k0_hw1.2.2.1.2.2.2.2.2.2.2.2.2.2.2.2.2.2.2.2.2.2.2.2.2.2.1
theorem k0_dev176_lt : ∀ (v1 : BitVec 32) (k0_hw1 : k0_chk1 v1), (k0_dev176 v1) < nD := fun v1 k0_hw1 => k0_hw1.2.2.1.2.2.2.2.2.2.2.2.2.2.2.2.2.2.2.2.2.2.2.2.2.2.2.1
theorem k0_dev177_lt : ∀ (v1 : BitVec 32) (k0_hw1 : k0_chk1 v1), (k0_dev177 v1) < nD := fun v1 k0_hw1 => k0_hw1.2.2.1.2.2.2.2.2.2.2.2.2.2.2.2.2.2.2.2.2.2.2.2.2.2.2.2.1
theorem k0_dev180_lt : ∀ (v1 : BitVec 32) (k0_hw1 : k0_chk1 v1), (k0_dev180 v1) < nD := fun v1 k0_hw1 => k0_hw1.2.2.1.2.2.2.2.2.2.2.2.2.2.2.2.2.2.2.2.2.2.2.2.2.2.2.2.2.1
theorem k0_dev181_lt : ∀ (v1 : BitVec 32) (k0_hw1 : k0_chk1 v1), (k0_dev181 v1) < nD := fun v1 k0_hw1 => k0_hw1.2.2.1.2.2.2.2.2.2.2.2.2.2.2.2.2.2.2.2.2.2.2.2.2.2.2.2.2.2.1
theorem k0_dev184_lt : ∀ (v1 : BitVec 32) (k0_hw1 : k0_chk1 v1), (k0_dev184 v1) < nD := fun v1 k0_hw1 => k0_hw1.2.2.1.2.2.2.2.2.2.2.2.2.2.2.2.2.2.2.2.2.2.2.2.2.2.2.2.2.2.2.1
theorem k0_dev185_lt : ∀ (v1 : BitVec 32) (k0_hw1 : k0_chk1 v1), (k0_dev185 v1) < nD := fun v1 k0_hw1 => k0_hw1.2.2.1.2.2.2.2.2.2.2.2.2.2.2.2.2.2.2.2.2.2.2.2.2.2.2.2.2.2.2.2.1
theorem k0_dev188_lt : ∀ (v1 : BitVec 32) (k0_hw1 : k0_chk1 v1), (k0_dev188 v1) < nD := fun v1 k0_hw1 => k0_hw1.2.2.1.2.2.2.2.2.2.2.2.2.2.2.2.2.2.2.2.2.2.2.2.2.2.2.2.2.2.2.2.2.1
theorem k0_dev189_lt : ∀ (v1 : BitVec 32) (k0_hw1 : k0_chk1 v1), (k0_dev189 v1) < nD := fun v1 k0_hw1 => k0_hw1.2.2.1.2.2.2.2.2.2.2.2.2.2.2.2.2.2.2.2.2.2.2.2.2.2.2.2.2.2.2.2.2.2.1
theorem k0_dev192_lt : ∀ (v1 : BitVec 32) (k0_hw1 : k0_chk1 v1), (k0_dev192 v1) < nD := fun v1 k0_hw1 => k0_hw1.2.2.1.2.2.2.2.2.2.2.2.2.2.2.2.2.2.2.2.2.2.2.2.2.2.2.2.2.2.2.2.2.2.2
theorem k0_dev193_lt : ∀ (v1 : BitVec 32) (k0_hw1 : k0_chk1 v1), (k0_dev193 v1) < nD := fun v1 k0_hw1 => k0_hw1.2.2.2.1.1
theorem k0_dev196_lt : ∀ (v1 : BitVec 32) (k0_hw1 : k0_chk1 v1), (k0_dev196 v1) < nD := fun v1 k0_hw1 => k0_hw1.2.2.2.1.2.1
theorem k0_dev197_lt : ∀ (v1 : BitVec 32) (k0_hw1 : k0_chk1 v1), (k0_dev197 v1) < nD := fun v1 k0_hw1 => k0_hw1.2.2.2.1.2.2.1
theorem k0_dev200_lt : ∀ (v1 : BitVec 32) (k0_hw1 : k0_chk1 v1), (k0_dev200 v1) < nD := fun v1 k0_hw1 => k0_hw1.2.2.2.1.2.2.2.1
theorem k0_dev201_lt : ∀ (v1 : BitVec 32) (k0_hw1 : k0_chk1 v1), (k0_dev201 v1) < nD := fun v1 k0_hw1 => k0_hw1.2.2.2.1.2.2.2.2.1
theorem k0_dev204_lt : ∀ (v1 : BitVec 32) (k0_hw1 : k0_chk1 v1), (k0_dev204 v1) < nD := fun v1 k0_hw1 => k0_hw1.2.2.2.1.2.2.2.2.2.1
theorem k0_dev205_lt : ∀ (v1 : BitVec 32) (k0_hw1 : k0_chk1 v1), (k0_dev205 v1) < nD := fun v1 k0_hw1 => k0_hw1.2.2.2.1.2.2.2.2.2.2.1
theorem k0_dev208_lt : ∀ (v1 : BitVec 32) (k0_hw1 : k0_chk1 v1), (k0_dev208 v1) < nD := fun v1 k0_hw1 => k0_hw1.2.2.2.1.2.2.2.2.2.2.2.1
theorem k0_dev209_lt : ∀ (v1 : BitVec 32) (k0_hw1 : k0_chk1 v1), (k0_dev209 v1) < nD := fun v1 k0_hw1 => k0_hw1.2.2.2.1.2.2.2.2.2.2.2.2.1
theorem k0_dev212_lt : ∀ (v1 : BitVec 32) (k0_hw1 : k0_chk1 v1), (k0_dev212 v1) < nD := fun v1 k0_hw1 => k0_hw1.2.2.2.1.2.2.2.2.2.2.2.2.2.1
theorem k0_dev213_lt : ∀ (v1 : BitVec 32) (k0_hw1 : k0_chk1 v1), (k0_dev213 v1) < nD := fun v1 k0_hw1 => k0_hw1.2.2.2.1.2.2.2.2.2.2.2.2.2.2.1
theorem k0_dev216_lt : ∀ (v1 : BitVec 32) (k0_hw1 : k0_chk1 v1), (k0_dev216 v1) < nD := fun v1 k0_hw1 => k0_hw1.2.2.2.1.2.2.2.2.2.2.2.2.2.2.2.1
theorem k0_dev217_lt : ∀ (v1 : BitVec 32) (k0_hw1 : k0_chk1 v1), (k0_dev217 v1) < nD := fun v1 k0_hw1 => k0_hw1.2.2.2.1.2.2.2.2.2.2.2.2.2.2.2.2.1
theorem k0_dev220_lt : ∀ (v1 : BitVec 32) (k0_hw1 : k0_chk1 v1), (k0_dev220 v1) < nD := fun v1 k0_hw1 => k0_hw1.2.2.2.1.2.2.2.2.2.2.2.2.2.2.2.2.2.1
theorem k0_dev221_lt : ∀ (v1 : BitVec 32) (k0_hw1 : k0_chk1 v1), (k0_dev221 v1) < nD := fun v1 k0_hw1 => k0_hw1.2.2.2.1.2.2.2.2.2.2.2.2.2.2.2.2.2.2.1
theorem k0_dev224_lt : ∀ (v1 : BitVec 32) (k0_hw1 : k0_chk1 v1), (k0_dev224 v1) < nD := fun v1 k0_hw1 => k0_hw1.2.2.2.1.2.2.2.2.2.2.2.2.2.2.2.2.2.2.2.1
theorem k0_dev225_lt : ∀ (v1 : BitVec 32) (k0_hw1 : k0_chk1 v1), (k0_dev225 v1) < nD := fun v1 k0_hw1 => k0_hw1.2.2.2.1.2.2.2.2.2.2.2.2.2.2.2.2.2.2.2.2.1
theorem k0_dev228_lt : ∀ (v1 : BitVec 32) (k0_hw1 : k0_chk1 v1), (k0_dev228 v1) < nD := fun v1 k0_hw1 => k0_hw1.2.2.2.1.2.2.2.2.2.2.2.2.2.2.2.2.2.2.2.2.2.1
theorem k0_dev229_lt : ∀ (v1 : BitVec 32) (k0_hw1 : k0_chk1 v1), (k0_dev229 v1) < nD := fun v1 k0_hw1 => k0_hw1.2.2.2.1.2.2.2.2.2.2.2.2.2.2.2.2.2.2.2.2.2.2.1
theorem k0_dev232_lt : ∀ (v1 : BitVec 32) (k0_hw1 : k0_chk1 v1), (k0_dev232 v1) < nD := fun v1 k0_hw1 => k0_hw1.2.2.2.1.2.2.2.2.2.2.2.2.2.2.2.2.2.2.2.2.2.2.2.1
theorem k0_dev233_lt : ∀ (v1 : BitVec 32) (k0_hw1 : k0_chk1 v1), (k0_dev233 v1) < nD := fun v1 k0_hw1 => k0_hw1.2.2.2.1.2.2.2.2.2.2.2.2.2.2.2.2.2.2.2.2.2.2.2.2.1
theorem k0_dev236_lt : ∀ (v1 : BitVec 32) (k0_hw1 : k0_chk1 v1), (k0_dev236 v1) < nD := fun v1 k0_hw1 => k0_hw1.2.2.2.1.2.2.2.2.2.2.2.2.2.2.2.2.2.2.2.2.2.2.2.2.2.1
theorem k0_dev237_lt : ∀ (v1 : BitVec 32) (k0_hw1 : k0_chk1 v1), (k0_dev237 v1) < nD := fun v1 k0_hw1 => k0_hw1.2.2.2.1.2.2.2.2.2.2.2.2.2.2.2.2.2.2.2.2.2.2.2.2.2.2.1
theorem k0_dev240_lt : ∀ (v1 : BitVec 32) (k0_hw1 : k0_chk1 v1), (k0_dev240 v1) < nD := fun v1 k0_hw1 => k0_hw1.2.2.2.1.2.2.2.2.2.2.2.2.2.2.2.2.2.2.2.2.2.2.2.2.2.2.2.1
theorem k0_dev241_lt : ∀ (v1 : BitVec 32) (k0_hw1 : k0_chk1 v1), (k0_dev241 v1) < nD := fun v1 k0_hw1 => k0_hw1.2.2.2.1.2.2.2.2.2.2.2.2.2.2.2.2.2.2.2.2.2.2.2.2.2.2.2.2.1
theorem k0_dev244_lt : ∀ (v1 : BitVec 32) (k0_hw1 : k0_chk1 v1), (k0_dev244 v1) < nD := fun v1 k0_hw1 => k0_hw1.2.2.2.1.2.2.2.2.2.2.2.2.2.2.2.2.2.2.2.2.2.2.2.2.2.2.2.2.2.1
theorem k0_dev245_lt : ∀ (v1 : BitVec 32) (k0_hw1 : k0_chk1 v1), (k0_dev245 v1) < nD := fun v1 k0_hw1 => k0_hw1.2.2.2.1.2.2.2.2.2.2.2.2.2.2.2.2.2.2.2.2.2.2.2.2.2.2.2.2.2.2.1
theorem k0_dev248_lt : ∀ (v1 : BitVec 32) (k0_hw1 : k0_chk1 v1), (k0_dev248 v1) < nD := fun v1 k0_hw1 => k0_hw1.2.2.2.1.2.2.2.2.2.2.2.2.2.2.2.2.2.2.2.2.2.2.2.2.2.2.2.2.2.2.2.1
theorem k0_dev249_lt : ∀ (v1 : BitVec 32) (k0_hw1 : k0_chk1 v1), (k0_dev249 v1) < nD := fun v1 k0_hw1 => k0_hw1.2.2.2.1.2.2.2.2.2.2.2.2.2.2.2.2.2.2.2.2.2.2.2.2.2.2.2.2.2.2.2.2.1
theorem k0_dev252_lt : ∀ (v1 : BitVec 32) (k0_hw1 : k0_chk1 v1), (k0_dev252 v1) < nD := fun v1 k0_hw1 => k0_hw1.2.2.2.1.2.2.2.2.2.2.2.2.2.2.2.2.2.2.2.2.2.2.2.2.2.2.2.2.2.2.2.2.2.1
theorem k0_dev253_lt : ∀ (v1 : BitVec 32) (k0_hw1 : k0_chk1 v1), (k0_dev253 v1) < nD := fun v1 k0_hw1 => k0_hw1.2.2.2.1.2.2.2.2.2.2.2.2.2.2.2.2.2.2.2.2.2.2.2.2.2.2.2.2.2.2.2.2.2.2.1
theorem k0_dev256_lt : ∀ (v1 : BitVec 32) (k0_hw1 : k0_chk1 v1), (k0_dev256 v1) < nD := fun v1 k0_hw1 => k0_hw1.2.2.2.1.2.2.2.2.2.2.2.2.2.2.2.2.2.2.2.2.2.2.2.2.2.2.2.2.2.2.2.2.2.2.2
theorem k0_dev257_lt : ∀ (v1 : BitVec 32) (k0_hw1 : k0_chk1 v1), (k0_dev257 v1) < nD := fun v1 k0_hw1 => k0_hw1.2.2.2.2.1.1
theorem k0_dev260_lt : ∀ (v1 : BitVec 32) (k0_hw1 : k0_chk1 v1), (k0_dev260 v1) < nD := fun v1 k0_hw1 => k0_hw1.2.2.2.2.1.2.1
theorem k0_dev261_lt : ∀ (v1 : BitVec 32) (k0_hw1 : k0_chk1 v1), (k0_dev261 v1) < nD := fun v1 k0_hw1 => k0_hw1.2.2.2.2.1.2.2.1
theorem k0_dev264_lt : ∀ (v1 : BitVec 32) (k0_hw1 : k0_chk1 v1), (k0_dev264 v1) < nD := fun v1 k0_hw1 => k0_hw1.2.2.2.2.1.2.2.2.1
theorem k0_dev265_lt : ∀ (v1 : BitVec 32) (k0_hw1 : k0_chk1 v1), (k0_dev265 v1) < nD := fun v1 k0_hw1 => k0_hw1.2.2.2.2.1.2.2.2.2.1
theorem k0_dev268_lt : ∀ (v1 : BitVec 32) (k0_hw1 : k0_chk1 v1), (k0_dev268 v1) < nD := fun v1 k0_hw1 => k0_hw1.2.2.2.2.1.2.2.2.2.2.1
theorem k0_dev269_lt : ∀ (v1 : BitVec 32) (k0_hw1 : k0_chk1 v1), (k0_dev269 v1) < nD := fun v1 k0_hw1 => k0_hw1.2.2.2.2.1.2.2.2.2.2.2.1
theorem k0_dev272_lt : ∀ (v1 : BitVec 32) (k0_hw1 : k0_chk1 v1), (k0_dev272 v1) < nD := fun v1 k0_hw1 => k0_hw1.2.2.2.2.1.2.2.2.2.2.2.2.1
theorem k0_dev273_lt : ∀ (v1 : BitVec 32) (k0_hw1 : k0_chk1 v1), (k0_dev273 v1) < nD := fun v1 k0_hw1 => k0_hw1.2.2.2.2.1.2.2.2.2.2.2.2.2.1
theorem k0_dev276_lt : ∀ (v1 : BitVec 32) (k0_hw1 : k0_chk1 v1), (k0_dev276 v1) < nD := fun v1 k0_hw1 => k0_hw1.2.2.2.2.1.2.2.2.2.2.2.2.2.2.1
theorem k0_dev277_lt : ∀ (v1 : BitVec 32) (k0_hw1 : k0_chk1 v1), (k0_dev277 v1) < nD := fun v1 k0_hw1 => k0_hw1.2.2.2.2.1.2.2.2.2.2.2.2.2.2.2.1
theorem k0_dev280_lt : ∀ (v1 : BitVec 32) (k0_hw1 : k0_chk1 v1), (k0_dev280 v1) < nD := fun v1 k0_hw1 => k0_hw1.2.2.2.2.1.2.2.2.2.2.2.2.2.2.2.2.1
theorem k0_dev281_lt : ∀ (v1 : BitVec 32) (k0_hw1 : k0_chk1 v1), (k0_dev281 v1) < nD := fun v1 k0_hw1 => k0_hw1.2.2.2.2.1.2.2.2.2.2.2.2.2.2.2.2.2.1
theorem k0_dev284_lt : ∀ (v1 : BitVec 32) (k0_hw1 : k0_chk1 v1), (k0_dev284 v1) < nD := fun v1 k0_hw1 => k0_hw1.2.2.2.2.1.2.2.2.2.2.2.2.2.2.2.2.2.2.1
theorem k0_dev285_lt : ∀ (v1 : BitVec 32) (k0_hw1 : k0_chk1 v1), (k0_dev285 v1) < nD := fun v1 k0_hw1 => k0_hw1.2.2.2.2.1.2.2.2.2.2.2.2.2.2.2.2.2.2.2.1
theorem k0_dev288_lt : ∀ (v1 : BitVec 32) (k0_hw1 : k0_chk1 v1), (k0_dev288 v1) < nD := fun v1 k0_hw1 => k0_hw1.2.2.2.2.1.2.2.2.2.2.2.2.2.2.2.2.2.2.2.2.1
theorem k0_dev289_lt : ∀ (v1 : BitVec 32) (k0_hw1 : k0_chk1 v1), (k0_dev289 v1) < nD := fun v1 k0_hw1 => k0_hw1.2.2.2.2.1.2.2.2.2.2.2.2.2.2.2.2.2.2.2.2.2.1
theorem k0_dev292_lt : ∀ (v1 : BitVec 32) (k0_hw1 : k0_chk1 v1), (k0_dev292 v1) < nD := fun v1 k0_hw1 => k0_hw1.2.2.2.2.1.2.2.2.2.2.2.2.2.2.2.2.2.2.2.2.2.2.1
theorem k0_dev293_lt : ∀ (v1 : BitVec 32) (k0_hw1 : k0_chk1 v1), (k0_dev293 v1) < nD := fun v1 k0_hw1 => k0_hw1.2.2.2.2.1.2.2.2.2.2.2.2.2.2.2.2.2.2.2.2.2.2.2.1
theorem k0_dev296_lt : ∀ (v1 : BitVec 32) (k0_hw1 : k0_chk1 v1), (k0_dev296 v1) < nD := fun v1 k0_hw1 => k0_hw1.2.2.2.2.1.2.2.2.2.2.2.2.2.2.2.2.2.2.2.2.2.2.2.2.1
theorem k0_dev297_lt : ∀ (v1 : BitVec 32) (k0_hw1 : k0_chk1 v1), (k0_dev297 v1) < nD := fun v1 k0_hw1 => k0_hw1.2.2.2.2.1.2.2.2.2.2.2.2.2.2.2.2.2.2.2.2.2.2.2.2.2.1
theorem k0_dev300_lt : ∀ (v1 : BitVec 32) (k0_hw1 : k0_chk1 v1), (k0_dev300 v1) < nD := fun v1 k0_hw1 => k0_hw1.2.2.2.2.1.2.2.2.2.2.2.2.2.2.2.2.2.2.2.2.2.2.2.2.2.2.1
theorem k0_dev301_lt : ∀ (v1 : BitVec 32) (k0_hw1 : k0_chk1 v1), (k0_dev301 v1) < nD := fun v1 k0_hw1 => k0_hw1.2.2.2.2.1.2.2.2.2.2.2.2.2.2.2.2.2.2.2.2.2.2.2.2.2.2.2.1
theorem k0_dev304_lt : ∀ (v1 : BitVec 32) (k0_hw1 : k0_chk1 v1), (k0_dev304 v1) < nD := fun v1 k0_hw1 => k0_hw1.2.2.2.2.1.2.2.2.2.2.2.2.2.2.2.2.2.2.2.2.2.2.2.2.2.2.2.2.1
theorem k0_dev305_lt : ∀ (v1 : BitVec 32) (k0_hw1 : k0_chk1 v1), (k0_dev305 v1) < nD := fun v1 k0_hw1 => k0_hw1.2.2.2.2.1.2.2.2.2.2.2.2.2.2.2.2.2.2.2.2.2.2.2.2.2.2.2.2.2.1
theorem k0_dev308_lt : ∀ (v1 : BitVec 32) (k0_hw1 : k0_chk1 v1), (k0_dev308 v1) < nD := fun v1 k0_hw1 => k0_hw1.2.2.2.2.1.2.2.2.2.2.2.2.2.2.2.2.2.2.2.2.2.2.2.2.2.2.2.2.2.2.1
theorem k0_dev309_lt : ∀ (v1 : BitVec 32) (k0_hw1 : k0_chk1 v1), (k0_dev309 v1) < nD := fun v1 k0_hw1 => k0_hw1.2.2.2.2.1.2.2.2.2.2.2.2.2.2.2.2.2.2.2.2.2.2.2.2.2.2.2.2.2.2.2.1
theorem k0_dev312_lt : ∀ (v1 : BitVec 32) (k0_hw1 : k0_chk1 v1), (k0_dev312 v1) < nD := fun v1 k0_hw1 => k0_hw1.2.2.2.2.1.2.2.2.2.2.2.2.2.2.2.2.2.2.2.2.2.2.2.2.2.2.2.2.2.2.2.2.1
theorem k0_dev313_lt : ∀ (v1 : BitVec 32) (k0_hw1 : k0_chk1 v1), (k0_dev313 v1) < nD := fun v1 k0_hw1 => k0_hw1.2.2.2.2.1.2.2.2.2.2.2.2.2.2.2.2.2.2.2.2.2.2.2.2.2.2.2.2.2.2.2.2.2.1
theorem k0_dev316_lt : ∀ (v1 : BitVec 32) (k0_hw1 : k0_chk1 v1), (k0_dev316 v1) < nD := fun v1 k0_hw1 => k0_hw1.2.2.2.2.1.2.2.2.2.2.2.2.2.2.2.2.2.2.2.2.2.2.2.2.2.2.2.2.2.2.2.2.2.2.1
theorem k0_dev317_lt : ∀ (v1 : BitVec 32) (k0_hw1 : k0_chk1 v1), (k0_dev317 v1) < nD := fun v1 k0_hw1 => k0_hw1.2.2.2.2.1.2.2.2.2.2.2.2.2.2.2.2.2.2.2.2.2.2.2.2.2.2.2.2.2.2.2.2.2.2.2.1
theorem k0_dev320_lt : ∀ (v1 : BitVec 32) (k0_hw1 : k0_chk1 v1), (k0_dev320 v1) < nD := fun v1 k0_hw1 => k0_hw1.2.2.2.2.1.2.2.2.2.2.2.2.2.2.2.2.2.2.2.2.2.2.2.2.2.2.2.2.2.2.2.2.2.2.2.2
theorem k0_dev321_lt : ∀ (v1 : BitVec 32) (k0_hw1 : k0_chk1 v1), (k0_dev321 v1) < nD := fun v1 k0_hw1 => k0_hw1.2.2.2.2.2.1.1
theorem k0_dev324_lt : ∀ (v1 : BitVec 32) (k0_hw1 : k0_chk1 v1), (k0_dev324 v1) < nD := fun v1 k0_hw1 => k0_hw1.2.2.2.2.2.1.2.1
theorem k0_dev325_lt : ∀ (v1 : BitVec 32) (k0_hw1 : k0_chk1 v1), (k0_dev325 v1) < nD := fun v1 k0_hw1 => k0_hw1.2.2.2.2.2.1.2.2.1
theorem k0_dev328_lt : ∀ (v1 : BitVec 32) (k0_hw1 : k0_chk1 v1), (k0_dev328 v1) < nD := fun v1 k0_hw1 => k0_hw1.2.2.2.2.2.1.2.2.2.1
theorem k0_dev329_lt : ∀ (v1 : BitVec 32) (k0_hw1 : k0_chk1 v1), (k0_dev329 v1) < nD := fun v1 k0_hw1 => k0_hw1.2.2.2.2.2.1.2.2.2.2.1
theorem k0_dev332_lt : ∀ (v1 : BitVec 32) (k0_hw1 : k0_chk1 v1), (k0_dev332 v1) < nD := fun v1 k0_hw1 => k0_hw1.2.2.2.2.2.1.2.2.2.2.2.1
theorem k0_dev333_lt : ∀ (v1 : BitVec 32) (k0_hw1 : k0_chk1 v1), (k0_dev333 v1) < nD := fun v1 k0_hw1 => k0_hw1.2.2.2.2.2.1.2.2.2.2.2.2.1
theorem k0_dev336_lt : ∀ (v1 : BitVec 32) (k0_hw1 : k0_chk1 v1), (k0_dev336 v1) < nD := fun v1 k0_hw1 => k0_hw1.2.2.2.2.2.1.2.2.2.2.2.2.2.1
theorem k0_dev337_lt : ∀ (v1 : BitVec 32) (k0_hw1 : k0_chk1 v1), (k0_dev337 v1) < nD := fun v1 k0_hw1 => k0_hw1.2.2.2.2.2.1.2.2.2.2.2.2.2.2.1
theorem k0_dev340_lt : ∀ (v1 : BitVec 32) (k0_hw1 : k0_chk1 v1), (k0_dev340 v1) < nD := fun v1 k0_hw1 => k0_hw1.2.2.2.2.2.1.2.2.2.2.2.2.2.2.2.1
theorem k0_dev341_lt : ∀ (v1 : BitVec 32) (k0_hw1 : k0_chk1 v1), (k0_dev341 v1) < nD := fun v1 k0_hw1 => k0_hw1.2.2.2.2.2.1.2.2.2.2.2.2.2.2.2.2.1
theorem k0_dev344_lt : ∀ (v1 : BitVec 32) (k0_hw1 : k0_chk1 v1), (k0_dev344 v1) < nD := fun v1 k0_hw1 => k0_hw1.2.2.2.2.2.1.2.2.2.2.2.2.2.2.2.2.2.1
theorem k0_dev345_lt : ∀ (v1 : BitVec 32) (k0_hw1 : k0_chk1 v1), (k0_dev345 v1) < nD := fun v1 k0_hw1 => k0_hw1.2.2.2.2.2.1.2.2.2.2.2.2.2.2.2.2.2.2.1
theorem k0_dev348_lt : ∀ (v1 : BitVec 32) (k0_hw1 : k0_chk1 v1), (k0_dev348 v1) < nD := fun v1 k0_hw1 => k0_hw1.2.2.2.2.2.1.2.2.2.2.2.2.2.2.2.2.2.2.2.1
theorem k0_dev349_lt : ∀ (v1 : BitVec 32) (k0_hw1 : k0_chk1 v1), (k0_dev349 v1) < nD := fun v1 k0_hw1 => k0_hw1.2.2.2.2.2.1.2.2.2.2.2.2.2.2.2.2.2.2.2.2.1
theorem k0_dev352_lt : ∀ (v1 : BitVec 32) (k0_hw1 : k0_chk1 v1), (k0_dev352 v1) < nD := fun v1 k0_hw1 => k0_hw1.2.2.2.2.2.1.2.2.2.2.2.2.2.2.2.2.2.2.2.2.2.1
theorem k0_dev353_lt : ∀ (v1 : BitVec 32) (k0_hw1 : k0_chk1 v1), (k0_dev353 v1) < nD := fun v1 k0_hw1 => k0_hw1.2.2.2.2.2.1.2.2.2.2.2.2.2.2.2.2.2.2.2.2.2.2.1
theorem k0_dev356_lt : ∀ (v1 : BitVec 32) (k0_hw1 : k0_chk1 v1), (k0_dev356 v1) < nD := fun v1 k0_hw1 => k0_hw1.2.2.2.2.2.1.2.2.2.2.2.2.2.2.2.2.2.2.2.2.2.2.2.1
theorem k0_dev357_lt : ∀ (v1 : BitVec 32) (k0_hw1 : k0_chk1 v1), (k0_dev357 v1) < nD := fun v1 k0_hw1 => k0_hw1.2.2.2.2.2.1.2.2.2.2.2.2.2.2.2.2.2.2.2.2.2.2.2.2.1
theorem k0_dev360_lt : ∀ (v1 : BitVec 32) (k0_hw1 : k0_chk1 v1), (k0_dev360 v1) < nD := fun v1 k0_hw1 => k0_hw1.2.2.2.2.2.1.2.2.2.2.2.2.2.2.2.2.2.2.2.2.2.2.2.2.2.1
theorem k0_dev361_lt : ∀ (v1 : BitVec 32) (k0_hw1 : k0_chk1 v1), (k0_dev361 v1) < nD := fun v1 k0_hw1 => k0_hw1.2.2.2.2.2.1.2.2.2.2.2.2.2.2.2.2.2.2.2.2.2.2.2.2.2.2.1
theorem k0_dev364_lt : ∀ (v1 : BitVec 32) (k0_hw1 : k0_chk1 v1), (k0_dev364 v1) < nD := fun v1 k0_hw1 => k0_hw1.2.2.2.2.2.1.2.2.2.2.2.2.2.2.2.2.2.2.2.2.2.2.2.2.2.2.2.1
theorem k0_dev365_lt : ∀ (v1 : BitVec 32) (k0_hw1 : k0_chk1 v1), (k0_dev365 v1) < nD := fun v1 k0_hw1 => k0_hw1.2.2.2.2.2.1.2.2.2.2.2.2.2.2.2.2.2.2.2.2.2.2.2.2.2.2.2.2.1
theorem k0_dev368_lt : ∀ (v1 : BitVec 32) (k0_hw1 : k0_chk1 v1), (k0_dev368 v1) < nD := fun v1 k0_hw1 => k0_hw1.2.2.2.2.2.1.2.2.2.2.2.2.2.2.2.2.2.2.2.2.2.2.2.2.2.2.2.2.2.1
theorem k0_dev369_lt : ∀ (v1 : BitVec 32) (k0_hw1 : k0_chk1 v1), (k0_dev369 v1) < nD := fun v1 k0_hw1 => k0_hw1.2.2.2.2.2.1.2.2.2.2.2.2.2.2.2.2.2.2.2.2.2.2.2.2.2.2.2.2.2.2.1
theorem k0_dev372_lt : ∀ (v1 : BitVec 32) (k0_hw1 : k0_chk1 v1), (k0_dev372 v1) < nD := fun v1 k0_hw1 => k0_hw1.2.2.2.2.2.1.2.2.2.2.2.2.2.2.2.2.2.2.2.2.2.2.2.2.2.2.2.2.2.2.2.1
theorem k0_dev373_lt : ∀ (v1 : BitVec 32) (k0_hw1 : k0_chk1 v1), (k0_dev373 v1) < nD := fun v1 k0_hw1 => k0_hw1.2.2.2.2.2.1.2.2.2.2.2.2.2.2.2.2.2.2.2.2.2.2.2.2.2.2.2.2.2.2.2.2.1
theorem k0_dev376_lt : ∀ (v1 : BitVec 32) (k0_hw1 : k0_chk1 v1), (k0_dev376 v1) < nD := fun v1 k0_hw1 => k0_hw1.2.2.2.2.2.1.2.2.2.2.2.2.2.2.2.2.2.2.2.2.2.2.2.2.2.2.2.2.2.2.2.2.2.1
theorem k0_dev377_lt : ∀ (v1 : BitVec 32) (k0_hw1 : k0_chk1 v1), (k0_dev377 v1) < nD := fun v1 k0_hw1 => k0_hw1.2.2.2.2.2.1.2.2.2.2.2.2.2.2.2.2.2.2.2.2.2.2.2.2.2.2.2.2.2.2.2.2.2.2.1
theorem k0_dev380_lt : ∀ (v1 : BitVec 32) (k0_hw1 : k0_chk1 v1), (k0_dev380 v1) < nD := fun v1 k0_hw1 => k0_hw1.2.2.2.2.2.1.2.2.2.2.2.2.2.2.2.2.2.2.2.2.2.2.2.2.2.2.2.2.2.2.2.2.2.2.2.1
theorem k0_dev381_lt : ∀ (v1 : BitVec 32) (k0_hw1 : k0_chk1 v1), (k0_dev381 v1) < nD := fun v1 k0_hw1 => k0_hw1.2.2.2.2.2.1.2.2.2.2.2.2.2.2.2.2.2.2.2.2.2.2.2.2.2.2.2.2.2.2.2.2.2.2.2.2.1
theorem k0_dev384_lt : ∀ (v1 : BitVec 32) (k0_hw1 : k0_chk1 v1), (k0_dev384 v1) < nD := fun v1 k0_hw1 => k0_hw1.2.2.2.2.2.1.2.2.2.2.2.2.2.2.2.2.2.2.2.2.2.2.2.2.2.2.2.2.2.2.2.2.2.2.2.2.2
theorem k0_dev385_lt : ∀ (v1 : BitVec 32) (k0_hw1 : k0_chk1 v1), (k0_dev385 v1) < nD := fun v1 k0_hw1 => k0_hw1.2.2.2.2.2.2.1.1
theorem k0_dev388_lt : ∀ (v1 : BitVec 32) (k0_hw1 : k0_chk1 v1), (k0_dev388 v1) < nD := fun v1 k0_hw1 => k0_hw1.2.2.2.2.2.2.1.2.1
theorem k0_dev389_lt : ∀ (v1 : BitVec 32) (k0_hw1 : k0_chk1 v1), (k0_dev389 v1) < nD := fun v1 k0_hw1 => k0_hw1.2.2.2.2.2.2.1.2.2.1
theorem k0_dev392_lt : ∀ (v1 : BitVec 32) (k0_hw1 : k0_chk1 v1), (k0_dev392 v1) < nD := fun v1 k0_hw1 => k0_hw1.2.2.2.2.2.2.1.2.2.2.1
theorem k0_dev393_lt : ∀ (v1 : BitVec 32) (k0_hw1 : k0_chk1 v1), (k0_dev393 v1) < nD := fun v1 k0_hw1 => k0_hw1.2.2.2.2.2.2.1.2.2.2.2.1
theorem k0_dev396_lt : ∀ (v1 : BitVec 32) (k0_hw1 : k0_chk1 v1), (k0_dev396 v1) < nD := fun v1 k0_hw1 => k0_hw1.2.2.2.2.2.2.1.2.2.2.2.2.1
theorem k0_dev397_lt : ∀ (v1 : BitVec 32) (k0_hw1 : k0_chk1 v1), (k0_dev397 v1) < nD := fun v1 k0_hw1 => k0_hw1.2.2.2.2.2.2.1.2.2.2.2.2.2.1
theorem k0_dev400_lt : ∀ (v1 : BitVec 32) (k0_hw1 : k0_chk1 v1), (k0_dev400 v1) < nD := fun v1 k0_hw1 => k0_hw1.2.2.2.2.2.2.1.2.2.2.2.2.2.2.1
theorem k0_dev401_lt : ∀ (v1 : BitVec 32) (k0_hw1 : k0_chk1 v1), (k0_dev401 v1) < nD := fun v1 k0_hw1 => k0_hw1.2.2.2.2.2.2.1.2.2.2.2.2.2.2.2.1
theorem k0_dev404_lt : ∀ (v1 : BitVec 32) (k0_hw1 : k0_chk1 v1), (k0_dev404 v1) < nD := fun v1 k0_hw1 => k0_hw1.2.2.2.2.2.2.1.2.2.2.2.2.2.2.2.2.1
theorem k0_dev405_lt : ∀ (v1 : BitVec 32) (k0_hw1 : k0_chk1 v1), (k0_dev405 v1) < nD := fun v1 k0_hw1 => k0_hw1.2.2.2.2.2.2.1.2.2.2.2.2.2.2.2.2.2.1
theorem k0_dev408_lt : ∀ (v1 : BitVec 32) (k0_hw1 : k0_chk1 v1), (k0_dev408 v1) < nD := fun v1 k0_hw1 => k0_hw1.2.2.2.2.2.2.1.2.2.2.2.2.2.2.2.2.2.2.1
theorem k0_dev409_lt : ∀ (v1 : BitVec 32) (k0_hw1 : k0_chk1 v1), (k0_dev409 v1) < nD := fun v1 k0_hw1 => k0_hw1.2.2.2.2.2.2.1.2.2.2.2.2.2.2.2.2.2.2.2.1
theorem k0_dev412_lt : ∀ (v1 : BitVec 32) (k0_hw1 : k0_chk1 v1), (k0_dev412 v1) < nD := fun v1 k0_hw1 => k0_hw1.2.2.2.2.2.2.1.2.2.2.2.2.2.2.2.2.2.2.2.2.1
theorem k0_dev413_lt : ∀ (v1 : BitVec 32) (k0_hw1 : k0_chk1 v1), (k0_dev413 v1) < nD := fun v1 k0_hw1 => k0_hw1.2.2.2.2.2.2.1.2.2.2.2.2.2.2.2.2.2.2.2.2.2.1
theorem k0_dev416_lt : ∀ (v1 : BitVec 32) (k0_hw1 : k0_chk1 v1), (k0_dev416 v1) < nD := fun v1 k0_hw1 => k0_hw1.2.2.2.2.2.2.1.2.2.2.2.2.2.2.2.2.2.2.2.2.2.2.1
theorem k0_dev417_lt : ∀ (v1 : BitVec 32) (k0_hw1 : k0_chk1 v1), (k0_dev417 v1) < nD := fun v1 k0_hw1 => k0_hw1.2.2.2.2.2.2.1.2.2.2.2.2.2.2.2.2.2.2.2.2.2.2.2.1
theorem k0_dev420_lt : ∀ (v1 : BitVec 32) (k0_hw1 : k0_chk1 v1), (k0_dev420 v1) < nD := fun v1 k0_hw1 => k0_hw1.2.2.2.2.2.2.1.2.2.2.2.2.2.2.2.2.2.2.2.2.2.2.2.2.1
theorem k0_dev421_lt : ∀ (v1 : BitVec 32) (k0_hw1 : k0_chk1 v1), (k0_dev421 v1) < nD := fun v1 k0_hw1 => k0_hw1.2.2.2.2.2.2.1.2.2.2.2.2.2.2.2.2.2.2.2.2.2.2.2.2.2.1
theorem k0_dev424_lt : ∀ (v1 : BitVec 32) (k0_hw1 : k0_chk1 v1), (k0_dev424 v1) < nD := fun v1 k0_hw1 => k0_hw1.2.2.2.2.2.2.1.2.2.2.2.2.2.2.2.2.2.2.2.2.2.2.2.2.2.2.1
theorem k0_dev425_lt : ∀ (v1 : BitVec 32) (k0_hw1 : k0_chk1 v1), (k0_dev425 v1) < nD := fun v1 k0_hw1 => k0_hw1.2.2.2.2.2.2.1.2.2.2.2.2.2.2.2.2.2.2.2.2.2.2.2.2.2.2.2.1
theorem k0_dev428_lt : ∀ (v1 : BitVec 32) (k0_hw1 : k0_chk1 v1), (k0_dev428 v1) < nD := fun v1 k0_hw1 => k0_hw1.2.2.2.2.2.2.1.2.2.2.2.2.2.2.2.2.2.2.2.2.2.2.2.2.2.2.2.2.1
theorem k0_dev429_lt : ∀ (v1 : BitVec 32) (k0_hw1 : k0_chk1 v1), (k0_dev429 v1) < nD := fun v1 k0_hw1 => k0_hw1.2.2.2.2.2.2.1.2.2.2.2.2.2.2.2.2.2.2.2.2.2.2.2.2.2.2.2.2.2.1
theorem k0_dev432_lt : ∀ (v1 : BitVec 32) (k0_hw1 : k0_chk1 v1), (k0_dev432 v1) < nD := fun v1 k0_hw1 => k0_hw1.2.2.2.2.2.2.1.2.2.2.2.2.2.2.2.2.2.2.2.2.2.2.2.2.2.2.2.2.2.2.1
theorem k0_dev433_lt : ∀ (v1 : BitVec 32) (k0_hw1 : k0_chk1 v1), (k0_dev433 v1) < nD := fun v1 k0_hw1 => k0_hw1.2.2.2.2.2.2.1.2.2.2.2.2.2.2.2.2.2.2.2.2.2.2.2.2.2.2.2.2.2.2.2.1
theorem k0_dev436_lt : ∀ (v1 : BitVec 32) (k0_hw1 : k0_chk1 v1), (k0_dev436 v1) < nD := fun v1 k0_hw1 => k0_hw1.2.2.2.2.2.2.1.2.2.2.2.2.2.2.2.2.2.2.2.2.2.2.2.2.2.2.2.2.2.2.2.2.1
theorem k0_dev437_lt : ∀ (v1 : BitVec 32) (k0_hw1 : k0_chk1 v1), (k0_dev437 v1) < nD := fun v1 k0_hw1 => k0_hw1.2.2.2.2.2.2.1.2.2.2.2.2.2.2.2.2.2.2.2.2.2.2.2.2.2.2.2.2.2.2.2.2.2.1
theorem k0_dev440_lt : ∀ (v1 : BitVec 32) (k0_hw1 : k0_chk1 v1), (k0_dev440 v1) < nD := fun v1 k0_hw1 => k0_hw1.2.2.2.2.2.2.1.2.2.2.2.2.2.2.2.2.2.2.2.2.2.2.2.2.2.2.2.2.2.2.2.2.2.2.1
theorem k0_dev441_lt : ∀ (v1 : BitVec 32) (k0_hw1 : k0_chk1 v1), (k0_dev441 v1) < nD := fun v1 k0_hw1 => k0_hw1.2.2.2.2.2.2.1.2.2.2.2.2.2.2.2.2.2.2.2.2.2.2.2.2.2.2.2.2.2.2.2.2.2.2.2.1
theorem k0_dev444_lt : ∀ (v1 : BitVec 32) (k0_hw1 : k0_chk1 v1), (k0_dev444 v1) < nD := fun v1 k0_hw1 => k0_hw1.2.2.2.2.2.2.1.2.2.2.2.2.2.2.2.2.2.2.2.2.2.2.2.2.2.2.2.2.2.2.2.2.2.2.2.2.1
theorem k0_dev445_lt : ∀ (v1 : BitVec 32) (k0_hw1 : k0_chk1 v1), (k0_dev445 v1) < nD := fun v1 k0_hw1 => k0_hw1.2.2.2.2.2.2.1.2.2.2.2.2.2.2.2.2.2.2.2.2.2.2.2.2.2.2.2.2.2.2.2.2.2.2.2.2.2.1
theorem k0_dev448_lt : ∀ (v1 : BitVec 32) (k0_hw1 : k0_chk1 v1), (k0_dev448 v1) < nD := fun v1 k0_hw1 => k0_hw1.2.2.2.2.2.2.1.2.2.2.2.2.2.2.2.2.2.2.2.2.2.2.2.2.2.2.2.2.2.2.2.2.2.2.2.2.2.2
theorem k0_dev449_lt : ∀ (v1 : BitVec 32) (k0_hw1 : k0_chk1 v1), (k0_dev449 v1) < nD := fun v1 k0_hw1 => k0_hw1.2.2.2.2.2.2.2.1
theorem k0_dev452_lt : ∀ (v1 : BitVec 32) (k0_hw1 : k0_chk1 v1), (k0_dev452 v1) < nD := fun v1 k0_hw1 => k0_hw1.2.2.2.2.2.2.2.2.1
theorem k0_dev453_lt : ∀ (v1 : BitVec 32) (k0_hw1 : k0_chk1 v1), (k0_dev453 v1) < nD := fun v1 k0_hw1 => k0_hw1.2.2.2.2.2.2.2.2.2.1
theorem k0_dev456_lt : ∀ (v1 : BitVec 32) (k0_hw1 : k0_chk1 v1), (k0_dev456 v1) < nD := fun v1 k0_hw1 => k0_hw1.2.2.2.2.2.2.2.2.2.2.1
theorem k0_dev457_lt : ∀ (v1 : BitVec 32) (k0_hw1 : k0_chk1 v1), (k0_dev457 v1) < nD := fun v1 k0_hw1 => k0_hw1.2.2.2.2.2.2.2.2.2.2.2.1
theorem k0_dev460_lt : ∀ (v1 : BitVec 32) (k0_hw1 : k0_chk1 v1), (k0_dev460 v1) < nD := fun v1 k0_hw1 => k0_hw1.2.2.2.2.2.2.2.2.2.2.2.2.1
theorem k0_dev461_lt : ∀ (v1 : BitVec 32) (k0_hw1 : k0_chk1 v1), (k0_dev461 v1) < nD := fun v1 k0_hw1 => k0_hw1.2.2.2.2.2.2.2.2.2.2.2.2.2.1
theorem k0_dev464_lt : ∀ (v1 : BitVec 32) (k0_hw1 : k0_chk1 v1), (k0_dev464 v1) < nD := fun v1 k0_hw1 => k0_hw1.2.2.2.2.2.2.2.2.2.2.2.2.2.2.1
theorem k0_dev465_lt : ∀ (v1 : BitVec 32) (k0_hw1 : k0_chk1 v1), (k0_dev465 v1) < nD := fun v1 k0_hw1 => k0_hw1.2.2.2.2.2.2.2.2.2.2.2.2.2.2.2.1
theorem k0_dev468_lt : ∀ (v1 : BitVec 32) (k0_hw1 : k0_chk1 v1), (k0_dev468 v1) < nD := fun v1 k0_hw1 => k0_hw1.2.2.2.2.2.2.2.2.2.2.2.2.2.2.2.2.1
theorem k0_dev469_lt : ∀ (v1 : BitVec 32) (k0_hw1 : k0_chk1 v1), (k0_dev469 v1) < nD := fun v1 k0_hw1 => k0_hw1.2.2.2.2.2.2.2.2.2.2.2.2.2.2.2.2.2.1
theorem k0_dev472_lt : ∀ (v1 : BitVec 32) (k0_hw1 : k0_chk1 v1), (k0_dev472 v1) < nD := fun v1 k0_hw1 => k0_hw1.2.2.2.2.2.2.2.2.2.2.2.2.2.2.2.2.2.2.1
theorem k0_dev473_lt : ∀ (v1 : BitVec 32) (k0_hw1 : k0_chk1 v1), (k0_dev473 v1) < nD := fun v1 k0_hw1 => k0_hw1.2.2.2.2.2.2.2.2.2.2.2.2.2.2.2.2.2.2.2.1
theorem k0_dev476_lt : ∀ (v1 : BitVec 32) (k0_hw1 : k0_chk1 v1), (k0_dev476 v1) < nD := fun v1 k0_hw1 => k0_hw1.2.2.2.2.2.2.2.2.2.2.2.2.2.2.2.2.2.2.2.2.1
theorem k0_dev477_lt : ∀ (v1 : BitVec 32) (k0_hw1 : k0_chk1 v1), (k0_dev477 v1) < nD := fun v1 k0_hw1 => k0_hw1.2.2.2.2.2.2.2.2.2.2.2.2.2.2.2.2.2.2.2.2.2.1
theorem k0_dev480_lt : ∀ (v1 : BitVec 32) (k0_hw1 : k0_chk1 v1), (k0_dev480 v1) < nD := fun v1 k0_hw1 => k0_hw1.2.2.2.2.2.2.2.2.2.2.2.2.2.2.2.2.2.2.2.2.2.2.1
theorem k0_dev481_lt : ∀ (v1 : BitVec 32) (k0_hw1 : k0_chk1 v1), (k0_dev481 v1) < nD := fun v1 k0_hw1 => k0_hw1.2.2.2.2.2.2.2.2.2.2.2.2.2.2.2.2.2.2.2.2.2.2.2.1
theorem k0_dev484_lt : ∀ (v1 : BitVec 32) (k0_hw1 : k0_chk1 v1), (k0_dev484 v1) < nD := fun v1 k0_hw1 => k0_hw1.2.2.2.2.2.2.2.2.2.2.2.2.2.2.2.2.2.2.2.2.2.2.2.2.1
theorem k0_dev485_lt : ∀ (v1 : BitVec 32) (k0_hw1 : k0_chk1 v1), (k0_dev485 v1) < nD := fun v1 k0_hw1 => k0_hw1.2.2.2.2.2.2.2.2.2.2.2.2.2.2.2.2.2.2.2.2.2.2.2.2.2.1
theorem k0_dev488_lt : ∀ (v1 : BitVec 32) (k0_hw1 : k0_chk1 v1), (k0_dev488 v1) < nD := fun v1 k0_hw1 => k0_hw1.2.2.2.2.2.2.2.2.2.2.2.2.2.2.2.2.2.2.2.2.2.2.2.2.2.2.1
theorem k0_dev489_lt : ∀ (v1 : BitVec 32) (k0_hw1 : k0_chk1 v1), (k0_dev489 v1) < nD := fun v1 k0_hw1 => k0_hw1.2.2.2.2.2.2.2.2.2.2.2.2.2.2.2.2.2.2.2.2.2.2.2.2.2.2.2.1
theorem k0_dev491_lt : ∀ (v1 : BitVec 32) (k0_hw1 : k0_chk1 v1), (k0_dev491 v1) < nD := fun v1 k0_hw1 => k0_hw1.2.2.2.2.2.2.2.2.2.2.2.2.2.2.2.2.2.2.2.2.2.2.2.2.2.2.2.2.1
theorem k0_dev493_lt : ∀ (v1 : BitVec 32) (k0_hw1 : k0_chk1 v1), (k0_dev493 v1) < nD := fun v1 k0_hw1 => k0_hw1.2.2.2.2.2.2.2.2.2.2.2.2.2.2.2.2.2.2.2.2.2.2.2.2.2.2.2.2.2.1
theorem k0_dev495_lt : ∀ (v1 : BitVec 32) (k0_hw1 : k0_chk1 v1), (k0_dev495 v1) < nD := fun v1 k0_hw1 => k0_hw1.2.2.2.2.2.2.2.2.2.2.2.2.2.2.2.2.2.2.2.2.2.2.2.2.2.2.2.2.2.2.1
theorem k0_dev497_lt : ∀ (v1 : BitVec 32) (k0_hw1 : k0_chk1 v1), (k0_dev497 v1) < nD := fun v1 k0_hw1 => k0_hw1.2.2.2.2.2.2.2.2.2.2.2.2.2.2.2.2.2.2.2.2.2.2.2.2.2.2.2.2.2.2.2

def k0_dev498 (v0 : BitVec 32) : Nat :=
  let c0_i32_9980 : BitVec 32 := 0#32
  let c1_i32_9979 : BitVec 32 := 1#32
  let v9159 : BitVec 32 := Scalar.muli v0 c1_i32_9979
  let v9160 : BitVec 32 := Scalar.addi c0_i32_9980 v9159
  v9160.toNat

def k0_chk2_0 (v0 : BitVec 32) : Prop :=
  ((k0_dev2 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev14 v0) < nD) ∧
  ((k0_dev15 v0) < nD) ∧
  ((k0_dev18 v0) < nD) ∧
  ((k0_dev19 v0) < nD) ∧
  ((k0_dev22 v0) < nD) ∧
  ((k0_dev23 v0) < nD) ∧
  ((k0_dev26 v0) < nD) ∧
  ((k0_dev27 v0) < nD) ∧
  ((k0_dev30 v0) < nD) ∧
  ((k0_dev31 v0) < nD) ∧
  ((k0_dev34 v0) < nD) ∧
  ((k0_dev35 v0) < nD) ∧
  ((k0_dev38 v0) < nD) ∧
  ((k0_dev39 v0) < nD) ∧
  ((k0_dev42 v0) < nD) ∧
  ((k0_dev43 v0) < nD) ∧
  ((k0_dev46 v0) < nD) ∧
  ((k0_dev47 v0) < nD) ∧
  ((k0_dev50 v0) < nD) ∧
  ((k0_dev51 v0) < nD) ∧
  ((k0_dev54 v0) < nD) ∧
  ((k0_dev55 v0) < nD) ∧
  ((k0_dev58 v0) < nD) ∧
  ((k0_dev59 v0) < nD) ∧
  ((k0_dev62 v0) < nD) ∧
  ((k0_dev63 v0) < nD)
def k0_chk2_1 (v0 : BitVec 32) : Prop :=
  ((k0_dev66 v0) < nD) ∧
  ((k0_dev67 v0) < nD) ∧
  ((k0_dev70 v0) < nD) ∧
  ((k0_dev71 v0) < nD) ∧
  ((k0_dev74 v0) < nD) ∧
  ((k0_dev75 v0) < nD) ∧
  ((k0_dev78 v0) < nD) ∧
  ((k0_dev79 v0) < nD) ∧
  ((k0_dev82 v0) < nD) ∧
  ((k0_dev83 v0) < nD) ∧
  ((k0_dev86 v0) < nD) ∧
  ((k0_dev87 v0) < nD) ∧
  ((k0_dev90 v0) < nD) ∧
  ((k0_dev91 v0) < nD) ∧
  ((k0_dev94 v0) < nD) ∧
  ((k0_dev95 v0) < nD) ∧
  ((k0_dev98 v0) < nD) ∧
  ((k0_dev99 v0) < nD) ∧
  ((k0_dev102 v0) < nD) ∧
  ((k0_dev103 v0) < nD) ∧
  ((k0_dev106 v0) < nD) ∧
  ((k0_dev107 v0) < nD) ∧
  ((k0_dev110 v0) < nD) ∧
  ((k0_dev111 v0) < nD) ∧
  ((k0_dev114 v0) < nD) ∧
  ((k0_dev115 v0) < nD) ∧
  ((k0_dev118 v0) < nD) ∧
  ((k0_dev119 v0) < nD) ∧
  ((k0_dev122 v0) < nD) ∧
  ((k0_dev123 v0) < nD) ∧
  ((k0_dev126 v0) < nD) ∧
  ((k0_dev127 v0) < nD)
def k0_chk2_2 (v0 : BitVec 32) : Prop :=
  ((k0_dev130 v0) < nD) ∧
  ((k0_dev131 v0) < nD) ∧
  ((k0_dev134 v0) < nD) ∧
  ((k0_dev135 v0) < nD) ∧
  ((k0_dev138 v0) < nD) ∧
  ((k0_dev139 v0) < nD) ∧
  ((k0_dev142 v0) < nD) ∧
  ((k0_dev143 v0) < nD) ∧
  ((k0_dev146 v0) < nD) ∧
  ((k0_dev147 v0) < nD) ∧
  ((k0_dev150 v0) < nD) ∧
  ((k0_dev151 v0) < nD) ∧
  ((k0_dev154 v0) < nD) ∧
  ((k0_dev155 v0) < nD) ∧
  ((k0_dev158 v0) < nD) ∧
  ((k0_dev159 v0) < nD) ∧
  ((k0_dev162 v0) < nD) ∧
  ((k0_dev163 v0) < nD) ∧
  ((k0_dev166 v0) < nD) ∧
  ((k0_dev167 v0) < nD) ∧
  ((k0_dev170 v0) < nD) ∧
  ((k0_dev171 v0) < nD) ∧
  ((k0_dev174 v0) < nD) ∧
  ((k0_dev175 v0) < nD) ∧
  ((k0_dev178 v0) < nD) ∧
  ((k0_dev179 v0) < nD) ∧
  ((k0_dev182 v0) < nD) ∧
  ((k0_dev183 v0) < nD) ∧
  ((k0_dev186 v0) < nD) ∧
  ((k0_dev187 v0) < nD) ∧
  ((k0_dev190 v0) < nD) ∧
  ((k0_dev191 v0) < nD)
def k0_chk2_3 (v0 : BitVec 32) : Prop :=
  ((k0_dev194 v0) < nD) ∧
  ((k0_dev195 v0) < nD) ∧
  ((k0_dev198 v0) < nD) ∧
  ((k0_dev199 v0) < nD) ∧
  ((k0_dev202 v0) < nD) ∧
  ((k0_dev203 v0) < nD) ∧
  ((k0_dev206 v0) < nD) ∧
  ((k0_dev207 v0) < nD) ∧
  ((k0_dev210 v0) < nD) ∧
  ((k0_dev211 v0) < nD) ∧
  ((k0_dev214 v0) < nD) ∧
  ((k0_dev215 v0) < nD) ∧
  ((k0_dev218 v0) < nD) ∧
  ((k0_dev219 v0) < nD) ∧
  ((k0_dev222 v0) < nD) ∧
  ((k0_dev223 v0) < nD) ∧
  ((k0_dev226 v0) < nD) ∧
  ((k0_dev227 v0) < nD) ∧
  ((k0_dev230 v0) < nD) ∧
  ((k0_dev231 v0) < nD) ∧
  ((k0_dev234 v0) < nD) ∧
  ((k0_dev235 v0) < nD) ∧
  ((k0_dev238 v0) < nD) ∧
  ((k0_dev239 v0) < nD) ∧
  ((k0_dev242 v0) < nD) ∧
  ((k0_dev243 v0) < nD) ∧
  ((k0_dev246 v0) < nD) ∧
  ((k0_dev247 v0) < nD) ∧
  ((k0_dev250 v0) < nD) ∧
  ((k0_dev251 v0) < nD) ∧
  ((k0_dev254 v0) < nD) ∧
  ((k0_dev255 v0) < nD)
def k0_chk2_4 (v0 : BitVec 32) : Prop :=
  ((k0_dev258 v0) < nD) ∧
  ((k0_dev259 v0) < nD) ∧
  ((k0_dev262 v0) < nD) ∧
  ((k0_dev263 v0) < nD) ∧
  ((k0_dev266 v0) < nD) ∧
  ((k0_dev267 v0) < nD) ∧
  ((k0_dev270 v0) < nD) ∧
  ((k0_dev271 v0) < nD) ∧
  ((k0_dev274 v0) < nD) ∧
  ((k0_dev275 v0) < nD) ∧
  ((k0_dev278 v0) < nD) ∧
  ((k0_dev279 v0) < nD) ∧
  ((k0_dev282 v0) < nD) ∧
  ((k0_dev283 v0) < nD) ∧
  ((k0_dev286 v0) < nD) ∧
  ((k0_dev287 v0) < nD) ∧
  ((k0_dev290 v0) < nD) ∧
  ((k0_dev291 v0) < nD) ∧
  ((k0_dev294 v0) < nD) ∧
  ((k0_dev295 v0) < nD) ∧
  ((k0_dev298 v0) < nD) ∧
  ((k0_dev299 v0) < nD) ∧
  ((k0_dev302 v0) < nD) ∧
  ((k0_dev303 v0) < nD) ∧
  ((k0_dev306 v0) < nD) ∧
  ((k0_dev307 v0) < nD) ∧
  ((k0_dev310 v0) < nD) ∧
  ((k0_dev311 v0) < nD) ∧
  ((k0_dev314 v0) < nD) ∧
  ((k0_dev315 v0) < nD) ∧
  ((k0_dev318 v0) < nD) ∧
  ((k0_dev319 v0) < nD)
def k0_chk2_5 (v0 : BitVec 32) : Prop :=
  ((k0_dev322 v0) < nD) ∧
  ((k0_dev323 v0) < nD) ∧
  ((k0_dev326 v0) < nD) ∧
  ((k0_dev327 v0) < nD) ∧
  ((k0_dev330 v0) < nD) ∧
  ((k0_dev331 v0) < nD) ∧
  ((k0_dev334 v0) < nD) ∧
  ((k0_dev335 v0) < nD) ∧
  ((k0_dev338 v0) < nD) ∧
  ((k0_dev339 v0) < nD) ∧
  ((k0_dev342 v0) < nD) ∧
  ((k0_dev343 v0) < nD) ∧
  ((k0_dev346 v0) < nD) ∧
  ((k0_dev347 v0) < nD) ∧
  ((k0_dev350 v0) < nD) ∧
  ((k0_dev351 v0) < nD) ∧
  ((k0_dev354 v0) < nD) ∧
  ((k0_dev355 v0) < nD) ∧
  ((k0_dev358 v0) < nD) ∧
  ((k0_dev359 v0) < nD) ∧
  ((k0_dev362 v0) < nD) ∧
  ((k0_dev363 v0) < nD) ∧
  ((k0_dev366 v0) < nD) ∧
  ((k0_dev367 v0) < nD) ∧
  ((k0_dev370 v0) < nD) ∧
  ((k0_dev371 v0) < nD) ∧
  ((k0_dev374 v0) < nD) ∧
  ((k0_dev375 v0) < nD) ∧
  ((k0_dev378 v0) < nD) ∧
  ((k0_dev379 v0) < nD) ∧
  ((k0_dev382 v0) < nD) ∧
  ((k0_dev383 v0) < nD)
def k0_chk2_6 (v0 : BitVec 32) : Prop :=
  ((k0_dev386 v0) < nD) ∧
  ((k0_dev387 v0) < nD) ∧
  ((k0_dev390 v0) < nD) ∧
  ((k0_dev391 v0) < nD) ∧
  ((k0_dev394 v0) < nD) ∧
  ((k0_dev395 v0) < nD) ∧
  ((k0_dev398 v0) < nD) ∧
  ((k0_dev399 v0) < nD) ∧
  ((k0_dev402 v0) < nD) ∧
  ((k0_dev403 v0) < nD) ∧
  ((k0_dev406 v0) < nD) ∧
  ((k0_dev407 v0) < nD) ∧
  ((k0_dev410 v0) < nD) ∧
  ((k0_dev411 v0) < nD) ∧
  ((k0_dev414 v0) < nD) ∧
  ((k0_dev415 v0) < nD) ∧
  ((k0_dev418 v0) < nD) ∧
  ((k0_dev419 v0) < nD) ∧
  ((k0_dev422 v0) < nD) ∧
  ((k0_dev423 v0) < nD) ∧
  ((k0_dev426 v0) < nD) ∧
  ((k0_dev427 v0) < nD) ∧
  ((k0_dev430 v0) < nD) ∧
  ((k0_dev431 v0) < nD) ∧
  ((k0_dev434 v0) < nD) ∧
  ((k0_dev435 v0) < nD) ∧
  ((k0_dev438 v0) < nD) ∧
  ((k0_dev439 v0) < nD) ∧
  ((k0_dev442 v0) < nD) ∧
  ((k0_dev443 v0) < nD) ∧
  ((k0_dev446 v0) < nD) ∧
  ((k0_dev447 v0) < nD)
def k0_chk2_7 (v0 : BitVec 32) : Prop :=
  ((k0_dev450 v0) < nD) ∧
  ((k0_dev451 v0) < nD) ∧
  ((k0_dev454 v0) < nD) ∧
  ((k0_dev455 v0) < nD) ∧
  ((k0_dev458 v0) < nD) ∧
  ((k0_dev459 v0) < nD) ∧
  ((k0_dev462 v0) < nD) ∧
  ((k0_dev463 v0) < nD) ∧
  ((k0_dev466 v0) < nD) ∧
  ((k0_dev467 v0) < nD) ∧
  ((k0_dev470 v0) < nD) ∧
  ((k0_dev471 v0) < nD) ∧
  ((k0_dev474 v0) < nD) ∧
  ((k0_dev475 v0) < nD) ∧
  ((k0_dev478 v0) < nD) ∧
  ((k0_dev479 v0) < nD) ∧
  ((k0_dev482 v0) < nD) ∧
  ((k0_dev483 v0) < nD) ∧
  ((k0_dev486 v0) < nD) ∧
  ((k0_dev487 v0) < nD) ∧
  ((k0_dev490 v0) < nD) ∧
  ((k0_dev492 v0) < nD) ∧
  ((k0_dev494 v0) < nD) ∧
  ((k0_dev496 v0) < nD) ∧
  ((k0_dev498 v0) < nD)
def k0_chk2 (v0 : BitVec 32) : Prop :=
  k0_chk2_0 v0 ∧
  k0_chk2_1 v0 ∧
  k0_chk2_2 v0 ∧
  k0_chk2_3 v0 ∧
  k0_chk2_4 v0 ∧
  k0_chk2_5 v0 ∧
  k0_chk2_6 v0 ∧
  k0_chk2_7 v0
theorem k0_dev2_lt : ∀ (v0 : BitVec 32) (k0_hw2 : k0_chk2 v0), (k0_dev2 v0) < nD := fun v0 k0_hw2 => k0_hw2.1.1
theorem k0_dev3_lt : ∀ (v0 : BitVec 32) (k0_hw2 : k0_chk2 v0), (k0_dev3 v0) < nD := fun v0 k0_hw2 => k0_hw2.1.2.1
theorem k0_dev5_lt : ∀ (v0 : BitVec 32) (k0_hw2 : k0_chk2 v0), (k0_dev5 v0) < nD := fun v0 k0_hw2 => k0_hw2.1.2.2.1
theorem k0_dev7_lt : ∀ (v0 : BitVec 32) (k0_hw2 : k0_chk2 v0), (k0_dev7 v0) < nD := fun v0 k0_hw2 => k0_hw2.1.2.2.2.1
theorem k0_dev9_lt : ∀ (v0 : BitVec 32) (k0_hw2 : k0_chk2 v0), (k0_dev9 v0) < nD := fun v0 k0_hw2 => k0_hw2.1.2.2.2.2.1
theorem k0_dev11_lt : ∀ (v0 : BitVec 32) (k0_hw2 : k0_chk2 v0), (k0_dev11 v0) < nD := fun v0 k0_hw2 => k0_hw2.1.2.2.2.2.2.1
theorem k0_dev14_lt : ∀ (v0 : BitVec 32) (k0_hw2 : k0_chk2 v0), (k0_dev14 v0) < nD := fun v0 k0_hw2 => k0_hw2.1.2.2.2.2.2.2.1
theorem k0_dev15_lt : ∀ (v0 : BitVec 32) (k0_hw2 : k0_chk2 v0), (k0_dev15 v0) < nD := fun v0 k0_hw2 => k0_hw2.1.2.2.2.2.2.2.2.1
theorem k0_dev18_lt : ∀ (v0 : BitVec 32) (k0_hw2 : k0_chk2 v0), (k0_dev18 v0) < nD := fun v0 k0_hw2 => k0_hw2.1.2.2.2.2.2.2.2.2.1
theorem k0_dev19_lt : ∀ (v0 : BitVec 32) (k0_hw2 : k0_chk2 v0), (k0_dev19 v0) < nD := fun v0 k0_hw2 => k0_hw2.1.2.2.2.2.2.2.2.2.2.1
theorem k0_dev22_lt : ∀ (v0 : BitVec 32) (k0_hw2 : k0_chk2 v0), (k0_dev22 v0) < nD := fun v0 k0_hw2 => k0_hw2.1.2.2.2.2.2.2.2.2.2.2.1
theorem k0_dev23_lt : ∀ (v0 : BitVec 32) (k0_hw2 : k0_chk2 v0), (k0_dev23 v0) < nD := fun v0 k0_hw2 => k0_hw2.1.2.2.2.2.2.2.2.2.2.2.2.1
theorem k0_dev26_lt : ∀ (v0 : BitVec 32) (k0_hw2 : k0_chk2 v0), (k0_dev26 v0) < nD := fun v0 k0_hw2 => k0_hw2.1.2.2.2.2.2.2.2.2.2.2.2.2.1
theorem k0_dev27_lt : ∀ (v0 : BitVec 32) (k0_hw2 : k0_chk2 v0), (k0_dev27 v0) < nD := fun v0 k0_hw2 => k0_hw2.1.2.2.2.2.2.2.2.2.2.2.2.2.2.1
theorem k0_dev30_lt : ∀ (v0 : BitVec 32) (k0_hw2 : k0_chk2 v0), (k0_dev30 v0) < nD := fun v0 k0_hw2 => k0_hw2.1.2.2.2.2.2.2.2.2.2.2.2.2.2.2.1
theorem k0_dev31_lt : ∀ (v0 : BitVec 32) (k0_hw2 : k0_chk2 v0), (k0_dev31 v0) < nD := fun v0 k0_hw2 => k0_hw2.1.2.2.2.2.2.2.2.2.2.2.2.2.2.2.2.1
theorem k0_dev34_lt : ∀ (v0 : BitVec 32) (k0_hw2 : k0_chk2 v0), (k0_dev34 v0) < nD := fun v0 k0_hw2 => k0_hw2.1.2.2.2.2.2.2.2.2.2.2.2.2.2.2.2.2.1
theorem k0_dev35_lt : ∀ (v0 : BitVec 32) (k0_hw2 : k0_chk2 v0), (k0_dev35 v0) < nD := fun v0 k0_hw2 => k0_hw2.1.2.2.2.2.2.2.2.2.2.2.2.2.2.2.2.2.2.1
theorem k0_dev38_lt : ∀ (v0 : BitVec 32) (k0_hw2 : k0_chk2 v0), (k0_dev38 v0) < nD := fun v0 k0_hw2 => k0_hw2.1.2.2.2.2.2.2.2.2.2.2.2.2.2.2.2.2.2.2.1
theorem k0_dev39_lt : ∀ (v0 : BitVec 32) (k0_hw2 : k0_chk2 v0), (k0_dev39 v0) < nD := fun v0 k0_hw2 => k0_hw2.1.2.2.2.2.2.2.2.2.2.2.2.2.2.2.2.2.2.2.2.1
theorem k0_dev42_lt : ∀ (v0 : BitVec 32) (k0_hw2 : k0_chk2 v0), (k0_dev42 v0) < nD := fun v0 k0_hw2 => k0_hw2.1.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.1.2.2.2.2.2.2.2.2.2.2.2.2.2.2.2.2.2.2.2.2.2.1
theorem k0_dev46_lt : ∀ (v0 : BitVec 32) (k0_hw2 : k0_chk2 v0), (k0_dev46 v0) < nD := fun v0 k0_hw2 => k0_hw2.1.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.1.2.2.2.2.2.2.2.2.2.2.2.2.2.2.2.2.2.2.2.2.2.2.2.1
theorem k0_dev50_lt : ∀ (v0 : BitVec 32) (k0_hw2 : k0_chk2 v0), (k0_dev50 v0) < nD := fun v0 k0_hw2 => k0_hw2.1.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.1.2.2.2.2.2.2.2.2.2.2.2.2.2.2.2.2.2.2.2.2.2.2.2.2.2.1
theorem k0_dev54_lt : ∀ (v0 : BitVec 32) (k0_hw2 : k0_chk2 v0), (k0_dev54 v0) < nD := fun v0 k0_hw2 => k0_hw2.1.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.1.2.2.2.2.2.2.2.2.2.2.2.2.2.2.2.2.2.2.2.2.2.2.2.2.2.2.2.1
theorem k0_dev58_lt : ∀ (v0 : BitVec 32) (k0_hw2 : k0_chk2 v0), (k0_dev58 v0) < nD := fun v0 k0_hw2 => k0_hw2.1.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.1.2.2.2.2.2.2.2.2.2.2.2.2.2.2.2.2.2.2.2.2.2.2.2.2.2.2.2.2.2.1
theorem k0_dev62_lt : ∀ (v0 : BitVec 32) (k0_hw2 : k0_chk2 v0), (k0_dev62 v0) < nD := fun v0 k0_hw2 => k0_hw2.1.2.2.2.2.2.2.2.2.2.2.2.2.2.2.2.2.2.2.2.2.2.2.2.2.2.2.2.2.2.2.1
theorem k0_dev63_lt : ∀ (v0 : BitVec 32) (k0_hw2 : k0_chk2 v0), (k0_dev63 v0) < nD := fun v0 k0_hw2 => k0_hw2.1.2.2.2.2.2.2.2.2.2.2.2.2.2.2.2.2.2.2.2.2.2.2.2.2.2.2.2.2.2.2.2
theorem k0_dev66_lt : ∀ (v0 : BitVec 32) (k0_hw2 : k0_chk2 v0), (k0_dev66 v0) < nD := fun v0 k0_hw2 => k0_hw2.2.1.1
theorem k0_dev67_lt : ∀ (v0 : BitVec 32) (k0_hw2 : k0_chk2 v0), (k0_dev67 v0) < nD := fun v0 k0_hw2 => k0_hw2.2.1.2.1
theorem k0_dev70_lt : ∀ (v0 : BitVec 32) (k0_hw2 : k0_chk2 v0), (k0_dev70 v0) < nD := fun v0 k0_hw2 => k0_hw2.2.1.2.2.1
theorem k0_dev71_lt : ∀ (v0 : BitVec 32) (k0_hw2 : k0_chk2 v0), (k0_dev71 v0) < nD := fun v0 k0_hw2 => k0_hw2.2.1.2.2.2.1
theorem k0_dev74_lt : ∀ (v0 : BitVec 32) (k0_hw2 : k0_chk2 v0), (k0_dev74 v0) < nD := fun v0 k0_hw2 => k0_hw2.2.1.2.2.2.2.1
theorem k0_dev75_lt : ∀ (v0 : BitVec 32) (k0_hw2 : k0_chk2 v0), (k0_dev75 v0) < nD := fun v0 k0_hw2 => k0_hw2.2.1.2.2.2.2.2.1
theorem k0_dev78_lt : ∀ (v0 : BitVec 32) (k0_hw2 : k0_chk2 v0), (k0_dev78 v0) < nD := fun v0 k0_hw2 => k0_hw2.2.1.2.2.2.2.2.2.1
theorem k0_dev79_lt : ∀ (v0 : BitVec 32) (k0_hw2 : k0_chk2 v0), (k0_dev79 v0) < nD := fun v0 k0_hw2 => k0_hw2.2.1.2.2.2.2.2.2.2.1
theorem k0_dev82_lt : ∀ (v0 : BitVec 32) (k0_hw2 : k0_chk2 v0), (k0_dev82 v0) < nD := fun v0 k0_hw2 => k0_hw2.2.1.2.2.2.2.2.2.2.2.1
theorem k0_dev83_lt : ∀ (v0 : BitVec 32) (k0_hw2 : k0_chk2 v0), (k0_dev83 v0) < nD := fun v0 k0_hw2 => k0_hw2.2.1.2.2.2.2.2.2.2.2.2.1
theorem k0_dev86_lt : ∀ (v0 : BitVec 32) (k0_hw2 : k0_chk2 v0), (k0_dev86 v0) < nD := fun v0 k0_hw2 => k0_hw2.2.1.2.2.2.2.2.2.2.2.2.2.1
theorem k0_dev87_lt : ∀ (v0 : BitVec 32) (k0_hw2 : k0_chk2 v0), (k0_dev87 v0) < nD := fun v0 k0_hw2 => k0_hw2.2.1.2.2.2.2.2.2.2.2.2.2.2.1
theorem k0_dev90_lt : ∀ (v0 : BitVec 32) (k0_hw2 : k0_chk2 v0), (k0_dev90 v0) < nD := fun v0 k0_hw2 => k0_hw2.2.1.2.2.2.2.2.2.2.2.2.2.2.2.1
theorem k0_dev91_lt : ∀ (v0 : BitVec 32) (k0_hw2 : k0_chk2 v0), (k0_dev91 v0) < nD := fun v0 k0_hw2 => k0_hw2.2.1.2.2.2.2.2.2.2.2.2.2.2.2.2.1
theorem k0_dev94_lt : ∀ (v0 : BitVec 32) (k0_hw2 : k0_chk2 v0), (k0_dev94 v0) < nD := fun v0 k0_hw2 => k0_hw2.2.1.2.2.2.2.2.2.2.2.2.2.2.2.2.2.1
theorem k0_dev95_lt : ∀ (v0 : BitVec 32) (k0_hw2 : k0_chk2 v0), (k0_dev95 v0) < nD := fun v0 k0_hw2 => k0_hw2.2.1.2.2.2.2.2.2.2.2.2.2.2.2.2.2.2.1
theorem k0_dev98_lt : ∀ (v0 : BitVec 32) (k0_hw2 : k0_chk2 v0), (k0_dev98 v0) < nD := fun v0 k0_hw2 => k0_hw2.2.1.2.2.2.2.2.2.2.2.2.2.2.2.2.2.2.2.1
theorem k0_dev99_lt : ∀ (v0 : BitVec 32) (k0_hw2 : k0_chk2 v0), (k0_dev99 v0) < nD := fun v0 k0_hw2 => k0_hw2.2.1.2.2.2.2.2.2.2.2.2.2.2.2.2.2.2.2.2.1
theorem k0_dev102_lt : ∀ (v0 : BitVec 32) (k0_hw2 : k0_chk2 v0), (k0_dev102 v0) < nD := fun v0 k0_hw2 => k0_hw2.2.1.2.2.2.2.2.2.2.2.2.2.2.2.2.2.2.2.2.2.1
theorem k0_dev103_lt : ∀ (v0 : BitVec 32) (k0_hw2 : k0_chk2 v0), (k0_dev103 v0) < nD := fun v0 k0_hw2 => k0_hw2.2.1.2.2.2.2.2.2.2.2.2.2.2.2.2.2.2.2.2.2.2.1
theorem k0_dev106_lt : ∀ (v0 : BitVec 32) (k0_hw2 : k0_chk2 v0), (k0_dev106 v0) < nD := fun v0 k0_hw2 => k0_hw2.2.1.2.2.2.2.2.2.2.2.2.2.2.2.2.2.2.2.2.2.2.2.1
theorem k0_dev107_lt : ∀ (v0 : BitVec 32) (k0_hw2 : k0_chk2 v0), (k0_dev107 v0) < nD := fun v0 k0_hw2 => k0_hw2.2.1.2.2.2.2.2.2.2.2.2.2.2.2.2.2.2.2.2.2.2.2.2.1
theorem k0_dev110_lt : ∀ (v0 : BitVec 32) (k0_hw2 : k0_chk2 v0), (k0_dev110 v0) < nD := fun v0 k0_hw2 => k0_hw2.2.1.2.2.2.2.2.2.2.2.2.2.2.2.2.2.2.2.2.2.2.2.2.2.1
theorem k0_dev111_lt : ∀ (v0 : BitVec 32) (k0_hw2 : k0_chk2 v0), (k0_dev111 v0) < nD := fun v0 k0_hw2 => k0_hw2.2.1.2.2.2.2.2.2.2.2.2.2.2.2.2.2.2.2.2.2.2.2.2.2.2.1
theorem k0_dev114_lt : ∀ (v0 : BitVec 32) (k0_hw2 : k0_chk2 v0), (k0_dev114 v0) < nD := fun v0 k0_hw2 => k0_hw2.2.1.2.2.2.2.2.2.2.2.2.2.2.2.2.2.2.2.2.2.2.2.2.2.2.2.1
theorem k0_dev115_lt : ∀ (v0 : BitVec 32) (k0_hw2 : k0_chk2 v0), (k0_dev115 v0) < nD := fun v0 k0_hw2 => k0_hw2.2.1.2.2.2.2.2.2.2.2.2.2.2.2.2.2.2.2.2.2.2.2.2.2.2.2.2.1
theorem k0_dev118_lt : ∀ (v0 : BitVec 32) (k0_hw2 : k0_chk2 v0), (k0_dev118 v0) < nD := fun v0 k0_hw2 => k0_hw2.2.1.2.2.2.2.2.2.2.2.2.2.2.2.2.2.2.2.2.2.2.2.2.2.2.2.2.2.1
theorem k0_dev119_lt : ∀ (v0 : BitVec 32) (k0_hw2 : k0_chk2 v0), (k0_dev119 v0) < nD := fun v0 k0_hw2 => k0_hw2.2.1.2.2.2.2.2.2.2.2.2.2.2.2.2.2.2.2.2.2.2.2.2.2.2.2.2.2.2.1
theorem k0_dev122_lt : ∀ (v0 : BitVec 32) (k0_hw2 : k0_chk2 v0), (k0_dev122 v0) < nD := fun v0 k0_hw2 => k0_hw2.2.1.2.2.2.2.2.2.2.2.2.2.2.2.2.2.2.2.2.2.2.2.2.2.2.2.2.2.2.2.1
theorem k0_dev123_lt : ∀ (v0 : BitVec 32) (k0_hw2 : k0_chk2 v0), (k0_dev123 v0) < nD := fun v0 k0_hw2 => k0_hw2.2.1.2.2.2.2.2.2.2.2.2.2.2.2.2.2.2.2.2.2.2.2.2.2.2.2.2.2.2.2.2.1
theorem k0_dev126_lt : ∀ (v0 : BitVec 32) (k0_hw2 : k0_chk2 v0), (k0_dev126 v0) < nD := fun v0 k0_hw2 => k0_hw2.2.1.2.2.2.2.2.2.2.2.2.2.2.2.2.2.2.2.2.2.2.2.2.2.2.2.2.2.2.2.2.2.1
theorem k0_dev127_lt : ∀ (v0 : BitVec 32) (k0_hw2 : k0_chk2 v0), (k0_dev127 v0) < nD := fun v0 k0_hw2 => k0_hw2.2.1.2.2.2.2.2.2.2.2.2.2.2.2.2.2.2.2.2.2.2.2.2.2.2.2.2.2.2.2.2.2.2
theorem k0_dev130_lt : ∀ (v0 : BitVec 32) (k0_hw2 : k0_chk2 v0), (k0_dev130 v0) < nD := fun v0 k0_hw2 => k0_hw2.2.2.1.1
theorem k0_dev131_lt : ∀ (v0 : BitVec 32) (k0_hw2 : k0_chk2 v0), (k0_dev131 v0) < nD := fun v0 k0_hw2 => k0_hw2.2.2.1.2.1
theorem k0_dev134_lt : ∀ (v0 : BitVec 32) (k0_hw2 : k0_chk2 v0), (k0_dev134 v0) < nD := fun v0 k0_hw2 => k0_hw2.2.2.1.2.2.1
theorem k0_dev135_lt : ∀ (v0 : BitVec 32) (k0_hw2 : k0_chk2 v0), (k0_dev135 v0) < nD := fun v0 k0_hw2 => k0_hw2.2.2.1.2.2.2.1
theorem k0_dev138_lt : ∀ (v0 : BitVec 32) (k0_hw2 : k0_chk2 v0), (k0_dev138 v0) < nD := fun v0 k0_hw2 => k0_hw2.2.2.1.2.2.2.2.1
theorem k0_dev139_lt : ∀ (v0 : BitVec 32) (k0_hw2 : k0_chk2 v0), (k0_dev139 v0) < nD := fun v0 k0_hw2 => k0_hw2.2.2.1.2.2.2.2.2.1
theorem k0_dev142_lt : ∀ (v0 : BitVec 32) (k0_hw2 : k0_chk2 v0), (k0_dev142 v0) < nD := fun v0 k0_hw2 => k0_hw2.2.2.1.2.2.2.2.2.2.1
theorem k0_dev143_lt : ∀ (v0 : BitVec 32) (k0_hw2 : k0_chk2 v0), (k0_dev143 v0) < nD := fun v0 k0_hw2 => k0_hw2.2.2.1.2.2.2.2.2.2.2.1
theorem k0_dev146_lt : ∀ (v0 : BitVec 32) (k0_hw2 : k0_chk2 v0), (k0_dev146 v0) < nD := fun v0 k0_hw2 => k0_hw2.2.2.1.2.2.2.2.2.2.2.2.1
theorem k0_dev147_lt : ∀ (v0 : BitVec 32) (k0_hw2 : k0_chk2 v0), (k0_dev147 v0) < nD := fun v0 k0_hw2 => k0_hw2.2.2.1.2.2.2.2.2.2.2.2.2.1
theorem k0_dev150_lt : ∀ (v0 : BitVec 32) (k0_hw2 : k0_chk2 v0), (k0_dev150 v0) < nD := fun v0 k0_hw2 => k0_hw2.2.2.1.2.2.2.2.2.2.2.2.2.2.1
theorem k0_dev151_lt : ∀ (v0 : BitVec 32) (k0_hw2 : k0_chk2 v0), (k0_dev151 v0) < nD := fun v0 k0_hw2 => k0_hw2.2.2.1.2.2.2.2.2.2.2.2.2.2.2.1
theorem k0_dev154_lt : ∀ (v0 : BitVec 32) (k0_hw2 : k0_chk2 v0), (k0_dev154 v0) < nD := fun v0 k0_hw2 => k0_hw2.2.2.1.2.2.2.2.2.2.2.2.2.2.2.2.1
theorem k0_dev155_lt : ∀ (v0 : BitVec 32) (k0_hw2 : k0_chk2 v0), (k0_dev155 v0) < nD := fun v0 k0_hw2 => k0_hw2.2.2.1.2.2.2.2.2.2.2.2.2.2.2.2.2.1
theorem k0_dev158_lt : ∀ (v0 : BitVec 32) (k0_hw2 : k0_chk2 v0), (k0_dev158 v0) < nD := fun v0 k0_hw2 => k0_hw2.2.2.1.2.2.2.2.2.2.2.2.2.2.2.2.2.2.1
theorem k0_dev159_lt : ∀ (v0 : BitVec 32) (k0_hw2 : k0_chk2 v0), (k0_dev159 v0) < nD := fun v0 k0_hw2 => k0_hw2.2.2.1.2.2.2.2.2.2.2.2.2.2.2.2.2.2.2.1
theorem k0_dev162_lt : ∀ (v0 : BitVec 32) (k0_hw2 : k0_chk2 v0), (k0_dev162 v0) < nD := fun v0 k0_hw2 => k0_hw2.2.2.1.2.2.2.2.2.2.2.2.2.2.2.2.2.2.2.2.1
theorem k0_dev163_lt : ∀ (v0 : BitVec 32) (k0_hw2 : k0_chk2 v0), (k0_dev163 v0) < nD := fun v0 k0_hw2 => k0_hw2.2.2.1.2.2.2.2.2.2.2.2.2.2.2.2.2.2.2.2.2.1
theorem k0_dev166_lt : ∀ (v0 : BitVec 32) (k0_hw2 : k0_chk2 v0), (k0_dev166 v0) < nD := fun v0 k0_hw2 => k0_hw2.2.2.1.2.2.2.2.2.2.2.2.2.2.2.2.2.2.2.2.2.2.1
theorem k0_dev167_lt : ∀ (v0 : BitVec 32) (k0_hw2 : k0_chk2 v0), (k0_dev167 v0) < nD := fun v0 k0_hw2 => k0_hw2.2.2.1.2.2.2.2.2.2.2.2.2.2.2.2.2.2.2.2.2.2.2.1
theorem k0_dev170_lt : ∀ (v0 : BitVec 32) (k0_hw2 : k0_chk2 v0), (k0_dev170 v0) < nD := fun v0 k0_hw2 => k0_hw2.2.2.1.2.2.2.2.2.2.2.2.2.2.2.2.2.2.2.2.2.2.2.2.1
theorem k0_dev171_lt : ∀ (v0 : BitVec 32) (k0_hw2 : k0_chk2 v0), (k0_dev171 v0) < nD := fun v0 k0_hw2 => k0_hw2.2.2.1.2.2.2.2.2.2.2.2.2.2.2.2.2.2.2.2.2.2.2.2.2.1
theorem k0_dev174_lt : ∀ (v0 : BitVec 32) (k0_hw2 : k0_chk2 v0), (k0_dev174 v0) < nD := fun v0 k0_hw2 => k0_hw2.2.2.1.2.2.2.2.2.2.2.2.2.2.2.2.2.2.2.2.2.2.2.2.2.2.1
theorem k0_dev175_lt : ∀ (v0 : BitVec 32) (k0_hw2 : k0_chk2 v0), (k0_dev175 v0) < nD := fun v0 k0_hw2 => k0_hw2.2.2.1.2.2.2.2.2.2.2.2.2.2.2.2.2.2.2.2.2.2.2.2.2.2.2.1
theorem k0_dev178_lt : ∀ (v0 : BitVec 32) (k0_hw2 : k0_chk2 v0), (k0_dev178 v0) < nD := fun v0 k0_hw2 => k0_hw2.2.2.1.2.2.2.2.2.2.2.2.2.2.2.2.2.2.2.2.2.2.2.2.2.2.2.2.1
theorem k0_dev179_lt : ∀ (v0 : BitVec 32) (k0_hw2 : k0_chk2 v0), (k0_dev179 v0) < nD := fun v0 k0_hw2 => k0_hw2.2.2.1.2.2.2.2.2.2.2.2.2.2.2.2.2.2.2.2.2.2.2.2.2.2.2.2.2.1
theorem k0_dev182_lt : ∀ (v0 : BitVec 32) (k0_hw2 : k0_chk2 v0), (k0_dev182 v0) < nD := fun v0 k0_hw2 => k0_hw2.2.2.1.2.2.2.2.2.2.2.2.2.2.2.2.2.2.2.2.2.2.2.2.2.2.2.2.2.2.1
theorem k0_dev183_lt : ∀ (v0 : BitVec 32) (k0_hw2 : k0_chk2 v0), (k0_dev183 v0) < nD := fun v0 k0_hw2 => k0_hw2.2.2.1.2.2.2.2.2.2.2.2.2.2.2.2.2.2.2.2.2.2.2.2.2.2.2.2.2.2.2.1
theorem k0_dev186_lt : ∀ (v0 : BitVec 32) (k0_hw2 : k0_chk2 v0), (k0_dev186 v0) < nD := fun v0 k0_hw2 => k0_hw2.2.2.1.2.2.2.2.2.2.2.2.2.2.2.2.2.2.2.2.2.2.2.2.2.2.2.2.2.2.2.2.1
theorem k0_dev187_lt : ∀ (v0 : BitVec 32) (k0_hw2 : k0_chk2 v0), (k0_dev187 v0) < nD := fun v0 k0_hw2 => k0_hw2.2.2.1.2.2.2.2.2.2.2.2.2.2.2.2.2.2.2.2.2.2.2.2.2.2.2.2.2.2.2.2.2.1
theorem k0_dev190_lt : ∀ (v0 : BitVec 32) (k0_hw2 : k0_chk2 v0), (k0_dev190 v0) < nD := fun v0 k0_hw2 => k0_hw2.2.2.1.2.2.2.2.2.2.2.2.2.2.2.2.2.2.2.2.2.2.2.2.2.2.2.2.2.2.2.2.2.2.1
theorem k0_dev191_lt : ∀ (v0 : BitVec 32) (k0_hw2 : k0_chk2 v0), (k0_dev191 v0) < nD := fun v0 k0_hw2 => k0_hw2.2.2.1.2.2.2.2.2.2.2.2.2.2.2.2.2.2.2.2.2.2.2.2.2.2.2.2.2.2.2.2.2.2.2
theorem k0_dev194_lt : ∀ (v0 : BitVec 32) (k0_hw2 : k0_chk2 v0), (k0_dev194 v0) < nD := fun v0 k0_hw2 => k0_hw2.2.2.2.1.1
theorem k0_dev195_lt : ∀ (v0 : BitVec 32) (k0_hw2 : k0_chk2 v0), (k0_dev195 v0) < nD := fun v0 k0_hw2 => k0_hw2.2.2.2.1.2.1
theorem k0_dev198_lt : ∀ (v0 : BitVec 32) (k0_hw2 : k0_chk2 v0), (k0_dev198 v0) < nD := fun v0 k0_hw2 => k0_hw2.2.2.2.1.2.2.1
theorem k0_dev199_lt : ∀ (v0 : BitVec 32) (k0_hw2 : k0_chk2 v0), (k0_dev199 v0) < nD := fun v0 k0_hw2 => k0_hw2.2.2.2.1.2.2.2.1
theorem k0_dev202_lt : ∀ (v0 : BitVec 32) (k0_hw2 : k0_chk2 v0), (k0_dev202 v0) < nD := fun v0 k0_hw2 => k0_hw2.2.2.2.1.2.2.2.2.1
theorem k0_dev203_lt : ∀ (v0 : BitVec 32) (k0_hw2 : k0_chk2 v0), (k0_dev203 v0) < nD := fun v0 k0_hw2 => k0_hw2.2.2.2.1.2.2.2.2.2.1
theorem k0_dev206_lt : ∀ (v0 : BitVec 32) (k0_hw2 : k0_chk2 v0), (k0_dev206 v0) < nD := fun v0 k0_hw2 => k0_hw2.2.2.2.1.2.2.2.2.2.2.1
theorem k0_dev207_lt : ∀ (v0 : BitVec 32) (k0_hw2 : k0_chk2 v0), (k0_dev207 v0) < nD := fun v0 k0_hw2 => k0_hw2.2.2.2.1.2.2.2.2.2.2.2.1
theorem k0_dev210_lt : ∀ (v0 : BitVec 32) (k0_hw2 : k0_chk2 v0), (k0_dev210 v0) < nD := fun v0 k0_hw2 => k0_hw2.2.2.2.1.2.2.2.2.2.2.2.2.1
theorem k0_dev211_lt : ∀ (v0 : BitVec 32) (k0_hw2 : k0_chk2 v0), (k0_dev211 v0) < nD := fun v0 k0_hw2 => k0_hw2.2.2.2.1.2.2.2.2.2.2.2.2.2.1
theorem k0_dev214_lt : ∀ (v0 : BitVec 32) (k0_hw2 : k0_chk2 v0), (k0_dev214 v0) < nD := fun v0 k0_hw2 => k0_hw2.2.2.2.1.2.2.2.2.2.2.2.2.2.2.1
theorem k0_dev215_lt : ∀ (v0 : BitVec 32) (k0_hw2 : k0_chk2 v0), (k0_dev215 v0) < nD := fun v0 k0_hw2 => k0_hw2.2.2.2.1.2.2.2.2.2.2.2.2.2.2.2.1
theorem k0_dev218_lt : ∀ (v0 : BitVec 32) (k0_hw2 : k0_chk2 v0), (k0_dev218 v0) < nD := fun v0 k0_hw2 => k0_hw2.2.2.2.1.2.2.2.2.2.2.2.2.2.2.2.2.1
theorem k0_dev219_lt : ∀ (v0 : BitVec 32) (k0_hw2 : k0_chk2 v0), (k0_dev219 v0) < nD := fun v0 k0_hw2 => k0_hw2.2.2.2.1.2.2.2.2.2.2.2.2.2.2.2.2.2.1
theorem k0_dev222_lt : ∀ (v0 : BitVec 32) (k0_hw2 : k0_chk2 v0), (k0_dev222 v0) < nD := fun v0 k0_hw2 => k0_hw2.2.2.2.1.2.2.2.2.2.2.2.2.2.2.2.2.2.2.1
theorem k0_dev223_lt : ∀ (v0 : BitVec 32) (k0_hw2 : k0_chk2 v0), (k0_dev223 v0) < nD := fun v0 k0_hw2 => k0_hw2.2.2.2.1.2.2.2.2.2.2.2.2.2.2.2.2.2.2.2.1
theorem k0_dev226_lt : ∀ (v0 : BitVec 32) (k0_hw2 : k0_chk2 v0), (k0_dev226 v0) < nD := fun v0 k0_hw2 => k0_hw2.2.2.2.1.2.2.2.2.2.2.2.2.2.2.2.2.2.2.2.2.1
theorem k0_dev227_lt : ∀ (v0 : BitVec 32) (k0_hw2 : k0_chk2 v0), (k0_dev227 v0) < nD := fun v0 k0_hw2 => k0_hw2.2.2.2.1.2.2.2.2.2.2.2.2.2.2.2.2.2.2.2.2.2.1
theorem k0_dev230_lt : ∀ (v0 : BitVec 32) (k0_hw2 : k0_chk2 v0), (k0_dev230 v0) < nD := fun v0 k0_hw2 => k0_hw2.2.2.2.1.2.2.2.2.2.2.2.2.2.2.2.2.2.2.2.2.2.2.1
theorem k0_dev231_lt : ∀ (v0 : BitVec 32) (k0_hw2 : k0_chk2 v0), (k0_dev231 v0) < nD := fun v0 k0_hw2 => k0_hw2.2.2.2.1.2.2.2.2.2.2.2.2.2.2.2.2.2.2.2.2.2.2.2.1
theorem k0_dev234_lt : ∀ (v0 : BitVec 32) (k0_hw2 : k0_chk2 v0), (k0_dev234 v0) < nD := fun v0 k0_hw2 => k0_hw2.2.2.2.1.2.2.2.2.2.2.2.2.2.2.2.2.2.2.2.2.2.2.2.2.1
theorem k0_dev235_lt : ∀ (v0 : BitVec 32) (k0_hw2 : k0_chk2 v0), (k0_dev235 v0) < nD := fun v0 k0_hw2 => k0_hw2.2.2.2.1.2.2.2.2.2.2.2.2.2.2.2.2.2.2.2.2.2.2.2.2.2.1
theorem k0_dev238_lt : ∀ (v0 : BitVec 32) (k0_hw2 : k0_chk2 v0), (k0_dev238 v0) < nD := fun v0 k0_hw2 => k0_hw2.2.2.2.1.2.2.2.2.2.2.2.2.2.2.2.2.2.2.2.2.2.2.2.2.2.2.1
theorem k0_dev239_lt : ∀ (v0 : BitVec 32) (k0_hw2 : k0_chk2 v0), (k0_dev239 v0) < nD := fun v0 k0_hw2 => k0_hw2.2.2.2.1.2.2.2.2.2.2.2.2.2.2.2.2.2.2.2.2.2.2.2.2.2.2.2.1
theorem k0_dev242_lt : ∀ (v0 : BitVec 32) (k0_hw2 : k0_chk2 v0), (k0_dev242 v0) < nD := fun v0 k0_hw2 => k0_hw2.2.2.2.1.2.2.2.2.2.2.2.2.2.2.2.2.2.2.2.2.2.2.2.2.2.2.2.2.1
theorem k0_dev243_lt : ∀ (v0 : BitVec 32) (k0_hw2 : k0_chk2 v0), (k0_dev243 v0) < nD := fun v0 k0_hw2 => k0_hw2.2.2.2.1.2.2.2.2.2.2.2.2.2.2.2.2.2.2.2.2.2.2.2.2.2.2.2.2.2.1
theorem k0_dev246_lt : ∀ (v0 : BitVec 32) (k0_hw2 : k0_chk2 v0), (k0_dev246 v0) < nD := fun v0 k0_hw2 => k0_hw2.2.2.2.1.2.2.2.2.2.2.2.2.2.2.2.2.2.2.2.2.2.2.2.2.2.2.2.2.2.2.1
theorem k0_dev247_lt : ∀ (v0 : BitVec 32) (k0_hw2 : k0_chk2 v0), (k0_dev247 v0) < nD := fun v0 k0_hw2 => k0_hw2.2.2.2.1.2.2.2.2.2.2.2.2.2.2.2.2.2.2.2.2.2.2.2.2.2.2.2.2.2.2.2.1
theorem k0_dev250_lt : ∀ (v0 : BitVec 32) (k0_hw2 : k0_chk2 v0), (k0_dev250 v0) < nD := fun v0 k0_hw2 => k0_hw2.2.2.2.1.2.2.2.2.2.2.2.2.2.2.2.2.2.2.2.2.2.2.2.2.2.2.2.2.2.2.2.2.1
theorem k0_dev251_lt : ∀ (v0 : BitVec 32) (k0_hw2 : k0_chk2 v0), (k0_dev251 v0) < nD := fun v0 k0_hw2 => k0_hw2.2.2.2.1.2.2.2.2.2.2.2.2.2.2.2.2.2.2.2.2.2.2.2.2.2.2.2.2.2.2.2.2.2.1
theorem k0_dev254_lt : ∀ (v0 : BitVec 32) (k0_hw2 : k0_chk2 v0), (k0_dev254 v0) < nD := fun v0 k0_hw2 => k0_hw2.2.2.2.1.2.2.2.2.2.2.2.2.2.2.2.2.2.2.2.2.2.2.2.2.2.2.2.2.2.2.2.2.2.2.1
theorem k0_dev255_lt : ∀ (v0 : BitVec 32) (k0_hw2 : k0_chk2 v0), (k0_dev255 v0) < nD := fun v0 k0_hw2 => k0_hw2.2.2.2.1.2.2.2.2.2.2.2.2.2.2.2.2.2.2.2.2.2.2.2.2.2.2.2.2.2.2.2.2.2.2.2
theorem k0_dev258_lt : ∀ (v0 : BitVec 32) (k0_hw2 : k0_chk2 v0), (k0_dev258 v0) < nD := fun v0 k0_hw2 => k0_hw2.2.2.2.2.1.1
theorem k0_dev259_lt : ∀ (v0 : BitVec 32) (k0_hw2 : k0_chk2 v0), (k0_dev259 v0) < nD := fun v0 k0_hw2 => k0_hw2.2.2.2.2.1.2.1
theorem k0_dev262_lt : ∀ (v0 : BitVec 32) (k0_hw2 : k0_chk2 v0), (k0_dev262 v0) < nD := fun v0 k0_hw2 => k0_hw2.2.2.2.2.1.2.2.1
theorem k0_dev263_lt : ∀ (v0 : BitVec 32) (k0_hw2 : k0_chk2 v0), (k0_dev263 v0) < nD := fun v0 k0_hw2 => k0_hw2.2.2.2.2.1.2.2.2.1
theorem k0_dev266_lt : ∀ (v0 : BitVec 32) (k0_hw2 : k0_chk2 v0), (k0_dev266 v0) < nD := fun v0 k0_hw2 => k0_hw2.2.2.2.2.1.2.2.2.2.1
theorem k0_dev267_lt : ∀ (v0 : BitVec 32) (k0_hw2 : k0_chk2 v0), (k0_dev267 v0) < nD := fun v0 k0_hw2 => k0_hw2.2.2.2.2.1.2.2.2.2.2.1
theorem k0_dev270_lt : ∀ (v0 : BitVec 32) (k0_hw2 : k0_chk2 v0), (k0_dev270 v0) < nD := fun v0 k0_hw2 => k0_hw2.2.2.2.2.1.2.2.2.2.2.2.1
theorem k0_dev271_lt : ∀ (v0 : BitVec 32) (k0_hw2 : k0_chk2 v0), (k0_dev271 v0) < nD := fun v0 k0_hw2 => k0_hw2.2.2.2.2.1.2.2.2.2.2.2.2.1
theorem k0_dev274_lt : ∀ (v0 : BitVec 32) (k0_hw2 : k0_chk2 v0), (k0_dev274 v0) < nD := fun v0 k0_hw2 => k0_hw2.2.2.2.2.1.2.2.2.2.2.2.2.2.1
theorem k0_dev275_lt : ∀ (v0 : BitVec 32) (k0_hw2 : k0_chk2 v0), (k0_dev275 v0) < nD := fun v0 k0_hw2 => k0_hw2.2.2.2.2.1.2.2.2.2.2.2.2.2.2.1
theorem k0_dev278_lt : ∀ (v0 : BitVec 32) (k0_hw2 : k0_chk2 v0), (k0_dev278 v0) < nD := fun v0 k0_hw2 => k0_hw2.2.2.2.2.1.2.2.2.2.2.2.2.2.2.2.1
theorem k0_dev279_lt : ∀ (v0 : BitVec 32) (k0_hw2 : k0_chk2 v0), (k0_dev279 v0) < nD := fun v0 k0_hw2 => k0_hw2.2.2.2.2.1.2.2.2.2.2.2.2.2.2.2.2.1
theorem k0_dev282_lt : ∀ (v0 : BitVec 32) (k0_hw2 : k0_chk2 v0), (k0_dev282 v0) < nD := fun v0 k0_hw2 => k0_hw2.2.2.2.2.1.2.2.2.2.2.2.2.2.2.2.2.2.1
theorem k0_dev283_lt : ∀ (v0 : BitVec 32) (k0_hw2 : k0_chk2 v0), (k0_dev283 v0) < nD := fun v0 k0_hw2 => k0_hw2.2.2.2.2.1.2.2.2.2.2.2.2.2.2.2.2.2.2.1
theorem k0_dev286_lt : ∀ (v0 : BitVec 32) (k0_hw2 : k0_chk2 v0), (k0_dev286 v0) < nD := fun v0 k0_hw2 => k0_hw2.2.2.2.2.1.2.2.2.2.2.2.2.2.2.2.2.2.2.2.1
theorem k0_dev287_lt : ∀ (v0 : BitVec 32) (k0_hw2 : k0_chk2 v0), (k0_dev287 v0) < nD := fun v0 k0_hw2 => k0_hw2.2.2.2.2.1.2.2.2.2.2.2.2.2.2.2.2.2.2.2.2.1
theorem k0_dev290_lt : ∀ (v0 : BitVec 32) (k0_hw2 : k0_chk2 v0), (k0_dev290 v0) < nD := fun v0 k0_hw2 => k0_hw2.2.2.2.2.1.2.2.2.2.2.2.2.2.2.2.2.2.2.2.2.2.1
theorem k0_dev291_lt : ∀ (v0 : BitVec 32) (k0_hw2 : k0_chk2 v0), (k0_dev291 v0) < nD := fun v0 k0_hw2 => k0_hw2.2.2.2.2.1.2.2.2.2.2.2.2.2.2.2.2.2.2.2.2.2.2.1
theorem k0_dev294_lt : ∀ (v0 : BitVec 32) (k0_hw2 : k0_chk2 v0), (k0_dev294 v0) < nD := fun v0 k0_hw2 => k0_hw2.2.2.2.2.1.2.2.2.2.2.2.2.2.2.2.2.2.2.2.2.2.2.2.1
theorem k0_dev295_lt : ∀ (v0 : BitVec 32) (k0_hw2 : k0_chk2 v0), (k0_dev295 v0) < nD := fun v0 k0_hw2 => k0_hw2.2.2.2.2.1.2.2.2.2.2.2.2.2.2.2.2.2.2.2.2.2.2.2.2.1
theorem k0_dev298_lt : ∀ (v0 : BitVec 32) (k0_hw2 : k0_chk2 v0), (k0_dev298 v0) < nD := fun v0 k0_hw2 => k0_hw2.2.2.2.2.1.2.2.2.2.2.2.2.2.2.2.2.2.2.2.2.2.2.2.2.2.1
theorem k0_dev299_lt : ∀ (v0 : BitVec 32) (k0_hw2 : k0_chk2 v0), (k0_dev299 v0) < nD := fun v0 k0_hw2 => k0_hw2.2.2.2.2.1.2.2.2.2.2.2.2.2.2.2.2.2.2.2.2.2.2.2.2.2.2.1
theorem k0_dev302_lt : ∀ (v0 : BitVec 32) (k0_hw2 : k0_chk2 v0), (k0_dev302 v0) < nD := fun v0 k0_hw2 => k0_hw2.2.2.2.2.1.2.2.2.2.2.2.2.2.2.2.2.2.2.2.2.2.2.2.2.2.2.2.1
theorem k0_dev303_lt : ∀ (v0 : BitVec 32) (k0_hw2 : k0_chk2 v0), (k0_dev303 v0) < nD := fun v0 k0_hw2 => k0_hw2.2.2.2.2.1.2.2.2.2.2.2.2.2.2.2.2.2.2.2.2.2.2.2.2.2.2.2.2.1
theorem k0_dev306_lt : ∀ (v0 : BitVec 32) (k0_hw2 : k0_chk2 v0), (k0_dev306 v0) < nD := fun v0 k0_hw2 => k0_hw2.2.2.2.2.1.2.2.2.2.2.2.2.2.2.2.2.2.2.2.2.2.2.2.2.2.2.2.2.2.1
theorem k0_dev307_lt : ∀ (v0 : BitVec 32) (k0_hw2 : k0_chk2 v0), (k0_dev307 v0) < nD := fun v0 k0_hw2 => k0_hw2.2.2.2.2.1.2.2.2.2.2.2.2.2.2.2.2.2.2.2.2.2.2.2.2.2.2.2.2.2.2.1
theorem k0_dev310_lt : ∀ (v0 : BitVec 32) (k0_hw2 : k0_chk2 v0), (k0_dev310 v0) < nD := fun v0 k0_hw2 => k0_hw2.2.2.2.2.1.2.2.2.2.2.2.2.2.2.2.2.2.2.2.2.2.2.2.2.2.2.2.2.2.2.2.1
theorem k0_dev311_lt : ∀ (v0 : BitVec 32) (k0_hw2 : k0_chk2 v0), (k0_dev311 v0) < nD := fun v0 k0_hw2 => k0_hw2.2.2.2.2.1.2.2.2.2.2.2.2.2.2.2.2.2.2.2.2.2.2.2.2.2.2.2.2.2.2.2.2.1
theorem k0_dev314_lt : ∀ (v0 : BitVec 32) (k0_hw2 : k0_chk2 v0), (k0_dev314 v0) < nD := fun v0 k0_hw2 => k0_hw2.2.2.2.2.1.2.2.2.2.2.2.2.2.2.2.2.2.2.2.2.2.2.2.2.2.2.2.2.2.2.2.2.2.1
theorem k0_dev315_lt : ∀ (v0 : BitVec 32) (k0_hw2 : k0_chk2 v0), (k0_dev315 v0) < nD := fun v0 k0_hw2 => k0_hw2.2.2.2.2.1.2.2.2.2.2.2.2.2.2.2.2.2.2.2.2.2.2.2.2.2.2.2.2.2.2.2.2.2.2.1
theorem k0_dev318_lt : ∀ (v0 : BitVec 32) (k0_hw2 : k0_chk2 v0), (k0_dev318 v0) < nD := fun v0 k0_hw2 => k0_hw2.2.2.2.2.1.2.2.2.2.2.2.2.2.2.2.2.2.2.2.2.2.2.2.2.2.2.2.2.2.2.2.2.2.2.2.1
theorem k0_dev319_lt : ∀ (v0 : BitVec 32) (k0_hw2 : k0_chk2 v0), (k0_dev319 v0) < nD := fun v0 k0_hw2 => k0_hw2.2.2.2.2.1.2.2.2.2.2.2.2.2.2.2.2.2.2.2.2.2.2.2.2.2.2.2.2.2.2.2.2.2.2.2.2
theorem k0_dev322_lt : ∀ (v0 : BitVec 32) (k0_hw2 : k0_chk2 v0), (k0_dev322 v0) < nD := fun v0 k0_hw2 => k0_hw2.2.2.2.2.2.1.1
theorem k0_dev323_lt : ∀ (v0 : BitVec 32) (k0_hw2 : k0_chk2 v0), (k0_dev323 v0) < nD := fun v0 k0_hw2 => k0_hw2.2.2.2.2.2.1.2.1
theorem k0_dev326_lt : ∀ (v0 : BitVec 32) (k0_hw2 : k0_chk2 v0), (k0_dev326 v0) < nD := fun v0 k0_hw2 => k0_hw2.2.2.2.2.2.1.2.2.1
theorem k0_dev327_lt : ∀ (v0 : BitVec 32) (k0_hw2 : k0_chk2 v0), (k0_dev327 v0) < nD := fun v0 k0_hw2 => k0_hw2.2.2.2.2.2.1.2.2.2.1
theorem k0_dev330_lt : ∀ (v0 : BitVec 32) (k0_hw2 : k0_chk2 v0), (k0_dev330 v0) < nD := fun v0 k0_hw2 => k0_hw2.2.2.2.2.2.1.2.2.2.2.1
theorem k0_dev331_lt : ∀ (v0 : BitVec 32) (k0_hw2 : k0_chk2 v0), (k0_dev331 v0) < nD := fun v0 k0_hw2 => k0_hw2.2.2.2.2.2.1.2.2.2.2.2.1
theorem k0_dev334_lt : ∀ (v0 : BitVec 32) (k0_hw2 : k0_chk2 v0), (k0_dev334 v0) < nD := fun v0 k0_hw2 => k0_hw2.2.2.2.2.2.1.2.2.2.2.2.2.1
theorem k0_dev335_lt : ∀ (v0 : BitVec 32) (k0_hw2 : k0_chk2 v0), (k0_dev335 v0) < nD := fun v0 k0_hw2 => k0_hw2.2.2.2.2.2.1.2.2.2.2.2.2.2.1
theorem k0_dev338_lt : ∀ (v0 : BitVec 32) (k0_hw2 : k0_chk2 v0), (k0_dev338 v0) < nD := fun v0 k0_hw2 => k0_hw2.2.2.2.2.2.1.2.2.2.2.2.2.2.2.1
theorem k0_dev339_lt : ∀ (v0 : BitVec 32) (k0_hw2 : k0_chk2 v0), (k0_dev339 v0) < nD := fun v0 k0_hw2 => k0_hw2.2.2.2.2.2.1.2.2.2.2.2.2.2.2.2.1
theorem k0_dev342_lt : ∀ (v0 : BitVec 32) (k0_hw2 : k0_chk2 v0), (k0_dev342 v0) < nD := fun v0 k0_hw2 => k0_hw2.2.2.2.2.2.1.2.2.2.2.2.2.2.2.2.2.1
theorem k0_dev343_lt : ∀ (v0 : BitVec 32) (k0_hw2 : k0_chk2 v0), (k0_dev343 v0) < nD := fun v0 k0_hw2 => k0_hw2.2.2.2.2.2.1.2.2.2.2.2.2.2.2.2.2.2.1
theorem k0_dev346_lt : ∀ (v0 : BitVec 32) (k0_hw2 : k0_chk2 v0), (k0_dev346 v0) < nD := fun v0 k0_hw2 => k0_hw2.2.2.2.2.2.1.2.2.2.2.2.2.2.2.2.2.2.2.1
theorem k0_dev347_lt : ∀ (v0 : BitVec 32) (k0_hw2 : k0_chk2 v0), (k0_dev347 v0) < nD := fun v0 k0_hw2 => k0_hw2.2.2.2.2.2.1.2.2.2.2.2.2.2.2.2.2.2.2.2.1
theorem k0_dev350_lt : ∀ (v0 : BitVec 32) (k0_hw2 : k0_chk2 v0), (k0_dev350 v0) < nD := fun v0 k0_hw2 => k0_hw2.2.2.2.2.2.1.2.2.2.2.2.2.2.2.2.2.2.2.2.2.1
theorem k0_dev351_lt : ∀ (v0 : BitVec 32) (k0_hw2 : k0_chk2 v0), (k0_dev351 v0) < nD := fun v0 k0_hw2 => k0_hw2.2.2.2.2.2.1.2.2.2.2.2.2.2.2.2.2.2.2.2.2.2.1
theorem k0_dev354_lt : ∀ (v0 : BitVec 32) (k0_hw2 : k0_chk2 v0), (k0_dev354 v0) < nD := fun v0 k0_hw2 => k0_hw2.2.2.2.2.2.1.2.2.2.2.2.2.2.2.2.2.2.2.2.2.2.2.1
theorem k0_dev355_lt : ∀ (v0 : BitVec 32) (k0_hw2 : k0_chk2 v0), (k0_dev355 v0) < nD := fun v0 k0_hw2 => k0_hw2.2.2.2.2.2.1.2.2.2.2.2.2.2.2.2.2.2.2.2.2.2.2.2.1
theorem k0_dev358_lt : ∀ (v0 : BitVec 32) (k0_hw2 : k0_chk2 v0), (k0_dev358 v0) < nD := fun v0 k0_hw2 => k0_hw2.2.2.2.2.2.1.2.2.2.2.2.2.2.2.2.2.2.2.2.2.2.2.2.2.1
theorem k0_dev359_lt : ∀ (v0 : BitVec 32) (k0_hw2 : k0_chk2 v0), (k0_dev359 v0) < nD := fun v0 k0_hw2 => k0_hw2.2.2.2.2.2.1.2.2.2.2.2.2.2.2.2.2.2.2.2.2.2.2.2.2.2.1
theorem k0_dev362_lt : ∀ (v0 : BitVec 32) (k0_hw2 : k0_chk2 v0), (k0_dev362 v0) < nD := fun v0 k0_hw2 => k0_hw2.2.2.2.2.2.1.2.2.2.2.2.2.2.2.2.2.2.2.2.2.2.2.2.2.2.2.1
theorem k0_dev363_lt : ∀ (v0 : BitVec 32) (k0_hw2 : k0_chk2 v0), (k0_dev363 v0) < nD := fun v0 k0_hw2 => k0_hw2.2.2.2.2.2.1.2.2.2.2.2.2.2.2.2.2.2.2.2.2.2.2.2.2.2.2.2.1
theorem k0_dev366_lt : ∀ (v0 : BitVec 32) (k0_hw2 : k0_chk2 v0), (k0_dev366 v0) < nD := fun v0 k0_hw2 => k0_hw2.2.2.2.2.2.1.2.2.2.2.2.2.2.2.2.2.2.2.2.2.2.2.2.2.2.2.2.2.1
theorem k0_dev367_lt : ∀ (v0 : BitVec 32) (k0_hw2 : k0_chk2 v0), (k0_dev367 v0) < nD := fun v0 k0_hw2 => k0_hw2.2.2.2.2.2.1.2.2.2.2.2.2.2.2.2.2.2.2.2.2.2.2.2.2.2.2.2.2.2.1
theorem k0_dev370_lt : ∀ (v0 : BitVec 32) (k0_hw2 : k0_chk2 v0), (k0_dev370 v0) < nD := fun v0 k0_hw2 => k0_hw2.2.2.2.2.2.1.2.2.2.2.2.2.2.2.2.2.2.2.2.2.2.2.2.2.2.2.2.2.2.2.1
theorem k0_dev371_lt : ∀ (v0 : BitVec 32) (k0_hw2 : k0_chk2 v0), (k0_dev371 v0) < nD := fun v0 k0_hw2 => k0_hw2.2.2.2.2.2.1.2.2.2.2.2.2.2.2.2.2.2.2.2.2.2.2.2.2.2.2.2.2.2.2.2.1
theorem k0_dev374_lt : ∀ (v0 : BitVec 32) (k0_hw2 : k0_chk2 v0), (k0_dev374 v0) < nD := fun v0 k0_hw2 => k0_hw2.2.2.2.2.2.1.2.2.2.2.2.2.2.2.2.2.2.2.2.2.2.2.2.2.2.2.2.2.2.2.2.2.1
theorem k0_dev375_lt : ∀ (v0 : BitVec 32) (k0_hw2 : k0_chk2 v0), (k0_dev375 v0) < nD := fun v0 k0_hw2 => k0_hw2.2.2.2.2.2.1.2.2.2.2.2.2.2.2.2.2.2.2.2.2.2.2.2.2.2.2.2.2.2.2.2.2.2.1
theorem k0_dev378_lt : ∀ (v0 : BitVec 32) (k0_hw2 : k0_chk2 v0), (k0_dev378 v0) < nD := fun v0 k0_hw2 => k0_hw2.2.2.2.2.2.1.2.2.2.2.2.2.2.2.2.2.2.2.2.2.2.2.2.2.2.2.2.2.2.2.2.2.2.2.1
theorem k0_dev379_lt : ∀ (v0 : BitVec 32) (k0_hw2 : k0_chk2 v0), (k0_dev379 v0) < nD := fun v0 k0_hw2 => k0_hw2.2.2.2.2.2.1.2.2.2.2.2.2.2.2.2.2.2.2.2.2.2.2.2.2.2.2.2.2.2.2.2.2.2.2.2.1
theorem k0_dev382_lt : ∀ (v0 : BitVec 32) (k0_hw2 : k0_chk2 v0), (k0_dev382 v0) < nD := fun v0 k0_hw2 => k0_hw2.2.2.2.2.2.1.2.2.2.2.2.2.2.2.2.2.2.2.2.2.2.2.2.2.2.2.2.2.2.2.2.2.2.2.2.2.1
theorem k0_dev383_lt : ∀ (v0 : BitVec 32) (k0_hw2 : k0_chk2 v0), (k0_dev383 v0) < nD := fun v0 k0_hw2 => k0_hw2.2.2.2.2.2.1.2.2.2.2.2.2.2.2.2.2.2.2.2.2.2.2.2.2.2.2.2.2.2.2.2.2.2.2.2.2.2
theorem k0_dev386_lt : ∀ (v0 : BitVec 32) (k0_hw2 : k0_chk2 v0), (k0_dev386 v0) < nD := fun v0 k0_hw2 => k0_hw2.2.2.2.2.2.2.1.1
theorem k0_dev387_lt : ∀ (v0 : BitVec 32) (k0_hw2 : k0_chk2 v0), (k0_dev387 v0) < nD := fun v0 k0_hw2 => k0_hw2.2.2.2.2.2.2.1.2.1
theorem k0_dev390_lt : ∀ (v0 : BitVec 32) (k0_hw2 : k0_chk2 v0), (k0_dev390 v0) < nD := fun v0 k0_hw2 => k0_hw2.2.2.2.2.2.2.1.2.2.1
theorem k0_dev391_lt : ∀ (v0 : BitVec 32) (k0_hw2 : k0_chk2 v0), (k0_dev391 v0) < nD := fun v0 k0_hw2 => k0_hw2.2.2.2.2.2.2.1.2.2.2.1
theorem k0_dev394_lt : ∀ (v0 : BitVec 32) (k0_hw2 : k0_chk2 v0), (k0_dev394 v0) < nD := fun v0 k0_hw2 => k0_hw2.2.2.2.2.2.2.1.2.2.2.2.1
theorem k0_dev395_lt : ∀ (v0 : BitVec 32) (k0_hw2 : k0_chk2 v0), (k0_dev395 v0) < nD := fun v0 k0_hw2 => k0_hw2.2.2.2.2.2.2.1.2.2.2.2.2.1
theorem k0_dev398_lt : ∀ (v0 : BitVec 32) (k0_hw2 : k0_chk2 v0), (k0_dev398 v0) < nD := fun v0 k0_hw2 => k0_hw2.2.2.2.2.2.2.1.2.2.2.2.2.2.1
theorem k0_dev399_lt : ∀ (v0 : BitVec 32) (k0_hw2 : k0_chk2 v0), (k0_dev399 v0) < nD := fun v0 k0_hw2 => k0_hw2.2.2.2.2.2.2.1.2.2.2.2.2.2.2.1
theorem k0_dev402_lt : ∀ (v0 : BitVec 32) (k0_hw2 : k0_chk2 v0), (k0_dev402 v0) < nD := fun v0 k0_hw2 => k0_hw2.2.2.2.2.2.2.1.2.2.2.2.2.2.2.2.1
theorem k0_dev403_lt : ∀ (v0 : BitVec 32) (k0_hw2 : k0_chk2 v0), (k0_dev403 v0) < nD := fun v0 k0_hw2 => k0_hw2.2.2.2.2.2.2.1.2.2.2.2.2.2.2.2.2.1
theorem k0_dev406_lt : ∀ (v0 : BitVec 32) (k0_hw2 : k0_chk2 v0), (k0_dev406 v0) < nD := fun v0 k0_hw2 => k0_hw2.2.2.2.2.2.2.1.2.2.2.2.2.2.2.2.2.2.1
theorem k0_dev407_lt : ∀ (v0 : BitVec 32) (k0_hw2 : k0_chk2 v0), (k0_dev407 v0) < nD := fun v0 k0_hw2 => k0_hw2.2.2.2.2.2.2.1.2.2.2.2.2.2.2.2.2.2.2.1
theorem k0_dev410_lt : ∀ (v0 : BitVec 32) (k0_hw2 : k0_chk2 v0), (k0_dev410 v0) < nD := fun v0 k0_hw2 => k0_hw2.2.2.2.2.2.2.1.2.2.2.2.2.2.2.2.2.2.2.2.1
theorem k0_dev411_lt : ∀ (v0 : BitVec 32) (k0_hw2 : k0_chk2 v0), (k0_dev411 v0) < nD := fun v0 k0_hw2 => k0_hw2.2.2.2.2.2.2.1.2.2.2.2.2.2.2.2.2.2.2.2.2.1
theorem k0_dev414_lt : ∀ (v0 : BitVec 32) (k0_hw2 : k0_chk2 v0), (k0_dev414 v0) < nD := fun v0 k0_hw2 => k0_hw2.2.2.2.2.2.2.1.2.2.2.2.2.2.2.2.2.2.2.2.2.2.1
theorem k0_dev415_lt : ∀ (v0 : BitVec 32) (k0_hw2 : k0_chk2 v0), (k0_dev415 v0) < nD := fun v0 k0_hw2 => k0_hw2.2.2.2.2.2.2.1.2.2.2.2.2.2.2.2.2.2.2.2.2.2.2.1
theorem k0_dev418_lt : ∀ (v0 : BitVec 32) (k0_hw2 : k0_chk2 v0), (k0_dev418 v0) < nD := fun v0 k0_hw2 => k0_hw2.2.2.2.2.2.2.1.2.2.2.2.2.2.2.2.2.2.2.2.2.2.2.2.1
theorem k0_dev419_lt : ∀ (v0 : BitVec 32) (k0_hw2 : k0_chk2 v0), (k0_dev419 v0) < nD := fun v0 k0_hw2 => k0_hw2.2.2.2.2.2.2.1.2.2.2.2.2.2.2.2.2.2.2.2.2.2.2.2.2.1
theorem k0_dev422_lt : ∀ (v0 : BitVec 32) (k0_hw2 : k0_chk2 v0), (k0_dev422 v0) < nD := fun v0 k0_hw2 => k0_hw2.2.2.2.2.2.2.1.2.2.2.2.2.2.2.2.2.2.2.2.2.2.2.2.2.2.1
theorem k0_dev423_lt : ∀ (v0 : BitVec 32) (k0_hw2 : k0_chk2 v0), (k0_dev423 v0) < nD := fun v0 k0_hw2 => k0_hw2.2.2.2.2.2.2.1.2.2.2.2.2.2.2.2.2.2.2.2.2.2.2.2.2.2.2.1
theorem k0_dev426_lt : ∀ (v0 : BitVec 32) (k0_hw2 : k0_chk2 v0), (k0_dev426 v0) < nD := fun v0 k0_hw2 => k0_hw2.2.2.2.2.2.2.1.2.2.2.2.2.2.2.2.2.2.2.2.2.2.2.2.2.2.2.2.1
theorem k0_dev427_lt : ∀ (v0 : BitVec 32) (k0_hw2 : k0_chk2 v0), (k0_dev427 v0) < nD := fun v0 k0_hw2 => k0_hw2.2.2.2.2.2.2.1.2.2.2.2.2.2.2.2.2.2.2.2.2.2.2.2.2.2.2.2.2.1
theorem k0_dev430_lt : ∀ (v0 : BitVec 32) (k0_hw2 : k0_chk2 v0), (k0_dev430 v0) < nD := fun v0 k0_hw2 => k0_hw2.2.2.2.2.2.2.1.2.2.2.2.2.2.2.2.2.2.2.2.2.2.2.2.2.2.2.2.2.2.1
theorem k0_dev431_lt : ∀ (v0 : BitVec 32) (k0_hw2 : k0_chk2 v0), (k0_dev431 v0) < nD := fun v0 k0_hw2 => k0_hw2.2.2.2.2.2.2.1.2.2.2.2.2.2.2.2.2.2.2.2.2.2.2.2.2.2.2.2.2.2.2.1
theorem k0_dev434_lt : ∀ (v0 : BitVec 32) (k0_hw2 : k0_chk2 v0), (k0_dev434 v0) < nD := fun v0 k0_hw2 => k0_hw2.2.2.2.2.2.2.1.2.2.2.2.2.2.2.2.2.2.2.2.2.2.2.2.2.2.2.2.2.2.2.2.1
theorem k0_dev435_lt : ∀ (v0 : BitVec 32) (k0_hw2 : k0_chk2 v0), (k0_dev435 v0) < nD := fun v0 k0_hw2 => k0_hw2.2.2.2.2.2.2.1.2.2.2.2.2.2.2.2.2.2.2.2.2.2.2.2.2.2.2.2.2.2.2.2.2.1
theorem k0_dev438_lt : ∀ (v0 : BitVec 32) (k0_hw2 : k0_chk2 v0), (k0_dev438 v0) < nD := fun v0 k0_hw2 => k0_hw2.2.2.2.2.2.2.1.2.2.2.2.2.2.2.2.2.2.2.2.2.2.2.2.2.2.2.2.2.2.2.2.2.2.1
theorem k0_dev439_lt : ∀ (v0 : BitVec 32) (k0_hw2 : k0_chk2 v0), (k0_dev439 v0) < nD := fun v0 k0_hw2 => k0_hw2.2.2.2.2.2.2.1.2.2.2.2.2.2.2.2.2.2.2.2.2.2.2.2.2.2.2.2.2.2.2.2.2.2.2.1
theorem k0_dev442_lt : ∀ (v0 : BitVec 32) (k0_hw2 : k0_chk2 v0), (k0_dev442 v0) < nD := fun v0 k0_hw2 => k0_hw2.2.2.2.2.2.2.1.2.2.2.2.2.2.2.2.2.2.2.2.2.2.2.2.2.2.2.2.2.2.2.2.2.2.2.2.1
theorem k0_dev443_lt : ∀ (v0 : BitVec 32) (k0_hw2 : k0_chk2 v0), (k0_dev443 v0) < nD := fun v0 k0_hw2 => k0_hw2.2.2.2.2.2.2.1.2.2.2.2.2.2.2.2.2.2.2.2.2.2.2.2.2.2.2.2.2.2.2.2.2.2.2.2.2.1
theorem k0_dev446_lt : ∀ (v0 : BitVec 32) (k0_hw2 : k0_chk2 v0), (k0_dev446 v0) < nD := fun v0 k0_hw2 => k0_hw2.2.2.2.2.2.2.1.2.2.2.2.2.2.2.2.2.2.2.2.2.2.2.2.2.2.2.2.2.2.2.2.2.2.2.2.2.2.1
theorem k0_dev447_lt : ∀ (v0 : BitVec 32) (k0_hw2 : k0_chk2 v0), (k0_dev447 v0) < nD := fun v0 k0_hw2 => k0_hw2.2.2.2.2.2.2.1.2.2.2.2.2.2.2.2.2.2.2.2.2.2.2.2.2.2.2.2.2.2.2.2.2.2.2.2.2.2.2
theorem k0_dev450_lt : ∀ (v0 : BitVec 32) (k0_hw2 : k0_chk2 v0), (k0_dev450 v0) < nD := fun v0 k0_hw2 => k0_hw2.2.2.2.2.2.2.2.1
theorem k0_dev451_lt : ∀ (v0 : BitVec 32) (k0_hw2 : k0_chk2 v0), (k0_dev451 v0) < nD := fun v0 k0_hw2 => k0_hw2.2.2.2.2.2.2.2.2.1
theorem k0_dev454_lt : ∀ (v0 : BitVec 32) (k0_hw2 : k0_chk2 v0), (k0_dev454 v0) < nD := fun v0 k0_hw2 => k0_hw2.2.2.2.2.2.2.2.2.2.1
theorem k0_dev455_lt : ∀ (v0 : BitVec 32) (k0_hw2 : k0_chk2 v0), (k0_dev455 v0) < nD := fun v0 k0_hw2 => k0_hw2.2.2.2.2.2.2.2.2.2.2.1
theorem k0_dev458_lt : ∀ (v0 : BitVec 32) (k0_hw2 : k0_chk2 v0), (k0_dev458 v0) < nD := fun v0 k0_hw2 => k0_hw2.2.2.2.2.2.2.2.2.2.2.2.1
theorem k0_dev459_lt : ∀ (v0 : BitVec 32) (k0_hw2 : k0_chk2 v0), (k0_dev459 v0) < nD := fun v0 k0_hw2 => k0_hw2.2.2.2.2.2.2.2.2.2.2.2.2.1
theorem k0_dev462_lt : ∀ (v0 : BitVec 32) (k0_hw2 : k0_chk2 v0), (k0_dev462 v0) < nD := fun v0 k0_hw2 => k0_hw2.2.2.2.2.2.2.2.2.2.2.2.2.2.1
theorem k0_dev463_lt : ∀ (v0 : BitVec 32) (k0_hw2 : k0_chk2 v0), (k0_dev463 v0) < nD := fun v0 k0_hw2 => k0_hw2.2.2.2.2.2.2.2.2.2.2.2.2.2.2.1
theorem k0_dev466_lt : ∀ (v0 : BitVec 32) (k0_hw2 : k0_chk2 v0), (k0_dev466 v0) < nD := fun v0 k0_hw2 => k0_hw2.2.2.2.2.2.2.2.2.2.2.2.2.2.2.2.1
theorem k0_dev467_lt : ∀ (v0 : BitVec 32) (k0_hw2 : k0_chk2 v0), (k0_dev467 v0) < nD := fun v0 k0_hw2 => k0_hw2.2.2.2.2.2.2.2.2.2.2.2.2.2.2.2.2.1
theorem k0_dev470_lt : ∀ (v0 : BitVec 32) (k0_hw2 : k0_chk2 v0), (k0_dev470 v0) < nD := fun v0 k0_hw2 => k0_hw2.2.2.2.2.2.2.2.2.2.2.2.2.2.2.2.2.2.1
theorem k0_dev471_lt : ∀ (v0 : BitVec 32) (k0_hw2 : k0_chk2 v0), (k0_dev471 v0) < nD := fun v0 k0_hw2 => k0_hw2.2.2.2.2.2.2.2.2.2.2.2.2.2.2.2.2.2.2.1
theorem k0_dev474_lt : ∀ (v0 : BitVec 32) (k0_hw2 : k0_chk2 v0), (k0_dev474 v0) < nD := fun v0 k0_hw2 => k0_hw2.2.2.2.2.2.2.2.2.2.2.2.2.2.2.2.2.2.2.2.1
theorem k0_dev475_lt : ∀ (v0 : BitVec 32) (k0_hw2 : k0_chk2 v0), (k0_dev475 v0) < nD := fun v0 k0_hw2 => k0_hw2.2.2.2.2.2.2.2.2.2.2.2.2.2.2.2.2.2.2.2.2.1
theorem k0_dev478_lt : ∀ (v0 : BitVec 32) (k0_hw2 : k0_chk2 v0), (k0_dev478 v0) < nD := fun v0 k0_hw2 => k0_hw2.2.2.2.2.2.2.2.2.2.2.2.2.2.2.2.2.2.2.2.2.2.1
theorem k0_dev479_lt : ∀ (v0 : BitVec 32) (k0_hw2 : k0_chk2 v0), (k0_dev479 v0) < nD := fun v0 k0_hw2 => k0_hw2.2.2.2.2.2.2.2.2.2.2.2.2.2.2.2.2.2.2.2.2.2.2.1
theorem k0_dev482_lt : ∀ (v0 : BitVec 32) (k0_hw2 : k0_chk2 v0), (k0_dev482 v0) < nD := fun v0 k0_hw2 => k0_hw2.2.2.2.2.2.2.2.2.2.2.2.2.2.2.2.2.2.2.2.2.2.2.2.1
theorem k0_dev483_lt : ∀ (v0 : BitVec 32) (k0_hw2 : k0_chk2 v0), (k0_dev483 v0) < nD := fun v0 k0_hw2 => k0_hw2.2.2.2.2.2.2.2.2.2.2.2.2.2.2.2.2.2.2.2.2.2.2.2.2.1
theorem k0_dev486_lt : ∀ (v0 : BitVec 32) (k0_hw2 : k0_chk2 v0), (k0_dev486 v0) < nD := fun v0 k0_hw2 => k0_hw2.2.2.2.2.2.2.2.2.2.2.2.2.2.2.2.2.2.2.2.2.2.2.2.2.2.1
theorem k0_dev487_lt : ∀ (v0 : BitVec 32) (k0_hw2 : k0_chk2 v0), (k0_dev487 v0) < nD := fun v0 k0_hw2 => k0_hw2.2.2.2.2.2.2.2.2.2.2.2.2.2.2.2.2.2.2.2.2.2.2.2.2.2.2.1
theorem k0_dev490_lt : ∀ (v0 : BitVec 32) (k0_hw2 : k0_chk2 v0), (k0_dev490 v0) < nD := fun v0 k0_hw2 => k0_hw2.2.2.2.2.2.2.2.2.2.2.2.2.2.2.2.2.2.2.2.2.2.2.2.2.2.2.2.1
theorem k0_dev492_lt : ∀ (v0 : BitVec 32) (k0_hw2 : k0_chk2 v0), (k0_dev492 v0) < nD := fun v0 k0_hw2 => k0_hw2.2.2.2.2.2.2.2.2.2.2.2.2.2.2.2.2.2.2.2.2.2.2.2.2.2.2.2.2.1
theorem k0_dev494_lt : ∀ (v0 : BitVec 32) (k0_hw2 : k0_chk2 v0), (k0_dev494 v0) < nD := fun v0 k0_hw2 => k0_hw2.2.2.2.2.2.2.2.2.2.2.2.2.2.2.2.2.2.2.2.2.2.2.2.2.2.2.2.2.2.1
theorem k0_dev496_lt : ∀ (v0 : BitVec 32) (k0_hw2 : k0_chk2 v0), (k0_dev496 v0) < nD := fun v0 k0_hw2 => k0_hw2.2.2.2.2.2.2.2.2.2.2.2.2.2.2.2.2.2.2.2.2.2.2.2.2.2.2.2.2.2.2.1
theorem k0_dev498_lt : ∀ (v0 : BitVec 32) (k0_hw2 : k0_chk2 v0), (k0_dev498 v0) < nD := fun v0 k0_hw2 => k0_hw2.2.2.2.2.2.2.2.2.2.2.2.2.2.2.2.2.2.2.2.2.2.2.2.2.2.2.2.2.2.2.2

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Blocks.lean ====
/-
# The kernel's program as blocks

The printed body is 31 steps of 8 rings each, unrolled. This file names the pieces it repeats — the memrefs,
semaphores and peers of ring `i`, and the operations of one ring at one step — as functions of the ring and the
step, so that one proof about a block serves every occurrence. A block is written in continuation form: `K` is
the rest of the program.
-/
module

public import proofs.«01_k».proof.Proof.Gen.KernelIdeal

@[expose] public section

noncomputable section

namespace Cert.RingProof

open Cert.KernelIdeal Cert.KernelIdeal.Gen
open Idealize.ShloMosaic Idealize.ShloMosaic.TcCoe Idealize.SL.Sem

variable {F : FTy → Type} [FloatOps F]

abbrev P (F : FTy → Type) := Prog (TpuEff nD τ sig (Elt F) Λ₀ .tc) PUnit

/-! ## The operands -/

abbrev metaM : Memref sig .tc .smem S64 .i32 := Memref.whole cc0_stg0_0
abbrev xM : Memref sig .tc .vmem S4096x128 .bf16 := Memref.whole cc0_stg1_0
abbrev wM : Memref sig .tc .vmem S128x8192 .bf16 := Memref.whole cc0_stg2_0
abbrev oM : Memref sig .tc .vmem S128x8192 .f32 := Memref.whole cc0_stg3_0

/-- Ring `i`'s send buffer: two slots. -/
def sRef : Fin 8 → Ref sig .tc
  | 0 => cc0_scratch0 | 1 => cc0_scratch1 | 2 => cc0_scratch2 | 3 => cc0_scratch3
  | 4 => cc0_scratch4 | 5 => cc0_scratch5 | 6 => cc0_scratch6 | 7 => cc0_scratch7
/-- Ring `i`'s receive buffer: two slots. -/
def rRef : Fin 8 → Ref sig .tc
  | 0 => cc0_scratch8 | 1 => cc0_scratch9 | 2 => cc0_scratch10 | 3 => cc0_scratch11
  | 4 => cc0_scratch12 | 5 => cc0_scratch13 | 6 => cc0_scratch14 | 7 => cc0_scratch15
def sM : Fin 8 → Memref sig .tc .vmem S2x128x1024 .bf16
  | 0 => Memref.whole cc0_scratch0 | 1 => Memref.whole cc0_scratch1 | 2 => Memref.whole cc0_scratch2 | 3 => Memref.whole cc0_scratch3
  | 4 => Memref.whole cc0_scratch4 | 5 => Memref.whole cc0_scratch5 | 6 => Memref.whole cc0_scratch6 | 7 => Memref.whole cc0_scratch7
def rM : Fin 8 → Memref sig .tc .vmem S2x128x1024 .bf16
  | 0 => Memref.whole cc0_scratch8 | 1 => Memref.whole cc0_scratch9 | 2 => Memref.whole cc0_scratch10 | 3 => Memref.whole cc0_scratch11
  | 4 => Memref.whole cc0_scratch12 | 5 => Memref.whole cc0_scratch13 | 6 => Memref.whole cc0_scratch14 | 7 => Memref.whole cc0_scratch15
theorem sM_whole (i : Fin 8) : (sM i).IsWhole := by
  fin_cases i <;> exact Memref.isWhole_whole _
theorem rM_whole (i : Fin 8) : (rM i).IsWhole := by
  fin_cases i <;> exact Memref.isWhole_whole _
def sSems : Fin 8 → DmaSems sig S2
  | 0 => cc0_scratch16 | 1 => cc0_scratch17 | 2 => cc0_scratch18 | 3 => cc0_scratch19
  | 4 => cc0_scratch20 | 5 => cc0_scratch21 | 6 => cc0_scratch22 | 7 => cc0_scratch23
def rSems : Fin 8 → DmaSems sig S2
  | 0 => cc0_scratch24 | 1 => cc0_scratch25 | 2 => cc0_scratch26 | 3 => cc0_scratch27
  | 4 => cc0_scratch28 | 5 => cc0_scratch29 | 6 => cc0_scratch30 | 7 => cc0_scratch31
def cSems : Fin 8 → Sems sig S_
  | 0 => cc0_scratch32 | 1 => cc0_scratch33 | 2 => cc0_scratch34 | 3 => cc0_scratch35
  | 4 => cc0_scratch36 | 5 => cc0_scratch37 | 6 => cc0_scratch38 | 7 => cc0_scratch39

/-! ## Slots -/

theorem inbSlot (p : Fin 2) : ∀ a, (![p.val, 0, 0] : Fin 3 → Nat) a + S1x128x1024.size a ≤ S2x128x1024.size a := by
  revert p; decide
abbrev slotRect (p : Fin 2) : Rect S2x128x1024 := Rect.unit (s := S2x128x1024) ![p.val, 0, 0] S1x128x1024.size (inbSlot p)
theorem words_slot (p : Fin 2) : (slotRect p).WholeWords (EltTy.packing .bf16) := by
  fin_cases p
  · exact wordsbf16_S2x128x1024_S1x128x1024_0_0_0
  · exact wordsbf16_S2x128x1024_S1x128x1024_1_0_0
theorem packed_slot (p : Fin 2) : (slotRect p).PackedRows (EltTy.packing .bf16) := by
  fin_cases p
  · exact packedbf16_S2x128x1024_S1x128x1024_0_0_0
  · exact packedbf16_S2x128x1024_S1x128x1024_1_0_0
/-- Slot `p` of ring `i`'s send buffer, as a transfer addresses it. -/
def sSlot (i : Fin 8) (p : Fin 2) : Memref sig .tc .vmem S128x1024 .bf16 :=
  ((sM i).slice (slotRect p) (fun _ => rfl)).squeeze S128x1024 squeezes_S1x128x1024_S128x1024
def rSlot (i : Fin 8) (p : Fin 2) : Memref sig .tc .vmem S128x1024 .bf16 :=
  ((rM i).slice (slotRect p) (fun _ => rfl)).squeeze S128x1024 squeezes_S1x128x1024_S128x1024
theorem sSlot_words (i : Fin 8) (p : Fin 2) : (sSlot i p).view.WordExact :=
  ((sM_whole i).wordExact_slice rfl _ (words_slot p)).reshape _ _
theorem rSlot_words (i : Fin 8) (p : Fin 2) : (rSlot i p).view.WordExact :=
  ((rM_whole i).wordExact_slice rfl _ (words_slot p)).reshape _ _
theorem inbSem (p : Fin 2) : ∀ a, (![p.val] : Fin 1 → Nat) a + S1.size a ≤ S2.size a := by
  revert p; decide
def sSem (i : Fin 8) (p : Fin 2) : DmaSem sig :=
  (((sSems i).slice (Rect.unit (s := S2) ![p.val] S1.size (inbSem p))).squeeze S_ squeezes_S1_S_).sem
def rSem (i : Fin 8) (p : Fin 2) : DmaSem sig :=
  (((rSems i).slice (Rect.unit (s := S2) ![p.val] S1.size (inbSem p))).squeeze S_ squeezes_S1_S_).sem
def cSem (i : Fin 8) : Sem sig := (cSems i).sem
def barS : Sem sig := (SemArray.scalar (sig.barrier 0 rfl) : Sems sig S_).sem

/-! ## Words -/

/-- The device a word names. -/
def devOf (v : BitVec 32) : Nat := (Scalar.addi 0#32 (Scalar.muli v 1#32)).toNat
/-- The first row of the chunk a word names. -/
def rowOff (v : BitVec 32) : Fin 2 → Nat := ![(Scalar.indexCast (Scalar.muli v 128#32) : Index).toNat, 0]
abbrev RowOk (v : BitVec 32) : Prop := ∀ a, (rowOff v) a + S128x128.size a ≤ S4096x128.size a

/-- Ring `i` runs forward. -/
def fwd : Fin 8 → Bool
  | 0 => true | 1 => true | 2 => true | 3 => true | 4 => false | 5 => false | 6 => false | 7 => false
/-- The word naming ring `i`'s send peer, of the words naming the next and the previous device. -/
def toW (v0 v1 : BitVec 32) : Fin 8 → BitVec 32
  | 0 => v0 | 1 => v0 | 2 => v0 | 3 => v0 | 4 => v1 | 5 => v1 | 6 => v1 | 7 => v1
def fromW (v0 v1 : BitVec 32) : Fin 8 → BitVec 32
  | 0 => v1 | 1 => v1 | 2 => v1 | 3 => v1 | 4 => v0 | 5 => v0 | 6 => v0 | 7 => v0

/-! ## Values -/

/-- The columns of the product that ring `i` carries. -/
def half (W : Vec F S128x8192 .bf16) : Bool → FVec F S128x4096 .bf16
  | true => extractStridedSlice S128x4096 ![0, 0] (shapeCast S128x8192 W shapeCasts_S128x8192_S128x8192) slices_S128x8192_o0_0_S128x4096
  | false => extractStridedSlice S128x4096 ![0, 4096] (shapeCast S128x8192 W shapeCasts_S128x8192_S128x8192) slices_S128x8192_o0_4096_S128x4096
def prod (W : Vec F S128x8192 .bf16) (b : Bool) (xs : Vec F S128x128 .bf16) : FVec F S128x4096 .f32 :=
  matmul dot_S128x128_S128x4096_S128x4096_1_0_0_1_n_n none (shapeCast S128x128 xs shapeCasts_S128x128_S128x128) (half W b)
    (constant S128x4096 .f32 0x00000000#32)
def cols (p : FVec F S128x4096 .f32) : Fin 8 → FVec F S128x1024 .f32
  | 0 => extractStridedSlice S128x1024 ![0, 0] p slices_S128x4096_o0_0_S128x1024
  | 1 => extractStridedSlice S128x1024 ![0, 1024] p slices_S128x4096_o0_1024_S128x1024
  | 2 => extractStridedSlice S128x1024 ![0, 2048] p slices_S128x4096_o0_2048_S128x1024
  | 3 => extractStridedSlice S128x1024 ![0, 3072] p slices_S128x4096_o0_3072_S128x1024
  | 4 => extractStridedSlice S128x1024 ![0, 0] p slices_S128x4096_o0_0_S128x1024
  | 5 => extractStridedSlice S128x1024 ![0, 1024] p slices_S128x4096_o0_1024_S128x1024
  | 6 => extractStridedSlice S128x1024 ![0, 2048] p slices_S128x4096_o0_2048_S128x1024
  | 7 => extractStridedSlice S128x1024 ![0, 3072] p slices_S128x4096_o0_3072_S128x1024
/-- Ring `i`'s part of the product of the chunk `xs` with the weights. -/
def partOf (W : Vec F S128x8192 .bf16) (xs : Vec F S128x128 .bf16) (i : Fin 8) : FVec F S128x1024 .f32 :=
  cols (prod W (fwd i) xs) i
/-- A partial sum as it is put on the wire. -/
def wire0 (p : FVec F S128x1024 .f32) : FVec F S1x128x1024 .bf16 :=
  shapeCast S1x128x1024 (truncf .bf16 p bitsLt_bf16_f32) shapeCasts_S128x1024_S1x128x1024
/-- A part added to what arrived. -/
def addIn (p : FVec F S128x1024 .f32) (x : Vec F S1x128x1024 .bf16) : FVec F S128x1024 .f32 :=
  addf p (extf .f32 (shapeCast S128x1024 x shapeCasts_S1x128x1024_S128x1024) bitsLt_bf16_f32)
def gelu (y : FVec F S128x1024 .f32) : FVec F S128x1024 .f32 :=
  mulf (mulf (broadcast S128x1024 (Scalar.ofBits .f32 0x3F000000#32 : F .f32)) y)
    (addf (broadcast S128x1024 (Scalar.ofBits .f32 0x3F800000#32 : F .f32))
      (tanh (mulf (broadcast S128x1024 (Scalar.ofBits .f32 0x3F4C422A#32 : F .f32))
        (addf y (mulf (mulf (mulf (broadcast S128x1024 (Scalar.ofBits .f32 0x3D372713#32 : F .f32)) y) y) y)))))

/-! ## The blocks -/

abbrev slot (s : ℕ) : Fin 2 := ⟨s % 2, Nat.mod_lt _ (by decide)⟩

theorem inbMeta (j : ℕ) (h : j < 64) : ∀ a, (![j] : Fin 1 → Nat) a + S1.size a ≤ S64.size a := by
  intro a; fin_cases a; exact h

/-- The load of slot `p` of a two-slot buffer. -/
abbrev loadB (M : Memref sig .tc .vmem S2x128x1024 .bf16) (p : Fin 2) (K : Vec F S1x128x1024 .bf16 → P F) : P F :=
  .op (.load M (slotRect p).toLoadRect (View.loadsAt_vmem h_S1x128x1024)) K

/-- Fill slot `p` of ring `i`'s send buffer with `v` and start its copy to the peer. -/
def sendB (i : Fin 8) (p : Fin 2) (v0 v1 : BitVec 32) (h : devOf (toW v0 v1 i) < nD) (v : FVec F S1x128x1024 .bf16) (K : P F) : P F :=
  loadB (sM i) p fun _ =>
  .op (.store (sM i) (slotRect p) v Finset.univ (View.stores_vmem h_S1x128x1024 ((sM_whole i).storeExact_slice rfl _ (packed_slot p)) (fun _ => rfl)) (.inl rfl)) fun _ =>
  .op (.enqueueDma (sSlot i p) (.remote (Dev.tc (⟨devOf (toW v0 v1 i), h⟩ : Dev nD)) (rSlot i p) (.dma (sSem i p))) (.dma (rSem i p)) (sSlot_words i p) (rSlot_words i p) ⟨⟨rfl, Or.inl rfl⟩, trivial⟩) fun _ =>
  K
/-- Wait for the delivery in slot `p` and read it. -/
def recvB (i : Fin 8) (p : Fin 2) (K : Vec F S1x128x1024 .bf16 → P F) : P F :=
  .op (.waitDma2 (rSem i p) (sSlot i p) (rSlot i p) (sSlot_words i p) (rSlot_words i p)) fun _ =>
  loadB (rM i) p K
/-- Wait for the send of slot `p` to have left. -/
def sentB (i : Fin 8) (p : Fin 2) (K : P F) : P F :=
  .op (.waitDma2 (sSem i p) (rSlot i p) (sSlot i p) (rSlot_words i p) (sSlot_words i p)) fun _ => K
/-- One credit to the peer ring `i` receives from. -/
def creditB (i : Fin 8) (v0 v1 : BitVec 32) (h : devOf (fromW v0 v1 i) < nD) (K : P F) : P F :=
  .op (.semSignal ((⟨devOf (fromW v0 v1 i), h⟩ : Dev nD), .tc) (cSem i) (1#32 : BitVec 32).toInt) fun _ => K

/-- Step 0 of ring `i`. -/
def step0 (i : Fin 8) (v0 v1 : BitVec 32) (h : devOf (toW v0 v1 i) < nD) (pt : FVec F S128x1024 .f32) (K : P F) : P F :=
  sendB i 0 v0 v1 h (wire0 pt) K
/-- Step 1 of ring `i`. -/
def step1 (i : Fin 8) (v0 v1 : BitVec 32) (h : devOf (toW v0 v1 i) < nD) (h' : devOf (fromW v0 v1 i) < nD) (pt : FVec F S128x1024 .f32)
    (K : Vec F S1x128x1024 .bf16 → P F) : P F :=
  recvB i 0 fun x => sendB i 1 v0 v1 h (wire0 (addIn pt x)) (creditB i v0 v1 h' (K x))
/-- Step `s ≥ 2` of ring `i`. -/
def step2 (s : ℕ) (i : Fin 8) (v0 v1 : BitVec 32) (h : devOf (toW v0 v1 i) < nD) (h' : devOf (fromW v0 v1 i) < nD) (pt : FVec F S128x1024 .f32)
    (K : Vec F S1x128x1024 .bf16 → P F) : P F :=
  recvB i (slot (s - 1)) fun x => sentB i (slot s) (.op (.semWait (cSem i) (1#32 : BitVec 32).toInt) fun _ =>
    sendB i (slot s) v0 v1 h (wire0 (addIn pt x)) (creditB i v0 v1 h' (K x)))
/-- Ring `i`'s columns of the result. -/
def outOff : Fin 8 → Fin 2 → Nat
  | 0 => ![0, 0] | 1 => ![0, 1024] | 2 => ![0, 2048] | 3 => ![0, 3072] | 4 => ![0, 4096] | 5 => ![0, 5120] | 6 => ![0, 6144] | 7 => ![0, 7168]
theorem inbOut (i : Fin 8) : ∀ a, outOff i a + S128x1024.size a ≤ S128x8192.size a := by revert i; decide
abbrev outRect (i : Fin 8) : Rect S128x8192 := Rect.unit (s := S128x8192) (outOff i) S128x1024.size (inbOut i)
/-- The last receive of ring `i`, and its columns of the result. -/
def finB (i : Fin 8) (v0 v1 : BitVec 32) (h' : devOf (fromW v0 v1 i) < nD) (pt : FVec F S128x1024 .f32)
    (K : Vec F S1x128x1024 .bf16 → P F) : P F :=
  recvB i 0 fun x => creditB i v0 v1 h' (
    .op (.load oM (outRect i).toLoadRect (View.loadsAt_vmem h_S128x1024)) fun _ =>
    .op (.store oM (outRect i) (gelu (addIn pt x)) Finset.univ (View.stores_vmem_bits_univ h_S128x1024 rfl) (.inl rfl)) fun _ =>
    K x)
/-- The waits at the end of ring `i`. -/
def drainB (i : Fin 8) (K : P F) : P F :=
  sentB i 1 (sentB i 0 (.op (.semWait (cSem i) (2#32 : BitVec 32).toInt) fun _ => K))
/-- The one word a load of `S1` answers. -/
abbrev word (f : Vec F S1 .i32) : BitVec 32 := f (Shape.Idx.first (numel1_S1.symm ▸ Nat.one_pos))
abbrev metaRect (j : ℕ) (h : j < 64) : Rect S64 := Rect.unit (s := S64) ![j] S1.size (inbMeta j h)
theorem metaLoads (j : ℕ) (h : j < 64) : metaM.view.LoadsAt (metaRect j h).toLoadRect :=
  have h1 : (metaRect j h).shape.numel = 1 := numel1_S1
  have hp : EltTy.packing .i32 = 1 := rfl
  have hl : (metaM.access (metaRect j h)).Loads := View.loads_smem_one hp h1
  View.loadsAt_rect hl
abbrev loadMeta (j : ℕ) (h : j < 64) (K : Vec F S1 .i32 → P F) : P F :=
  .op (.load metaM (metaRect j h).toLoadRect (metaLoads j h)) K
abbrev xRect (o : Fin 2 → Nat) (h : ∀ a, o a + S128x128.size a ≤ S4096x128.size a) : Rect S4096x128 :=
  Rect.unit (s := S4096x128) o S128x128.size h
abbrev loadX (o : Fin 2 → Nat) (h : ∀ a, o a + S128x128.size a ≤ S4096x128.size a) (K : Vec F S128x128 .bf16 → P F) : P F :=
  .op (.load xM (xRect o h).toLoadRect (View.loadsAt_vmem h_S128x128)) K
/-- The two words and the two chunks of `x` a step reads. -/
def loadsB (s : ℕ) (hs : s < 31) (d : (v : BitVec 32) → Decidable (RowOk v)) (d' : (v : BitVec 32) → Decidable (RowOk v))
    (K : (f : Vec F S1 .i32) → PLift (RowOk (word f)) → (g : Vec F S1 .i32) → PLift (RowOk (word g)) →
      Vec F S128x128 .bf16 → Vec F S128x128 .bf16 → P F) : P F :=
  loadMeta (2 + s) (by omega) fun f =>
  .op (.assume (RowOk (word f)) (d _)) fun hf =>
  loadMeta (33 + s) (by omega) fun g =>
  .op (.assume (RowOk (word g)) (d' _)) fun hg =>
  loadX (rowOff (word f)) hf.down fun xf =>
  loadX (rowOff (word g)) hg.down fun xb =>
  K f hf g hg xf xb
/-- The chunk of `x` the last receive adds. -/
def lastLoadsB (K : Vec F S128x128 .bf16 → Vec F S128x128 .bf16 → P F) : P F :=
  .op .deviceId fun d =>
  loadX (k0_off63 d) (k0_off63_inb d) fun xf =>
  loadX (k0_off63 d) (k0_off63_inb d) fun xb =>
  K xf xb
/-- The entry: the two peers, the barrier with them, and the weights. -/
def entryB (d2 : (v : BitVec 32) → Decidable (k0_chk2 v)) (d1 : (v : BitVec 32) → Decidable (k0_chk1 v))
    (K : (f : Vec F S1 .i32) → PLift (k0_chk2 (word f)) → (g : Vec F S1 .i32) → PLift (k0_chk1 (word g)) →
      Vec F S128x8192 .bf16 → P F) : P F :=
  loadMeta 0 (by decide) fun f =>
  .op (.assume (k0_chk2 (word f)) (d2 _)) fun hf =>
  loadMeta 1 (by decide) fun g =>
  .op (.assume (k0_chk1 (word g)) (d1 _)) fun hg =>
  .op (.semSignal ((⟨devOf (word g), k0_dev1_lt _ hg.down⟩ : Dev nD), .tc) barS (1#32 : BitVec 32).toInt) fun _ =>
  .op (.semSignal ((⟨devOf (word f), k0_dev2_lt _ hf.down⟩ : Dev nD), .tc) barS (1#32 : BitVec 32).toInt) fun _ =>
  .op (.semWait barS (2#32 : BitVec 32).toInt) fun _ =>
  .op (.load wM (Rect.unit (s := S128x8192) ![0, 0] S128x8192.size inb_S128x8192_S128x8192_0_0).toLoadRect (View.loadsAt_vmem h_S128x8192)) fun w =>
  K f hf g hg w

/-! ## A step of all rings -/

theorem toW_lt {v0 v1 : BitVec 32} (h0 : devOf v0 < nD) (h1 : devOf v1 < nD) (i : Fin 8) : devOf (toW v0 v1 i) < nD := by
  fin_cases i <;> assumption
theorem fromW_lt {v0 v1 : BitVec 32} (h0 : devOf v0 < nD) (h1 : devOf v1 < nD) (i : Fin 8) : devOf (fromW v0 v1 i) < nD := by
  fin_cases i <;> assumption
/-- The chunk ring `i` takes its part from, of the forward one and the backward one. -/
def pick (xf xb : Vec F S128x128 .bf16) (i : Fin 8) : Vec F S128x128 .bf16 := bif fwd i then xf else xb
/-- The rings in the order a step takes them. -/
def ord : Fin 8 → Fin 8
  | 0 => 0 | 1 => 4 | 2 => 1 | 3 => 5 | 4 => 2 | 5 => 6 | 6 => 3 | 7 => 7

section Rows
variable (v0 v1 : BitVec 32) (h0 : devOf v0 < nD) (h1 : devOf v1 < nD) (W : Vec F S128x8192 .bf16)

/-- Ring `ord j`'s part of step `s`. -/
abbrev step0At (xf xb : Vec F S128x128 .bf16) (j : Fin 8) (K : P F) : P F :=
  step0 (ord j) v0 v1 (toW_lt h0 h1 _) (partOf W (pick xf xb (ord j)) (ord j)) K
abbrev step1At (xf xb : Vec F S128x128 .bf16) (j : Fin 8) (K : Vec F S1x128x1024 .bf16 → P F) : P F :=
  step1 (ord j) v0 v1 (toW_lt h0 h1 _) (fromW_lt h0 h1 _) (partOf W (pick xf xb (ord j)) (ord j)) K
abbrev step2At (s : ℕ) (xf xb : Vec F S128x128 .bf16) (j : Fin 8) (K : Vec F S1x128x1024 .bf16 → P F) : P F :=
  step2 s (ord j) v0 v1 (toW_lt h0 h1 _) (fromW_lt h0 h1 _) (partOf W (pick xf xb (ord j)) (ord j)) K
abbrev finAt (xf xb : Vec F S128x128 .bf16) (j : Fin 8) (K : Vec F S1x128x1024 .bf16 → P F) : P F :=
  finB (ord j) v0 v1 (fromW_lt h0 h1 _) (partOf W (pick xf xb (ord j)) (ord j)) K

abbrev X := Vec F S1x128x1024 .bf16
abbrev RowK (F : FTy → Type) := (f : Vec F S1 .i32) → PLift (RowOk (word f)) → (g : Vec F S1 .i32) → PLift (RowOk (word g)) →
      Vec F S128x128 .bf16 → Vec F S128x128 .bf16 → P F
abbrev RowK8 (F : FTy → Type) := (f : Vec F S1 .i32) → PLift (RowOk (word f)) → (g : Vec F S1 .i32) → PLift (RowOk (word g)) →
      Vec F S128x128 .bf16 → Vec F S128x128 .bf16 → Vec F S1x128x1024 .bf16 → Vec F S1x128x1024 .bf16 → Vec F S1x128x1024 .bf16 → Vec F S1x128x1024 .bf16 →
      Vec F S1x128x1024 .bf16 → Vec F S1x128x1024 .bf16 → Vec F S1x128x1024 .bf16 → Vec F S1x128x1024 .bf16 → P F

/-- Step 0. -/
def row0 (d : (v : BitVec 32) → Decidable (RowOk v)) (d' : (v : BitVec 32) → Decidable (RowOk v)) (K : RowK F) : P F :=
  loadsB 0 (by decide) d d' fun f hf g hg xf xb =>
  step0At v0 v1 h0 h1 W xf xb 0 <| step0At v0 v1 h0 h1 W xf xb 1 <| step0At v0 v1 h0 h1 W xf xb 2 <| step0At v0 v1 h0 h1 W xf xb 3 <|
  step0At v0 v1 h0 h1 W xf xb 4 <| step0At v0 v1 h0 h1 W xf xb 5 <| step0At v0 v1 h0 h1 W xf xb 6 <| step0At v0 v1 h0 h1 W xf xb 7 <|
  K f hf g hg xf xb
/-- Step 1. -/
def row1 (d : (v : BitVec 32) → Decidable (RowOk v)) (d' : (v : BitVec 32) → Decidable (RowOk v)) (K : RowK8 F) : P F :=
  loadsB 1 (by decide) d d' fun f hf g hg xf xb =>
  step1At v0 v1 h0 h1 W xf xb 0 fun a0 => step1At v0 v1 h0 h1 W xf xb 1 fun a1 => step1At v0 v1 h0 h1 W xf xb 2 fun a2 =>
  step1At v0 v1 h0 h1 W xf xb 3 fun a3 => step1At v0 v1 h0 h1 W xf xb 4 fun a4 => step1At v0 v1 h0 h1 W xf xb 5 fun a5 =>
  step1At v0 v1 h0 h1 W xf xb 6 fun a6 => step1At v0 v1 h0 h1 W xf xb 7 fun a7 =>
  K f hf g hg xf xb a0 a1 a2 a3 a4 a5 a6 a7
/-- Step `s ≥ 2`. -/
def row2 (s : ℕ) (hs : s < 31) (d : (v : BitVec 32) → Decidable (RowOk v)) (d' : (v : BitVec 32) → Decidable (RowOk v)) (K : RowK8 F) : P F :=
  loadsB s hs d d' fun f hf g hg xf xb =>
  step2At v0 v1 h0 h1 W s xf xb 0 fun a0 => step2At v0 v1 h0 h1 W s xf xb 1 fun a1 => step2At v0 v1 h0 h1 W s xf xb 2 fun a2 =>
  step2At v0 v1 h0 h1 W s xf xb 3 fun a3 => step2At v0 v1 h0 h1 W s xf xb 4 fun a4 => step2At v0 v1 h0 h1 W s xf xb 5 fun a5 =>
  step2At v0 v1 h0 h1 W s xf xb 6 fun a6 => step2At v0 v1 h0 h1 W s xf xb 7 fun a7 =>
  K f hf g hg xf xb a0 a1 a2 a3 a4 a5 a6 a7
/-- The last receives and the waits at the end. -/
def rowEnd : P F :=
  lastLoadsB fun xf xb =>
  finAt v0 v1 h0 h1 W xf xb 0 fun _ => finAt v0 v1 h0 h1 W xf xb 1 fun _ => finAt v0 v1 h0 h1 W xf xb 2 fun _ =>
  finAt v0 v1 h0 h1 W xf xb 3 fun _ => finAt v0 v1 h0 h1 W xf xb 4 fun _ => finAt v0 v1 h0 h1 W xf xb 5 fun _ =>
  finAt v0 v1 h0 h1 W xf xb 6 fun _ => finAt v0 v1 h0 h1 W xf xb 7 fun _ =>
  drainB (ord 0) <| drainB (ord 1) <| drainB (ord 2) <| drainB (ord 3) <| drainB (ord 4) <| drainB (ord 5) <| drainB (ord 6) <| drainB (ord 7) <|
  .ret ⟨⟩
end Rows

end Cert.RingProof
-- ==== Proof.Sched.lean ====
/-
# The protocol: cells, values, schedule, levels

Ring `i` of device `c` sends to `toD c i` and receives from `fromD c i`. Its send number `k` uses slot `k % 2` of
the send buffer here and of the receive buffer there. A receive slot goes back to its writer through an invariant
(`Release`): the reader's credit carries only the record that the slot was released, so credits may land in any
order.
-/
module

public import proofs.«01_k».proof.Proof.Blocks
public import Idealize.ShloMosaic.Lib.Rounds
public import Idealize.ShloMosaic.Lib.Release
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Devices -/

def nxt (c : Dev nD) : Dev nD := ⟨(c.val + 1) % 32, Nat.mod_lt _ (by decide)⟩
def prv (c : Dev nD) : Dev nD := ⟨(c.val + 31) % 32, Nat.mod_lt _ (by decide)⟩
theorem nxt_prv (c : Dev nD) : nxt (prv c) = c := by revert c; decide
theorem prv_nxt (c : Dev nD) : prv (nxt c) = c := by revert c; decide
theorem nxt_ne_prv (c : Dev nD) : nxt c ≠ prv c := by revert c; decide
/-- The device ring `i` of `c` sends to. -/
def toD (c : Dev nD) (i : Fin 8) : Dev nD := bif fwd i then nxt c else prv c
/-- The device ring `i` of `c` receives from. -/
def fromD (c : Dev nD) (i : Fin 8) : Dev nD := bif fwd i then prv c else nxt c
theorem to_from (c : Dev nD) (i : Fin 8) : toD (fromD c i) i = c := by
  unfold toD fromD; cases fwd i
  · exact prv_nxt c
  · exact nxt_prv c
theorem from_to (c : Dev nD) (i : Fin 8) : fromD (toD c i) i = c := by
  unfold toD fromD; cases fwd i
  · exact nxt_prv c
  · exact prv_nxt c

/-! ## Cells -/

/-- The protocol's semaphores of one device. -/
inductive Kd where
  | bar | send (i : Fin 8) (p : Fin 2) | recv (i : Fin 8) (p : Fin 2) | cred (i : Fin 8)
  deriving DecidableEq

abbrev semOf : Kd → SemLoc sig
  | .bar => .reg barS
  | .send i p => .dma (sSem i p)
  | .recv i p => .dma (rSem i p)
  | .cred i => .reg (cSem i)
/-- Which of them a semaphore is. -/
def kd : SemLoc sig → Option Kd
  | .reg s => if h : s.val < 8 then some (.cred ⟨s.val, h⟩) else if s.val = 8 then some .bar else none
  | .dma s =>
    if h : 4 ≤ s.val ∧ s.val < 20 then some (.send ⟨(s.val - 4) / 2, by omega⟩ ⟨(s.val - 4) % 2, by omega⟩)
    else if h : 20 ≤ s.val ∧ s.val < 36 then some (.recv ⟨(s.val - 20) / 2, by omega⟩ ⟨(s.val - 20) % 2, by omega⟩)
    else none
theorem kd_semOf (k : Kd) : kd (semOf k) = some k := by
  cases k with
  | bar => decide
  | send i p => revert i p; decide
  | recv i p => revert i p; decide
  | cred i => revert i; decide
theorem semOf_inj : Function.Injective semOf := fun a b h => by
  have := (kd_semOf a).symm.trans ((congrArg kd h).trans (kd_semOf b))
  exact Option.some.inj this

abbrev cell (c : Dev nD) (k : Kd) : GSem nD τ sig := ((c : Thread nD τ), semOf k)
theorem cell_inj {c d : Dev nD} {k l : Kd} (h : cell c k = cell d l) : c = d ∧ k = l :=
  ⟨congrArg (fun g : GSem nD τ sig => g.1.1) h, semOf_inj (congrArg Prod.snd h)⟩

/-! ## Values -/

section Values

variable (X : Dev nD → cc0_stg1_0.ty.Contents (Elt F)) (W : Dev nD → cc0_stg2_0.ty.Contents (Elt F))

theorem rowsInb (r : Fin 32) : ∀ a, (![128 * r.val, 0] : Fin 2 → Nat) a + S128x128.size a ≤ S4096x128.size a := by
  revert r; decide
/-- Rows `128 r …` of a device's columns of `x`. -/
def chunk (x : cc0_stg1_0.ty.Contents (Elt F)) (r : Fin 32) : Vec F S128x128 .bf16 :=
  (xM.access (xRect ![128 * r.val, 0] (rowsInb r))).read (Elt F) x
/-- A device's rows of the weights. -/
def weights (w : cc0_stg2_0.ty.Contents (Elt F)) : Vec F S128x8192 .bf16 :=
  (wM.access (Rect.unit (s := S128x8192) ![0, 0] S128x8192.size inb_S128x8192_S128x8192_0_0)).read (Elt F) w
/-- The chunks device `c` takes at step `s`, forward and backward. -/
def cF (c : Dev nD) (s : ℕ) : Fin 32 := ⟨(c.val + 31 + 32 * s - s) % 32, Nat.mod_lt _ (by decide)⟩
def cB (c : Dev nD) (s : ℕ) : Fin 32 := ⟨(c.val + 1 + s) % 32, Nat.mod_lt _ (by decide)⟩
/-- Device `c`'s part of ring `i` at step `s` (31: the last one, its own rows). -/
def part (c : Dev nD) (i : Fin 8) (s : ℕ) : FVec F S128x1024 .f32 :=
  partOf (weights (W c)) (pick (chunk (X c) (cF c s)) (chunk (X c) (cB c s)) i) i
/-- What ring `i` of device `c` puts on the wire at step `s`. -/
def sendV (i : Fin 8) : ℕ → Dev nD → FVec F S1x128x1024 .bf16
  | 0, c => wire0 (part X W c i 0)
  | s + 1, c => wire0 (addIn (part X W c i (s + 1)) (sendV i s (fromD c i)))
/-- Ring `i`'s columns of device `c`'s result. -/
def resV (c : Dev nD) (i : Fin 8) : FVec F S128x1024 .f32 :=
  gelu (addIn (part X W c i 31) (sendV X W i 30 (fromD c i)))

end Values

/-! ## Resources -/

abbrev Key : Type := Dev nD × Fin 8 × Fin 2
abbrev UU : Type := UR sig nD τ × (URounds (GSem nD τ sig) ℕ × USlots Key)

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) :=
  (Emb.inl : Emb (URounds (GSem nD τ sig) ℕ) (URounds (GSem nD τ sig) ℕ × USlots Key)).trans embR
def ES : Emb (USlots Key) (MT nD τ sig ℕ (Elt F) ℕ UU ℕ) :=
  (Emb.inr : Emb (USlots Key) (URounds (GSem nD τ sig) ℕ × USlots Key)).trans embR
instance ER_landsIn : (ER : Emb _ 𝕄).LandsIn (upEmb : UEmb _ 𝕄) := by unfold ER embR; infer_instance
instance ES_landsIn : (ES : Emb _ 𝕄).LandsIn (upEmb : UEmb _ 𝕄) := by unfold ES embR; infer_instance

/-- Slot `p` of a two-slot buffer, as loads and stores address it. -/
abbrev slotAcc (M : Memref sig .tc .vmem S2x128x1024 .bf16) (p : Fin 2) := M.access (slotRect p)
/-- A slot of device `c`, at any contents. -/
def slotAny (M : Memref sig .tc .vmem S2x128x1024 .bf16) (p : Fin 2) (c : Dev nD) : sProp 𝕄 :=
  Release.slot ((slotAcc M p).loc (c : Thread nD τ)) (slotAcc M p).set
/-- A slot of device `c` that reads `v`. -/
def slotAt (M : Memref sig .tc .vmem S2x128x1024 .bf16) (p : Fin 2) (c : Dev nD) (v : FVec F S1x128x1024 .bf16) : sProp 𝕄 :=
  iprop(∃ f, ⌜(slotAcc M p).read (Elt F) f = v⌝ ∗ ((slotAcc M p).loc (c : Thread nD τ) ↦[(slotAcc M p).set]{fullShare} f))

theorem slotAt_any (M : Memref sig .tc .vmem S2x128x1024 .bf16) (p : Fin 2) (c : Dev nD) (v : FVec F S1x128x1024 .bf16) :
    (slotAt M p c v : sProp 𝕄) ⊢ slotAny M p c := by
  unfold slotAt slotAny Release.slot
  iintro ⟨%f, -, H⟩; iexists f; iexact H

instance slotAny_storable (M : Memref sig .tc .vmem S2x128x1024 .bf16) (p : Fin 2) (c : Dev nD) :
    Storable (upEmb : UEmb _ 𝕄) (slotAny M p c) := by unfold slotAny; infer_instance
instance slotAt_storable (M : Memref sig .tc .vmem S2x128x1024 .bf16) (p : Fin 2) (c : Dev nD) (v : FVec F S1x128x1024 .bf16) :
    Storable (upEmb : UEmb _ 𝕄) (slotAt M p c v) := by unfold slotAt; infer_instance

/-! ## Releases -/

/-- After `n` deliveries of ring `i` were read and released at device `c`: the slots' release counts and the rounds
    of the receive cells. Everything in it is persistent. -/
def RelSt (c : Dev nD) (i : Fin 8) (n : ℕ) : sProp 𝕄 :=
  iprop(released ES (c, i, (0 : Fin 2)) ((n + 1) / 2 + 1) ∗ released ES (c, i, (1 : Fin 2)) (n / 2 + 1)
    ∗ reached ER (cell c (.recv i 0)) ((n + 1) / 2) ∗ reached ER (cell c (.recv i 1)) (n / 2))
instance RelSt_persistent (c : Dev nD) (i : Fin 8) (n : ℕ) : BI.Persistent (RelSt c i n : sProp 𝕄) := by unfold RelSt; infer_instance
instance RelSt_storable (c : Dev nD) (i : Fin 8) (n : ℕ) : Storable (upEmb : UEmb _ 𝕄) (RelSt c i n) := by unfold RelSt; infer_instance
theorem RelSt_mono (c : Dev nD) (i : Fin 8) {n n' : ℕ} (h : n' ≤ n) : (RelSt c i n : sProp 𝕄) ⊢ RelSt c i n' := by
  unfold RelSt
  exact BI.sep_mono (released_mono ES (by omega)) (BI.sep_mono (released_mono ES (by omega))
    (BI.sep_mono (reached_mono ER (by omega)) (reached_mono ER (by omega))))
/-- What a device tells both neighbours at the barrier. -/
def hello (c : Dev nD) : sProp 𝕄 :=
  bigSep Finset.univ fun i : Fin 8 => iprop(RelSt c i 0 ∗ reached ER (cell c (.cred i)) 0)
instance hello_persistent (c : Dev nD) : BI.Persistent (hello c : sProp 𝕄) := by unfold hello; infer_instance
instance hello_storable (c : Dev nD) : Storable (upEmb : UEmb _ 𝕄) (hello c) := by unfold hello; infer_instance

/-! ## The schedule -/

/-- The credit of one slot. -/
def N : ℕ := (rSlot 0 0).view.dmaCredit
theorem N_pos : 0 < N := View.dmaCredit_pos _ (by decide)
theorem N_r (i : Fin 8) (p : Fin 2) : (rSlot i p).view.dmaCredit = N := by fin_cases i <;> fin_cases p <;> rfl
theorem N_s (i : Fin 8) (p : Fin 2) : (sSlot i p).view.dmaCredit = N := by fin_cases i <;> fin_cases p <;> rfl

/-- What a neighbour's duty at a barrier cell hands over: duty 0 is the next device's, duty 1 the previous one's. -/
def nbr (c : Dev nD) (d : ℕ) : Dev nD := if d = 0 then nxt c else prv c

section Sched
variable (X : Dev nD → cc0_stg1_0.ty.Contents (Elt F)) (W : Dev nD → cc0_stg2_0.ty.Contents (Elt F))

def dutiesOf : Option Kd → ℕ → Finset ℕ
  | some .bar, r => if r = 0 then {0, 1} else ∅
  | some (.send _ p), r => if 2 * r + p.val < 31 then {0} else ∅
  | some (.recv _ p), r => if 2 * r + p.val < 31 then {0} else ∅
  | some (.cred _), r => if r = 0 then Finset.range 31 else ∅
  | none, _ => ∅
def amountOf : Option Kd → ℕ
  | some (.send _ _) => N
  | some (.recv _ _) => N
  | _ => 1
def payOf (c : Dev nD) : Option Kd → ℕ → ℕ → sProp 𝕄
  | some .bar, _, d => hello (nbr c d)
  | some (.send i p), _, _ => slotAny (sM i) p c
  | some (.recv i p), r, _ => slotAt (rM i) p c (sendV X W i (2 * r + p.val) (fromD c i))
  | some (.cred i), _, d => RelSt (toD c i) i (min d 28 + 1)
  | none, _, _ => iprop(emp)

instance payOf_storable (c : Dev nD) (k : Option Kd) (r d : ℕ) : Storable (upEmb : UEmb _ 𝕄) (payOf X W c k r d) := by
  rcases k with _ | k
  · unfold payOf; infer_instance
  · cases k <;> unfold payOf <;> infer_instance

/-- Every barrier and credit cell has one round of unit duties; every send and receive cell one duty a round. -/
def Rd : Rounds.Schedule (GSem nD τ sig) ℕ 𝕄 where
  duties g r := if g.1.2 = .tc then dutiesOf (kd g.2) r else ∅
  unitless _ := False
  amount g _ _ := amountOf (kd g.2)
  payload g r d := payOf X W g.1.1 (kd g.2) r d
  amount_pos g _ _ _ := by
    rcases kd g.2 with _ | k
    · exact Nat.one_pos
    · cases k
      · exact Nat.one_pos
      · exact N_pos
      · exact N_pos
      · exact Nat.one_pos

instance Rd_payload_storable (g : GSem nD τ sig) (r d : ℕ) : Storable (upEmb : UEmb _ 𝕄) ((Rd X W).payload g r d) := by
  unfold Rd; infer_instance

theorem duties_cell (c : Dev nD) (k : Kd) (r : ℕ) : (Rd X W).duties (cell c k) r = dutiesOf (some k) r := by
  dsimp only [Rd, cell]; rw [if_pos rfl, kd_semOf]
theorem amount_cell (c : Dev nD) (k : Kd) (r d : ℕ) : (Rd X W).amount (cell c k) r d = amountOf (some k) := by
  dsimp only [Rd, cell]; rw [kd_semOf]
theorem payload_cell (c : Dev nD) (k : Kd) (r d : ℕ) : (Rd X W).payload (cell c k) r d = payOf X W c (some k) r d := by
  dsimp only [Rd, cell]; rw [kd_semOf]
theorem expect_cell (c : Dev nD) (k : Kd) (r : ℕ) : (Rd X W).expect (cell c k) r = (dutiesOf (some k) r).card * amountOf (some k) := by
  unfold Schedule.expect Schedule.amountOf
  rw [duties_cell, Finset.sum_congr rfl fun d _ => amount_cell X W c k r d, Finset.sum_const, smul_eq_mul]

end Sched

/-! ## Levels and debts -/

def L (g : GSem nD τ sig) : Finset ℕ := if g.1.2 = .tc then Finset.range 40 else ∅
def lvOf : Option Kd → ℕ → ℕ
  | some .bar, _ => 1
  | some (.recv _ _), k => 2 * k + 2
  | some (.cred _), k => 2 * k + 3
  | _, _ => 0
def lv (g : GSem nD τ sig) (k : ℕ) : ℕ := lvOf (kd g.2) k
theorem L_cell (c : Dev nD) (k : SemLoc sig) : L ((c : Thread nD τ), k) = Finset.range 40 := if_pos rfl
theorem L_of_ne (g : GSem nD τ sig) (h : g.1.2 ≠ .tc) : L g = ∅ := if_neg h
theorem lv_cell (c : Dev nD) (k : Kd) (n : ℕ) : lv (cell c k) n = lvOf (some k) n := by
  unfold lv; rw [kd_semOf]

/-- Everything owed sits at level `n` or above. -/
def Above (O : CellTallies nD τ sig ℕ) (n : ℕ) : Prop := ∀ g ι, 0 < O g ι → ι ∈ L g ∧ n ≤ lv g ι
theorem Above.zero (n : ℕ) : Above 0 n := fun _ _ h => absurd h (Nat.lt_irrefl 0)
theorem Above.add {O O' : CellTallies nD τ sig ℕ} {n : ℕ} (h : Above O n) (h' : Above O' n) : Above (O + O') n := fun g ι hp => by
  rw [Pi.add_apply, Finsupp.add_apply] at hp
  rcases Nat.add_pos_iff_pos_or_pos.mp hp with hp | hp
  · exact h g ι hp
  · exact h' g ι hp
theorem Above.sum {T : Type} (s : Finset T) (f : T → CellTallies nD τ sig ℕ) {n : ℕ} (h : ∀ x ∈ s, Above (f x) n) : Above (∑ x ∈ s, f x) n := by
  classical
  induction s using Finset.induction_on with
  | empty => rw [Finset.sum_empty]; exact Above.zero n
  | insert a s ha ih =>
    rw [Finset.sum_insert ha]
    exact (h a (Finset.mem_insert_self _ _)).add (ih fun x hx => h x (Finset.mem_insert_of_mem hx))
theorem Above.tally (c : Dev nD) (k : Kd) (ι m n : ℕ) (hι : ι < 40) (hn : n ≤ lvOf (some k) ι) : Above (tallyAt (cell c k) ι m) n := fun g j hp => by
  rw [tallyAt_apply] at hp
  by_cases h : g = cell c k ∧ j = ι
  · rw [h.1, h.2, L_cell, lv_cell]; exact ⟨Finset.mem_range.mpr hι, hn⟩
  · rw [if_neg h] at hp; exact absurd hp (Nat.lt_irrefl 0)
theorem Above.mono {O : CellTallies nD τ sig ℕ} {n m : ℕ} (h : Above O n) (hm : m ≤ n) : Above O m := fun g ι hp =>
  ⟨(h g ι hp).1, hm.trans (h g ι hp).2⟩

theorem mayWait (c : Dev nD) (k : Kd) (ι : ℕ) (hι : ι < 40) {O : CellTallies nD τ sig ℕ} (h : Above O (lvOf (some k) ι + 1)) :
    (levAts L lv : sProp 𝕄) ⊢ MayWait (c : Thread nD τ) (semOf k) ι O :=
  MayOwe.of_cut (L := L) (lev := lv) (lvOf (some k) ι)
    (fun p hp => by rw [Finset.mem_singleton.mp hp, L_cell]; exact Finset.mem_range.mpr hι)
    (fun g j hg => (h g j hg).1)
    (fun p hp => by rw [Finset.mem_singleton.mp hp]; exact le_of_eq (lv_cell c k ι))
    (fun g j hg => (h g j hg).2)

/-- What ring `i` of device `c` still owes after `a` sends and `b` credits. -/
def owedR (c : Dev nD) (i : Fin 8) (a b : ℕ) : CellTallies nD τ sig ℕ :=
  (∑ k ∈ Finset.Ico a 31, tallyAt (cell (toD c i) (.recv i (slot k))) k N) + ∑ k ∈ Finset.Ico b 31, tallyAt (cell (fromD c i) (.cred i)) k 1
theorem ico_head {a n : ℕ} (h : a < n) : Finset.Ico a n = insert a (Finset.Ico (a + 1) n) := by
  ext x; rw [Finset.mem_insert, Finset.mem_Ico, Finset.mem_Ico]; omega
theorem ico_notMem (a n : ℕ) : a ∉ Finset.Ico (a + 1) n := fun h => by
  have := Finset.mem_Ico.mp h; omega
theorem owedR_send (c : Dev nD) (i : Fin 8) {a b : ℕ} (h : a < 31) :
    owedR c i a b = owedR c i (a + 1) b + tallyAt (cell (toD c i) (.recv i (slot a))) a N := by
  unfold owedR; rw [ico_head h, Finset.sum_insert (ico_notMem _ _), add_comm (tallyAt _ _ _), add_right_comm]
theorem owedR_cred (c : Dev nD) (i : Fin 8) {a b : ℕ} (h : b < 31) :
    owedR c i a b = owedR c i a (b + 1) + tallyAt (cell (fromD c i) (.cred i)) b 1 := by
  unfold owedR; rw [ico_head h, Finset.sum_insert (ico_notMem _ _), add_comm (tallyAt _ _ _), ← add_assoc]
theorem owedR_above (c : Dev nD) (i : Fin 8) (a b n : ℕ) (ha : n ≤ 2 * a + 2) (hb : n ≤ 2 * b + 3) : Above (owedR c i a b) n := by
  unfold owedR
  refine Above.add (Above.sum _ _ fun k hk => ?_) (Above.sum _ _ fun k hk => ?_)
  · have := Finset.mem_Ico.mp hk
    exact Above.tally _ _ _ _ _ (by omega) (by show n ≤ 2 * k + 2; omega)
  · have := Finset.mem_Ico.mp hk
    exact Above.tally _ _ _ _ _ (by omega) (by show n ≤ 2 * k + 3; omega)
theorem owedR_done (c : Dev nD) (i : Fin 8) : owedR c i 31 31 = 0 := by
  unfold owedR; rw [Finset.Ico_self, Finset.sum_empty, Finset.sum_empty, add_zero]

end Cert.RingProof
-- ==== Proof.State.lean ====
/-
# What a device holds between the blocks, and the moves of one ring

`SendSt`, `RecvSt` and `CredSt` are the three parts of a ring's state, each indexed by how many of its transfers,
deliveries or credits are behind it. Each lemma here is one move of one ring, at any step.
-/
module

public import proofs.«01_k».proof.Proof.Sched

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## All cells, all slots -/

def kdEquiv : (Option ((Fin 8 × Fin 2 ⊕ Fin 8 × Fin 2) ⊕ Fin 8)) ≃ Kd where
  toFun
    | none => .bar
    | some (.inl (.inl (i, p))) => .send i p
    | some (.inl (.inr (i, p))) => .recv i p
    | some (.inr i) => .cred i
  invFun
    | .bar => none
    | .send i p => some (.inl (.inl (i, p)))
    | .recv i p => some (.inl (.inr (i, p)))
    | .cred i => some (.inr i)
  left_inv x := by rcases x with _ | ((⟨i, p⟩ | ⟨i, p⟩) | i) <;> rfl
  right_inv x := by cases x <;> rfl
instance : Fintype Kd := Fintype.ofEquiv _ kdEquiv

section State
variable (X : Dev nD → cc0_stg1_0.ty.Contents (Elt F)) (W : Dev nD → cc0_stg2_0.ty.Contents (Elt F))
variable (κ : GSem nD τ sig → ℕ) (ιs : Key → ℕ)

abbrev keySlot (k : Key) : sProp 𝕄 := slotAny (rM k.2.1) k.2.2 k.1

/-- The invariants and the levels every device may consult. -/
def Inv : sProp 𝕄 :=
  iprop(levAts L lv ∗ (bigSep Finset.univ fun x : Dev nD × Kd => cellInv ER (Rd X W) (κ (cell x.1 x.2)) (cell x.1 x.2))
    ∗ bigSep Finset.univ fun k : Key => slotInv ES (ιs k) k (keySlot k))
instance Inv_persistent : BI.Persistent (Inv X W κ ιs) := by unfold Inv; infer_instance

theorem Inv_lev : Inv X W κ ιs ⊢ (levAts L lv : sProp 𝕄) := by
  unfold Inv; iintro ⟨H, -, -⟩; iexact H
theorem Inv_mayWait (c : Dev nD) (k : Kd) (ι : ℕ) (hι : ι < 40) {O : CellTallies nD τ sig ℕ} (h : Above O (lvOf (some k) ι + 1)) :
    Inv X W κ ιs ⊢ MayWait (c : Thread nD τ) (semOf k) ι O := by
  have h1 : Inv X W κ ιs ⊢ (levAts L lv : sProp 𝕄) := @Inv_lev F _ X W κ ιs
  have h2 := mayWait (F := F) c k ι hι h
  exact h1.trans h2
theorem Inv_cell (c : Dev nD) (k : Kd) : Inv X W κ ιs ⊢ cellInv ER (Rd X W) (κ (cell c k)) (cell c k) := by
  have h : (bigSep Finset.univ fun x : Dev nD × Kd => (cellInv ER (Rd X W) (κ (cell x.1 x.2)) (cell x.1 x.2) : sProp 𝕄))
      ⊢ cellInv ER (Rd X W) (κ (cell c k)) (cell c k) := bigSep_elim (Finset.mem_univ (c, k))
  unfold Inv
  iintro ⟨-, H, -⟩
  iapply h; iexact H
theorem Inv_slot (c : Dev nD) (i : Fin 8) (p : Fin 2) : Inv X W κ ιs ⊢ slotInv ES (ιs (c, i, p)) (c, i, p) (slotAny (rM i) p c) := by
  have h : (bigSep Finset.univ fun k : Key => (slotInv ES (ιs k) k (keySlot k) : sProp 𝕄))
      ⊢ slotInv ES (ιs (c, i, p)) (c, i, p) (slotAny (rM i) p c) := bigSep_elim (Finset.mem_univ (c, i, p))
  unfold Inv
  iintro ⟨-, -, H⟩
  iapply h; iexact H

theorem big_grow (f : ℕ → sProp 𝕄) {s t : Finset ℕ} {a : ℕ} (h : t = insert a s) (hn : a ∉ s) : iprop(f a ∗ bigSep s f) ⊢ bigSep t f := by
  rw [h]; exact Entails.of_eq (bigSep_insert hn).symm
theorem big_shrink (f : ℕ → sProp 𝕄) {s t : Finset ℕ} {a : ℕ} (h : t = insert a s) (hn : a ∉ s) : bigSep t f ⊢ iprop(f a ∗ bigSep s f) := by
  rw [h]; exact Entails.of_eq (bigSep_insert hn)

/-! ## The parts of a ring's state -/

abbrev 𝒱₀ : Variants := Variants.none
/-- The program `p` run on device `c` ends in `Q`. -/
abbrev wpc (c : Dev nD) (p : P F) (Q : PUnit → sProp 𝕄) : sProp 𝕄 :=
  wp frame (wpE (defs₀ (F := F)) 𝒱₀ (c : Thread nD τ) none) Set.univ p Q
/-- What device `c` owes, whatever waits it has recorded. -/
def owesE (c : Dev nD) (O : CellTallies nD τ sig ℕ) : sProp 𝕄 := iprop(∃ Wd, owes (c : Thread nD τ) O Wd)

/-- One right per number from `n` on. -/
def Todo (f : ℕ → sProp 𝕄) (n : ℕ) : sProp 𝕄 := bigSep (Finset.Ico n 31) f
theorem Todo_take (f : ℕ → sProp 𝕄) {n : ℕ} (h : n < 31) : Todo f n ⊢ iprop(f n ∗ Todo f (n + 1)) := by
  unfold Todo; rw [ico_head h]; exact Entails.of_eq (bigSep_insert (ico_notMem _ _))

/-- What send `k` of ring `i` spends. -/
def SendTok (c : Dev nD) (i : Fin 8) (k : ℕ) : sProp 𝕄 :=
  iprop(writeTok ES (toD c i, i, slot k) (k / 2 + 1) ∗ dutyTok ER (cell (toD c i) (.recv i (slot k))) (k / 2) 0
    ∗ dutyTok ER (cell c (.send i (slot k))) (k / 2) 0)
def RecvTok (c : Dev nD) (i : Fin 8) (k : ℕ) : sProp 𝕄 := cred (tallyAt (cell c (.recv i (slot k))) k N)
def CredTok (c : Dev nD) (i : Fin 8) (k : ℕ) : sProp 𝕄 := dutyTok ER (cell (fromD c i) (.cred i)) 0 k
def WaitTok (c : Dev nD) (i : Fin 8) (k : ℕ) : sProp 𝕄 := cred (tallyAt (cell c (.cred i)) k 1)

/-- `s` sends started, `w` of them waited for. -/
def SendSt (c : Dev nD) (i : Fin 8) (w s : ℕ) : sProp 𝕄 :=
  iprop(Todo (SendTok c i) s
    ∗ (atPos ER (cell c (.send i 0)) ((w + 1) / 2) ∅ 0 ∗ reached ER (cell c (.send i 0)) ((w + 1) / 2))
    ∗ (atPos ER (cell c (.send i 1)) (w / 2) ∅ 0 ∗ reached ER (cell c (.send i 1)) (w / 2))
    ∗ (bigSep (Finset.Ico w s) fun k => cred (tallyAt (cell c (.send i (slot k))) 0 N))
    ∗ bigSep (Finset.Ico s (w + 2)) fun k => slotAny (sM i) (slot k) c)
/-- `n` deliveries received and read, the slots of `l` of them released. -/
def RecvSt (c : Dev nD) (i : Fin 8) (l n : ℕ) : sProp 𝕄 :=
  iprop(Todo (RecvTok c i) n
    ∗ (atPos ER (cell c (.recv i 0)) ((n + 1) / 2) ∅ 0 ∗ reached ER (cell c (.recv i 0)) ((n + 1) / 2))
    ∗ (atPos ER (cell c (.recv i 1)) (n / 2) ∅ 0 ∗ reached ER (cell c (.recv i 1)) (n / 2))
    ∗ readerAt ES (c, i, (0 : Fin 2)) ((l + 1) / 2 + 1) ∗ readerAt ES (c, i, (1 : Fin 2)) (l / 2 + 1)
    ∗ RelSt c i l
    ∗ bigSep (Finset.Ico l n) fun k => slotAny (rM i) (slot k) c)
/-- `n` credits waited for, `b` given. -/
def CredSt (c : Dev nD) (i : Fin 8) (n b : ℕ) : sProp 𝕄 :=
  iprop(Todo (CredTok c i) b ∗ Todo (WaitTok c i) n ∗ reached ER (cell (fromD c i) (.cred i)) 0
    ∗ ∃ T : Finset ℕ, ⌜T ⊆ Finset.range 31 ∧ n ≤ T.card⌝ ∗ atPos ER (cell c (.cred i)) 0 T n
      ∗ bigSep T fun d => RelSt (toD c i) i (min d 28 + 1))

/-! ## Slots of buffers -/

theorem sSlot_set (i : Fin 8) (p : Fin 2) : (sSlot i p).view.set = (slotAcc (sM i) p).set := View.set_reshape _ _
theorem rSlot_set (i : Fin 8) (p : Fin 2) : (rSlot i p).view.set = (slotAcc (rM i) p).set := View.set_reshape _ _
theorem sPts_eq (c : Dev nD) (i : Fin 8) (p : Fin 2) (f : Buf (Elt F) ((slotAcc (sM i) p).loc (c : Thread nD τ))) :
    ((sSlot i p).view.loc (c : Thread nD τ) ↦[(sSlot i p).view.set]{fullShare} f : sProp 𝕄)
      = ((slotAcc (sM i) p).loc (c : Thread nD τ) ↦[(slotAcc (sM i) p).set]{fullShare} f) := by rw [sSlot_set]; rfl
theorem rPts_eq (c : Dev nD) (i : Fin 8) (p : Fin 2) (f : Buf (Elt F) ((slotAcc (rM i) p).loc (c : Thread nD τ))) :
    ((rSlot i p).view.loc (c : Thread nD τ) ↦[(rSlot i p).view.set]{fullShare} f : sProp 𝕄)
      = ((slotAcc (rM i) p).loc (c : Thread nD τ) ↦[(slotAcc (rM i) p).set]{fullShare} f) := by rw [rSlot_set]; rfl

/-- What a copy between slots leaves is what the source reads. -/
theorem copied (v v' : Idealize.ShloMosaic.View sig .tc .vmem S1x128x1024 .bf16) (h : S128x1024.numel = S1x128x1024.numel)
    (f : v.ty.Contents (Elt F)) (g : v'.ty.Contents (Elt F)) :
    v.read (Elt F) ((v.reshape S128x1024 h).write (Elt F) f ((v'.reshape S128x1024 h).read (Elt F) g) Finset.univ) = v'.read (Elt F) g := by
  funext x
  obtain ⟨y, rfl⟩ := (Shape.reshapeEquiv h).surjective x
  exact congrFun (View.read_write_univ (v := v.reshape S128x1024 h) f ((v'.reshape S128x1024 h).read (Elt F) g)) y

theorem slotAny_false (c : Dev nD) (i : Fin 8) (p : Fin 2) : iprop(slotAny (rM i) p c ∗ slotAny (rM i) p c) ⊢ (False : sProp 𝕄) := by
  unfold slotAny
  refine slot_slot_false ?_
  have h : 0 < (slotAcc (rM i) p).set.card := by
    rw [View.card_set]; show 0 < S1x128x1024.numel; decide
  exact Finset.card_pos.mp h

/-! ## The moves -/

theorem half_even (q : ℕ) : (2 * q + 1) / 2 = q ∧ (2 * q) / 2 = q ∧ (2 * q + 1 + 1) / 2 = q + 1 := ⟨by omega, by omega, by omega⟩
theorem slot_even (q : ℕ) : slot (2 * q) = 0 := Fin.ext (by show 2 * q % 2 = 0; omega)
theorem slot_odd (q : ℕ) : slot (2 * q + 1) = 1 := Fin.ext (by show (2 * q + 1) % 2 = 1; omega)
theorem slot_add2 (k : ℕ) : slot (k + 2) = slot k := Fin.ext (by show (k + 2) % 2 = k % 2; omega)
theorem half_slot (k : ℕ) : 2 * (k / 2) + (slot k).val = k := Nat.div_add_mod k 2

theorem duties_send (c : Dev nD) (i : Fin 8) {k : ℕ} (h : k < 31) : (Rd X W).duties (cell c (.send i (slot k))) (k / 2) = {0} := by
  rw [duties_cell]; exact if_pos (by rw [half_slot]; exact h)
theorem duties_recv (c : Dev nD) (i : Fin 8) {k : ℕ} (h : k < 31) : (Rd X W).duties (cell c (.recv i (slot k))) (k / 2) = {0} := by
  rw [duties_cell]; exact if_pos (by rw [half_slot]; exact h)
theorem expect_send (c : Dev nD) (i : Fin 8) {k : ℕ} (h : k < 31) : (Rd X W).expect (cell c (.send i (slot k))) (k / 2) = N := by
  unfold Schedule.expect Schedule.amountOf; rw [duties_send X W c i h, Finset.sum_singleton, amount_cell]; rfl
theorem expect_recv (c : Dev nD) (i : Fin 8) {k : ℕ} (h : k < 31) : (Rd X W).expect (cell c (.recv i (slot k))) (k / 2) = N := by
  unfold Schedule.expect Schedule.amountOf; rw [duties_recv X W c i h, Finset.sum_singleton, amount_cell]; rfl

/-- The parts of a send state that belong to one slot: the position on its cell. -/
theorem SendSt_pos (c : Dev nD) (i : Fin 8) (w : ℕ) :
    iprop((atPos ER (cell c (.send i 0)) ((w + 1) / 2) ∅ 0 ∗ reached ER (cell c (.send i 0)) ((w + 1) / 2))
      ∗ (atPos ER (cell c (.send i 1)) (w / 2) ∅ 0 ∗ reached ER (cell c (.send i 1)) (w / 2)))
    ⊢ (iprop((atPos ER (cell c (.send i (slot w))) (w / 2) ∅ 0 ∗ reached ER (cell c (.send i (slot w))) (w / 2))
      ∗ ((atPos ER (cell c (.send i (slot w))) (w / 2 + 1) ∅ 0 ∗ reached ER (cell c (.send i (slot w))) (w / 2 + 1)) -∗
        ((atPos ER (cell c (.send i 0)) ((w + 1 + 1) / 2) ∅ 0 ∗ reached ER (cell c (.send i 0)) ((w + 1 + 1) / 2))
      ∗ (atPos ER (cell c (.send i 1)) ((w + 1) / 2) ∅ 0 ∗ reached ER (cell c (.send i 1)) ((w + 1) / 2))))) : sProp 𝕄) := by
  rcases Nat.even_or_odd' w with ⟨q, rfl | rfl⟩
  · rw [slot_even, (half_even q).1, (half_even q).2.1, (half_even q).2.2]
    iintro ⟨H0, H1⟩
    isplitl [H0]; · iexact H0
    iintro H
    isplitl [H] <;> iassumption
  · rw [slot_odd, (half_even q).1, (half_even q).2.2, show (2 * q + 1 + 1 + 1) / 2 = q + 1 by omega]
    iintro ⟨H0, H1⟩
    isplitl [H1]; · iexact H1
    iintro H
    isplitl [H0] <;> iassumption
theorem RecvSt_pos (c : Dev nD) (i : Fin 8) (w : ℕ) :
    iprop((atPos ER (cell c (.recv i 0)) ((w + 1) / 2) ∅ 0 ∗ reached ER (cell c (.recv i 0)) ((w + 1) / 2))
      ∗ (atPos ER (cell c (.recv i 1)) (w / 2) ∅ 0 ∗ reached ER (cell c (.recv i 1)) (w / 2)))
    ⊢ (iprop((atPos ER (cell c (.recv i (slot w))) (w / 2) ∅ 0 ∗ reached ER (cell c (.recv i (slot w))) (w / 2))
      ∗ ((atPos ER (cell c (.recv i (slot w))) (w / 2 + 1) ∅ 0 ∗ reached ER (cell c (.recv i (slot w))) (w / 2 + 1)) -∗
        ((atPos ER (cell c (.recv i 0)) ((w + 1 + 1) / 2) ∅ 0 ∗ reached ER (cell c (.recv i 0)) ((w + 1 + 1) / 2))
      ∗ (atPos ER (cell c (.recv i 1)) ((w + 1) / 2) ∅ 0 ∗ reached ER (cell c (.recv i 1)) ((w + 1) / 2))))) : sProp 𝕄) := by
  rcases Nat.even_or_odd' w with ⟨q, rfl | rfl⟩
  · rw [slot_even, (half_even q).1, (half_even q).2.1, (half_even q).2.2]
    iintro ⟨H0, H1⟩
    isplitl [H0]; · iexact H0
    iintro H
    isplitl [H] <;> iassumption
  · rw [slot_odd, (half_even q).1, (half_even q).2.2, show (2 * q + 1 + 1 + 1) / 2 = q + 1 by omega]
    iintro ⟨H0, H1⟩
    isplitl [H1]; · iexact H1
    iintro H
    isplitl [H0] <;> iassumption

/-- The record that lets send `s` go ahead, of the receiver's state after `s - 1` releases. -/
theorem RelSt_go (c : Dev nD) (i : Fin 8) (s : ℕ) :
    RelSt c i (s - 1) ⊢ (iprop(released ES (c, i, slot s) (s / 2 + 1) ∗ reached ER (cell c (.recv i (slot s))) (s / 2)) : sProp 𝕄) := by
  unfold RelSt
  rcases Nat.even_or_odd' s with ⟨q, rfl | rfl⟩
  · rw [slot_even, (half_even q).2.1]
    iintro ⟨H0, -, R0, -⟩
    isplitl [H0]
    · iapply (released_mono (ES (F := F)) (show q + 1 ≤ (2 * q - 1 + 1) / 2 + 1 by omega)); iexact H0
    · iapply (reached_mono (ER (F := F)) (show q ≤ (2 * q - 1 + 1) / 2 by omega)); iexact R0
  · rw [slot_odd, (half_even q).1]
    iintro ⟨-, H0, -, R0⟩
    isplitl [H0]
    · iapply (released_mono (ES (F := F)) (show q + 1 ≤ (2 * q + 1 - 1) / 2 + 1 by omega)); iexact H0
    · iapply (reached_mono (ER (F := F)) (show q ≤ (2 * q + 1 - 1) / 2 by omega)); iexact R0
/-- The round a send's own cell has reached when it starts. -/
theorem SendSt_reached (c : Dev nD) (i : Fin 8) (s : ℕ) :
    iprop(reached ER (cell c (.send i 0)) ((s - 1 + 1) / 2) ∗ reached ER (cell c (.send i 1)) ((s - 1) / 2))
      ⊢ (reached ER (cell c (.send i (slot s))) (s / 2) : sProp 𝕄) := by
  rcases Nat.even_or_odd' s with ⟨q, rfl | rfl⟩
  · rw [slot_even, (half_even q).2.1]
    iintro ⟨H0, -⟩
    iapply (reached_mono (ER (F := F)) (show q ≤ (2 * q - 1 + 1) / 2 by omega)); iexact H0
  · rw [slot_odd, (half_even q).1]
    iintro ⟨-, H0⟩
    iapply (reached_mono (ER (F := F)) (show q ≤ (2 * q + 1 - 1) / 2 by omega)); iexact H0

theorem pay_send (c : Dev nD) (i : Fin 8) (p : Fin 2) (r : ℕ) (f : Buf (Elt F) ((slotAcc (sM i) p).loc (c : Thread nD τ))) :
    ((sSlot i p).view.loc (c : Thread nD τ) ↦[(sSlot i p).view.set]{fullShare} f : sProp 𝕄) ⊢ (Rd X W).payload (cell c (.send i p)) r 0 := by
  rw [payload_cell, sPts_eq]
  show _ ⊢ slotAny (sM i) p c
  unfold slotAny Release.slot
  iintro H; iexists f; iexact H
theorem pay_recv (c : Dev nD) (i : Fin 8) (s : ℕ) (f : Buf (Elt F) ((slotAcc (sM i) (slot s)).loc (c : Thread nD τ)))
    (hf : (slotAcc (sM i) (slot s)).read (Elt F) f = sendV X W i s c)
    (fd : Buf (Elt F) ((slotAcc (rM i) (slot s)).loc (toD c i : Thread nD τ))) :
    ((rSlot i (slot s)).view.loc (toD c i : Thread nD τ) ↦[(rSlot i (slot s)).view.set]{fullShare}
        ((rSlot i (slot s)).view.write (Elt F) fd ((sSlot i (slot s)).view.read (Elt F) f) Finset.univ) : sProp 𝕄)
      ⊢ (Rd X W).payload (cell (toD c i) (.recv i (slot s))) (s / 2) 0 := by
  refine (Entails.of_eq (rPts_eq (toD c i) i (slot s) _)).trans ?_
  rw [payload_cell]
  show _ ⊢ slotAt (rM i) (slot s) (toD c i) (sendV X W i (2 * (s / 2) + (slot s).val) (fromD (toD c i) i))
  rw [half_slot, from_to, ← hf, ← copied (slotAcc (rM i) (slot s)) (slotAcc (sM i) (slot s)) (by decide) fd f]
  unfold slotAt
  iintro H; iexists _
  isplitr
  rotate_left
  · iexact H
  ipureintro; rfl

/-- The start of the copy, alone. -/
theorem send_rule (c : Dev nD) (i : Fin 8) (s : ℕ) (hs : s < 31) (f : Buf (Elt F) ((slotAcc (sM i) (slot s)).loc (c : Thread nD τ)))
    (hf : (slotAcc (sM i) (slot s)).read (Elt F) f = sendV X W i s c)
    (fd : Buf (Elt F) ((slotAcc (rM i) (slot s)).loc (toD c i : Thread nD τ)))
    (O₀ O : CellTallies nD τ sig ℕ) (hO : O₀ = O + tallyAt (cell (toD c i) (.recv i (slot s))) s N) (Wd : Waits sig ℕ)
    (k : PUnit → P F) (Q : PUnit → sProp 𝕄) :
    iprop(Inv X W κ ιs ∗ ((slotAcc (sM i) (slot s)).loc (c : Thread nD τ) ↦[(slotAcc (sM i) (slot s)).set]{fullShare} f)
        ∗ ((slotAcc (rM i) (slot s)).loc (toD c i : Thread nD τ) ↦[(slotAcc (rM i) (slot s)).set]{fullShare} fd)
        ∗ owes (c : Thread nD τ) O₀ Wd
        ∗ dutyTok ER (cell c (.send i (slot s))) (s / 2) 0 ∗ reached ER (cell c (.send i (slot s))) (s / 2)
        ∗ dutyTok ER (cell (toD c i) (.recv i (slot s))) (s / 2) 0 ∗ reached ER (cell (toD c i) (.recv i (slot s))) (s / 2)
        ∗ ((cred (tallyAt (cell c (.send i (slot s))) 0 N) ∗ owes (c : Thread nD τ) O Wd) -∗ wpc c (k ⟨⟩) Q))
      ⊢ wpc c (.op (.enqueueDma (sSlot i (slot s)) (.remote (Dev.tc (toD c i)) (rSlot i (slot s)) (.dma (sSem i (slot s)))) (.dma (rSem i (slot s)))
          (sSlot_words i (slot s)) (rSlot_words i (slot s)) ⟨⟨rfl, Or.inl rfl⟩, trivial⟩) k) Q := by
  rw [← sPts_eq c i (slot s), ← rPts_eq (toD c i) i (slot s)]
  iintro ⟨#HI, Hs, Hd, HO, Hts, Hrs, Htr, Hrr, Hk⟩
  iapply (Rounds.wp_send_pointsTo 𝒱₀ (ER (F := F)) (Rd X W) (c : Thread nD τ) none (c' := (toD c i : Thread nD τ)) (src := sSlot i (slot s)) (dst := rSlot i (slot s))
      (sS := .dma (sSem i (slot s))) (sem := .dma (rSem i (slot s))) (q := fullShare) (κ₁ := κ (cell c (.send i (slot s)))) (κ₂ := κ (cell (toD c i) (.recv i (slot s))))
      (r₁ := s / 2) (r₂ := s / 2) (d₁ := 0) (d₂ := 0) (fs := f) (fd := fd)
      (by rw [duties_send X W c i hs]; exact Finset.mem_singleton_self _) (by rw [duties_recv X W (toD c i) i hs]; exact Finset.mem_singleton_self _)
      s 0 N (N_r i (slot s)) (amount_cell X W c (.send i (slot s)) _ _) (amount_cell X W (toD c i) (.recv i (slot s)) _ _)
      O hO (W := Wd) (pay_send (F := F) X W c i (slot s) (s / 2) f) (pay_recv (F := F) X W c i s f hf fd)) $$ [Hs Hd HO Htr Hts Hrs Hrr]
  · isplitr; · iapply (Inv_cell (F := F) X W κ ιs c (.send i (slot s))); iexact HI
    isplitr; · iapply (Inv_cell (F := F) X W κ ιs (toD c i) (.recv i (slot s))); iexact HI
    isplitl [Hs]; · iexact Hs
    isplitl [Hd]; · iexact Hd
    isplitl [HO]; · iexact HO
    isplitl [Hts]; · iexact Hts
    isplitl [Hrs]; · iexact Hrs
    isplitl [Htr] <;> iassumption
  iexact Hk

/-- Send slot `p` of ring `i` to device `d`, holding `v`. -/
def sendTo (i : Fin 8) (p : Fin 2) (d : Dev nD) (v : FVec F S1x128x1024 .bf16) (K : P F) : P F :=
  loadB (sM i) p fun _ =>
  .op (.store (sM i) (slotRect p) v Finset.univ (View.stores_vmem h_S1x128x1024 ((sM_whole i).storeExact_slice rfl _ (packed_slot p)) (fun _ => rfl)) (.inl rfl)) fun _ =>
  .op (.enqueueDma (sSlot i p) (.remote (Dev.tc d) (rSlot i p) (.dma (sSem i p))) (.dma (rSem i p)) (sSlot_words i p) (rSlot_words i p) ⟨⟨rfl, Or.inl rfl⟩, trivial⟩) fun _ =>
  K

/-- SEND `s`: fill the slot, take the peer's slot, start the copy. -/
theorem move_sendTo (c : Dev nD) (i : Fin 8) (s b : ℕ) (hs : s < 31) (O : CellTallies nD τ sig ℕ) (k : P F) (Q : PUnit → sProp 𝕄) :
    iprop(Inv X W κ ιs ∗ SendSt c i (s - 1) s ∗ RelSt (toD c i) i (s - 1) ∗ owesE c (O + owedR c i s b)
        ∗ ((SendSt c i (s - 1) (s + 1) ∗ owesE c (O + owedR c i (s + 1) b)) -∗ wpc c k Q))
      ⊢ wpc c (sendTo i (slot s) (toD c i) (sendV X W i s c) k) Q := by
  have hIco : Finset.Ico s (s - 1 + 2) = insert s (Finset.Ico (s + 1) (s - 1 + 2)) := ico_head (by omega)
  have hIco' : Finset.Ico (s - 1) (s + 1) = insert s (Finset.Ico (s - 1) s) := by
    ext x; rw [Finset.mem_insert, Finset.mem_Ico, Finset.mem_Ico]; omega
  have hnot : s ∉ Finset.Ico (s - 1) s := fun h => by have := Finset.mem_Ico.mp h; omega
  unfold sendTo SendSt owesE
  iintro ⟨#HI, ⟨Htodo, ⟨Ha0, #Hr0⟩, ⟨Ha1, #Hr1⟩, Hcr, Hsl⟩, #Hrel, ⟨%Wd, HO⟩, Hk⟩
  ihave Ht := (Todo_take (SendTok (F := F) c i) hs) $$ Htodo
  icases Ht with ⟨Htok, Htodo⟩
  ihave Hsl' := (big_shrink (fun k => (slotAny (sM i) (slot k) c : sProp 𝕄)) hIco (ico_notMem _ _)) $$ Hsl
  icases Hsl' with ⟨Hs, Hsl⟩
  ihave Hgo := (RelSt_go (F := F) (toD c i) i s) $$ Hrel
  icases Hgo with ⟨#Hgo1, #Hgo2⟩
  ihave #Hrs := (SendSt_reached (F := F) c i s) $$ [Hr0 Hr1]
  · isplitl [] <;> iassumption
  unfold SendTok slotAny Release.slot
  icases Htok with ⟨Hw, Htr, Hts⟩
  icases Hs with ⟨%f, Hs⟩
  iapply (wp_load_rect 𝒱₀ (c : Thread nD τ) none Set.univ (m := sM i) (r := slotRect (slot s)) (Finset.Subset.refl _)) $$ Hs
  iintro Hs
  iapply (wp_store 𝒱₀ (c : Thread nD τ) none Set.univ (m := sM i) (r := slotRect (slot s)) (w := sendV X W i s c) (Mk := Finset.univ)
    (by rw [View.setOn_univ])) $$ Hs
  iintro Hs
  imod (slot_take (ES (F := F)) (ι := ιs (toD c i, i, slot s)) (k := (toD c i, i, slot s)) (S := slotAny (rM i) (slot s) (toD c i)) (Set.mem_univ _) (s / 2 + 1)) $$ [Hw] with Hd
  · isplitr; · iapply (Inv_slot (F := F) X W κ ιs (toD c i) i (slot s)); iexact HI
    isplitr; · iexact Hgo1
    iexact Hw
  unfold slotAny Release.slot
  icases Hd with ⟨%fd, Hd⟩
  iapply (send_rule (F := F) X W κ ιs c i s hs _ (View.read_write_univ _ _) fd (O + owedR c i s b) (O + owedR c i (s + 1) b)
    (by rw [owedR_send c i hs, ← add_assoc]) Wd _ Q)
  isplitr; · iexact HI
  isplitl [Hs]; · iexact Hs
  isplitl [Hd]; · iexact Hd
  isplitl [HO]; · iexact HO
  isplitl [Hts]; · iexact Hts
  isplitr; · iexact Hrs
  isplitl [Htr]; · iexact Htr
  isplitr; · iexact Hgo2
  iintro ⟨Hc, HO⟩
  iapply Hk
  isplitr [HO]
  · isplitl [Htodo]; · iexact Htodo
    isplitl [Ha0]
    · isplitl [Ha0]; · iexact Ha0
      iexact Hr0
    isplitl [Ha1]
    · isplitl [Ha1]; · iexact Ha1
      iexact Hr1
    isplitl [Hcr Hc]
    · iapply (big_grow (fun k => (cred (tallyAt (cell c (.send i (slot k))) 0 N) : sProp 𝕄)) hIco' hnot)
      isplitl [Hc] <;> iassumption
    iexact Hsl
  · iexists Wd; iexact HO

theorem move_send (c : Dev nD) (i : Fin 8) (s b : ℕ) (hs : s < 31) (v0 v1 : BitVec 32) (h : devOf (toW v0 v1 i) < nD)
    (hd : (⟨devOf (toW v0 v1 i), h⟩ : Dev nD) = toD c i) (O : CellTallies nD τ sig ℕ) (k : P F) (Q : PUnit → sProp 𝕄) :
    iprop(Inv X W κ ιs ∗ SendSt c i (s - 1) s ∗ RelSt (toD c i) i (s - 1) ∗ owesE c (O + owedR c i s b)
        ∗ ((SendSt c i (s - 1) (s + 1) ∗ owesE c (O + owedR c i (s + 1) b)) -∗ wpc c k Q))
      ⊢ wpc c (sendB i (slot s) v0 v1 h (sendV X W i s c) k) Q := by
  have e : sendB i (slot s) v0 v1 h (sendV X W i s c) k = sendTo i (slot s) ⟨devOf (toW v0 v1 i), h⟩ (sendV X W i s c) k := rfl
  rw [e, hd]
  exact move_sendTo X W κ ιs c i s b hs O k Q

theorem recv_pay (c : Dev nD) (i : Fin 8) {k : ℕ} (hk : k < 31) :
    (bigSep ((Rd X W).duties (cell c (.recv i (slot k))) (k / 2)) fun d => (Rd X W).payload (cell c (.recv i (slot k))) (k / 2) d)
      ⊢ slotAt (rM i) (slot k) c (sendV X W i k (fromD c i)) := by
  rw [duties_recv X W c i hk]
  refine (Entails.of_eq bigSep_singleton).trans ?_
  rw [payload_cell]
  show slotAt (rM i) (slot k) c (sendV X W i (2 * (k / 2) + (slot k).val) (fromD c i)) ⊢ _
  rw [half_slot]
theorem sent_pay (c : Dev nD) (i : Fin 8) {k : ℕ} (hk : k < 31) :
    (bigSep ((Rd X W).duties (cell c (.send i (slot k))) (k / 2)) fun d => (Rd X W).payload (cell c (.send i (slot k))) (k / 2) d)
      ⊢ slotAny (sM i) (slot k) c := by
  rw [duties_send X W c i hk]
  refine (Entails.of_eq bigSep_singleton).trans ?_
  rw [payload_cell]
  exact Entails.refl _

theorem cred_pay (c : Dev nD) (i : Fin 8) {T S : Finset ℕ} (h : T ⊆ S) :
    iprop((bigSep T fun d => RelSt (toD c i) i (min d 28 + 1)) ∗ bigSep (S \ T) fun d => (Rd X W).payload (cell c (.cred i)) 0 d)
      ⊢ (bigSep S fun d => (RelSt (toD c i) i (min d 28 + 1) : sProp 𝕄)) := by
  have e : (fun d => (Rd X W).payload (cell c (.cred i)) 0 d) = fun d => (RelSt (toD c i) i (min d 28 + 1) : sProp 𝕄) :=
    funext fun d => payload_cell X W c (.cred i) 0 d
  rw [e]
  exact Entails.of_eq (bigSep_sdiff_split h).symm
theorem cred_get (c : Dev nD) (i : Fin 8) {S : Finset ℕ} {d : ℕ} (h : d ∈ S) :
    (bigSep S fun d => (RelSt (toD c i) i (min d 28 + 1) : sProp 𝕄)) ⊢ RelSt (toD c i) i (min d 28 + 1) := bigSep_elim h
theorem cred_give (c : Dev nD) (i : Fin 8) (b : ℕ) :
    (RelSt c i (min b 28 + 1) : sProp 𝕄) ⊢ (Rd X W).payload (cell (fromD c i) (.cred i)) 0 b := by
  rw [payload_cell]
  show _ ⊢ RelSt (toD (fromD c i) i) i (min b 28 + 1)
  rw [to_from]

/-- RECEIVE `k`: the wait, and the read of what the peer sent. -/
theorem move_recv (c : Dev nD) (i : Fin 8) (l k : ℕ) (hk : k < 31) (hl : l ≤ k) (O : CellTallies nD τ sig ℕ) (hO : Above O (2 * k + 3))
    (K : Vec F S1x128x1024 .bf16 → P F) (Q : PUnit → sProp 𝕄) :
    iprop(Inv X W κ ιs ∗ RecvSt c i l k ∗ owesE c O
        ∗ ((RecvSt c i l (k + 1) ∗ owesE c O) -∗ wpc c (K (sendV X W i k (fromD c i))) Q))
      ⊢ wpc c (recvB i (slot k) K) Q := by
  have hIco' : Finset.Ico l (k + 1) = insert k (Finset.Ico l k) := by
    ext x; rw [Finset.mem_insert, Finset.mem_Ico, Finset.mem_Ico]; omega
  have hnot : k ∉ Finset.Ico l k := fun h => by have := Finset.mem_Ico.mp h; omega
  unfold recvB RecvSt owesE
  iintro ⟨#HI, ⟨Htodo, ⟨Ha0, Hr0⟩, ⟨Ha1, Hr1⟩, Hrd0, Hrd1, Hrel, Hsl⟩, ⟨%Wd, HO⟩, Hk⟩
  ihave Ht := (Todo_take (RecvTok (F := F) c i) hk) $$ Htodo
  icases Ht with ⟨Htok, Htodo⟩
  ihave Hp := (RecvSt_pos (F := F) c i k) $$ [Ha0 Hr0 Ha1 Hr1]
  · isplitl [Ha0 Hr0]
    · isplitl [Ha0] <;> iassumption
    · isplitl [Ha1] <;> iassumption
  icases Hp with ⟨⟨Hat, -⟩, Hback⟩
  unfold RecvTok
  iapply (Rounds.wp_wait_rest_token 𝒱₀ (ER (F := F)) (Rd X W) (c : Thread nD τ) none (κ := κ (cell c (.recv i (slot k))))
      (wpE_waitDma2_eq 𝒱₀ (c : Thread nD τ) none Set.univ) (Set.mem_univ _) k (O := O) (W := Wd) (R := k / 2) (m := 0) (T := ∅)
      (by rw [Nat.zero_add]; exact (N_r i (slot k)).trans (expect_recv X W c i hk).symm)) $$ [Htok HO Hat]
  · isplitr; · iapply (Inv_cell (F := F) X W κ ιs c (.recv i (slot k))); iexact HI
    isplitl [Htok]; · iexact Htok
    isplitl [HO]; · iexact HO
    isplitr; · iapply (Inv_mayWait (F := F) X W κ ιs c (.recv i (slot k)) k (by omega) hO); iexact HI
    iexact Hat
  iintro ⟨HO, Hat, Hre, Hpay⟩
  rw [Finset.sdiff_empty]
  ihave Hpay := (recv_pay (F := F) X W c i hk) $$ Hpay
  unfold slotAt
  icases Hpay with ⟨%f, %hf, Hs⟩
  iapply (wp_load_rect 𝒱₀ (c : Thread nD τ) none Set.univ (m := rM i) (r := slotRect (slot k)) (Finset.Subset.refl _)) $$ Hs
  iintro Hs
  rw [hf]
  ihave Hp := Hback $$ [Hat Hre]
  · isplitl [Hat] <;> iassumption
  icases Hp with ⟨H0, H1⟩
  iapply Hk
  isplitr [HO]
  · isplitl [Htodo]; · iexact Htodo
    isplitl [H0]; · iexact H0
    isplitl [H1]; · iexact H1
    isplitl [Hrd0]; · iexact Hrd0
    isplitl [Hrd1]; · iexact Hrd1
    isplitl [Hrel]; · iexact Hrel
    iapply (big_grow (fun k => (slotAny (rM i) (slot k) c : sProp 𝕄)) hIco' hnot)
    isplitl [Hs]
    · unfold slotAny Release.slot; iexists f; iexact Hs
    iexact Hsl
  · iexists _; iexact HO

/-- RELEASE the slot of delivery `k`. -/
theorem move_release (c : Dev nD) (i : Fin 8) (k : ℕ) :
    iprop(Inv X W κ ιs ∗ RecvSt c i k (k + 1)) ⊢ (|={Set.univ}=> RecvSt c i (k + 1) (k + 1) : sProp 𝕄) := by
  have hIco : Finset.Ico k (k + 1) = insert k (Finset.Ico (k + 1) (k + 1)) := ico_head (by omega)
  unfold RecvSt
  iintro ⟨#HI, Htodo, ⟨Ha0, #Hr0⟩, ⟨Ha1, #Hr1⟩, Hrd0, Hrd1, Hrel, Hsl⟩
  ihave Hsl' := (big_shrink (fun k => (slotAny (rM i) (slot k) c : sProp 𝕄)) hIco (ico_notMem _ _)) $$ Hsl
  icases Hsl' with ⟨Hs, Hsl⟩
  unfold RelSt
  icases Hrel with ⟨#R0, #R1, -, -⟩
  ihave #HS := (Inv_slot (F := F) X W κ ιs c i (slot k)) $$ HI
  rcases Nat.even_or_odd' k with ⟨q, rfl | rfl⟩
  · rw [slot_even, (half_even q).1, (half_even q).2.1, (half_even q).2.2]
    imod (slot_release (ES (F := F)) (ι := ιs (c, i, 0)) (k := (c, i, 0)) (S := slotAny (rM i) 0 c) (Set.mem_univ _) (slotAny_false c i 0) (q + 1)) $$ [Hrd0 Hs] with H
    · isplitr; · iexact HS
      isplitl [Hrd0]; · iexact Hrd0
      iexact Hs
    icases H with ⟨Hrd0, #R0'⟩
    imodintro
    isplitl [Htodo]; · iexact Htodo
    isplitl [Ha0]
    · isplitl [Ha0]; · iexact Ha0
      iexact Hr0
    isplitl [Ha1]
    · isplitl [Ha1]; · iexact Ha1
      iexact Hr1
    isplitl [Hrd0]; · iexact Hrd0
    isplitl [Hrd1]; · iexact Hrd1
    isplitr
    · isplitr; · iexact R0'
      isplitr; · iexact R1
      isplitr; · iexact Hr0
      iexact Hr1
    iexact Hsl
  · rw [slot_odd, (half_even q).1, (half_even q).2.2, show (2 * q + 1 + 1 + 1) / 2 = q + 1 by omega]
    imod (slot_release (ES (F := F)) (ι := ιs (c, i, 1)) (k := (c, i, 1)) (S := slotAny (rM i) 1 c) (Set.mem_univ _) (slotAny_false c i 1) (q + 1)) $$ [Hrd1 Hs] with H
    · isplitr; · iexact HS
      isplitl [Hrd1]; · iexact Hrd1
      iexact Hs
    icases H with ⟨Hrd1, #R1'⟩
    imodintro
    isplitl [Htodo]; · iexact Htodo
    isplitl [Ha0]
    · isplitl [Ha0]; · iexact Ha0
      iexact Hr0
    isplitl [Ha1]
    · isplitl [Ha1]; · iexact Ha1
      iexact Hr1
    isplitl [Hrd0]; · iexact Hrd0
    isplitl [Hrd1]; · iexact Hrd1
    isplitr
    · isplitr; · iexact R0
      isplitr; · iexact R1'
      isplitr; · iexact Hr0
      iexact Hr1
    iexact Hsl

/-- SENT `w`: the wait for send `w` to have left. -/
theorem move_sent (c : Dev nD) (i : Fin 8) (w s : ℕ) (hw : w < s) (hw' : s ≤ w + 2) (hs : w < 31) (O : CellTallies nD τ sig ℕ) (hO : Above O 1)
    (K : P F) (Q : PUnit → sProp 𝕄) :
    iprop(Inv X W κ ιs ∗ SendSt c i w s ∗ owesE c O ∗ ((SendSt c i (w + 1) s ∗ owesE c O) -∗ wpc c K Q))
      ⊢ wpc c (sentB i (slot w) K) Q := by
  have hIco : Finset.Ico w s = insert w (Finset.Ico (w + 1) s) := ico_head hw
  have hIco' : Finset.Ico s (w + 1 + 2) = insert (w + 2) (Finset.Ico s (w + 2)) := by
    ext x; rw [Finset.mem_insert, Finset.mem_Ico, Finset.mem_Ico]; omega
  have hnot : w + 2 ∉ Finset.Ico s (w + 2) := fun h => by have := Finset.mem_Ico.mp h; omega
  unfold sentB SendSt owesE
  iintro ⟨#HI, ⟨Htodo, ⟨Ha0, Hr0⟩, ⟨Ha1, Hr1⟩, Hcr, Hsl⟩, ⟨%Wd, HO⟩, Hk⟩
  ihave Ht := (big_shrink (fun k => (cred (tallyAt (cell c (.send i (slot k))) 0 N) : sProp 𝕄)) hIco (ico_notMem _ _)) $$ Hcr
  icases Ht with ⟨Htok, Hcr⟩
  ihave Hp := (SendSt_pos (F := F) c i w) $$ [Ha0 Hr0 Ha1 Hr1]
  · isplitl [Ha0 Hr0]
    · isplitl [Ha0] <;> iassumption
    · isplitl [Ha1] <;> iassumption
  icases Hp with ⟨⟨Hat, -⟩, Hback⟩
  iapply (Rounds.wp_wait_rest_token 𝒱₀ (ER (F := F)) (Rd X W) (c : Thread nD τ) none (κ := κ (cell c (.send i (slot w))))
      (wpE_waitDma2_eq 𝒱₀ (c : Thread nD τ) none Set.univ) (Set.mem_univ _) 0 (O := O) (W := Wd) (R := w / 2) (m := 0) (T := ∅)
      (by rw [Nat.zero_add]; exact (N_s i (slot w)).trans (expect_send X W c i hs).symm)) $$ [Htok HO Hat]
  · isplitr; · iapply (Inv_cell (F := F) X W κ ιs c (.send i (slot w))); iexact HI
    isplitl [Htok]; · iexact Htok
    isplitl [HO]; · iexact HO
    isplitr; · iapply (Inv_mayWait (F := F) X W κ ιs c (.send i (slot w)) 0 (by omega) hO); iexact HI
    iexact Hat
  iintro ⟨HO, Hat, Hre, Hpay⟩
  rw [Finset.sdiff_empty]
  ihave Hpay := (sent_pay (F := F) X W c i hs) $$ Hpay
  ihave Hp := Hback $$ [Hat Hre]
  · isplitl [Hat] <;> iassumption
  icases Hp with ⟨H0, H1⟩
  iapply Hk
  isplitr [HO]
  · isplitl [Htodo]; · iexact Htodo
    isplitl [H0]; · iexact H0
    isplitl [H1]; · iexact H1
    isplitl [Hcr]; · iexact Hcr
    iapply (big_grow (fun k => (slotAny (sM i) (slot k) c : sProp 𝕄)) hIco' hnot)
    rw [slot_add2]
    isplitl [Hpay] <;> iassumption
  · iexists _; iexact HO

/-- CREDIT WAIT number `n`: so many credits came, so one of them was given after delivery `n` was released. -/
theorem move_cwait (c : Dev nD) (i : Fin 8) (n b : ℕ) (hn : n ≤ 28) (O : CellTallies nD τ sig ℕ) (hO : Above O (2 * n + 4))
    (K : P F) (Q : PUnit → sProp 𝕄) :
    iprop(Inv X W κ ιs ∗ CredSt c i n b ∗ owesE c O ∗ ((CredSt c i (n + 1) b ∗ RelSt (toD c i) i (n + 1) ∗ owesE c O) -∗ wpc c K Q))
      ⊢ wpc c (.op (.semWait (cSem i) (1#32 : BitVec 32).toInt) fun _ => K) Q := by
  rw [show (1#32 : BitVec 32).toInt = ((1 : ℕ) : Int) from rfl]
  unfold CredSt owesE
  iintro ⟨#HI, ⟨Htodo, Hw, #Hr, ⟨%T, %hT, Hat, #HT⟩⟩, ⟨%Wd, HO⟩, Hk⟩
  ihave Ht := (Todo_take (WaitTok (F := F) c i) (show n < 31 by omega)) $$ Hw
  icases Ht with ⟨Htok, Hw⟩
  unfold WaitTok
  iapply (Rounds.wp_wait 𝒱₀ (ER (F := F)) (Rd X W) (c : Thread nD τ) none (κ := κ (cell c (.cred i)))
      (wpE_semWait_eq 𝒱₀ (c : Thread nD τ) none Set.univ) (Set.mem_univ _) (O := O) (W := Wd) (cr := Finsupp.single n 1) {(semOf (.cred i), n)}
      (R := 0) (m := n) (T := T) (by rw [Util.total_single]) (image_single_subset _ n 1)) $$ [Htok HO Hat]
  · isplitr; · iapply (Inv_cell (F := F) X W κ ιs c (.cred i)); iexact HI
    isplitl [Htok]; · iexact Htok
    isplitl [HO]; · iexact HO
    isplitr; · iapply (Inv_mayWait (F := F) X W κ ιs c (.cred i) n (by omega) hO); iexact HI
    iexact Hat
  iintro %S ⟨%hS, HO, Hat, Hpay⟩
  have hS' := hS
  rw [show (Rd X W).duties ((c : Thread nD τ), SemLoc.reg (cSem i)) 0 = _ from duties_cell X W c (.cred i) 0,
    show (Rd X W).expect ((c : Thread nD τ), SemLoc.reg (cSem i)) 0 = _ from expect_cell X W c (.cred i) 0] at hS'
  obtain ⟨hTS, hS31, hcard⟩ := hS'
  have hS31 : S ⊆ Finset.range 31 := hS31
  have hc1 : n + 1 ≤ S.card := by
    have h1 : (Finset.range 31 \ S).card = 31 - S.card := by rw [Finset.card_sdiff_of_subset hS31, Finset.card_range]
    have h2 : n + 1 + (Finset.range 31 \ S).card ≤ (Finset.range 31).card * 1 := hcard
    rw [h1, Finset.card_range] at h2
    have h3 := Finset.card_le_card hS31
    rw [Finset.card_range] at h3
    omega
  obtain ⟨d, hd, hnd⟩ : ∃ d ∈ S, n ≤ d := by
    by_contra hcon
    have : S ⊆ Finset.range n := fun d hd => by
      by_contra hh
      exact hcon ⟨d, hd, by rw [Finset.mem_range] at hh; omega⟩
    have := Finset.card_le_card this
    rw [Finset.card_range] at this
    omega
  ihave #HS := (cred_pay X W c i hTS) $$ [HT Hpay]
  · isplitr; · iexact HT
    iexact Hpay
  ihave #Hd := (cred_get (F := F) c i hd) $$ HS
  iapply Hk
  isplitr [HO]
  · isplitl [Htodo]; · iexact Htodo
    isplitl [Hw]; · iexact Hw
    isplitr; · iexact Hr
    iexists S
    isplitr; · ipureintro; exact ⟨hS31, hc1⟩
    isplitl [Hat]; · iexact Hat
    iexact HS
  isplitr
  · iapply (RelSt_mono (toD c i) i (show n + 1 ≤ min d 28 + 1 by omega)); iexact Hd
  iexists _; iexact HO

/-- One credit to device `d`. -/
def creditTo (i : Fin 8) (d : Dev nD) (K : P F) : P F :=
  .op (.semSignal (d, .tc) (cSem i) (1#32 : BitVec 32).toInt) fun _ => K
/-- CREDIT number `b`. -/
theorem move_creditTo (c : Dev nD) (i : Fin 8) (n a b : ℕ) (hb : b < 31) (O : CellTallies nD τ sig ℕ) (K : P F) (Q : PUnit → sProp 𝕄) :
    iprop(Inv X W κ ιs ∗ CredSt c i n b ∗ RelSt c i (min b 28 + 1) ∗ owesE c (O + owedR c i a b)
        ∗ ((CredSt c i n (b + 1) ∗ owesE c (O + owedR c i a (b + 1))) -∗ wpc c K Q))
      ⊢ wpc c (creditTo i (fromD c i) K) Q := by
  unfold creditTo CredSt owesE
  rw [show (1#32 : BitVec 32).toInt = ((1 : ℕ) : Int) from rfl]
  iintro ⟨#HI, ⟨Htodo, Hw, #Hr, HT⟩, #Hrel, ⟨%Wd, HO⟩, Hk⟩
  ihave Ht := (Todo_take (CredTok (F := F) c i) hb) $$ Htodo
  icases Ht with ⟨Htok, Htodo⟩
  unfold CredTok
  iapply (Rounds.wp_signal 𝒱₀ (ER (F := F)) (Rd X W) (c : Thread nD τ) none (dst := (fromD c i : Thread nD τ)) (κ := κ (cell (fromD c i) (.cred i)))
      (r := 0) (d := b) (k' := 1) (by rw [show (Rd X W).duties ((fromD c i : Thread nD τ), SemLoc.reg (cSem i)) 0 = _ from duties_cell X W (fromD c i) (.cred i) 0]; exact Finset.mem_range.mpr hb)
      (amount_cell X W (fromD c i) (.cred i) 0 b) b (O₀ := O + owedR c i a b) (O + owedR c i a (b + 1)) (by rw [owedR_cred c i hb, ← add_assoc]) (W := Wd)) $$ [HO Htok]
  · isplitr; · iapply (Inv_cell (F := F) X W κ ιs (fromD c i) (.cred i)); iexact HI
    isplitl [HO]; · iexact HO
    isplitl [Htok]; · iexact Htok
    isplitr; · iapply (cred_give X W c i b); iexact Hrel
    iexact Hr
  iintro HO
  iapply Hk
  isplitr [HO]
  · isplitl [Htodo]; · iexact Htodo
    isplitl [Hw]; · iexact Hw
    isplitr; · iexact Hr
    iexact HT
  iexists _; iexact HO
theorem move_credit (c : Dev nD) (i : Fin 8) (n a b : ℕ) (hb : b < 31) (v0 v1 : BitVec 32) (h : devOf (fromW v0 v1 i) < nD)
    (hd : (⟨devOf (fromW v0 v1 i), h⟩ : Dev nD) = fromD c i) (O : CellTallies nD τ sig ℕ) (K : P F) (Q : PUnit → sProp 𝕄) :
    iprop(Inv X W κ ιs ∗ CredSt c i n b ∗ RelSt c i (min b 28 + 1) ∗ owesE c (O + owedR c i a b)
        ∗ ((CredSt c i n (b + 1) ∗ owesE c (O + owedR c i a (b + 1))) -∗ wpc c K Q))
      ⊢ wpc c (creditB i v0 v1 h K) Q := by
  have e : creditB i v0 v1 h K = creditTo i ⟨devOf (fromW v0 v1 i), h⟩ K := rfl
  rw [e, hd]
  exact move_creditTo X W κ ιs c i n a b hb O K Q

theorem two_waits (c : Dev nD) (i : Fin 8) : Todo (WaitTok (F := F) c i) 29
    ⊢ cred (tallyOn (cell c (.cred i)) (Finsupp.single 29 1 + Finsupp.single 30 1)) := by
  have e : tallyOn (cell c (.cred i)) (Finsupp.single 29 1 + Finsupp.single 30 1)
      = tallyAt (cell c (.cred i)) 29 1 + tallyAt (cell c (.cred i)) 30 1 := by
    funext g; unfold tallyAt tallyOn
    by_cases h : g = cell c (.cred i)
    · subst h; simp only [Pi.add_apply, Pi.single_eq_same]
    · simp only [Pi.add_apply, Pi.single_eq_of_ne h, add_zero]
  rw [e]
  iintro H
  ihave H := (Todo_take (WaitTok (F := F) c i) (show 29 < 31 by omega)) $$ H
  icases H with ⟨H1, H⟩
  ihave H := (Todo_take (WaitTok (F := F) c i) (show 30 < 31 by omega)) $$ H
  icases H with ⟨H2, -⟩
  unfold WaitTok
  iapply (cred_add _ _).2
  isplitl [H1] <;> iassumption

/-- The FINAL WAIT for the two credits no send waited for. -/
theorem move_last (c : Dev nD) (i : Fin 8) (K : P F) (Q : PUnit → sProp 𝕄) :
    iprop(Inv X W κ ιs ∗ CredSt c i 29 31 ∗ owesE c 0 ∗ ((atPos ER (cell c (.cred i)) 1 ∅ 0 ∗ owesE c 0) -∗ wpc c K Q))
      ⊢ wpc c (.op (.semWait (cSem i) (2#32 : BitVec 32).toInt) fun _ => K) Q := by
  rw [show (2#32 : BitVec 32).toInt = ((2 : ℕ) : Int) from rfl]
  unfold CredSt owesE
  iintro ⟨#HI, ⟨-, Hw, #Hr, ⟨%T, %hT, Hat, #HT⟩⟩, ⟨%Wd, HO⟩, Hk⟩
  ihave Htok := (two_waits (F := F) c i) $$ Hw
  iapply (Rounds.wp_wait_rest 𝒱₀ (ER (F := F)) (Rd X W) (c : Thread nD τ) none (κ := κ (cell c (.cred i)))
      (wpE_semWait_eq 𝒱₀ (c : Thread nD τ) none Set.univ) (Set.mem_univ _) (O := 0) (W := Wd) (cr := Finsupp.single 29 1 + Finsupp.single 30 1)
      ((Finsupp.single 29 1 + Finsupp.single 30 1 : ℕ →₀ ℕ).support.image (semOf (.cred i), ·))
      (R := 0) (m := 29) (T := T) (by rw [show (Rd X W).expect ((c : Thread nD τ), SemLoc.reg (cSem i)) 0 = _ from expect_cell X W c (.cred i) 0]; rfl)
      (by rw [Util.total_add, Util.total_single, Util.total_single]) (Finset.Subset.refl _)) $$ [Htok HO Hat]
  · isplitr; · iapply (Inv_cell (F := F) X W κ ιs c (.cred i)); iexact HI
    isplitl [Htok]; · iexact Htok
    isplitl [HO]; · iexact HO
    isplitr; · rw [MayOwe_zero]; iempintro
    iexact Hat
  iintro ⟨HO, Hat, -, -⟩
  iapply Hk
  isplitl [Hat]; · iexact Hat
  iexists _; iexact HO

end State
end Cert.RingProof
-- ==== Proof.Rows.lean ====
/-
# One ring's steps, and a step of all rings

`RingSt c i t` is ring `i` of device `c` after `t` steps: 0 … 31 steps of sending, then the last receive, then the
waits at the end. A step of one ring is proved once for any step number; a step of all rings is eight of those.
-/
module

public import proofs.«01_k».proof.Proof.State
public import Idealize.ShloMosaic.Lib.ReshapeSlab

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Rows
variable (X : Dev nD → cc0_stg1_0.ty.Contents (Elt F)) (W : Dev nD → cc0_stg2_0.ty.Contents (Elt F))
variable (κ : GSem nD τ sig → ℕ) (ιs : Key → ℕ)

/-! ## One ring -/

/-- A ring whose waits are all done. -/
def DoneSt (c : Dev nD) (i : Fin 8) : sProp 𝕄 :=
  iprop(SendSt c i 31 31 ∗ RecvSt c i 29 31 ∗ atPos ER (cell c (.cred i)) 1 ∅ 0)
def RingSt (c : Dev nD) (i : Fin 8) (t : ℕ) : sProp 𝕄 :=
  if t ≤ 32 then
    iprop(SendSt c i (min (t - 2) 29) (min t 31) ∗ RecvSt c i (min (t - 1) 29) (t - 1) ∗ CredSt c i (min (t - 2) 29) (t - 1)
      ∗ RelSt (toD c i) i (min (t - 2) 29))
  else DoneSt c i
def owedT (c : Dev nD) (i : Fin 8) (t : ℕ) : CellTallies nD τ sig ℕ := owedR c i (min t 31) (t - 1)

theorem RingSt_of (c : Dev nD) (i : Fin 8) {t w s l n : ℕ} (ht : t ≤ 32) (hw : min (t - 2) 29 = w) (hs : min t 31 = s)
    (hl : min (t - 1) 29 = l) (hn : t - 1 = n) :
    (RingSt c i t : sProp 𝕄) = iprop(SendSt c i w s ∗ RecvSt c i l n ∗ CredSt c i w n ∗ RelSt (toD c i) i w) := by
  unfold RingSt; rw [if_pos ht, hw, hs, hl, hn]
theorem owedT_of (c : Dev nD) (i : Fin 8) {t s n : ℕ} (hs : min t 31 = s) (hn : t - 1 = n) : owedT c i t = owedR c i s n := by
  unfold owedT; rw [hs, hn]
theorem owedR_zero (c : Dev nD) (i : Fin 8) {b : ℕ} (h : 31 ≤ b) : owedR c i 31 b = 0 := by
  unfold owedR; rw [Finset.Ico_self, Finset.Ico_eq_empty_of_le h, Finset.sum_empty, Finset.sum_empty, add_zero]
theorem owedT_zero (c : Dev nD) (i : Fin 8) {t : ℕ} (h : 32 ≤ t) : owedT c i t = 0 := by
  rw [owedT_of c i (s := 31) (n := t - 1) (by omega) rfl]; exact owedR_zero c i (by omega)
theorem owedT_above (c : Dev nD) (i : Fin 8) {t s : ℕ} (h : s ≤ t) (h' : s ≤ 31) : Above (owedT c i t) (2 * s + 1) :=
  owedR_above c i _ _ _ (by omega) (by omega)

theorem RecvSt_rel (c : Dev nD) (i : Fin 8) (l n : ℕ) : (RecvSt c i l n : sProp 𝕄) ⊢ iprop(RelSt c i l ∗ RecvSt c i l n) := by
  unfold RecvSt
  iintro ⟨Ht, H0, H1, Hr0, Hr1, #Hrel, Hsl⟩
  isplitr; · iexact Hrel
  isplitl [Ht]; · iexact Ht
  isplitl [H0]; · iexact H0
  isplitl [H1]; · iexact H1
  isplitl [Hr0]; · iexact Hr0
  isplitl [Hr1]; · iexact Hr1
  isplitr; · iexact Hrel
  iexact Hsl

variable (v0 v1 : BitVec 32)
/-- The two words name the neighbours. -/
structure Names (c : Dev nD) : Prop where
  h0 : devOf v0 = (nxt c).val
  h1 : devOf v1 = (prv c).val
variable {v0 v1}
theorem Names.to {c : Dev nD} (hN : Names v0 v1 c) (i : Fin 8) (h : devOf (toW v0 v1 i) < nD) : (⟨devOf (toW v0 v1 i), h⟩ : Dev nD) = toD c i := by
  apply Fin.ext; fin_cases i <;> first | exact hN.h0 | exact hN.h1
theorem Names.from {c : Dev nD} (hN : Names v0 v1 c) (i : Fin 8) (h : devOf (fromW v0 v1 i) < nD) : (⟨devOf (fromW v0 v1 i), h⟩ : Dev nD) = fromD c i := by
  apply Fin.ext; fin_cases i <;> first | exact hN.h0 | exact hN.h1

theorem ring0 (c : Dev nD) (i : Fin 8) (hN : Names v0 v1 c) (h : devOf (toW v0 v1 i) < nD) (O : CellTallies nD τ sig ℕ) (K : P F) (Q : PUnit → sProp 𝕄) :
    iprop(Inv X W κ ιs ∗ RingSt c i 0 ∗ owesE c (O + owedT c i 0) ∗ ((RingSt c i 1 ∗ owesE c (O + owedT c i 1)) -∗ wpc c K Q))
      ⊢ wpc c (step0 i v0 v1 h (part X W c i 0) K) Q := by
  rw [RingSt_of c i (t := 0) (w := 0) (s := 0) (l := 0) (n := 0) (by omega) rfl rfl rfl rfl,
    RingSt_of c i (t := 1) (w := 0) (s := 1) (l := 0) (n := 0) (by omega) rfl rfl rfl rfl,
    owedT_of c i (t := 0) (s := 0) (n := 0) rfl rfl, owedT_of c i (t := 1) (s := 1) (n := 0) rfl rfl]
  show _ ⊢ wpc c (sendB i (slot 0) v0 v1 h (sendV X W i 0 c) K) Q
  iintro ⟨#HI, ⟨HS, HR, HC, #Hrel⟩, HO, Hk⟩
  iapply (move_send (F := F) X W κ ιs c i 0 0 (by omega) v0 v1 h (hN.to i h) O K Q)
  isplitr; · iexact HI
  isplitl [HS]; · iexact HS
  isplitr; · iexact Hrel
  isplitl [HO]; · iexact HO
  iintro ⟨HS, HO⟩
  iapply Hk
  isplitr [HO]
  · isplitl [HS]; · iexact HS
    isplitl [HR]; · iexact HR
    isplitl [HC]; · iexact HC
    iexact Hrel
  iexact HO

theorem fupd_step (c : Dev nD) (p : P F) (Q : PUnit → sProp 𝕄) (A B R : sProp 𝕄) (h : A ⊢ (|={Set.univ}=> B : sProp 𝕄)) (h' : iprop(B ∗ R) ⊢ wpc c p Q) :
    iprop(A ∗ R) ⊢ wpc c p Q := by
  iintro ⟨HA, HR⟩
  imod h $$ HA with HB
  iapply h'
  isplitl [HB] <;> iassumption

theorem ring1 (c : Dev nD) (i : Fin 8) (hN : Names v0 v1 c) (h : devOf (toW v0 v1 i) < nD) (h' : devOf (fromW v0 v1 i) < nD)
    (O : CellTallies nD τ sig ℕ) (hO : Above O 3) (K : Vec F S1x128x1024 .bf16 → P F) (Q : PUnit → sProp 𝕄) :
    iprop(Inv X W κ ιs ∗ RingSt c i 1 ∗ owesE c (O + owedT c i 1)
        ∗ ((RingSt c i 2 ∗ owesE c (O + owedT c i 2)) -∗ wpc c (K (sendV X W i 0 (fromD c i))) Q))
      ⊢ wpc c (step1 i v0 v1 h h' (part X W c i 1) K) Q := by
  rw [RingSt_of c i (t := 1) (w := 0) (s := 1) (l := 0) (n := 0) (by omega) rfl rfl rfl rfl,
    RingSt_of c i (t := 2) (w := 0) (s := 2) (l := 1) (n := 1) (by omega) rfl rfl rfl rfl,
    owedT_of c i (t := 1) (s := 1) (n := 0) rfl rfl, owedT_of c i (t := 2) (s := 2) (n := 1) rfl rfl]
  unfold step1
  show _ ⊢ wpc c (recvB i (slot 0) _) Q
  iintro ⟨#HI, ⟨HS, HR, HC, #Hrel⟩, HO, Hk⟩
  iapply (move_recv (F := F) X W κ ιs c i 0 0 (by omega) (by omega) (O + owedR c i 1 0) (hO.add (owedR_above c i 1 0 3 (by omega) (by omega))) _ Q)
  isplitr; · iexact HI
  isplitl [HR]; · iexact HR
  isplitl [HO]; · iexact HO
  iintro ⟨HR, HO⟩
  imod (move_release (F := F) X W κ ιs c i 0) $$ [HR] with HR
  · isplitr; · iexact HI
    iexact HR
  ihave HR := (RecvSt_rel (F := F) c i 1 1) $$ HR
  icases HR with ⟨#Hown, HR⟩
  iapply (move_send (F := F) X W κ ιs c i 1 0 (by omega) v0 v1 h (hN.to i h) O _ Q)
  isplitr; · iexact HI
  isplitl [HS]; · iexact HS
  isplitr; · iexact Hrel
  isplitl [HO]; · iexact HO
  iintro ⟨HS, HO⟩
  iapply (move_credit (F := F) X W κ ιs c i 0 2 0 (by omega) v0 v1 h' (hN.from i h') O _ Q)
  isplitr; · iexact HI
  isplitl [HC]; · iexact HC
  isplitr; · iexact Hown
  isplitl [HO]; · iexact HO
  iintro ⟨HC, HO⟩
  iapply Hk
  isplitr [HO]
  · isplitl [HS]; · iexact HS
    isplitl [HR]; · iexact HR
    isplitl [HC]; · iexact HC
    iexact Hrel
  iexact HO

/-- Delivery `k` is released unless it is one of the last two. -/
theorem maybe_release (c : Dev nD) (i : Fin 8) (k : ℕ) (h : k ≤ 29) :
    iprop(Inv X W κ ιs ∗ RecvSt c i k (k + 1)) ⊢ (|={Set.univ}=> RecvSt c i (min (k + 1) 29) (k + 1) : sProp 𝕄) := by
  rcases Nat.lt_or_ge k 29 with hk | hk
  · rw [show min (k + 1) 29 = k + 1 by omega]; exact move_release X W κ ιs c i k
  · obtain rfl : k = 29 := by omega
    iintro ⟨-, H⟩; imodintro; iexact H

theorem ring2 (c : Dev nD) (i : Fin 8) (k : ℕ) (hk : k + 2 < 31) (hN : Names v0 v1 c) (h : devOf (toW v0 v1 i) < nD) (h' : devOf (fromW v0 v1 i) < nD)
    (O : CellTallies nD τ sig ℕ) (hO : Above O (2 * (k + 2) + 1)) (K : Vec F S1x128x1024 .bf16 → P F) (Q : PUnit → sProp 𝕄) :
    iprop(Inv X W κ ιs ∗ RingSt c i (k + 2) ∗ owesE c (O + owedT c i (k + 2))
        ∗ ((RingSt c i (k + 3) ∗ owesE c (O + owedT c i (k + 3))) -∗ wpc c (K (sendV X W i (k + 1) (fromD c i))) Q))
      ⊢ wpc c (step2 (k + 2) i v0 v1 h h' (part X W c i (k + 2)) K) Q := by
  rw [RingSt_of c i (t := k + 2) (w := k) (s := k + 2) (l := k + 1) (n := k + 1) (by omega) (by omega) (by omega) (by omega) (by omega),
    RingSt_of c i (t := k + 3) (w := k + 1) (s := k + 3) (l := min (k + 2) 29) (n := k + 2) (by omega) (by omega) (by omega) (by omega) (by omega),
    owedT_of c i (t := k + 2) (s := k + 2) (n := k + 1) (by omega) (by omega), owedT_of c i (t := k + 3) (s := k + 3) (n := k + 2) (by omega) (by omega)]
  unfold step2
  have hA : Above (O + owedR c i (k + 2) (k + 1)) (2 * (k + 1) + 3) := hO.add (owedR_above c i _ _ _ (by omega) (by omega))
  show _ ⊢ wpc c (recvB i (slot (k + 1)) _) Q
  iintro ⟨#HI, ⟨HS, HR, HC, -⟩, HO, Hk⟩
  iapply (move_recv (F := F) X W κ ιs c i (k + 1) (k + 1) (by omega) (by omega) (O + owedR c i (k + 2) (k + 1)) hA _ Q)
  isplitr; · iexact HI
  isplitl [HR]; · iexact HR
  isplitl [HO]; · iexact HO
  iintro ⟨HR, HO⟩
  imod (maybe_release (F := F) X W κ ιs c i (k + 1) (by omega)) $$ [HR] with HR
  · isplitr; · iexact HI
    iexact HR
  ihave HR := (RecvSt_rel (F := F) c i (min (k + 2) 29) (k + 2)) $$ HR
  icases HR with ⟨#Hown, HR⟩
  rw [show slot (k + 2) = slot k from slot_add2 k]
  iapply (move_sent (F := F) X W κ ιs c i k (k + 2) (by omega) (by omega) (by omega) (O + owedR c i (k + 2) (k + 1)) (hA.mono (by omega)) _ Q)
  isplitr; · iexact HI
  isplitl [HS]; · iexact HS
  isplitl [HO]; · iexact HO
  iintro ⟨HS, HO⟩
  iapply (move_cwait (F := F) X W κ ιs c i k (k + 1) (by omega) (O + owedR c i (k + 2) (k + 1)) (hA.mono (by omega)) _ Q)
  isplitr; · iexact HI
  isplitl [HC]; · iexact HC
  isplitl [HO]; · iexact HO
  iintro ⟨HC, #Hrel, HO⟩
  rw [← show slot (k + 2) = slot k from slot_add2 k]
  iapply (move_send (F := F) X W κ ιs c i (k + 2) (k + 1) (by omega) v0 v1 h (hN.to i h) O _ Q)
  isplitr; · iexact HI
  isplitl [HS]; · iexact HS
  isplitr; · iexact Hrel
  isplitl [HO]; · iexact HO
  iintro ⟨HS, HO⟩
  iapply (move_credit (F := F) X W κ ιs c i (k + 1) (k + 3) (k + 1) (by omega) v0 v1 h' (hN.from i h') O _ Q)
  isplitr; · iexact HI
  isplitl [HC]; · iexact HC
  isplitr; · rw [show min (k + 1) 28 + 1 = min (k + 2) 29 by omega]; iexact Hown
  isplitl [HO]; · iexact HO
  iintro ⟨HC, HO⟩
  iapply Hk
  isplitr [HO]
  · isplitl [HS]; · iexact HS
    isplitl [HR]; · iexact HR
    isplitl [HC]; · iexact HC
    iexact Hrel
  iexact HO

/-- The waits at the end. -/
theorem ringDrain (c : Dev nD) (i : Fin 8) (O : CellTallies nD τ sig ℕ) (hO : O = 0) (K : P F) (Q : PUnit → sProp 𝕄) :
    iprop(Inv X W κ ιs ∗ RingSt c i 32 ∗ owesE c (O + owedT c i 32) ∗ ((RingSt c i 33 ∗ owesE c (O + owedT c i 33)) -∗ wpc c K Q))
      ⊢ wpc c (drainB i K) Q := by
  subst hO
  rw [RingSt_of c i (t := 32) (w := 29) (s := 31) (l := 29) (n := 31) (by omega) rfl rfl rfl rfl,
    owedT_zero c i (t := 32) (by omega), owedT_zero c i (t := 33) (by omega), add_zero,
    show (RingSt c i 33 : sProp 𝕄) = DoneSt c i from if_neg (by omega)]
  unfold drainB DoneSt
  iintro ⟨#HI, ⟨HS, HR, HC, -⟩, HO, Hk⟩
  iapply (move_sent (F := F) X W κ ιs c i 29 31 (by omega) (by omega) (by omega) 0 (Above.zero _) _ Q)
  isplitr; · iexact HI
  isplitl [HS]; · iexact HS
  isplitl [HO]; · iexact HO
  iintro ⟨HS, HO⟩
  iapply (move_sent (F := F) X W κ ιs c i 30 31 (by omega) (by omega) (by omega) 0 (Above.zero _) _ Q)
  isplitr; · iexact HI
  isplitl [HS]; · iexact HS
  isplitl [HO]; · iexact HO
  iintro ⟨HS, HO⟩
  iapply (move_last (F := F) X W κ ιs c i _ Q)
  isplitr; · iexact HI
  isplitl [HC]; · iexact HC
  isplitl [HO]; · iexact HO
  iintro ⟨HC, HO⟩
  iapply Hk
  isplitr [HO]
  · isplitl [HS]; · iexact HS
    isplitl [HR]; · iexact HR
    iexact HC
  iexact HO

/-! ## The result's columns -/

abbrev outAcc (i : Fin 8) := oM.access (outRect i)
/-- The result buffer of device `c`, the columns of the rings in `D` written. -/
def Out (c : Dev nD) (D : Fin 8 → Prop) : sProp 𝕄 :=
  iprop(∃ f : Buf (Elt F) ((c : Thread nD τ).loc cc0_stg3_0), ⌜∀ i, D i → (outAcc i).read (Elt F) f = resV X W c i⌝
    ∗ (((c : Thread nD τ).loc cc0_stg3_0) ↦{fullShare} f))

theorem outDisjoint (i j : Fin 8) (h : i ≠ j) : Disjoint (outAcc i).set ((outAcc j).setOn Finset.univ) := by
  rw [View.setOn_univ]
  refine View.disjoint_slice_of_sep oM.view (outRect i) (outRect j) 1 rfl rfl ?_
  revert i j; decide

theorem ringFin (c : Dev nD) (i : Fin 8) (D : Fin 8 → Prop) (hN : Names v0 v1 c) (h' : devOf (fromW v0 v1 i) < nD)
    (O : CellTallies nD τ sig ℕ) (hO : Above O 63) (K : Vec F S1x128x1024 .bf16 → P F) (Q : PUnit → sProp 𝕄) :
    iprop(Inv X W κ ιs ∗ RingSt c i 31 ∗ owesE c (O + owedT c i 31) ∗ Out X W c D
        ∗ ((RingSt c i 32 ∗ owesE c (O + owedT c i 32) ∗ Out X W c (fun j => D j ∨ j = i)) -∗ wpc c (K (sendV X W i 30 (fromD c i))) Q))
      ⊢ wpc c (finB i v0 v1 h' (part X W c i 31) K) Q := by
  rw [RingSt_of c i (t := 31) (w := 29) (s := 31) (l := 29) (n := 30) (by omega) rfl rfl rfl rfl,
    RingSt_of c i (t := 32) (w := 29) (s := 31) (l := 29) (n := 31) (by omega) rfl rfl rfl rfl,
    owedT_of c i (t := 31) (s := 31) (n := 30) rfl rfl, owedT_of c i (t := 32) (s := 31) (n := 31) rfl rfl]
  unfold finB
  show _ ⊢ wpc c (recvB i (slot 30) _) Q
  iintro ⟨#HI, ⟨HS, HR, HC, #Hrel⟩, HO, Hout, Hk⟩
  iapply (move_recv (F := F) X W κ ιs c i 29 30 (by omega) (by omega) (O + owedR c i 31 30) (hO.add (owedR_above c i 31 30 63 (by omega) (by omega))) _ Q)
  isplitr; · iexact HI
  isplitl [HR]; · iexact HR
  isplitl [HO]; · iexact HO
  iintro ⟨HR, HO⟩
  ihave HR := (RecvSt_rel (F := F) c i 29 31) $$ HR
  icases HR with ⟨#Hown, HR⟩
  iapply (move_credit (F := F) X W κ ιs c i 29 31 30 (by omega) v0 v1 h' (hN.from i h') O _ Q)
  isplitr; · iexact HI
  isplitl [HC]; · iexact HC
  isplitr; · iexact Hown
  isplitl [HO]; · iexact HO
  iintro ⟨HC, HO⟩
  unfold Out
  icases Hout with ⟨%f, %hf, Hout⟩
  iapply (wp_load_rect 𝒱₀ (c : Thread nD τ) none Set.univ (m := oM) (r := outRect i) (Finset.subset_univ _)) $$ Hout
  iintro Hout
  iapply (wp_store 𝒱₀ (c : Thread nD τ) none Set.univ (m := oM) (r := outRect i) (w := resV X W c i) (Mk := Finset.univ) (Finset.subset_univ _)) $$ Hout
  iintro Hout
  iapply Hk
  isplitr [HO Hout]
  · isplitl [HS]; · iexact HS
    isplitl [HR]; · iexact HR
    isplitl [HC]; · iexact HC
    iexact Hrel
  isplitl [HO]; · iexact HO
  iexists _
  isplitr
  rotate_left
  · iexact Hout
  ipureintro
  intro j hj
  by_cases e : j = i
  · subst e; exact View.read_write_univ _ _
  · exact (View.read_slice_write_slice_of_disjoint (v := oM.view) (outRect j) (outRect i) f (resV X W c i) Finset.univ (outDisjoint j i e)).trans
      (hf j (hj.resolve_right e))

end Rows
end Cert.RingProof
-- ==== Proof.Body.lean ====
/-
# The whole body

`StA c s j` is device `c` after `s` steps of all rings and the next step of the first `j` rings. The entry makes
`StA c 0 0`; the steps follow one another; at the end every cell is at its last round and the result buffer holds
all eight rings' columns.
-/
module

public import proofs.«01_k».proof.Proof.Rows

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Body
variable (X : Dev nD → cc0_stg1_0.ty.Contents (Elt F)) (W : Dev nD → cc0_stg2_0.ty.Contents (Elt F))
variable (M : Dev nD → cc0_stg0_0.ty.Contents (Elt F))
variable (κ : GSem nD τ sig → ℕ) (ιs : Key → ℕ)

/-! ## The table of words -/

def metaF (c : Dev nD) (j : ℕ) (h : j < 64) : Vec F S1 .i32 := (metaM.access (metaRect j h)).read (Elt F) (M c)
/-- The table names the neighbours and the chunks. -/
structure MetaOK (c : Dev nD) : Prop where
  chk2 : k0_chk2 (word (metaF M c 0 (by decide)))
  chk1 : k0_chk1 (word (metaF M c 1 (by decide)))
  names : Names (word (metaF M c 0 (by decide))) (word (metaF M c 1 (by decide))) c
  rowF : ∀ s (hs : s < 31), rowOff (word (metaF M c (2 + s) (by omega))) = ![128 * (cF c s).val, 0]
  rowB : ∀ s (hs : s < 31), rowOff (word (metaF M c (33 + s) (by omega))) = ![128 * (cB c s).val, 0]

theorem rowOk_of {v : BitVec 32} {r : Fin 32} (h : rowOff v = ![128 * r.val, 0]) : RowOk v := by
  unfold RowOk; rw [h]; exact rowsInb r
theorem read_chunk (x : cc0_stg1_0.ty.Contents (Elt F)) (r : Fin 32) (o : Fin 2 → Nat) (ho : o = ![128 * r.val, 0])
    (h : ∀ a, o a + S128x128.size a ≤ S4096x128.size a) : (xM.access (xRect o h)).read (Elt F) x = chunk x r := by
  subst ho; rfl

/-! ## The staged operands -/

def Glob (c : Dev nD) : sProp 𝕄 :=
  iprop((((c : Thread nD τ).loc cc0_stg0_0) ↦{fullShare} (M c : Buf (Elt F) ((c : Thread nD τ).loc cc0_stg0_0)))
    ∗ (((c : Thread nD τ).loc cc0_stg1_0) ↦{fullShare} (X c : Buf (Elt F) ((c : Thread nD τ).loc cc0_stg1_0)))
    ∗ (((c : Thread nD τ).loc cc0_stg2_0) ↦{fullShare} (W c : Buf (Elt F) ((c : Thread nD τ).loc cc0_stg2_0))))

theorem do_loadMeta (c : Dev nD) (j : ℕ) (h : j < 64) (K : Vec F S1 .i32 → P F) (Q : PUnit → sProp 𝕄) :
    iprop(Glob X W M c ∗ (Glob X W M c -∗ wpc c (K (metaF M c j h)) Q)) ⊢ wpc c (loadMeta j h K) Q := by
  unfold Glob
  iintro ⟨⟨Hm, Hx, Hw⟩, Hk⟩
  iapply (wp_load_rect 𝒱₀ (c : Thread nD τ) none Set.univ (m := metaM) (r := metaRect j h) (Finset.subset_univ _)) $$ Hm
  iintro Hm
  iapply Hk
  isplitl [Hm]; · iexact Hm
  isplitl [Hx] <;> iassumption
theorem do_loadX (c : Dev nD) (r : Fin 32) (o : Fin 2 → Nat) (ho : o = ![128 * r.val, 0]) (h : ∀ a, o a + S128x128.size a ≤ S4096x128.size a)
    (K : Vec F S128x128 .bf16 → P F) (Q : PUnit → sProp 𝕄) :
    iprop(Glob X W M c ∗ (Glob X W M c -∗ wpc c (K (chunk (X c) r)) Q)) ⊢ wpc c (loadX o h K) Q := by
  rw [← read_chunk (X c) r o ho h]
  unfold Glob
  iintro ⟨⟨Hm, Hx, Hw⟩, Hk⟩
  iapply (wp_load_rect 𝒱₀ (c : Thread nD τ) none Set.univ (m := xM) (r := xRect o h) (Finset.subset_univ _)) $$ Hx
  iintro Hx
  iapply Hk
  isplitl [Hm]; · iexact Hm
  isplitl [Hx] <;> iassumption
theorem do_loadW (c : Dev nD) (K : Vec F S128x8192 .bf16 → P F) (Q : PUnit → sProp 𝕄) :
    iprop(Glob X W M c ∗ (Glob X W M c -∗ wpc c (K (weights (W c))) Q))
      ⊢ wpc c (.op (.load wM (Rect.unit (s := S128x8192) ![0, 0] S128x8192.size inb_S128x8192_S128x8192_0_0).toLoadRect (View.loadsAt_vmem h_S128x8192)) K) Q := by
  unfold Glob
  iintro ⟨⟨Hm, Hx, Hw⟩, Hk⟩
  iapply (wp_load_rect 𝒱₀ (c : Thread nD τ) none Set.univ (m := wM) (r := Rect.unit (s := S128x8192) ![0, 0] S128x8192.size inb_S128x8192_S128x8192_0_0) (Finset.subset_univ _)) $$ Hw
  iintro Hw
  iapply Hk
  isplitl [Hm]; · iexact Hm
  isplitl [Hx] <;> iassumption

theorem do_assume (c : Dev nD) {φ : Prop} (d : Decidable φ) (h : φ) (K : PLift φ → P F) (Q : PUnit → sProp 𝕄) :
    wpc c (K ⟨h⟩) Q ⊢ wpc c (.op (.assume φ d) K) Q :=
  Entails.of_eq (wp_assume_of 𝒱₀ (c : Thread nD τ) none Set.univ (d := d) (k := K) h).symm

theorem do_loads (c : Dev nD) (hM : MetaOK M c) (s : ℕ) (hs : s < 31) (d d' : (v : BitVec 32) → Decidable (RowOk v)) (K : RowK F) (Q : PUnit → sProp 𝕄)
    (A : sProp 𝕄) (hK : ∀ f hf g hg, iprop(Glob X W M c ∗ A) ⊢ wpc c (K f hf g hg (chunk (X c) (cF c s)) (chunk (X c) (cB c s))) Q) :
    iprop(Glob X W M c ∗ A) ⊢ wpc c (loadsB s hs d d' K) Q := by
  unfold loadsB
  iintro ⟨HG, HA⟩
  iapply (do_loadMeta (F := F) X W M c (2 + s) _ _ Q)
  isplitl [HG]; · iexact HG
  iintro HG
  iapply (do_assume (F := F) c (d _) (rowOk_of (hM.rowF s hs)) _ Q)
  iapply (do_loadMeta (F := F) X W M c (33 + s) _ _ Q)
  isplitl [HG]; · iexact HG
  iintro HG
  iapply (do_assume (F := F) c (d' _) (rowOk_of (hM.rowB s hs)) _ Q)
  iapply (do_loadX (F := F) X W M c (cF c s) _ (hM.rowF s hs) _ _ Q)
  isplitl [HG]; · iexact HG
  iintro HG
  iapply (do_loadX (F := F) X W M c (cB c s) _ (hM.rowB s hs) _ _ Q)
  isplitl [HG]; · iexact HG
  iintro HG
  iapply (hK _ _ _ _)
  isplitl [HG] <;> iassumption
theorem offF (c : Dev nD) : k0_off63 c = ![128 * (cF c 31).val, 0] := by revert c; decide
theorem offB (c : Dev nD) : k0_off63 c = ![128 * (cB c 31).val, 0] := by revert c; decide
theorem do_ret (c : Dev nD) (Q : PUnit → sProp 𝕄) : Q ⟨⟩ ⊢ wpc c (.ret ⟨⟩ : P F) Q := by
  rw [wpc, wp_ret]; exact fupd_intro
theorem do_lastLoads (c : Dev nD) (K : Vec F S128x128 .bf16 → Vec F S128x128 .bf16 → P F) (Q : PUnit → sProp 𝕄)
    (A : sProp 𝕄) (hK : iprop(Glob X W M c ∗ A) ⊢ wpc c (K (chunk (X c) (cF c 31)) (chunk (X c) (cB c 31))) Q) :
    iprop(Glob X W M c ∗ A) ⊢ wpc c (lastLoadsB K) Q := by
  have e : wpc c (lastLoadsB K) Q = wpc c (loadX (k0_off63 c) (k0_off63_inb c) fun xf => loadX (k0_off63 c) (k0_off63_inb c) fun xb => K xf xb) Q :=
    wp_deviceId 𝒱₀ (c : Thread nD τ) none Set.univ
  rw [e]
  iintro ⟨HG, HA⟩
  iapply (do_loadX (F := F) X W M c (cF c 31) _ (offF c) _ _ Q)
  isplitl [HG]; · iexact HG
  iintro HG
  iapply (do_loadX (F := F) X W M c (cB c 31) _ (offB c) _ _ Q)
  isplitl [HG]; · iexact HG
  iintro HG
  iapply hK
  isplitl [HG] <;> iassumption

/-! ## All rings -/

/-- Where a ring stands in a step's order. -/
def pos : Fin 8 → Fin 8
  | 0 => 0 | 4 => 1 | 1 => 2 | 5 => 3 | 2 => 4 | 6 => 5 | 3 => 6 | 7 => 7
theorem pos_ord (j : Fin 8) : pos (ord j) = j := by revert j; decide
theorem ord_pos (i : Fin 8) : ord (pos i) = i := by revert i; decide
/-- How far each ring is. -/
def tt (s j : ℕ) (i : Fin 8) : ℕ := if (pos i).val < j then s + 1 else s
theorem tt_at (s : ℕ) (j : Fin 8) : tt s j.val (ord j) = s := by
  unfold tt; rw [pos_ord, if_neg (Nat.lt_irrefl _)]
theorem tt_after (s : ℕ) (j : Fin 8) : tt s (j.val + 1) (ord j) = s + 1 := by
  unfold tt; rw [pos_ord, if_pos (Nat.lt_succ_self _)]
theorem tt_ne (s : ℕ) (j : Fin 8) (i : Fin 8) (h : i ≠ ord j) : tt s (j.val + 1) i = tt s j.val i := by
  have hp : (pos i).val ≠ j.val := fun e => h (by rw [← Fin.ext e, ord_pos])
  unfold tt
  by_cases e : (pos i).val < j.val
  · rw [if_pos e, if_pos (by omega)]
  · rw [if_neg e, if_neg (by omega)]
theorem tt_le (s j : ℕ) (i : Fin 8) : s ≤ tt s j i := by unfold tt; split <;> omega
theorem tt_eight (s : ℕ) : tt s 8 = tt (s + 1) 0 := funext fun i => by
  unfold tt; rw [if_pos (pos i).isLt, if_neg (Nat.not_lt_zero _)]

def StA (c : Dev nD) (s j : ℕ) : sProp 𝕄 :=
  iprop(owesE c (∑ i, owedT c i (tt s j i)) ∗ bigSep Finset.univ fun i => RingSt c i (tt s j i))
theorem StA_eight (c : Dev nD) (s : ℕ) : (StA c s 8 : sProp 𝕄) = StA c (s + 1) 0 := by unfold StA; rw [tt_eight]

/-- What the rings other than the `j`-th owe. -/
def others (c : Dev nD) (s : ℕ) (j : Fin 8) : CellTallies nD τ sig ℕ := ∑ i ∈ Finset.univ.erase (ord j), owedT c i (tt s j.val i)
theorem others_above (c : Dev nD) (s : ℕ) (j : Fin 8) (hs : s ≤ 31) : Above (others c s j) (2 * s + 1) :=
  Above.sum _ _ fun i _ => owedT_above c i (tt_le s j.val i) hs
theorem others_zero (c : Dev nD) (j : Fin 8) : others c 32 j = 0 :=
  Finset.sum_eq_zero fun i _ => owedT_zero c i (tt_le 32 j.val i)

theorem StA_split (c : Dev nD) (s : ℕ) (j : Fin 8) :
    (StA c s j.val : sProp 𝕄) ⊢ iprop((RingSt c (ord j) s ∗ owesE c (others c s j + owedT c (ord j) s))
      ∗ ((RingSt c (ord j) (s + 1) ∗ owesE c (others c s j + owedT c (ord j) (s + 1))) -∗ StA c s (j.val + 1))) := by
  have e1 : (bigSep Finset.univ fun i => (RingSt c i (tt s j.val i) : sProp 𝕄))
      ⊢ iprop(RingSt c (ord j) s ∗ bigSep (Finset.univ.erase (ord j)) fun i => RingSt c i (tt s j.val i)) := by
    have := bigSep_univ_split (Φ := fun i => (RingSt c i (tt s j.val i) : sProp 𝕄)) (ord j)
    rw [this, tt_at]; exact Entails.refl _
  have e2 : iprop(RingSt c (ord j) (s + 1) ∗ bigSep (Finset.univ.erase (ord j)) fun i => RingSt c i (tt s j.val i))
      ⊢ (bigSep Finset.univ fun i => (RingSt c i (tt s (j.val + 1) i) : sProp 𝕄)) := by
    have := bigSep_univ_split (Φ := fun i => (RingSt c i (tt s (j.val + 1) i) : sProp 𝕄)) (ord j)
    rw [this, tt_after]
    exact Entails.of_eq (congrArg (fun R => iprop(RingSt c (ord j) (s + 1) ∗ R))
      (bigSep_congr fun i hi => by rw [tt_ne s j i (Finset.ne_of_mem_erase hi)]))
  have o1 : ∑ i, owedT c i (tt s j.val i) = others c s j + owedT c (ord j) s := by
    rw [← Finset.sum_erase_add _ _ (Finset.mem_univ (ord j)), tt_at]; rfl
  have o2 : ∑ i, owedT c i (tt s (j.val + 1) i) = others c s j + owedT c (ord j) (s + 1) := by
    rw [← Finset.sum_erase_add _ _ (Finset.mem_univ (ord j)), tt_after]
    exact congrArg (· + owedT c (ord j) (s + 1)) (Finset.sum_congr rfl fun i hi => by rw [tt_ne s j i (Finset.ne_of_mem_erase hi)])
  unfold StA
  rw [o1, o2]
  iintro ⟨HO, HR⟩
  ihave HR := e1 $$ HR
  icases HR with ⟨HR, Hrest⟩
  isplitl [HO HR]
  · isplitl [HR] <;> iassumption
  iintro ⟨HR, HO⟩
  isplitl [HO]; · iexact HO
  iapply e2
  isplitl [HR] <;> iassumption

/-- A move of the `j`-th ring as a move of all. -/
theorem all_move (c : Dev nD) (s : ℕ) (j : Fin 8) (p K : P F) (Q : PUnit → sProp 𝕄) (A : sProp 𝕄)
    (h : iprop(Inv X W κ ιs ∗ RingSt c (ord j) s ∗ owesE c (others c s j + owedT c (ord j) s)
        ∗ ((RingSt c (ord j) (s + 1) ∗ owesE c (others c s j + owedT c (ord j) (s + 1))) -∗ wpc c K Q)) ⊢ wpc c p Q)
    (hK : iprop(Inv X W κ ιs ∗ StA c s (j.val + 1) ∗ A) ⊢ wpc c K Q) :
    iprop(Inv X W κ ιs ∗ StA c s j.val ∗ A) ⊢ wpc c p Q := by
  iintro ⟨#HI, HS, HA⟩
  ihave HS := (StA_split (F := F) c s j) $$ HS
  icases HS with ⟨⟨HR, HO⟩, Hback⟩
  iapply h
  isplitr; · iexact HI
  isplitl [HR]; · iexact HR
  isplitl [HO]; · iexact HO
  iintro H
  iapply hK
  isplitr; · iexact HI
  isplitl [Hback H]; · iapply Hback; iexact H
  iexact HA

variable {v0 v1 : BitVec 32}

theorem swapG (A B G D : sProp 𝕄) : iprop(A ∗ B ∗ G ∗ D) ⊢ iprop(G ∗ (A ∗ B ∗ D)) := by
  iintro ⟨H1, H2, H3, H4⟩
  isplitl [H3]; · iexact H3
  isplitl [H1]; · iexact H1
  isplitl [H2] <;> iassumption
theorem swapB (A B G D : sProp 𝕄) : iprop(G ∗ (A ∗ B ∗ D)) ⊢ iprop(A ∗ B ∗ G ∗ D) := by
  iintro ⟨H3, H1, H2, H4⟩
  isplitl [H1]; · iexact H1
  isplitl [H2]; · iexact H2
  isplitl [H3] <;> iassumption

theorem do_row0 (c : Dev nD) (hM : MetaOK M c) (hN : Names v0 v1 c) (h0 : devOf v0 < nD) (h1 : devOf v1 < nD)
    (d d' : (v : BitVec 32) → Decidable (RowOk v)) (K : RowK F) (Q : PUnit → sProp 𝕄) (A : sProp 𝕄)
    (hK : ∀ f hf g hg w w', iprop(Inv X W κ ιs ∗ StA c 1 0 ∗ Glob X W M c ∗ A) ⊢ wpc c (K f hf g hg w w') Q) :
    iprop(Inv X W κ ιs ∗ StA c 0 0 ∗ Glob X W M c ∗ A) ⊢ wpc c (row0 v0 v1 h0 h1 (weights (W c)) d d' K) Q := by
  refine (swapG _ _ _ _).trans ?_
  unfold row0
  refine do_loads X W M c hM 0 (by decide) d d' _ Q _ fun f hf g hg => ?_
  refine (swapB _ _ _ _).trans ?_
  refine all_move X W κ ιs c 0 0 _ _ Q _ (ring0 X W κ ιs c (ord 0) hN (toW_lt h0 h1 _) _ _ Q) ?_
  refine all_move X W κ ιs c 0 1 _ _ Q _ (ring0 X W κ ιs c (ord 1) hN (toW_lt h0 h1 _) _ _ Q) ?_
  refine all_move X W κ ιs c 0 2 _ _ Q _ (ring0 X W κ ιs c (ord 2) hN (toW_lt h0 h1 _) _ _ Q) ?_
  refine all_move X W κ ιs c 0 3 _ _ Q _ (ring0 X W κ ιs c (ord 3) hN (toW_lt h0 h1 _) _ _ Q) ?_
  refine all_move X W κ ιs c 0 4 _ _ Q _ (ring0 X W κ ιs c (ord 4) hN (toW_lt h0 h1 _) _ _ Q) ?_
  refine all_move X W κ ιs c 0 5 _ _ Q _ (ring0 X W κ ιs c (ord 5) hN (toW_lt h0 h1 _) _ _ Q) ?_
  refine all_move X W κ ιs c 0 6 _ _ Q _ (ring0 X W κ ιs c (ord 6) hN (toW_lt h0 h1 _) _ _ Q) ?_
  refine all_move X W κ ιs c 0 7 _ _ Q _ (ring0 X W κ ιs c (ord 7) hN (toW_lt h0 h1 _) _ _ Q) ?_
  show iprop(Inv X W κ ιs ∗ StA c 0 8 ∗ (Glob X W M c ∗ A)) ⊢ _
  rw [StA_eight]
  exact hK _ _ _ _ _ _

theorem do_row1 (c : Dev nD) (hM : MetaOK M c) (hN : Names v0 v1 c) (h0 : devOf v0 < nD) (h1 : devOf v1 < nD)
    (d d' : (v : BitVec 32) → Decidable (RowOk v)) (K : RowK8 F) (Q : PUnit → sProp 𝕄) (A : sProp 𝕄)
    (hK : ∀ f hf g hg w w' a0 a1 a2 a3 a4 a5 a6 a7, iprop(Inv X W κ ιs ∗ StA c 2 0 ∗ Glob X W M c ∗ A) ⊢ wpc c (K f hf g hg w w' a0 a1 a2 a3 a4 a5 a6 a7) Q) :
    iprop(Inv X W κ ιs ∗ StA c 1 0 ∗ Glob X W M c ∗ A) ⊢ wpc c (row1 v0 v1 h0 h1 (weights (W c)) d d' K) Q := by
  refine (swapG _ _ _ _).trans ?_
  unfold row1
  refine do_loads X W M c hM 1 (by decide) d d' _ Q _ fun f hf g hg => ?_
  refine (swapB _ _ _ _).trans ?_
  refine all_move X W κ ιs c 1 0 _ _ Q _ (ring1 X W κ ιs c (ord 0) hN (toW_lt h0 h1 _) (fromW_lt h0 h1 _) _ (others_above c 1 0 (by decide)) _ Q) ?_
  refine all_move X W κ ιs c 1 1 _ _ Q _ (ring1 X W κ ιs c (ord 1) hN (toW_lt h0 h1 _) (fromW_lt h0 h1 _) _ (others_above c 1 1 (by decide)) _ Q) ?_
  refine all_move X W κ ιs c 1 2 _ _ Q _ (ring1 X W κ ιs c (ord 2) hN (toW_lt h0 h1 _) (fromW_lt h0 h1 _) _ (others_above c 1 2 (by decide)) _ Q) ?_
  refine all_move X W κ ιs c 1 3 _ _ Q _ (ring1 X W κ ιs c (ord 3) hN (toW_lt h0 h1 _) (fromW_lt h0 h1 _) _ (others_above c 1 3 (by decide)) _ Q) ?_
  refine all_move X W κ ιs c 1 4 _ _ Q _ (ring1 X W κ ιs c (ord 4) hN (toW_lt h0 h1 _) (fromW_lt h0 h1 _) _ (others_above c 1 4 (by decide)) _ Q) ?_
  refine all_move X W κ ιs c 1 5 _ _ Q _ (ring1 X W κ ιs c (ord 5) hN (toW_lt h0 h1 _) (fromW_lt h0 h1 _) _ (others_above c 1 5 (by decide)) _ Q) ?_
  refine all_move X W κ ιs c 1 6 _ _ Q _ (ring1 X W κ ιs c (ord 6) hN (toW_lt h0 h1 _) (fromW_lt h0 h1 _) _ (others_above c 1 6 (by decide)) _ Q) ?_
  refine all_move X W κ ιs c 1 7 _ _ Q _ (ring1 X W κ ιs c (ord 7) hN (toW_lt h0 h1 _) (fromW_lt h0 h1 _) _ (others_above c 1 7 (by decide)) _ Q) ?_
  show iprop(Inv X W κ ιs ∗ StA c 1 8 ∗ (Glob X W M c ∗ A)) ⊢ _
  rw [StA_eight]
  exact hK _ _ _ _ _ _ _ _ _ _ _ _ _ _

theorem do_row2 (c : Dev nD) (hM : MetaOK M c) (hN : Names v0 v1 c) (h0 : devOf v0 < nD) (h1 : devOf v1 < nD) (k : ℕ) (hk : k + 2 < 31)
    (d d' : (v : BitVec 32) → Decidable (RowOk v)) (K : RowK8 F) (Q : PUnit → sProp 𝕄) (A : sProp 𝕄)
    (hK : ∀ f hf g hg w w' a0 a1 a2 a3 a4 a5 a6 a7, iprop(Inv X W κ ιs ∗ StA c (k + 3) 0 ∗ Glob X W M c ∗ A) ⊢ wpc c (K f hf g hg w w' a0 a1 a2 a3 a4 a5 a6 a7) Q) :
    iprop(Inv X W κ ιs ∗ StA c (k + 2) 0 ∗ Glob X W M c ∗ A) ⊢ wpc c (row2 v0 v1 h0 h1 (weights (W c)) (k + 2) hk d d' K) Q := by
  refine (swapG _ _ _ _).trans ?_
  unfold row2
  refine do_loads X W M c hM (k + 2) hk d d' _ Q _ fun f hf g hg => ?_
  refine (swapB _ _ _ _).trans ?_
  refine all_move X W κ ιs c (k + 2) 0 _ _ Q _ (ring2 X W κ ιs c (ord 0) k hk hN (toW_lt h0 h1 _) (fromW_lt h0 h1 _) _ (others_above c (k + 2) 0 (by omega)) _ Q) ?_
  refine all_move X W κ ιs c (k + 2) 1 _ _ Q _ (ring2 X W κ ιs c (ord 1) k hk hN (toW_lt h0 h1 _) (fromW_lt h0 h1 _) _ (others_above c (k + 2) 1 (by omega)) _ Q) ?_
  refine all_move X W κ ιs c (k + 2) 2 _ _ Q _ (ring2 X W κ ιs c (ord 2) k hk hN (toW_lt h0 h1 _) (fromW_lt h0 h1 _) _ (others_above c (k + 2) 2 (by omega)) _ Q) ?_
  refine all_move X W κ ιs c (k + 2) 3 _ _ Q _ (ring2 X W κ ιs c (ord 3) k hk hN (toW_lt h0 h1 _) (fromW_lt h0 h1 _) _ (others_above c (k + 2) 3 (by omega)) _ Q) ?_
  refine all_move X W κ ιs c (k + 2) 4 _ _ Q _ (ring2 X W κ ιs c (ord 4) k hk hN (toW_lt h0 h1 _) (fromW_lt h0 h1 _) _ (others_above c (k + 2) 4 (by omega)) _ Q) ?_
  refine all_move X W κ ιs c (k + 2) 5 _ _ Q _ (ring2 X W κ ιs c (ord 5) k hk hN (toW_lt h0 h1 _) (fromW_lt h0 h1 _) _ (others_above c (k + 2) 5 (by omega)) _ Q) ?_
  refine all_move X W κ ιs c (k + 2) 6 _ _ Q _ (ring2 X W κ ιs c (ord 6) k hk hN (toW_lt h0 h1 _) (fromW_lt h0 h1 _) _ (others_above c (k + 2) 6 (by omega)) _ Q) ?_
  refine all_move X W κ ιs c (k + 2) 7 _ _ Q _ (ring2 X W κ ιs c (ord 7) k hk hN (toW_lt h0 h1 _) (fromW_lt h0 h1 _) _ (others_above c (k + 2) 7 (by omega)) _ Q) ?_
  show iprop(Inv X W κ ιs ∗ StA c (k + 2) 8 ∗ (Glob X W M c ∗ A)) ⊢ _
  rw [StA_eight]
  exact hK _ _ _ _ _ _ _ _ _ _ _ _ _ _

/-! ## The end -/

/-- The result buffer after the first `j` rings' last receives. -/
def OutJ (c : Dev nD) (j : ℕ) : sProp 𝕄 := Out X W c fun i => (pos i).val < j
theorem OutJ_step (c : Dev nD) (j : Fin 8) : Out X W c (fun i => (pos i).val < j.val ∨ i = ord j) ⊢ OutJ X W c (j.val + 1) := by
  unfold OutJ Out
  iintro ⟨%f, %hf, H⟩
  iexists f
  isplitr
  rotate_left
  · iexact H
  ipureintro
  intro i hi
  refine hf i ?_
  rcases Nat.lt_or_ge (pos i).val j.val with h | h
  · exact .inl h
  · exact .inr (by rw [← ord_pos i]; exact congrArg ord (Fin.ext (by omega)))

theorem all_fin (c : Dev nD) (j : Fin 8) (hN : Names v0 v1 c) (h' : devOf (fromW v0 v1 (ord j)) < nD) (K : Vec F S1x128x1024 .bf16 → P F) (Q : PUnit → sProp 𝕄) (A : sProp 𝕄)
    (hK : ∀ x, iprop(Inv X W κ ιs ∗ StA c 31 (j.val + 1) ∗ OutJ X W c (j.val + 1) ∗ A) ⊢ wpc c (K x) Q) :
    iprop(Inv X W κ ιs ∗ StA c 31 j.val ∗ OutJ X W c j.val ∗ A) ⊢ wpc c (finB (ord j) v0 v1 h' (part X W c (ord j) 31) K) Q := by
  iintro ⟨#HI, HS, Hout, HA⟩
  ihave HS := (StA_split (F := F) c 31 j) $$ HS
  icases HS with ⟨⟨HR, HO⟩, Hback⟩
  unfold OutJ
  iapply (ringFin (F := F) X W κ ιs c (ord j) _ hN h' _ (others_above c 31 j (by omega)) K Q)
  isplitr; · iexact HI
  isplitl [HR]; · iexact HR
  isplitl [HO]; · iexact HO
  isplitl [Hout]; · iexact Hout
  iintro ⟨HR, HO, Hout⟩
  ihave Hout := (OutJ_step (F := F) X W c j) $$ Hout
  iapply (hK _)
  isplitr; · iexact HI
  isplitl [Hback HR HO]
  · iapply Hback
    isplitl [HR] <;> iassumption
  isplitl [Hout]; · iexact Hout
  iexact HA

theorem StA_done (c : Dev nD) : (StA c 33 0 : sProp 𝕄) ⊢ iprop(owesE c 0 ∗ bigSep Finset.univ fun i => DoneSt c i) := by
  have e : ∀ i, tt 33 0 i = 33 := fun i => if_neg (Nat.not_lt_zero _)
  have e1 : ∑ i, owedT c i (tt 33 0 i) = 0 := Finset.sum_eq_zero fun i _ => owedT_zero c i (tt_le 33 0 i |>.trans' (by omega))
  have e2 : (fun i => (RingSt c i (tt 33 0 i) : sProp 𝕄)) = fun i => DoneSt c i := funext fun i => by rw [e i]; exact if_neg (by omega)
  unfold StA
  rw [e1, e2]

theorem do_rowEnd (c : Dev nD) (hN : Names v0 v1 c) (h0 : devOf v0 < nD) (h1 : devOf v1 < nD) (Q : PUnit → sProp 𝕄) (A : sProp 𝕄)
    (hQ : iprop(Glob X W M c ∗ OutJ X W c 8 ∗ owesE c 0 ∗ (bigSep Finset.univ fun i => DoneSt c i) ∗ A) ⊢ Q ⟨⟩) :
    iprop(Inv X W κ ιs ∗ StA c 31 0 ∗ Glob X W M c ∗ OutJ X W c 0 ∗ A) ⊢ wpc c (rowEnd v0 v1 h0 h1 (weights (W c))) Q := by
  refine (swapG _ _ _ _).trans ?_
  unfold rowEnd
  refine do_lastLoads X W M c _ Q _ ?_
  have hs : iprop(Glob X W M c ∗ (Inv X W κ ιs ∗ StA c 31 0 ∗ (OutJ X W c 0 ∗ A))) ⊢ iprop(Inv X W κ ιs ∗ StA c 31 0 ∗ OutJ X W c 0 ∗ (Glob X W M c ∗ A)) := by
    iintro ⟨H1, H2, H3, H4, H5⟩
    isplitl [H2]; · iexact H2
    isplitl [H3]; · iexact H3
    isplitl [H4]; · iexact H4
    isplitl [H1] <;> iassumption
  refine hs.trans ?_
  refine all_fin X W κ ιs c 0 hN (fromW_lt h0 h1 _) _ Q _ fun x0 => ?_
  refine all_fin X W κ ιs c 1 hN (fromW_lt h0 h1 _) _ Q _ fun x1 => ?_
  refine all_fin X W κ ιs c 2 hN (fromW_lt h0 h1 _) _ Q _ fun x2 => ?_
  refine all_fin X W κ ιs c 3 hN (fromW_lt h0 h1 _) _ Q _ fun x3 => ?_
  refine all_fin X W κ ιs c 4 hN (fromW_lt h0 h1 _) _ Q _ fun x4 => ?_
  refine all_fin X W κ ιs c 5 hN (fromW_lt h0 h1 _) _ Q _ fun x5 => ?_
  refine all_fin X W κ ιs c 6 hN (fromW_lt h0 h1 _) _ Q _ fun x6 => ?_
  refine all_fin X W κ ιs c 7 hN (fromW_lt h0 h1 _) _ Q _ fun x7 => ?_
  show iprop(Inv X W κ ιs ∗ StA c 31 8 ∗ (OutJ X W c 8 ∗ (Glob X W M c ∗ A))) ⊢ _
  rw [StA_eight]
  refine all_move X W κ ιs c 32 0 _ _ Q _ (ringDrain X W κ ιs c (ord 0) _ (others_zero c 0) _ Q) ?_
  refine all_move X W κ ιs c 32 1 _ _ Q _ (ringDrain X W κ ιs c (ord 1) _ (others_zero c 1) _ Q) ?_
  refine all_move X W κ ιs c 32 2 _ _ Q _ (ringDrain X W κ ιs c (ord 2) _ (others_zero c 2) _ Q) ?_
  refine all_move X W κ ιs c 32 3 _ _ Q _ (ringDrain X W κ ιs c (ord 3) _ (others_zero c 3) _ Q) ?_
  refine all_move X W κ ιs c 32 4 _ _ Q _ (ringDrain X W κ ιs c (ord 4) _ (others_zero c 4) _ Q) ?_
  refine all_move X W κ ιs c 32 5 _ _ Q _ (ringDrain X W κ ιs c (ord 5) _ (others_zero c 5) _ Q) ?_
  refine all_move X W κ ιs c 32 6 _ _ Q _ (ringDrain X W κ ιs c (ord 6) _ (others_zero c 6) _ Q) ?_
  refine all_move X W κ ιs c 32 7 _ _ Q _ (ringDrain X W κ ιs c (ord 7) _ (others_zero c 7) _ Q) ?_
  show iprop(Inv X W κ ιs ∗ StA c 32 8 ∗ (OutJ X W c 8 ∗ (Glob X W M c ∗ A))) ⊢ wpc c (.ret ⟨⟩) Q
  rw [StA_eight]
  iintro ⟨-, HS, Hout, HG, HA⟩
  ihave HS := (StA_done (F := F) c) $$ HS
  icases HS with ⟨HO, HD⟩
  iapply (do_ret (F := F) c Q)
  iapply hQ
  isplitl [HG]; · iexact HG
  isplitl [Hout]; · iexact Hout
  isplitl [HO]; · iexact HO
  isplitl [HD]; · iexact HD
  iexact HA

end Body
end Cert.RingProof
-- ==== Proof.Entry.lean ====
/-
# The entry and the run of the body

At the entry a device releases its receive slots, tells both neighbours so at the barrier, and hears the same of
them; then the steps follow.
-/
module

public import proofs.«01_k».proof.Proof.Body

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## One fact for every ring -/

theorem big_with {T : Type} [DecidableEq T] (C : sProp 𝕄) [BI.Persistent C] (Φ Ψ : T → sProp 𝕄) (h : ∀ i, iprop(C ∗ Φ i) ⊢ Ψ i) (s : Finset T) :
    iprop(C ∗ bigSep s Φ) ⊢ bigSep s Ψ := by
  induction s using Finset.induction_on with
  | empty => rw [bigSep_empty, bigSep_empty]; iintro ⟨-, H⟩; iexact H
  | insert a s ha ih =>
    have e1 : bigSep (insert a s) Φ ⊢ iprop(Φ a ∗ bigSep s Φ) := Entails.of_eq (bigSep_insert ha)
    have e2 : iprop(Ψ a ∗ bigSep s Ψ) ⊢ bigSep (insert a s) Ψ := Entails.of_eq (bigSep_insert ha).symm
    iintro ⟨#HC, H⟩
    ihave H := e1 $$ H
    icases H with ⟨Ha, H⟩
    iapply e2
    isplitl [Ha]
    · iapply (h a); isplitr; · iexact HC
      iexact Ha
    · iapply ih; isplitr; · iexact HC
      iexact H
theorem big_fupd_with {T : Type} [DecidableEq T] (C : sProp 𝕄) [BI.Persistent C] (Φ Ψ : T → sProp 𝕄) (h : ∀ i, iprop(C ∗ Φ i) ⊢ (|={Set.univ}=> Ψ i : sProp 𝕄)) (s : Finset T) :
    iprop(C ∗ bigSep s Φ) ⊢ (|={Set.univ}=> bigSep s Ψ : sProp 𝕄) := by
  induction s using Finset.induction_on with
  | empty => rw [bigSep_empty, bigSep_empty]; iintro ⟨-, H⟩; imodintro; iexact H
  | insert a s ha ih =>
    have e1 : bigSep (insert a s) Φ ⊢ iprop(Φ a ∗ bigSep s Φ) := Entails.of_eq (bigSep_insert ha)
    have e2 : iprop(Ψ a ∗ bigSep s Ψ) ⊢ bigSep (insert a s) Ψ := Entails.of_eq (bigSep_insert ha).symm
    iintro ⟨#HC, H⟩
    ihave H := e1 $$ H
    icases H with ⟨Ha, H⟩
    imod (h a) $$ [Ha] with Ha
    · isplitr; · iexact HC
      iexact Ha
    imod ih $$ [H] with H
    · isplitr; · iexact HC
      iexact H
    imodintro
    iapply e2
    isplitl [Ha] <;> iassumption

section Entry
variable (X : Dev nD → cc0_stg1_0.ty.Contents (Elt F)) (W : Dev nD → cc0_stg2_0.ty.Contents (Elt F))
variable (M : Dev nD → cc0_stg0_0.ty.Contents (Elt F))
variable (κ : GSem nD τ sig → ℕ) (ιs : Key → ℕ)

/-! ## A ring before the barrier -/

def RecvPre (c : Dev nD) (i : Fin 8) : sProp 𝕄 :=
  iprop(Todo (RecvTok c i) 0
    ∗ (atPos ER (cell c (.recv i 0)) 0 ∅ 0 ∗ reached ER (cell c (.recv i 0)) 0)
    ∗ (atPos ER (cell c (.recv i 1)) 0 ∅ 0 ∗ reached ER (cell c (.recv i 1)) 0)
    ∗ readerAt ES (c, i, (0 : Fin 2)) 0 ∗ readerAt ES (c, i, (1 : Fin 2)) 0 ∗ slotAny (rM i) 0 c ∗ slotAny (rM i) 1 c)
def CredMid (c : Dev nD) (i : Fin 8) : sProp 𝕄 :=
  iprop(Todo (CredTok c i) 0 ∗ Todo (WaitTok c i) 0 ∗ atPos ER (cell c (.cred i)) 0 ∅ 0)
def PreRing (c : Dev nD) (i : Fin 8) : sProp 𝕄 :=
  iprop(SendSt c i 0 0 ∗ RecvPre c i ∗ CredMid c i ∗ reached ER (cell c (.cred i)) 0)
def MidRing (c : Dev nD) (i : Fin 8) : sProp 𝕄 := iprop(SendSt c i 0 0 ∗ RecvSt c i 0 0 ∗ CredMid c i)

theorem ring_open (c : Dev nD) (i : Fin 8) :
    iprop(Inv X W κ ιs ∗ PreRing c i) ⊢ (|={Set.univ}=> (MidRing c i ∗ (RelSt c i 0 ∗ reached ER (cell c (.cred i)) 0)) : sProp 𝕄) := by
  have e0 : bigSep (Finset.Ico 0 0) (fun k => (slotAny (rM i) (slot k) c : sProp 𝕄)) = iprop(emp) := by rw [Finset.Ico_self, bigSep_empty]; rfl
  unfold PreRing RecvPre MidRing
  iintro ⟨#HI, HS, ⟨Ht, ⟨Ha0, #Hr0⟩, ⟨Ha1, #Hr1⟩, Hd0, Hd1, Hs0, Hs1⟩, HC, #Hc⟩
  ihave #HS0 := (Inv_slot (F := F) X W κ ιs c i 0) $$ HI
  ihave #HS1 := (Inv_slot (F := F) X W κ ιs c i 1) $$ HI
  imod (slot_release (ES (F := F)) (ι := ιs (c, i, 0)) (k := (c, i, 0)) (S := slotAny (rM i) 0 c) (Set.mem_univ _) (slotAny_false c i 0) 0) $$ [Hd0 Hs0] with H
  · isplitr; · iexact HS0
    isplitl [Hd0] <;> iassumption
  icases H with ⟨Hd0, #R0⟩
  imod (slot_release (ES (F := F)) (ι := ιs (c, i, 1)) (k := (c, i, 1)) (S := slotAny (rM i) 1 c) (Set.mem_univ _) (slotAny_false c i 1) 0) $$ [Hd1 Hs1] with H
  · isplitr; · iexact HS1
    isplitl [Hd1] <;> iassumption
  icases H with ⟨Hd1, #R1⟩
  imodintro
  unfold RecvSt RelSt
  isplitl [HS Ht Ha0 Ha1 Hd0 Hd1 HC]
  · isplitl [HS]; · iexact HS
    isplitr [HC]
    · isplitl [Ht]; · iexact Ht
      isplitl [Ha0]
      · isplitl [Ha0]; · iexact Ha0
        iexact Hr0
      isplitl [Ha1]
      · isplitl [Ha1]; · iexact Ha1
        iexact Hr1
      isplitl [Hd0]; · iexact Hd0
      isplitl [Hd1]; · iexact Hd1
      isplitr
      · isplitr; · iexact R0
        isplitr; · iexact R1
        isplitr; · iexact Hr0
        iexact Hr1
      rw [e0]; iempintro
    iexact HC
  isplitr
  · isplitr; · iexact R0
    isplitr; · iexact R1
    isplitr; · iexact Hr0
    iexact Hr1
  iexact Hc

theorem rings_open (c : Dev nD) :
    iprop(Inv X W κ ιs ∗ bigSep Finset.univ fun i => PreRing c i) ⊢ (|={Set.univ}=> ((bigSep Finset.univ fun i => MidRing c i) ∗ hello c) : sProp 𝕄) := by
  refine (big_fupd_with (Inv X W κ ιs) _ _ (ring_open X W κ ιs c) Finset.univ).trans ?_
  refine BI.fupd_mono ?_
  unfold hello
  exact Entails.of_eq (bigSep_sep _ _ _)

theorem hello_get (c : Dev nD) (i : Fin 8) : (hello c : sProp 𝕄) ⊢ iprop(RelSt c i 0 ∗ reached ER (cell c (.cred i)) 0) := by
  unfold hello; exact bigSep_elim (Finset.mem_univ i)
theorem hello_to (c : Dev nD) (i : Fin 8) : iprop(hello (nxt c) ∗ hello (prv c)) ⊢ (hello (toD c i) : sProp 𝕄) := by
  unfold toD; cases fwd i
  · iintro ⟨-, H⟩; iexact H
  · iintro ⟨H, -⟩; iexact H
theorem hello_from (c : Dev nD) (i : Fin 8) : iprop(hello (nxt c) ∗ hello (prv c)) ⊢ (hello (fromD c i) : sProp 𝕄) := by
  unfold fromD; cases fwd i
  · iintro ⟨H, -⟩; iexact H
  · iintro ⟨-, H⟩; iexact H

theorem ring_start (c : Dev nD) (i : Fin 8) : iprop((hello (nxt c) ∗ hello (prv c)) ∗ MidRing c i) ⊢ (RingSt c i 0 : sProp 𝕄) := by
  rw [RingSt_of c i (t := 0) (w := 0) (s := 0) (l := 0) (n := 0) (by omega) rfl rfl rfl rfl]
  unfold MidRing CredMid CredSt
  have e0 : bigSep (∅ : Finset ℕ) (fun d => (RelSt (toD c i) i (min d 28 + 1) : sProp 𝕄)) = iprop(emp) := by rw [bigSep_empty]; rfl
  iintro ⟨#HH, HS, HR, Hc, Hw, Hat⟩
  ihave Ht := (hello_to (F := F) c i) $$ HH
  ihave Ht := (hello_get (F := F) (toD c i) i) $$ Ht
  icases Ht with ⟨#Hrel, -⟩
  ihave Hf := (hello_from (F := F) c i) $$ HH
  ihave Hf := (hello_get (F := F) (fromD c i) i) $$ Hf
  icases Hf with ⟨-, #Hrc⟩
  isplitl [HS]; · iexact HS
  isplitl [HR]; · iexact HR
  isplitl [Hc Hw Hat]
  · isplitl [Hc]; · iexact Hc
    isplitl [Hw]; · iexact Hw
    isplitr; · iexact Hrc
    iexists (∅ : Finset ℕ)
    isplitr; · ipureintro; exact ⟨Finset.empty_subset _, Nat.zero_le _⟩
    isplitl [Hat]; · iexact Hat
    rw [e0]; iempintro
  iexact Hrel

/-! ## The barrier -/

/-- What all rings owe before their first step. -/
def S0 (c : Dev nD) : CellTallies nD τ sig ℕ := ∑ i, owedT c i (tt 0 0 i)
theorem S0_above (c : Dev nD) : Above (S0 c) 2 := Above.sum _ _ fun i _ => owedR_above c i _ _ _ (by omega) (by omega)
/-- What a device owes at launch. -/
def O₀ (c : Dev nD) : CellTallies nD τ sig ℕ := (S0 c + tallyAt (cell (nxt c) .bar) 0 1) + tallyAt (cell (prv c) .bar) 0 1
def BarSt (c : Dev nD) : sProp 𝕄 :=
  iprop(dutyTok ER (cell (prv c) .bar) 0 0 ∗ reached ER (cell (prv c) .bar) 0 ∗ dutyTok ER (cell (nxt c) .bar) 0 1 ∗ reached ER (cell (nxt c) .bar) 0
    ∗ atPos ER (cell c .bar) 0 ∅ 0 ∗ cred (tallyAt (cell c .bar) 0 2))
def EntrySt (c : Dev nD) : sProp 𝕄 := iprop(owesE c (O₀ c) ∗ BarSt c ∗ bigSep Finset.univ fun i => PreRing c i)

theorem bar_duties (c : Dev nD) : (Rd X W).duties ((c : Thread nD τ), SemLoc.reg barS) 0 = {0, 1} := duties_cell X W c .bar 0
theorem bar_expect (c : Dev nD) : (Rd X W).expect ((c : Thread nD τ), SemLoc.reg barS) 0 = 2 := expect_cell X W c .bar 0
theorem bar_pay (c : Dev nD) : (bigSep ((Rd X W).duties ((c : Thread nD τ), SemLoc.reg barS) 0) fun d => (Rd X W).payload ((c : Thread nD τ), SemLoc.reg barS) 0 d)
    ⊢ iprop(hello (nxt c) ∗ hello (prv c)) := by
  have e : (fun d => (Rd X W).payload ((c : Thread nD τ), SemLoc.reg barS) 0 d) = fun d => (hello (nbr c d) : sProp 𝕄) := funext fun d => payload_cell X W c .bar 0 d
  rw [bar_duties, e]
  refine (big_shrink (fun d => (hello (nbr c d) : sProp 𝕄)) (show ({0, 1} : Finset ℕ) = insert 0 {1} from rfl) (by decide)).trans ?_
  exact BI.sep_mono (Entails.refl _) (Entails.of_eq bigSep_singleton)
theorem bar_give0 (c : Dev nD) : (hello c : sProp 𝕄) ⊢ (Rd X W).payload (cell (prv c) .bar) 0 0 := by
  rw [payload_cell]; show _ ⊢ hello (nxt (prv c)); rw [nxt_prv]
theorem bar_give1 (c : Dev nD) : (hello c : sProp 𝕄) ⊢ (Rd X W).payload (cell (nxt c) .bar) 0 1 := by
  rw [payload_cell]; show _ ⊢ hello (prv (nxt c)); rw [prv_nxt]

/-- One unit to the barrier cell of device `d`. -/
def barTo (d : Dev nD) (K : P F) : P F := .op (.semSignal (d, .tc) barS (1#32 : BitVec 32).toInt) fun _ => K

theorem do_barTo (c d : Dev nD) (u : ℕ) (hu : u ∈ ({0, 1} : Finset ℕ)) (hp : (hello c : sProp 𝕄) ⊢ (Rd X W).payload (cell d .bar) 0 u)
    (O : CellTallies nD τ sig ℕ) (K : P F) (Q : PUnit → sProp 𝕄) :
    iprop(Inv X W κ ιs ∗ hello c ∗ dutyTok ER (cell d .bar) 0 u ∗ reached ER (cell d .bar) 0 ∗ owesE c (O + tallyAt (cell d .bar) 0 1)
        ∗ (owesE c O -∗ wpc c K Q)) ⊢ wpc c (barTo d K) Q := by
  unfold barTo owesE
  rw [show (1#32 : BitVec 32).toInt = ((1 : ℕ) : Int) from rfl]
  iintro ⟨#HI, #Hh, Htok, #Hr, ⟨%Wd, HO⟩, Hk⟩
  iapply (Rounds.wp_signal 𝒱₀ (ER (F := F)) (Rd X W) (c : Thread nD τ) none (dst := (d : Thread nD τ)) (κ := κ (cell d .bar))
      (r := 0) (d := u) (k' := 1) (by rw [bar_duties]; exact hu) (amount_cell X W d .bar 0 u) 0 (O₀ := O + tallyAt (cell d .bar) 0 1) O rfl (W := Wd)) $$ [HO Htok]
  · isplitr; · iapply (Inv_cell (F := F) X W κ ιs d .bar); iexact HI
    isplitl [HO]; · iexact HO
    isplitl [Htok]; · iexact Htok
    isplitr; · iapply hp; iexact Hh
    iexact Hr
  iintro HO
  iapply Hk
  iexists _; iexact HO

theorem do_barWait (c : Dev nD) (K : P F) (Q : PUnit → sProp 𝕄) :
    iprop(Inv X W κ ιs ∗ atPos ER (cell c .bar) 0 ∅ 0 ∗ cred (tallyAt (cell c .bar) 0 2) ∗ owesE c (S0 c)
        ∗ ((atPos ER (cell c .bar) 1 ∅ 0 ∗ owesE c (S0 c) ∗ (hello (nxt c) ∗ hello (prv c))) -∗ wpc c K Q))
      ⊢ wpc c (.op (.semWait barS (2#32 : BitVec 32).toInt) fun _ => K) Q := by
  unfold owesE
  rw [show (2#32 : BitVec 32).toInt = ((2 : ℕ) : Int) from rfl]
  iintro ⟨#HI, Hat, Htok, ⟨%Wd, HO⟩, Hk⟩
  iapply (Rounds.wp_wait_rest_token 𝒱₀ (ER (F := F)) (Rd X W) (c : Thread nD τ) none (κ := κ (cell c .bar))
      (wpE_semWait_eq 𝒱₀ (c : Thread nD τ) none Set.univ) (Set.mem_univ _) 0 (O := S0 c) (W := Wd) (R := 0) (m := 0) (T := ∅)
      (by rw [bar_expect])) $$ [Htok HO Hat]
  · isplitr; · iapply (Inv_cell (F := F) X W κ ιs c .bar); iexact HI
    isplitl [Htok]; · iexact Htok
    isplitl [HO]; · iexact HO
    isplitr; · iapply (Inv_mayWait (F := F) X W κ ιs c .bar 0 (by omega) (S0_above c)); iexact HI
    iexact Hat
  iintro ⟨HO, Hat, -, Hpay⟩
  rw [Finset.sdiff_empty]
  ihave Hpay := (bar_pay X W c) $$ Hpay
  iapply Hk
  isplitl [Hat]; · iexact Hat
  isplitl [HO]; · iexists _; iexact HO
  iexact Hpay

theorem entry_eq (d2 : (v : BitVec 32) → Decidable (k0_chk2 v)) (d1 : (v : BitVec 32) → Decidable (k0_chk1 v)) (K) :
    (entryB d2 d1 K : P F) =
      loadMeta 0 (by decide) fun f =>
      .op (.assume (k0_chk2 (word f)) (d2 _)) fun hf =>
      loadMeta 1 (by decide) fun g =>
      .op (.assume (k0_chk1 (word g)) (d1 _)) fun hg =>
      barTo (⟨devOf (word g), k0_dev1_lt _ hg.down⟩ : Dev nD) <| barTo (⟨devOf (word f), k0_dev2_lt _ hf.down⟩ : Dev nD) <|
      .op (.semWait barS (2#32 : BitVec 32).toInt) fun _ =>
      .op (.load wM (Rect.unit (s := S128x8192) ![0, 0] S128x8192.size inb_S128x8192_S128x8192_0_0).toLoadRect (View.loadsAt_vmem h_S128x8192)) fun w =>
      K f hf g hg w := rfl

theorem two_signals (c : Dev nD) (d e : Dev nD) (hd : d = prv c) (he : e = nxt c) (K : P F) (Q : PUnit → sProp 𝕄) (A : sProp 𝕄)
    (hK : iprop(Inv X W κ ιs ∗ StA c 0 0 ∗ (atPos ER (cell c .bar) 1 ∅ 0 ∗ A)) ⊢ wpc c K Q) :
    iprop(Inv X W κ ιs ∗ EntrySt c ∗ A) ⊢ wpc c (barTo d <| barTo e <| .op (.semWait barS (2#32 : BitVec 32).toInt) fun _ => K) Q := by
  subst hd he
  have hst : ∀ i : Fin 8, tt 0 0 i = 0 := fun i => if_neg (Nat.not_lt_zero _)
  have hS : iprop(owesE c (S0 c) ∗ bigSep Finset.univ fun i => RingSt c i 0) ⊢ (StA c 0 0 : sProp 𝕄) := by
    have e : (fun i => (RingSt c i (tt 0 0 i) : sProp 𝕄)) = fun i => RingSt c i 0 := funext fun i => by rw [hst i]
    unfold StA; rw [e]; exact Entails.refl _
  unfold EntrySt BarSt
  iintro ⟨#HI, ⟨HO, ⟨Hp, #Hrp, Hn, #Hrn, Hat, Htok⟩, HR⟩, HA⟩
  imod (rings_open (F := F) X W κ ιs c) $$ [HR] with H
  · isplitr; · iexact HI
    iexact HR
  icases H with ⟨HR, #Hh⟩
  iapply (do_barTo (F := F) X W κ ιs c (prv c) 0 (by decide) (bar_give0 X W c) (S0 c + tallyAt (cell (nxt c) .bar) 0 1) _ Q)
  isplitr; · iexact HI
  isplitr; · iexact Hh
  isplitl [Hp]; · iexact Hp
  isplitr; · iexact Hrp
  isplitl [HO]; · iexact HO
  iintro HO
  iapply (do_barTo (F := F) X W κ ιs c (nxt c) 1 (by decide) (bar_give1 X W c) (S0 c) _ Q)
  isplitr; · iexact HI
  isplitr; · iexact Hh
  isplitl [Hn]; · iexact Hn
  isplitr; · iexact Hrn
  isplitl [HO]; · iexact HO
  iintro HO
  iapply (do_barWait (F := F) X W κ ιs c _ Q)
  isplitr; · iexact HI
  isplitl [Hat]; · iexact Hat
  isplitl [Htok]; · iexact Htok
  isplitl [HO]; · iexact HO
  iintro ⟨Hat, HO, #Hhh⟩
  iapply hK
  isplitr; · iexact HI
  isplitl [HR HO]
  · iapply hS
    isplitl [HO]; · iexact HO
    iapply (big_with (iprop(hello (nxt c) ∗ hello (prv c)) : sProp 𝕄) _ _ (ring_start (F := F) c) Finset.univ)
    isplitr; · iexact Hhh
    iexact HR
  isplitl [Hat] <;> iassumption

theorem do_entry (c : Dev nD) (hM : MetaOK M c) (d2 : (v : BitVec 32) → Decidable (k0_chk2 v)) (d1 : (v : BitVec 32) → Decidable (k0_chk1 v)) (K)
    (Q : PUnit → sProp 𝕄) (A : sProp 𝕄)
    (hK : ∀ hf hg, iprop(Inv X W κ ιs ∗ StA c 0 0 ∗ Glob X W M c ∗ (atPos ER (cell c .bar) 1 ∅ 0 ∗ A))
      ⊢ wpc c (K (metaF M c 0 (by decide)) hf (metaF M c 1 (by decide)) hg (weights (W c))) Q) :
    iprop(Inv X W κ ιs ∗ EntrySt c ∗ Glob X W M c ∗ A) ⊢ wpc c (entryB d2 d1 K) Q := by
  rw [entry_eq]
  iintro ⟨#HI, HE, HG, HA⟩
  iapply (do_loadMeta (F := F) X W M c 0 _ _ Q)
  isplitl [HG]; · iexact HG
  iintro HG
  iapply (do_assume (F := F) c (d2 _) hM.chk2 _ Q)
  iapply (do_loadMeta (F := F) X W M c 1 _ _ Q)
  isplitl [HG]; · iexact HG
  iintro HG
  iapply (do_assume (F := F) c (d1 _) hM.chk1 _ Q)
  have h : iprop(Inv X W κ ιs ∗ StA c 0 0 ∗ (atPos ER (cell c .bar) 1 ∅ 0 ∗ (Glob X W M c ∗ A)))
      ⊢ wpc c (.op (.load wM (Rect.unit (s := S128x8192) ![0, 0] S128x8192.size inb_S128x8192_S128x8192_0_0).toLoadRect (View.loadsAt_vmem h_S128x8192))
        fun w => K (metaF M c 0 (by decide)) ⟨hM.chk2⟩ (metaF M c 1 (by decide)) ⟨hM.chk1⟩ w) Q := by
    iintro ⟨#HI, HS, Hat, HG, HA⟩
    iapply (do_loadW (F := F) X W M c _ Q)
    isplitl [HG]; · iexact HG
    iintro HG
    iapply (hK _ _)
    isplitr; · iexact HI
    isplitl [HS]; · iexact HS
    isplitl [HG]; · iexact HG
    isplitl [Hat] <;> iassumption
  iapply (two_signals (F := F) X W κ ιs c _ _ (Fin.ext hM.names.h1) (Fin.ext hM.names.h0) _ Q _ h)
  isplitr; · iexact HI
  isplitl [HE]; · iexact HE
  isplitl [HG] <;> iassumption

/-! ## The body -/

abbrev theBody : P F :=
  cc0_body metaM (Memref.isWhole_whole _) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39

set_option maxRecDepth 100000
set_option maxHeartbeats 0

/-- The body is the blocks one after another: a property of programs that each block hands on holds of it. -/
theorem body_blocks (Gs : P F → Prop) (G : ℕ → P F → Prop) (f0 g0 : Vec F S1 .i32) (hf0 : k0_chk2 (word f0)) (hg0 : k0_chk1 (word g0)) (Wv : Vec F S128x8192 .bf16)
    (hE : ∀ d2 d1 K, (∀ hf hg, G 0 (K f0 hf g0 hg Wv)) → Gs (entryB d2 d1 K))
    (h0 : devOf (word f0) < nD) (h1 : devOf (word g0) < nD)
    (hR0 : ∀ d d' K, (∀ f hf g hg w w', G 1 (K f hf g hg w w')) → G 0 (row0 (word f0) (word g0) h0 h1 Wv d d' K))
    (hR1 : ∀ d d' K, (∀ f hf g hg w w' a0 a1 a2 a3 a4 a5 a6 a7, G 2 (K f hf g hg w w' a0 a1 a2 a3 a4 a5 a6 a7)) → G 1 (row1 (word f0) (word g0) h0 h1 Wv d d' K))
    (hR2 : ∀ k hk d d' K, (∀ f hf g hg w w' a0 a1 a2 a3 a4 a5 a6 a7, G (k + 3) (K f hf g hg w w' a0 a1 a2 a3 a4 a5 a6 a7)) → G (k + 2) (row2 (word f0) (word g0) h0 h1 Wv (k + 2) hk d d' K))
    (hR3 : G 31 (rowEnd (word f0) (word g0) h0 h1 Wv)) : Gs theBody := by
  refine hE _ _ _ ?_
  intro hf hg
  refine hR0 _ _ _ ?_
  intro _ _ _ _ _ _
  refine hR1 _ _ _ ?_
  intro _ _ _ _ _ _ _ _ _ _ _ _ _ _
  iterate 29
    refine hR2 _ (by decide) _ _ _ ?_
    intro _ _ _ _ _ _ _ _ _ _ _ _ _ _
  exact hR3

theorem run_body (c : Dev nD) (hM : MetaOK M c) (Q : PUnit → sProp 𝕄)
    (hQ : iprop(Glob X W M c ∗ OutJ X W c 8 ∗ owesE c 0 ∗ (bigSep Finset.univ fun i => DoneSt c i) ∗ atPos ER (cell c .bar) 1 ∅ 0) ⊢ Q ⟨⟩) :
    iprop(Inv X W κ ιs ∗ EntrySt c ∗ Glob X W M c ∗ OutJ X W c 0) ⊢ wpc c theBody Q := by
  have hN := hM.names
  have h0 : devOf (word (metaF M c 0 (by decide))) < nD := by rw [hN.h0]; exact (nxt c).isLt
  have h1 : devOf (word (metaF M c 1 (by decide))) < nD := by rw [hN.h1]; exact (prv c).isLt
  have sw : iprop(Inv X W κ ιs ∗ StA c 0 0 ∗ Glob X W M c ∗ (atPos ER (cell c .bar) 1 ∅ 0 ∗ OutJ X W c 0))
      ⊢ iprop(Inv X W κ ιs ∗ StA c 0 0 ∗ Glob X W M c ∗ (OutJ X W c 0 ∗ atPos ER (cell c .bar) 1 ∅ 0)) := by
    iintro ⟨H1, H2, H3, H4, H5⟩
    isplitl [H1]; · iexact H1
    isplitl [H2]; · iexact H2
    isplitl [H3]; · iexact H3
    isplitl [H5] <;> iassumption
  exact body_blocks (fun p => iprop(Inv X W κ ιs ∗ EntrySt c ∗ Glob X W M c ∗ OutJ X W c 0) ⊢ wpc c p Q)
    (fun s p => iprop(Inv X W κ ιs ∗ StA c s 0 ∗ Glob X W M c ∗ (OutJ X W c 0 ∗ atPos ER (cell c .bar) 1 ∅ 0)) ⊢ wpc c p Q) _ _ hM.chk2 hM.chk1 (weights (W c))
    (fun d2 d1 K h => do_entry X W M κ ιs c hM d2 d1 K Q (OutJ X W c 0) fun hf hg => sw.trans (h hf hg)) h0 h1
    (fun d d' K h => do_row0 X W M κ ιs c hM hN h0 h1 d d' K Q _ h)
    (fun d d' K h => do_row1 X W M κ ιs c hM hN h0 h1 d d' K Q _ h)
    (fun k hk d d' K h => do_row2 X W M κ ιs c hM hN h0 h1 k hk d d' K Q _ h)
    (do_rowEnd X W M κ ιs c hN h0 h1 Q _ hQ)

end Entry
end Cert.RingProof
-- ==== Proof.Fund.lean ====
/-
# What the launch funds

Every token, position and credit of the protocol is made at launch, one family per kind, and handed to the device
that spends it: a duty at a neighbour's cell goes to the neighbour.
-/
module

public import proofs.«01_k».proof.Proof.Entry

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## One fact for every ring -/
/-! ## Reindexing -/

def nxtE : Dev nD ≃ Dev nD := ⟨nxt, prv, prv_nxt, nxt_prv⟩
def prvE : Dev nD ≃ Dev nD := ⟨prv, nxt, nxt_prv, prv_nxt⟩
def toE : Dev nD × Fin 8 ≃ Dev nD × Fin 8 :=
  ⟨fun x => (toD x.1 x.2, x.2), fun x => (fromD x.1 x.2, x.2), fun x => Prod.ext (from_to x.1 x.2) rfl, fun x => Prod.ext (to_from x.1 x.2) rfl⟩
def fromE : Dev nD × Fin 8 ≃ Dev nD × Fin 8 :=
  ⟨fun x => (fromD x.1 x.2, x.2), fun x => (toD x.1 x.2, x.2), fun x => Prod.ext (to_from x.1 x.2) rfl, fun x => Prod.ext (from_to x.1 x.2) rfl⟩
theorem ico_map : Finset.Ico 0 31 = (Finset.univ : Finset (Fin 31)).map Fin.valEmbedding := by decide
theorem todo_fin (f : ℕ → sProp 𝕄) : Todo f 0 = bigSep Finset.univ fun k : Fin 31 => f k.val := by
  unfold Todo; rw [ico_map, bigSep_map]; rfl
theorem big_three (Φ : Fin 3 → sProp 𝕄) : bigSep Finset.univ Φ = iprop(Φ 0 ∗ Φ 1 ∗ Φ 2) :=
  bigSep_univ_eq_bigSepL [(0 : Fin 3), 1, 2] (by decide) (by decide) Φ
theorem big_two (Φ : Fin 2 → sProp 𝕄) : bigSep Finset.univ Φ = iprop(Φ 0 ∗ Φ 1) :=
  bigSep_univ_eq_bigSepL [(0 : Fin 2), 1] (by decide) (by decide) Φ
theorem big_five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-! ## Cells -/

/-- The cells of one ring of a device. -/
def own (i : Fin 8) : Fin 5 → Kd
  | 0 => .send i 0 | 1 => .send i 1 | 2 => .recv i 0 | 3 => .recv i 1 | 4 => .cred i
theorem own_inj {i i' : Fin 8} {j j' : Fin 5} (h : own i j = own i' j') : i = i' ∧ j = j' := by
  fin_cases j <;> fin_cases j' <;> cases h <;> exact ⟨rfl, rfl⟩
def barE : Dev nD ↪ GSem nD τ sig := ⟨fun c => cell c .bar, fun _ _ h => (cell_inj h).1⟩
def ownE : Dev nD × Fin 8 × Fin 5 ↪ GSem nD τ sig := ⟨fun x => cell x.1 (own x.2.1 x.2.2), fun x y h => by
  have h1 := cell_inj h
  have h2 := own_inj h1.2
  exact Prod.ext h1.1 (Prod.ext h2.1 h2.2)⟩
def cellE : Dev nD × Kd ↪ GSem nD τ sig := ⟨fun x => cell x.1 x.2, fun x y h => Prod.ext (cell_inj h).1 (cell_inj h).2⟩
/-- The barrier cells, and the cells a device opens itself. -/
def Sb : Finset (GSem nD τ sig) := Finset.univ.map barE
def Sd : Finset (GSem nD τ sig) := Finset.univ.map ownE
theorem own_ne_bar (i : Fin 8) (j : Fin 5) : own i j ≠ .bar := by fin_cases j <;> exact Kd.noConfusion
theorem S_disj : Disjoint Sb Sd := by
  rw [Finset.disjoint_left]
  intro g h1 h2
  obtain ⟨c, -, rfl⟩ := Finset.mem_map.mp h1
  obtain ⟨x, -, h⟩ := Finset.mem_map.mp h2
  exact own_ne_bar _ _ (cell_inj h).2
theorem cells_sub : Finset.univ.map cellE ⊆ Sb ∪ Sd := by
  intro g h
  obtain ⟨⟨c, k⟩, -, rfl⟩ := Finset.mem_map.mp h
  rw [Finset.mem_union]
  have ho : ∀ i j, own i j = k → cellE (c, k) ∈ Sd := fun i j e => Finset.mem_map.mpr ⟨(c, i, j), Finset.mem_univ _, by rw [← e]; rfl⟩
  cases k with
  | bar => exact .inl (Finset.mem_map.mpr ⟨c, Finset.mem_univ _, rfl⟩)
  | send i p => right; fin_cases p; exacts [ho i 0 rfl, ho i 1 rfl]
  | recv i p => right; fin_cases p; exacts [ho i 2 rfl, ho i 3 rfl]
  | cred i => right; exact ho i 4 rfl

/-! ## Duty tokens -/

abbrev TokIx : Type := (Dev nD × Fin 2) ⊕ ((Dev nD × Fin 8) × (Fin 31 × Fin 3))
def tokF : TokIx → GSem nD τ sig × ℕ × ℕ
  | .inl (c, u) => (cell c .bar, 0, u.val)
  | .inr ((c, i), (k, 0)) => (cell c (.send i (slot k.val)), k.val / 2, 0)
  | .inr ((c, i), (k, 1)) => (cell c (.recv i (slot k.val)), k.val / 2, 0)
  | .inr ((c, i), (k, 2)) => (cell c (.cred i), 0, k.val)
def tokG (x : GSem nD τ sig × ℕ × ℕ) : Option TokIx :=
  match kd x.1.2 with
  | some .bar => some (.inl (x.1.1.1, ⟨x.2.2 % 2, Nat.mod_lt _ (by decide)⟩))
  | some (.send i p) => some (.inr ((x.1.1.1, i), (⟨(2 * x.2.1 + p.val) % 31, Nat.mod_lt _ (by decide)⟩, 0)))
  | some (.recv i p) => some (.inr ((x.1.1.1, i), (⟨(2 * x.2.1 + p.val) % 31, Nat.mod_lt _ (by decide)⟩, 1)))
  | some (.cred i) => some (.inr ((x.1.1.1, i), (⟨x.2.2 % 31, Nat.mod_lt _ (by decide)⟩, 2)))
  | none => none
theorem tokG_tokF (x : TokIx) : tokG (tokF x) = some x := by
  have e : ∀ k : Fin 31, (⟨(2 * (k.val / 2) + (slot k.val).val) % 31, Nat.mod_lt _ (by decide)⟩ : Fin 31) = k := fun k =>
    Fin.ext (by show (2 * (k.val / 2) + (slot k.val).val) % 31 = k.val; rw [half_slot, Nat.mod_eq_of_lt k.isLt])
  rcases x with ⟨c, u⟩ | ⟨⟨c, i⟩, ⟨k, t⟩⟩
  · unfold tokG tokF
    dsimp only
    rw [kd_semOf]
    exact congrArg some (congrArg Sum.inl (Prod.ext rfl (Fin.ext (Nat.mod_eq_of_lt u.isLt))))
  · fin_cases t
    · show tokG (cell c (.send i (slot k.val)), k.val / 2, 0) = _
      unfold tokG; dsimp only; rw [kd_semOf]; dsimp only; rw [e k]; rfl
    · show tokG (cell c (.recv i (slot k.val)), k.val / 2, 0) = _
      unfold tokG; dsimp only; rw [kd_semOf]; dsimp only; rw [e k]; rfl
    · show tokG (cell c (.cred i), 0, k.val) = _
      unfold tokG; dsimp only; rw [kd_semOf]; dsimp only
      exact congrArg some (congrArg Sum.inr (Prod.ext rfl (Prod.ext (Fin.ext (Nat.mod_eq_of_lt k.isLt)) rfl)))
def tokE : TokIx ↪ GSem nD τ sig × ℕ × ℕ := ⟨tokF, fun x y h => Option.some.inj ((tokG_tokF x).symm.trans ((congrArg tokG h).trans (tokG_tokF y)))⟩
def Tk0 : Finset (GSem nD τ sig × ℕ × ℕ) := Finset.univ.map tokE

theorem toks_split :
    (bigSep Tk0 fun x => (dutyTok ER x.1 x.2.1 x.2.2 : sProp 𝕄))
      = iprop((bigSep Finset.univ fun c : Dev nD => iprop(dutyTok ER (cell c .bar) 0 0 ∗ dutyTok ER (cell c .bar) 0 1))
        ∗ (bigSep Finset.univ fun x : Dev nD × Fin 8 => bigSep Finset.univ fun k : Fin 31 => iprop(
            dutyTok ER (cell x.1 (.send x.2 (slot k.val))) (k.val / 2) 0 ∗ dutyTok ER (cell x.1 (.recv x.2 (slot k.val))) (k.val / 2) 0
            ∗ dutyTok ER (cell x.1 (.cred x.2)) 0 k.val))) := by
  unfold Tk0
  rw [bigSep_map, bigSep_univ_sum, bigSep_univ_prod, bigSep_univ_prod]
  congr 1
  · congr 1; funext c; rw [big_two]; rfl
  · congr 1; funext x; rw [bigSep_univ_prod]; congr 1; funext k; rw [big_three]; rfl

/-! ## Write tokens -/

def wE : (Dev nD × Fin 8) × Fin 31 ↪ Key × ℕ := ⟨fun x => ((x.1.1, x.1.2, slot x.2.val), x.2.val / 2), fun x y h => by
  obtain ⟨⟨c, i⟩, k⟩ := x
  obtain ⟨⟨c', i'⟩, k'⟩ := y
  have h1 : c = c' := congrArg (fun z : Key × ℕ => z.1.1) h
  have h2 : i = i' := congrArg (fun z : Key × ℕ => z.1.2.1) h
  have h3 : slot k.val = slot k'.val := congrArg (fun z : Key × ℕ => z.1.2.2) h
  have h4 : k.val / 2 = k'.val / 2 := congrArg (fun z : Key × ℕ => z.2) h
  have h5 : k = k' := Fin.ext (by rw [← half_slot k.val, ← half_slot k'.val, h3, h4])
  rw [h1, h2, h5]⟩
theorem writes_split :
    (bigSep (Finset.univ ×ˢ Finset.range 16) fun x : Key × ℕ => (writeTok ES x.1 (x.2 + 1) : sProp 𝕄))
      ⊢ bigSep Finset.univ fun x : Dev nD × Fin 8 => bigSep Finset.univ fun k : Fin 31 => writeTok ES (x.1, x.2, slot k.val) (k.val / 2 + 1) := by
  have hs : Finset.univ.map wE ⊆ (Finset.univ ×ˢ Finset.range 16 : Finset (Key × ℕ)) := by
    intro y hy
    obtain ⟨x, -, rfl⟩ := Finset.mem_map.mp hy
    refine Finset.mem_product.mpr ⟨Finset.mem_univ _, Finset.mem_range.mpr ?_⟩
    have := x.2.isLt
    show x.2.val / 2 < 16
    omega
  refine (bigSep_subset hs).trans ?_
  rw [bigSep_map, bigSep_univ_prod]; exact .refl _

/-! ## What a ring holds before its cells are open, and after -/

def RingTok (c : Dev nD) (i : Fin 8) : sProp 𝕄 :=
  iprop(Todo (SendTok c i) 0 ∗ Todo (CredTok c i) 0 ∗ Todo (RecvTok c i) 0 ∗ Todo (WaitTok c i) 0
    ∗ readerAt ES (c, i, (0 : Fin 2)) 0 ∗ readerAt ES (c, i, (1 : Fin 2)) 0)
def RingClosed (c : Dev nD) (i : Fin 8) : sProp 𝕄 :=
  iprop(RingTok c i ∗ bigSep Finset.univ fun j : Fin 5 => openTok ER (cell c (own i j)))
def RingOpen (c : Dev nD) (i : Fin 8) : sProp 𝕄 :=
  iprop(RingTok c i ∗ bigSep Finset.univ fun j : Fin 5 => iprop(atPos ER (cell c (own i j)) 0 ∅ 0 ∗ reached ER (cell c (own i j)) 0))

/-! ## Credits -/

theorem cred_ring (c : Dev nD) :
    (Pipeline.launchCred S0 c : sProp 𝕄) = bigSep Finset.univ fun i : Fin 8 =>
      iprop((bigSep (Finset.Ico 0 31) fun k => Pipeline.launchCred (fun d => tallyAt (cell (toD d i) (.recv i (slot k))) k N) c)
        ∗ bigSep (Finset.Ico 0 31) fun k => Pipeline.launchCred (fun d => tallyAt (cell (fromD d i) (.cred i)) k 1) c) := by
  have e : (S0 : Dev nD → CellTallies nD τ sig ℕ) = fun d => ∑ i, owedR d i 0 0 := funext fun d => Finset.sum_congr rfl fun i _ => by
    rw [show tt 0 0 i = 0 from if_neg (Nat.not_lt_zero _)]; rfl
  rw [e, Pipeline.launchCred_sum]
  congr 1; funext i
  unfold owedR
  rw [Pipeline.launchCred_add, Pipeline.launchCred_sum, Pipeline.launchCred_sum]
theorem cred_all (c : Dev nD) :
    (Pipeline.launchCred O₀ c : sProp 𝕄) ⊢ iprop(cred (tallyAt (cell c .bar) 0 2)
      ∗ bigSep Finset.univ fun i : Fin 8 => iprop(Todo (RecvTok c i) 0 ∗ Todo (WaitTok c i) 0)) := by
  have e1 := Pipeline.launchCred_add (Val := Elt F) (Name := ℕ) (U := UU) (Lvl := ℕ) (fun d => S0 d + tallyAt (cell (nxt d) .bar) 0 1) (fun d => tallyAt (cell (prv d) .bar) 0 1) c
  have e2 := Pipeline.launchCred_add (Val := Elt F) (Name := ℕ) (U := UU) (Lvl := ℕ) S0 (fun d => tallyAt (cell (nxt d) .bar) 0 1) c
  have n1 := Pipeline.launchCred_tallyAt (τ := τ) (Val := Elt F) (Name := ℕ) (U := UU) (Lvl := ℕ) (semOf .bar) nxt prv nxt_prv prv_nxt 0 1 c
  have n2 := Pipeline.launchCred_tallyAt (τ := τ) (Val := Elt F) (Name := ℕ) (U := UU) (Lvl := ℕ) (semOf .bar) prv nxt prv_nxt nxt_prv 0 1 c
  have b : iprop(cred (tallyAt (cell c .bar) 0 1) ∗ cred (tallyAt (cell c .bar) 0 1)) ⊢ (cred (tallyAt (cell c .bar) 0 2) : sProp 𝕄) := by
    have e : (tallyAt (cell c .bar) 0 2 : CellTallies nD τ sig ℕ) = tallyAt (cell c .bar) 0 1 + tallyAt (cell c .bar) 0 1 := (tallyAt_add (cell c .bar) 0 1 1).symm
    rw [e]; exact (cred_add _ _).2
  have r : ∀ i : Fin 8, iprop((bigSep (Finset.Ico 0 31) fun k => Pipeline.launchCred (fun d => tallyAt (cell (toD d i) (.recv i (slot k))) k N) c)
        ∗ bigSep (Finset.Ico 0 31) fun k => Pipeline.launchCred (fun d => tallyAt (cell (fromD d i) (.cred i)) k 1) c)
      ⊢ (iprop(Todo (RecvTok c i) 0 ∗ Todo (WaitTok c i) 0) : sProp 𝕄) := fun i => BI.sep_mono
    (bigSep_mono fun k _ => Pipeline.launchCred_tallyAt (τ := τ) (semOf (.recv i (slot k))) (fun d => toD d i) (fun d => fromD d i) (fun d => to_from d i) (fun d => from_to d i) k N c)
    (bigSep_mono fun k _ => Pipeline.launchCred_tallyAt (τ := τ) (semOf (.cred i)) (fun d => fromD d i) (fun d => toD d i) (fun d => from_to d i) (fun d => to_from d i) k 1 c)
  have r' := (Entails.of_eq (cred_ring (F := F) c)).trans (bigSep_mono fun i (_ : i ∈ Finset.univ) => r i)
  refine (Entails.of_eq (e1.trans (by rw [e2]))).trans ?_
  iintro ⟨⟨H, H1⟩, H2⟩
  isplitl [H1 H2]
  · iapply b
    isplitl [H1]
    · iapply n1; iexact H1
    · iapply n2; iexact H2
  · iapply r'; iexact H

/-! ## Everything at launch -/

section Fund
variable (X : Dev nD → cc0_stg1_0.ty.Contents (Elt F)) (W : Dev nD → cc0_stg2_0.ty.Contents (Elt F))

/-- What device `c` is launched with, its ring cells not yet open. -/
def Launched (c : Dev nD) : sProp 𝕄 :=
  iprop(∃ κ ιs, Inv X W κ ιs ∗ BarSt c ∗ bigSep Finset.univ fun i => RingClosed c i)
/-- The same, the ring cells open. -/
def Opened (c : Dev nD) : sProp 𝕄 :=
  iprop(∃ κ ιs, Inv X W κ ιs ∗ BarSt c ∗ bigSep Finset.univ fun i => RingOpen c i)

/-- The rings' tokens, at the devices that spend them. -/
theorem rings_toks :
    iprop((bigSep Finset.univ fun x : Dev nD × Fin 8 => bigSep Finset.univ fun k : Fin 31 => iprop(
            dutyTok ER (cell x.1 (.send x.2 (slot k.val))) (k.val / 2) 0 ∗ dutyTok ER (cell x.1 (.recv x.2 (slot k.val))) (k.val / 2) 0
            ∗ dutyTok ER (cell x.1 (.cred x.2)) 0 k.val))
        ∗ (bigSep Finset.univ fun x : Dev nD × Fin 8 => bigSep Finset.univ fun k : Fin 31 => writeTok ES (x.1, x.2, slot k.val) (k.val / 2 + 1)))
      ⊢ (bigSep Finset.univ fun x : Dev nD × Fin 8 => iprop(Todo (SendTok x.1 x.2) 0 ∗ Todo (CredTok x.1 x.2) 0) : sProp 𝕄) := by
  have eR : (bigSep Finset.univ fun x : Dev nD × Fin 8 => (bigSep Finset.univ fun k : Fin 31 => dutyTok ER (cell x.1 (.recv x.2 (slot k.val))) (k.val / 2) 0 : sProp 𝕄))
      ⊢ bigSep Finset.univ fun x : Dev nD × Fin 8 => bigSep Finset.univ fun k : Fin 31 => dutyTok ER (cell (toD x.1 x.2) (.recv x.2 (slot k.val))) (k.val / 2) 0 := by
    rw [bigSep_univ_equiv toE]; exact .rfl
  have eC : (bigSep Finset.univ fun x : Dev nD × Fin 8 => (bigSep Finset.univ fun k : Fin 31 => dutyTok ER (cell x.1 (.cred x.2)) 0 k.val : sProp 𝕄))
      ⊢ bigSep Finset.univ fun x : Dev nD × Fin 8 => bigSep Finset.univ fun k : Fin 31 => dutyTok ER (cell (fromD x.1 x.2) (.cred x.2)) 0 k.val := by
    rw [bigSep_univ_equiv fromE]; exact .rfl
  have eW : (bigSep Finset.univ fun x : Dev nD × Fin 8 => (bigSep Finset.univ fun k : Fin 31 => writeTok ES (x.1, x.2, slot k.val) (k.val / 2 + 1) : sProp 𝕄))
      ⊢ bigSep Finset.univ fun x : Dev nD × Fin 8 => bigSep Finset.univ fun k : Fin 31 => writeTok ES (toD x.1 x.2, x.2, slot k.val) (k.val / 2 + 1) := by
    rw [bigSep_univ_equiv toE]; exact .rfl
  have e1 : (bigSep Finset.univ fun x : Dev nD × Fin 8 => iprop(Todo (SendTok x.1 x.2) 0 ∗ Todo (CredTok x.1 x.2) 0) : sProp 𝕄)
      = iprop(((bigSep Finset.univ fun x : Dev nD × Fin 8 => bigSep Finset.univ fun k : Fin 31 => writeTok ES (toD x.1 x.2, x.2, slot k.val) (k.val / 2 + 1))
        ∗ (bigSep Finset.univ fun x : Dev nD × Fin 8 => bigSep Finset.univ fun k : Fin 31 => dutyTok ER (cell (toD x.1 x.2) (.recv x.2 (slot k.val))) (k.val / 2) 0)
        ∗ (bigSep Finset.univ fun x : Dev nD × Fin 8 => bigSep Finset.univ fun k : Fin 31 => dutyTok ER (cell x.1 (.send x.2 (slot k.val))) (k.val / 2) 0))
        ∗ bigSep Finset.univ fun x : Dev nD × Fin 8 => bigSep Finset.univ fun k : Fin 31 => dutyTok ER (cell (fromD x.1 x.2) (.cred x.2)) 0 k.val) := by
    simp only [todo_fin, SendTok, CredTok, bigSep_sep']
  rw [e1]
  simp only [bigSep_sep']
  iintro ⟨⟨Hs, Hr, Hc⟩, Hw⟩
  isplitr [Hc]
  · isplitl [Hw]
    · iapply eW; iexact Hw
    isplitl [Hr]
    · iapply eR; iexact Hr
    iexact Hs
  · iapply eC; iexact Hc

theorem readers_split :
    (bigSep Finset.univ fun k : Key => (readerAt ES k 0 : sProp 𝕄))
      = bigSep Finset.univ fun x : Dev nD × Fin 8 => iprop(readerAt ES (x.1, x.2, (0 : Fin 2)) 0 ∗ readerAt ES (x.1, x.2, (1 : Fin 2)) 0) := by
  rw [bigSep_univ_prod, bigSep_univ_prod]
  congr 1; funext c
  rw [bigSep_univ_prod]
  congr 1; funext i
  rw [big_two]

/-- The barrier's share of every device. -/
theorem bars_launched :
    iprop((bigSep Sb fun g => reached ER g 0) ∗ (bigSep Sb fun g => atPos ER g 0 ∅ 0)
        ∗ (bigSep Finset.univ fun c : Dev nD => iprop(dutyTok ER (cell c .bar) 0 0 ∗ dutyTok ER (cell c .bar) 0 1))
        ∗ bigSep Finset.univ fun c : Dev nD => cred (tallyAt (cell c .bar) 0 2))
      ⊢ (bigSep Finset.univ fun c => BarSt c : sProp 𝕄) := by
  have r1 : (bigSep Finset.univ fun c : Dev nD => (reached ER (cell c .bar) 0 : sProp 𝕄)) ⊢ bigSep Finset.univ fun c : Dev nD => reached ER (cell (prv c) .bar) 0 := by
    rw [bigSep_univ_equiv prvE]; exact .rfl
  have r2 : (bigSep Finset.univ fun c : Dev nD => (reached ER (cell c .bar) 0 : sProp 𝕄)) ⊢ bigSep Finset.univ fun c : Dev nD => reached ER (cell (nxt c) .bar) 0 := by
    rw [bigSep_univ_equiv nxtE]; exact .rfl
  have d1 : (bigSep Finset.univ fun c : Dev nD => (dutyTok ER (cell c .bar) 0 0 : sProp 𝕄)) ⊢ bigSep Finset.univ fun c : Dev nD => dutyTok ER (cell (prv c) .bar) 0 0 := by
    rw [bigSep_univ_equiv prvE]; exact .rfl
  have d2 : (bigSep Finset.univ fun c : Dev nD => (dutyTok ER (cell c .bar) 0 1 : sProp 𝕄)) ⊢ bigSep Finset.univ fun c : Dev nD => dutyTok ER (cell (nxt c) .bar) 0 1 := by
    rw [bigSep_univ_equiv nxtE]; exact .rfl
  unfold Sb BarSt
  rw [bigSep_map, bigSep_map]
  simp only [bigSep_sep']
  iintro ⟨#Hr, Ha, ⟨H0, H1⟩, Hc⟩
  isplitl [H0]; · iapply d1; iexact H0
  isplitr; · iapply r1; iexact Hr
  isplitl [H1]; · iapply d2; iexact H1
  isplitr; · iapply r2; iexact Hr
  isplitl [Ha]; · iexact Ha
  iexact Hc

theorem rings_launched :
    iprop((bigSep Finset.univ fun x : Dev nD × Fin 8 => iprop(Todo (SendTok x.1 x.2) 0 ∗ Todo (CredTok x.1 x.2) 0))
        ∗ (bigSep Finset.univ fun x : Dev nD × Fin 8 => iprop(readerAt ES (x.1, x.2, (0 : Fin 2)) 0 ∗ readerAt ES (x.1, x.2, (1 : Fin 2)) 0))
        ∗ (bigSep Finset.univ fun c : Dev nD => bigSep Finset.univ fun i : Fin 8 => iprop(Todo (RecvTok c i) 0 ∗ Todo (WaitTok c i) 0))
        ∗ bigSep Sd fun g => openTok ER g)
      ⊢ (bigSep Finset.univ fun c => bigSep Finset.univ fun i => RingClosed c i : sProp 𝕄) := by
  have e : (bigSep Finset.univ fun x : Dev nD × Fin 8 × Fin 5 => (openTok ER (ownE x) : sProp 𝕄))
      = bigSep Finset.univ fun c : Dev nD => bigSep Finset.univ fun i : Fin 8 => bigSep Finset.univ fun j : Fin 5 => openTok ER (cell c (own i j)) := by
    rw [bigSep_univ_prod]; congr 1; funext c; rw [bigSep_univ_prod]; try rfl
  unfold Sd RingClosed RingTok
  rw [bigSep_map, e, bigSep_univ_prod, bigSep_univ_prod]
  simp only [bigSep_sep']
  iintro ⟨⟨Hs, Hc⟩, ⟨H0, H1⟩, ⟨Hr, Hw⟩, Ho⟩
  isplitr [Ho]
  · isplitl [Hs]; · iexact Hs
    isplitl [Hc]; · iexact Hc
    isplitl [Hr]; · iexact Hr
    isplitl [Hw]; · iexact Hw
    isplitl [H0] <;> iassumption
  · iexact Ho

theorem inv_cells (κ : GSem nD τ sig → ℕ) :
    (bigSep (Sb ∪ Sd) fun g => (cellInv ER (Rd X W) (κ g) g : sProp 𝕄))
      ⊢ bigSep Finset.univ fun x : Dev nD × Kd => cellInv ER (Rd X W) (κ (cell x.1 x.2)) (cell x.1 x.2) := by
  refine (bigSep_subset cells_sub).trans ?_
  rw [bigSep_map]; exact .refl _

theorem fund :
    iprop((bigSep Finset.univ fun c : Dev nD => semVal (cell c .bar) 0) ∗ (bigSep Finset.univ fun c => Pipeline.launchCred O₀ c)
        ∗ BI.own (ER (launchOf Sb Sd Tk0)) ∗ BI.own (ES (initSlots Finset.univ 16)) ∗ levAts L lv)
      ⊢ (|={Set.univ}=> bigSep Finset.univ fun c => Launched X W c : sProp 𝕄) := by
  have f1 := Rounds.fund_launch (ER (F := F)) (Rd X W) S_disj (fun _ _ h => h) Tk0 ∅ (Es := Set.univ)
  have f2 := Release.slots_init (Es := Set.univ) (ES (F := F)) (Finset.univ : Finset Key) 16 (fun k => keySlot (F := F) k) ∅
  have fb : (bigSep Finset.univ fun c : Dev nD => (semVal (cell c .bar) 0 : sProp 𝕄)) ⊢ bigSep Sb fun g => semVal g 0 := by
    unfold Sb; rw [bigSep_map]; exact .rfl
  have fc : (bigSep Finset.univ fun c => (Pipeline.launchCred O₀ c : sProp 𝕄))
      ⊢ iprop((bigSep Finset.univ fun c : Dev nD => cred (tallyAt (cell c .bar) 0 2))
        ∗ bigSep Finset.univ fun c : Dev nD => bigSep Finset.univ fun i : Fin 8 => iprop(Todo (RecvTok c i) 0 ∗ Todo (WaitTok c i) 0)) := by
    refine (bigSep_mono fun c _ => cred_all (F := F) c).trans ?_
    rw [bigSep_sep']; exact .refl _
  have fj : iprop((bigSep Finset.univ fun c => BarSt c) ∗ bigSep Finset.univ fun c => bigSep Finset.univ fun i => RingClosed c i)
      ⊢ (bigSep Finset.univ fun c => iprop(BarSt c ∗ bigSep Finset.univ fun i => RingClosed c i) : sProp 𝕄) := Entails.of_eq (bigSep_sep' _ _ _).symm
  have ft := Entails.of_eq (toks_split (F := F))
  have fr := Entails.of_eq (readers_split (F := F))
  have fo : ∀ κ ιs, iprop(Inv X W κ ιs ∗ bigSep Finset.univ fun c => iprop(BarSt c ∗ bigSep Finset.univ fun i => RingClosed c i))
      ⊢ (bigSep Finset.univ fun c => Launched X W c : sProp 𝕄) := fun κ ιs => by
    refine big_with (Inv X W κ ιs) _ _ (fun c => ?_) Finset.univ
    unfold Launched
    iintro ⟨H1, H2⟩
    iexists κ, ιs
    isplitl [H1] <;> iassumption
  iintro ⟨Hv, Hcr, HuR, HuS, #Hl⟩
  ihave Hv := fb $$ Hv
  ihave Hcr := fc $$ Hcr
  icases Hcr with ⟨Hcb, Hcr⟩
  imod f1 $$ [Hv HuR] with ⟨%κ, -, #HI, Hre, Hat, Hop, Htok⟩
  · isplitl [Hv] <;> iassumption
  imod f2 $$ HuS with ⟨%ιs, -, #HS, Hrd, Hw⟩
  ihave Htok := ft $$ Htok
  icases Htok with ⟨Htb, Htr⟩
  ihave Hw := (writes_split (F := F)) $$ Hw
  ihave Hrd := fr $$ Hrd
  imodintro
  iapply (fo κ ιs)
  isplitr
  · unfold Inv
    isplitr; · iexact Hl
    isplitr
    · iapply (inv_cells X W κ); iexact HI
    · iexact HS
  iapply fj
  isplitl [Hre Hat Htb Hcb]
  · iapply (bars_launched (F := F))
    isplitl [Hre]; · iexact Hre
    isplitl [Hat]; · iexact Hat
    isplitl [Htb] <;> iassumption
  · iapply (rings_launched (F := F))
    isplitl [Htr Hw]
    · iapply (rings_toks (F := F))
      isplitl [Htr] <;> iassumption
    isplitl [Hrd]; · iexact Hrd
    isplitl [Hcr] <;> iassumption

end Fund
end Cert.RingProof
-- ==== Proof.Region.lean ====
/-
# The one region

The scoped buffers split into slots; the device's own cells open before the body and close after it.
-/
module

public import proofs.«01_k».proof.Proof.Fund
public import proofs.«01_k».proof.Proof.Gen.KernelIdeal.Regions

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## One fact for every ring -/
open Idealize.ShloMosaic.Pipeline (Dat Seg HostSeg RegionSeg)
open Cert.KernelIdeal.Gen

/-! ## Buffers and their two slots -/

theorem slots_disj (M : Memref sig .tc .vmem S2x128x1024 .bf16) : Disjoint (slotAcc M 0).set (slotAcc M 1).set :=
  View.disjoint_slice_of_sep M.view (slotRect 0) (slotRect 1) 0 rfl rfl (by decide)
theorem slot_sub (M : Memref sig .tc .vmem S2x128x1024 .bf16) (p : Fin 2) : (slotAcc M p).set ⊆ M.view.set := View.set_slice_subset _ _
theorem slots_union (M : Memref sig .tc .vmem S2x128x1024 .bf16) : (slotAcc M 0).set ∪ (slotAcc M 1).set = M.view.set := by
  refine Finset.eq_of_subset_of_card_le (Finset.union_subset (slot_sub M 0) (slot_sub M 1)) ?_
  rw [Finset.card_union_of_disjoint (slots_disj M), View.card_set, View.card_set, View.card_set]
  show S2x128x1024.numel ≤ S1x128x1024.numel + S1x128x1024.numel
  decide
/-- A device's whole buffer at some contents. -/
def bufAny (M : Memref sig .tc .vmem S2x128x1024 .bf16) (c : Dev nD) : sProp 𝕄 :=
  iprop(∃ f : Buf (Elt F) (M.view.loc (c : Thread nD τ)), (M.view.loc (c : Thread nD τ) ↦[M.view.set]{fullShare} f))
theorem buf_slots (M : Memref sig .tc .vmem S2x128x1024 .bf16) (c : Dev nD) : (bufAny M c : sProp 𝕄) ⊢ iprop(slotAny M 0 c ∗ slotAny M 1 c) := by
  have h : ∀ f : Buf (Elt F) (M.view.loc (c : Thread nD τ)), (M.view.loc (c : Thread nD τ) ↦[M.view.set]{fullShare} f : sProp 𝕄)
      ⊢ iprop((M.view.loc (c : Thread nD τ) ↦[(slotAcc M 0).set]{fullShare} f) ∗ (M.view.loc (c : Thread nD τ) ↦[(slotAcc M 1).set]{fullShare} f)) := fun f => by
    have e := (pointsTo_union (f := f) (q := fullShare) (Ix := ℕ) (Name := ℕ) (U := UU) (Lvl := ℕ) (slots_disj M)).1
    rwa [slots_union] at e
  unfold bufAny slotAny Release.slot
  iintro ⟨%f, H⟩
  ihave H := (h f) $$ H
  icases H with ⟨H0, H1⟩
  isplitl [H0]
  · iexists f; iexact H0
  · iexists f; iexact H1
theorem slots_buf (M : Memref sig .tc .vmem S2x128x1024 .bf16) (c : Dev nD) : iprop(slotAny M 0 c ∗ slotAny M 1 c) ⊢ (bufAny M c : sProp 𝕄) := by
  have h : ∀ f g : Buf (Elt F) (M.view.loc (c : Thread nD τ)),
      iprop((M.view.loc (c : Thread nD τ) ↦[(slotAcc M 0).set]{fullShare} f) ∗ (M.view.loc (c : Thread nD τ) ↦[(slotAcc M 1).set]{fullShare} g))
        ⊢ (bufAny M c : sProp 𝕄) := fun f g => by
    have e := pointsTo_join (f := f) (g := g) (q := fullShare) (Ix := ℕ) (Name := ℕ) (U := UU) (Lvl := ℕ) (slots_disj M)
    rw [slots_union] at e
    refine e.trans ?_
    unfold bufAny
    iintro H; iexists _; iexact H
  unfold slotAny Release.slot
  iintro ⟨⟨%f, H0⟩, ⟨%g, H1⟩⟩
  iapply (h f g)
  isplitl [H0] <;> iassumption

theorem big_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem regroup (P0 P1 P2 P3 P4 P5 P6 P7 P8 P9 P10 P11 P12 P13 P14 P15 : sProp 𝕄) : (iprop(P0 ∗ P1 ∗ P2 ∗ P3 ∗ P4 ∗ P5 ∗ P6 ∗ P7 ∗ P8 ∗ P9 ∗ P10 ∗ P11 ∗ P12 ∗ P13 ∗ P14 ∗ P15) : sProp 𝕄) = iprop((P0 ∗ P1 ∗ P2 ∗ P3 ∗ P4 ∗ P5 ∗ P6 ∗ P7) ∗ P8 ∗ P9 ∗ P10 ∗ P11 ∗ P12 ∗ P13 ∗ P14 ∗ P15) := by
  have h1 : (iprop(P0 ∗ P1 ∗ P2 ∗ P3 ∗ P4 ∗ P5 ∗ P6 ∗ P7 ∗ P8 ∗ P9 ∗ P10 ∗ P11 ∗ P12 ∗ P13 ∗ P14 ∗ P15) : sProp 𝕄) ⊢ iprop((P0 ∗ P1 ∗ P2 ∗ P3 ∗ P4 ∗ P5 ∗ P6 ∗ P7) ∗ P8 ∗ P9 ∗ P10 ∗ P11 ∗ P12 ∗ P13 ∗ P14 ∗ P15) := by
    iintro ⟨HP0, HP1, HP2, HP3, HP4, HP5, HP6, HP7, HP8, HP9, HP10, HP11, HP12, HP13, HP14, HP15⟩
    isplitl [HP0 HP1 HP2 HP3 HP4 HP5 HP6 HP7]
    · isplitl [HP0]; · iexact HP0
      isplitl [HP1]; · iexact HP1
      isplitl [HP2]; · iexact HP2
      isplitl [HP3]; · iexact HP3
      isplitl [HP4]; · iexact HP4
      isplitl [HP5]; · iexact HP5
      isplitl [HP6]; · iexact HP6
      iexact HP7
    · isplitl [HP8]; · iexact HP8
      isplitl [HP9]; · iexact HP9
      isplitl [HP10]; · iexact HP10
      isplitl [HP11]; · iexact HP11
      isplitl [HP12]; · iexact HP12
      isplitl [HP13]; · iexact HP13
      isplitl [HP14]; · iexact HP14
      iexact HP15
  have h2 : (iprop((P0 ∗ P1 ∗ P2 ∗ P3 ∗ P4 ∗ P5 ∗ P6 ∗ P7) ∗ P8 ∗ P9 ∗ P10 ∗ P11 ∗ P12 ∗ P13 ∗ P14 ∗ P15) : sProp 𝕄) ⊢ iprop(P0 ∗ P1 ∗ P2 ∗ P3 ∗ P4 ∗ P5 ∗ P6 ∗ P7 ∗ P8 ∗ P9 ∗ P10 ∗ P11 ∗ P12 ∗ P13 ∗ P14 ∗ P15) := by
    iintro ⟨⟨HP0, HP1, HP2, HP3, HP4, HP5, HP6, HP7⟩, HP8, HP9, HP10, HP11, HP12, HP13, HP14, HP15⟩
    isplitl [HP0]; · iexact HP0
    isplitl [HP1]; · iexact HP1
    isplitl [HP2]; · iexact HP2
    isplitl [HP3]; · iexact HP3
    isplitl [HP4]; · iexact HP4
    isplitl [HP5]; · iexact HP5
    isplitl [HP6]; · iexact HP6
    isplitl [HP7]; · iexact HP7
    isplitl [HP8]; · iexact HP8
    isplitl [HP9]; · iexact HP9
    isplitl [HP10]; · iexact HP10
    isplitl [HP11]; · iexact HP11
    isplitl [HP12]; · iexact HP12
    isplitl [HP13]; · iexact HP13
    isplitl [HP14]; · iexact HP14
    iexact HP15
  exact BI.Entails.antisymm h1 h2

theorem rest_bufs (c : Dev nD) :
    (Pipeline.scopedRest spec0 c : sProp 𝕄) = iprop((bigSep Finset.univ fun i : Fin 8 => bufAny (sM i) c) ∗ bigSep Finset.univ fun i : Fin 8 => bufAny (rM i) c) := by
  have e : ∀ (b : Ref sig .tc), (iprop(∃ f : Buf (Elt F) ((c : Thread nD τ).loc b), ((c : Thread nD τ).loc b) ↦{fullShare} f) : sProp 𝕄)
      = iprop(∃ f : Buf (Elt F) ((View.whole b).loc (c : Thread nD τ)), ((View.whole b).loc (c : Thread nD τ)) ↦[(View.whole b).set]{fullShare} f) := fun b => by
    simp only [View.set_whole]
  rw [scopedRest0_eq, big_eight, big_eight, regroup]
  simp only [e]
  rfl

/-! ## Opening -/

abbrev osem : Fin 8 × Fin 5 → SemLoc sig := fun x => semOf (own x.1 x.2)
theorem ownFacts : Pipeline.OwnSemFacts spec0 osem := by decide
theorem osems_eq (c : Dev nD) : (Pipeline.ownSems0 osem c : sProp 𝕄)
    = bigSep Finset.univ fun i : Fin 8 => bigSep Finset.univ fun j : Fin 5 => semVal (cell c (own i j)) 0 := by
  unfold Pipeline.ownSems0; rw [bigSep_univ_prod]

section Region
variable (X : Dev nD → cc0_stg1_0.ty.Contents (Elt F)) (W : Dev nD → cc0_stg2_0.ty.Contents (Elt F))
variable (M : Dev nD → cc0_stg0_0.ty.Contents (Elt F))

theorem open_cell (κ : GSem nD τ sig → ℕ) (ιs : Key → ℕ) (c : Dev nD) (k : Kd) :
    iprop(Inv X W κ ιs ∗ (openTok ER (cell c k) ∗ semVal (cell c k) 0))
      ⊢ (|={Set.univ}=> (atPos ER (cell c k) 0 ∅ 0 ∗ reached ER (cell c k) 0) : sProp 𝕄) := by
  have h := Inv_cell X W κ ιs c k
  have h2 := Rounds.cell_open (ER (F := F)) (Rd X W) (g := cell c k) (Set.mem_univ (κ (cell c k)))
  iintro ⟨HI, Ho, Hv⟩
  ihave HI := h $$ HI
  iapply h2
  isplitl [HI]; · iexact HI
  isplitl [Ho] <;> iassumption
theorem open_ring (κ : GSem nD τ sig → ℕ) (ιs : Key → ℕ) (c : Dev nD) (i : Fin 8) :
    iprop(Inv X W κ ιs ∗ (RingClosed c i ∗ bigSep Finset.univ fun j : Fin 5 => semVal (cell c (own i j)) 0))
      ⊢ (|={Set.univ}=> RingOpen c i : sProp 𝕄) := by
  have h := big_fupd_with (Inv X W κ ιs) _ _ (fun j : Fin 5 => open_cell X W κ ιs c (own i j)) Finset.univ
  have hj : iprop((bigSep Finset.univ fun j : Fin 5 => openTok ER (cell c (own i j))) ∗ bigSep Finset.univ fun j : Fin 5 => semVal (cell c (own i j)) 0)
      ⊢ (bigSep Finset.univ fun j : Fin 5 => iprop(openTok ER (cell c (own i j)) ∗ semVal (cell c (own i j)) 0) : sProp 𝕄) := Entails.of_eq (bigSep_sep' _ _ _).symm
  unfold RingClosed RingOpen
  iintro ⟨HI, ⟨Ht, Ho⟩, Hv⟩
  imod h $$ [HI Ho Hv] with H
  · isplitl [HI]; · iexact HI
    iapply hj; isplitl [Ho] <;> iassumption
  imodintro
  isplitl [Ht] <;> iassumption
theorem hopen0 (c : Dev nD) : iprop(Launched X W c ∗ Pipeline.ownSems0 osem c ∗ levAts L lv) ⊢ (|={Set.univ}=> Opened X W c : sProp 𝕄) := by
  have h := fun κ ιs => big_fupd_with (Inv X W κ ιs) _ _ (open_ring X W κ ιs c) Finset.univ
  have hj : iprop((bigSep Finset.univ fun i => RingClosed c i) ∗ bigSep Finset.univ fun i : Fin 8 => bigSep Finset.univ fun j : Fin 5 => semVal (cell c (own i j)) 0)
      ⊢ (bigSep Finset.univ fun i => iprop(RingClosed c i ∗ bigSep Finset.univ fun j : Fin 5 => semVal (cell c (own i j)) 0) : sProp 𝕄) := Entails.of_eq (bigSep_sep' _ _ _).symm
  rw [osems_eq]
  unfold Launched Opened
  iintro ⟨⟨%κ, %ιs, #HI, Hb, Hr⟩, Hv, -⟩
  imod (h κ ιs) $$ [Hr Hv] with H
  · isplitr; · iexact HI
    iapply hj; isplitl [Hr] <;> iassumption
  imodintro
  iexists κ, ιs
  isplitr; · iexact HI
  isplitl [Hb] <;> iassumption

/-- A ring with its cells open and its slots in hand is ready for the entry. -/
theorem ring_ready (c : Dev nD) (i : Fin 8) : iprop(RingOpen c i ∗ bufAny (sM i) c ∗ bufAny (rM i) c) ⊢ (PreRing c i : sProp 𝕄) := by
  have e0 : bigSep (Finset.Ico 0 (0 + 2)) (fun k => (slotAny (sM i) (slot k) c : sProp 𝕄)) = iprop(slotAny (sM i) 0 c ∗ slotAny (sM i) 1 c) := by
    rw [show Finset.Ico 0 (0 + 2) = insert 0 {1} from by decide, bigSep_insert (by decide), bigSep_singleton]; rfl
  have e1 : bigSep (Finset.Ico 0 0) (fun k => (cred (tallyAt (cell c (.send i (slot k))) 0 N) : sProp 𝕄)) = iprop(emp) := by rw [Finset.Ico_self, bigSep_empty]; rfl
  unfold RingOpen RingTok PreRing SendSt RecvPre CredMid
  rw [big_five, e0, e1]
  iintro ⟨⟨⟨Hs, Hc, Hr, Hw, Hr0, Hr1⟩, Ho0, Ho1, Ho2, Ho3, ⟨Ha, Hre⟩⟩, Hbs, Hbr⟩
  ihave Hbs := (buf_slots (F := F) (sM i) c) $$ Hbs
  ihave Hbr := (buf_slots (F := F) (rM i) c) $$ Hbr
  icases Hbr with ⟨Hb0, Hb1⟩
  isplitl [Hs Ho0 Ho1 Hbs]
  · isplitl [Hs]; · iexact Hs
    isplitl [Ho0]; · iexact Ho0
    isplitl [Ho1]; · iexact Ho1
    isplitr; · iempintro
    iexact Hbs
  isplitl [Hr Ho2 Ho3 Hr0 Hr1 Hb0 Hb1]
  · isplitl [Hr]; · iexact Hr
    isplitl [Ho2]; · iexact Ho2
    isplitl [Ho3]; · iexact Ho3
    isplitl [Hr0]; · iexact Hr0
    isplitl [Hr1]; · iexact Hr1
    isplitl [Hb0] <;> iassumption
  isplitl [Hc Hw Ha]
  · isplitl [Hc]; · iexact Hc
    isplitl [Hw]; · iexact Hw
    iexact Ha
  iexact Hre

/-! ## Closing -/

/-- No duty lies past the last round of a cell. -/
def lastOf : Kd → ℕ
  | .send _ p => if p = 0 then 16 else 15
  | .recv _ p => if p = 0 then 16 else 15
  | _ => 1
theorem no_later (c : Dev nD) (k : Kd) (r : ℕ) (h : lastOf k ≤ r) : (Rd X W).duties (cell c k) r = ∅ := by
  rw [duties_cell]
  cases k with
  | bar => exact if_neg (by have h : 1 ≤ r := h; omega)
  | cred i => exact if_neg (by have h : 1 ≤ r := h; omega)
  | send i p => refine if_neg ?_; fin_cases p; · have h : 16 ≤ r := h; show ¬ (2 * r + 0 < 31); omega
                · have h : 15 ≤ r := h; show ¬ (2 * r + 1 < 31); omega
  | recv i p => refine if_neg ?_; fin_cases p; · have h : 16 ≤ r := h; show ¬ (2 * r + 0 < 31); omega
                · have h : 15 ≤ r := h; show ¬ (2 * r + 1 < 31); omega
theorem close_cell (κ : GSem nD τ sig → ℕ) (ιs : Key → ℕ) (c : Dev nD) (k : Kd) :
    iprop(Inv X W κ ιs ∗ atPos ER (cell c k) (lastOf k) ∅ 0) ⊢ (|={Set.univ}=> semVal (cell c k) 0 : sProp 𝕄) := by
  have h := Inv_cell X W κ ιs c k
  have h2 := Rounds.cell_close (ER (F := F)) (Rd X W) (g := cell c k) (Set.mem_univ (κ (cell c k))) (fun h => h) (no_later X W c k)
  iintro ⟨HI, Hv⟩
  ihave HI := h $$ HI
  iapply h2
  isplitl [HI] <;> iassumption
theorem close_ring (κ : GSem nD τ sig → ℕ) (ιs : Key → ℕ) (c : Dev nD) (i : Fin 8) :
    iprop(Inv X W κ ιs ∗ DoneSt c i)
      ⊢ (|={Set.univ}=> ((bigSep Finset.univ fun j : Fin 5 => semVal (cell c (own i j)) 0) ∗ bufAny (sM i) c ∗ bufAny (rM i) c) : sProp 𝕄) := by
  have h := big_fupd_with (Inv X W κ ιs) _ _ (fun j : Fin 5 => close_cell X W κ ιs c (own i j)) Finset.univ
  have e0 : bigSep (Finset.Ico 31 (31 + 2)) (fun k => (slotAny (sM i) (slot k) c : sProp 𝕄)) = iprop(slotAny (sM i) 1 c ∗ slotAny (sM i) 0 c) := by
    rw [show Finset.Ico 31 (31 + 2) = insert 31 {32} from by decide, bigSep_insert (by decide), bigSep_singleton]; rfl
  have e1 : bigSep (Finset.Ico 29 31) (fun k => (slotAny (rM i) (slot k) c : sProp 𝕄)) = iprop(slotAny (rM i) 1 c ∗ slotAny (rM i) 0 c) := by
    rw [show Finset.Ico 29 31 = insert 29 {30} from by decide, bigSep_insert (by decide), bigSep_singleton]; rfl
  have h5 := Entails.of_eq (big_five (F := F) fun j : Fin 5 => atPos ER (cell c (own i j)) (lastOf (own i j)) ∅ 0).symm
  unfold DoneSt SendSt RecvSt
  rw [e0, e1]
  iintro ⟨HI, ⟨-, ⟨Ha, -⟩, ⟨Hb, -⟩, -, ⟨Hs1, Hs0⟩⟩, ⟨-, ⟨Hc, -⟩, ⟨Hd, -⟩, -, -, -, ⟨Hr1, Hr0⟩⟩, He⟩
  imod h $$ [HI Ha Hb Hc Hd He] with H
  · isplitl [HI]; · iexact HI
    iapply h5
    isplitl [Ha]; · iexact Ha
    isplitl [Hb]; · iexact Hb
    isplitl [Hc]; · iexact Hc
    isplitl [Hd]; · iexact Hd
    iexact He
  imodintro
  isplitl [H]; · iexact H
  isplitl [Hs0 Hs1]
  · iapply (slots_buf (F := F) (sM i) c)
    isplitl [Hs0] <;> iassumption
  · iapply (slots_buf (F := F) (rM i) c)
    isplitl [Hr0] <;> iassumption

/-- Everything a device's protocol ends with. -/
def Closed (c : Dev nD) : sProp 𝕄 :=
  iprop(Pipeline.ownSems0 osem c ∗ Pipeline.scopedRest spec0 c ∗ semVal (cell c .bar) 0)
theorem close_all (κ : GSem nD τ sig → ℕ) (ιs : Key → ℕ) (c : Dev nD) :
    iprop(Inv X W κ ιs ∗ (bigSep Finset.univ fun i => DoneSt c i) ∗ atPos ER (cell c .bar) 1 ∅ 0) ⊢ (|={Set.univ}=> Closed c : sProp 𝕄) := by
  have h := big_fupd_with (Inv X W κ ιs) _ _ (close_ring X W κ ιs c) Finset.univ
  have hb := close_cell X W κ ιs c .bar
  have hj : (bigSep Finset.univ fun i : Fin 8 => iprop((bigSep Finset.univ fun j : Fin 5 => semVal (cell c (own i j)) 0) ∗ bufAny (sM i) c ∗ bufAny (rM i) c) : sProp 𝕄)
      ⊢ iprop(Pipeline.ownSems0 osem c ∗ Pipeline.scopedRest spec0 c) := by
    rw [osems_eq, rest_bufs, bigSep_sep', bigSep_sep']
  unfold Closed
  iintro ⟨#HI, HD, Hb⟩
  imod h $$ [HD] with H
  · isplitr; · iexact HI
    iexact HD
  imod hb $$ [Hb] with Hb
  · isplitr; · iexact HI
    iexact Hb
  ihave H := hj $$ H
  icases H with ⟨H1, H2⟩
  imodintro
  isplitl [H1]; · iexact H1
  isplitl [H2] <;> iassumption

/-! ## The run of the body from what the region opens with -/

theorem run_opened (c : Dev nD) (hM : MetaOK M c) :
    iprop(Opened X W c ∗ Pipeline.scopedRest spec0 c ∗ owesE c (O₀ c) ∗ Glob X W M c ∗ OutJ X W c 0)
      ⊢ wpc c theBody (fun _ => iprop(Glob X W M c ∗ OutJ X W c 8 ∗ owesE c 0 ∗ Closed c)) := by
  have hrun := fun κ ιs => run_body X W M κ ιs c hM (fun _ => iprop(Glob X W M c ∗ OutJ X W c 8 ∗ owesE c 0 ∗ (bigSep Finset.univ fun i => DoneSt c i) ∗ atPos ER (cell c .bar) 1 ∅ 0)) .rfl
  have hw : ∀ κ ιs, iprop(Inv X W κ ιs ∗ (Inv X W κ ιs ∗ EntrySt c ∗ Glob X W M c ∗ OutJ X W c 0))
      ⊢ wpc c theBody (fun _ => iprop(Glob X W M c ∗ OutJ X W c 8 ∗ owesE c 0 ∗ Closed c)) := fun κ ιs => by
    refine (BI.sep_mono (.refl _) (hrun κ ιs)).trans ?_
    refine (wp_frame_l _ _ _).trans ?_
    refine BI.Entails.trans ?_ (wp_fupd _ _ _ _ _)
    refine wp_mono _ _ _ fun _ => ?_
    have hc := close_all X W κ ιs c
    iintro ⟨HI, HG, HO, Hw, HD, Ha⟩
    imod hc $$ [HI HD Ha] with H
    · isplitl [HI]; · iexact HI
      isplitl [HD] <;> iassumption
    imodintro
    isplitl [HG]; · iexact HG
    isplitl [HO]; · iexact HO
    isplitl [Hw] <;> iassumption
  have hj : iprop((bigSep Finset.univ fun i => RingOpen c i) ∗ Pipeline.scopedRest spec0 c) ⊢ (bigSep Finset.univ fun i => PreRing c i : sProp 𝕄) := by
    rw [rest_bufs, ← bigSep_sep', ← bigSep_sep']
    exact bigSep_mono fun i _ => ring_ready (F := F) c i
  unfold Opened
  iintro ⟨⟨%κ, %ιs, #HI, Hb, Hr⟩, Hs, HO, HG, Hout⟩
  iapply (hw κ ιs)
  isplitr; · iexact HI
  isplitr; · iexact HI
  isplitl [Hb Hr Hs HO]
  · unfold EntrySt
    isplitl [HO]; · iexact HO
    isplitl [Hb]; · iexact Hb
    iapply hj; isplitl [Hr] <;> iassumption
  isplitl [HG] <;> iassumption

end Region
end Cert.RingProof
-- ==== Proof.Record.lean ====
/-
# The region's record

What the windows hold before and after the one point, the body's obligation there, and the region as a segment of the program.
-/
module

public import proofs.«01_k».proof.Proof.Region
public import proofs.«01_k».proof.Proof.Gen.KernelIdeal.Points
public import Idealize.ShloMosaic.Lib.Pipeline.RegionTalk
public import Idealize.ShloMosaic.Lib.Pipeline.Value

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (Dat Seg HostSeg RegionSeg BodyObligation)

set_option maxRecDepth 4000

/-! ## The result -/

/-- The whole result of device `c`: ring `i` has columns `1024 i … 1024 i + 1023`. -/
def outC (X : Dev nD → cc0_stg1_0.ty.Contents (Elt F)) (W : Dev nD → cc0_stg2_0.ty.Contents (Elt F)) (c : Dev nD) : S128x8192.Idx → Elt F .f32 := fun a =>
  resV X W c ⟨(a 1).val / 1024, by have h : (a 1).val < 8192 := (a 1).isLt; omega⟩
    (fun b => match b with
      | ⟨0, _⟩ => ⟨(a 0).val, (a 0).isLt⟩
      | ⟨1, _⟩ => ⟨(a 1).val % 1024, Nat.mod_lt _ (by decide)⟩)
theorem outOff0 (i : Fin 8) : outOff i 0 = 0 := by revert i; decide
theorem outOff1 (i : Fin 8) : outOff i 1 = 1024 * i.val := by revert i; decide
theorem out_eq (X : Dev nD → cc0_stg1_0.ty.Contents (Elt F)) (W : Dev nD → cc0_stg2_0.ty.Contents (Elt F)) (c : Dev nD) (f : S128x8192.Idx → Elt F .f32)
    (h : ∀ i, (outAcc i).read (Elt F) f = resV X W c i) : f = outC X W c := by
  funext a
  have h1 : (a 1).val < 8192 := (a 1).isLt
  unfold outC
  rw [← h]
  show f a = f _
  congr 1
  funext b
  match b with
  | ⟨0, _⟩ => refine Fin.ext ?_; show (a 0).val = outOff _ 0 + 1 * (a 0).val; rw [outOff0]; omega
  | ⟨1, _⟩ => refine Fin.ext ?_; show (a 1).val = outOff _ 1 + 1 * ((a 1).val % 1024); rw [outOff1]; show (a 1).val = 1024 * ((a 1).val / 1024) + 1 * ((a 1).val % 1024); omega

/-! ## The proof data -/

section Rec
variable (m : (ℓ : Loc nD τ sig) → Buf (Elt F) ℓ)

abbrev Xv (c : Dev nD) : cc0_stg1_0.ty.Contents (Elt F) := V9 m c main_arg0
abbrev Wv (c : Dev nD) : cc0_stg2_0.ty.Contents (Elt F) := V9 m c main_arg1
abbrev Mv (c : Dev nD) : cc0_stg0_0.ty.Contents (Elt F) := V9 m c main_v50

def PhiEnd (c : Dev nD) : sProp 𝕄 :=
  iprop(Pipeline.scopedRest spec0 c ∗ (∃ r, prngReg c r) ∗ Pipeline.ownSems0 osem c ∗ semVal (cell c .bar) 0)

def dat0 (c : Dev nD) : Dat τ (Elt F) ℕ ℕ UU ℕ cfg0 c where
  A w := V9 m c (Proc.devRef .tc (Pipeline.arrRef cfg0.spec w))
  after w _ := match w with
    | ⟨0, _⟩ => Mv m c
    | ⟨1, _⟩ => Xv m c
    | ⟨2, _⟩ => Wv m c
    | ⟨3, _⟩ => outC (Xv m) (Wv m) c
  Φ t := match t with
    | ⟨0, _⟩ => iprop(Opened (Xv m) (Wv m) c ∗ Pipeline.scopedRest spec0 c ∗ (∃ r, prngReg c r))
    | ⟨_ + 1, _⟩ => PhiEnd c
  q _ := fullShare
  owed t := if t.val = 0 then O₀ c else 0

theorem blk_read0 (t : Fin cfg0.N) (f : main_v50.ty.Contents (Elt F)) : ((cfg0.win 0).blk t).view.read (Elt F) f = f := by
  funext i
  show f _ = f i
  congr 1
  funext b
  refine Fin.ext ?_
  show 0 * _ + 1 * (i b).val = (i b).val
  omega
theorem blk_read1 (t : Fin cfg0.N) (f : main_arg0.ty.Contents (Elt F)) : ((cfg0.win 1).blk t).view.read (Elt F) f = f := by
  funext i
  show f _ = f i
  congr 1
  funext b
  refine Fin.ext ?_
  show 0 * _ + 1 * (i b).val = (i b).val
  omega
theorem blk_read2 (t : Fin cfg0.N) (f : main_arg1.ty.Contents (Elt F)) : ((cfg0.win 2).blk t).view.read (Elt F) f = f := by
  funext i
  show f _ = f i
  congr 1
  funext b
  refine Fin.ext ?_
  show 0 * _ + 1 * (i b).val = (i b).val
  omega
theorem blk_read3 (t : Fin cfg0.N) (f : main_v51.ty.Contents (Elt F)) : ((cfg0.win 3).blk t).view.read (Elt F) f = f := by
  funext i
  show f _ = f i
  congr 1
  funext b
  refine Fin.ext ?_
  show 0 * _ + 1 * (i b).val = (i b).val
  omega

theorem before0 (c : Dev nD) (d) : (dat0 m c).before 0 t0_0 d = Mv m c := by
  unfold Dat.before; rw [if_pos (fetch0_0 t0_0)]; exact blk_read0 t0_0 (Mv m c)
theorem before1 (c : Dev nD) (d) : (dat0 m c).before 1 t0_0 d = Xv m c := by
  unfold Dat.before; rw [if_pos (fetch0_1 t0_0)]; exact blk_read1 t0_0 (Xv m c)
theorem before2 (c : Dev nD) (d) : (dat0 m c).before 2 t0_0 d = Wv m c := by
  unfold Dat.before; rw [if_pos (fetch0_2 t0_0)]; exact blk_read2 t0_0 (Wv m c)

theorem end3 (c : Dev nD) : (dat0 m c).arrAt 3 cfg0.N = outC (Xv m) (Wv m) c := by
  have h := (dat0 m c).read_blk_arrAt_eq_flushed 3 (fun t t' _ _ h => absurd ((fin_N0 t).trans (fin_N0 t').symm) h) cfg0.N t0_0 t0_0.isLt (flush0_3 t0_0)
  rw [blk_read3] at h
  rw [h]
  rfl

/-! ## The body's obligation -/

theorem own0 (c : Dev nD) (b : Ref sig .tc) (X : b.ty.Contents (Elt F)) :
    (owns (c : Thread nD τ) (Memref.whole b) fullShare X : sProp 𝕄) = (((c : Thread nD τ).loc b) ↦{fullShare} X) := owns_whole (c : Thread nD τ) b fullShare X

def bodyPre (c : Dev nD) : sProp 𝕄 :=
  iprop((Opened (Xv m) (Wv m) c ∗ Pipeline.scopedRest spec0 c ∗ (∃ r, prngReg c r)) ∗ (dat0 m c).owesAt 0 t0_0.castSucc
    ∗ (∃ d, owns (c : Thread nD τ) metaM fullShare ((dat0 m c).before 0 t0_0 d)) ∗ (∃ d, owns (c : Thread nD τ) xM fullShare ((dat0 m c).before 1 t0_0 d))
    ∗ (∃ d, owns (c : Thread nD τ) wM fullShare ((dat0 m c).before 2 t0_0 d)) ∗ (∃ d, owns (c : Thread nD τ) oM fullShare ((dat0 m c).before 3 t0_0 d)))
def bodyPost (c : Dev nD) : sProp 𝕄 :=
  iprop(PhiEnd c ∗ (dat0 m c).owesAt 0 t0_0.succ
    ∗ owns (c : Thread nD τ) metaM fullShare (Mv m c) ∗ owns (c : Thread nD τ) xM fullShare (Xv m c)
    ∗ owns (c : Thread nD τ) wM fullShare (Wv m c) ∗ owns (c : Thread nD τ) oM fullShare (outC (Xv m) (Wv m) c))

theorem out_done (c : Dev nD) : OutJ (Xv m) (Wv m) c 8 ⊢ (owns (c : Thread nD τ) oM fullShare (outC (Xv m) (Wv m) c) : sProp 𝕄) := by
  rw [own0]
  unfold OutJ Out
  iintro ⟨%f, %h, H⟩
  have e := out_eq (Xv m) (Wv m) c f (fun i => h i (pos i).isLt)
  rw [← e]
  iexact H

theorem body_runs (c : Dev nD) (hM : MetaOK (Mv m) c) : bodyPre m c ⊢ wpc c theBody (fun _ => bodyPost m c) := by
  have hr := run_opened (Xv m) (Wv m) (Mv m) c hM
  have hs : iprop((∃ r, prngReg c r) ∗ (Opened (Xv m) (Wv m) c ∗ Pipeline.scopedRest spec0 c ∗ owesE c (O₀ c) ∗ Glob (Xv m) (Wv m) (Mv m) c ∗ OutJ (Xv m) (Wv m) c 0))
      ⊢ wpc c theBody (fun _ => bodyPost m c) := by
    refine (BI.sep_mono (.refl _) hr).trans ?_
    refine (wp_frame_l _ _ _).trans ?_
    refine wp_mono _ _ _ fun _ => ?_
    have ho := out_done m c
    unfold bodyPost PhiEnd Closed Glob owesE
    rw [own0, own0, own0]
    iintro ⟨Hp, ⟨Hm, Hx, Hw⟩, HO, ⟨%Wd, Ho⟩, Hos, Hsr, Hb⟩
    isplitl [Hp Hos Hsr Hb]
    · isplitl [Hsr]; · iexact Hsr
      isplitl [Hp]; · iexact Hp
      isplitl [Hos] <;> iassumption
    isplitl [Ho]
    · unfold Dat.owesAt Pipeline.owesWithin
      iexists Wd
      isplitr
      · ipureintro; exact fun _ _ => Or.inl trivial
      · iexact Ho
    isplitl [Hm]; · iexact Hm
    isplitl [Hx]; · iexact Hx
    isplitl [Hw]; · iexact Hw
    iapply ho
    iexact HO
  have hout : ∀ f : cc0_stg3_0.ty.Contents (Elt F), ((((c : Thread nD τ).loc cc0_stg3_0) ↦{fullShare} f) : sProp 𝕄) ⊢ OutJ (Xv m) (Wv m) c 0 := fun f => by
    unfold OutJ Out
    iintro H
    iexists f
    isplitr
    · ipureintro; exact fun i hi => absurd hi (Nat.not_lt_zero _)
    · iexact H
  suffices hp : bodyPre m c ⊢ iprop((∃ r, prngReg c r) ∗ (Opened (Xv m) (Wv m) c ∗ Pipeline.scopedRest spec0 c ∗ owesE c (O₀ c) ∗ Glob (Xv m) (Wv m) (Mv m) c ∗ OutJ (Xv m) (Wv m) c 0)) from hp.trans hs
  unfold bodyPre
  simp only [before0, before1, before2, own0]
  unfold Glob owesE
  iintro ⟨⟨HOp, Hs, Hp⟩, Ho, ⟨%d0, H0⟩, ⟨%d1, H1⟩, ⟨%d2, H2⟩, ⟨%d3, H3⟩⟩
  isplitl [Hp]; · iexact Hp
  isplitl [HOp]; · iexact HOp
  isplitl [Hs]; · iexact Hs
  isplitl [Ho]
  · unfold Dat.owesAt Pipeline.owesWithin
    icases Ho with ⟨%Wd, -, Ho⟩
    iexists Wd; iexact Ho
  isplitl [H0 H1 H2]
  · isplitl [H0]; · iexact H0
    isplitl [H1] <;> iassumption
  iapply (hout _)
  iexact H3

theorem after0 (c : Dev nD) (t) : (dat0 m c).after 0 t = Mv m c := by dsimp only [dat0]
theorem after1 (c : Dev nD) (t) : (dat0 m c).after 1 t = Xv m c := by dsimp only [dat0]
theorem after2 (c : Dev nD) (t) : (dat0 m c).after 2 t = Wv m c := by dsimp only [dat0]
theorem after3 (c : Dev nD) (t) : (dat0 m c).after 3 t = outC (Xv m) (Wv m) c := by dsimp only [dat0]
theorem Phi_first (c : Dev nD) : (dat0 m c).Φ t0_0.castSucc = iprop(Opened (Xv m) (Wv m) c ∗ Pipeline.scopedRest spec0 c ∗ (∃ r, prngReg c r)) := rfl
theorem Phi_end (c : Dev nD) : (dat0 m c).Φ t0_0.succ = PhiEnd c := rfl
theorem body_is (t : Fin cfg0.N) : (defs₀ (F := F)) .tc cfg0.body (cfg0.bodyArgs t (cfg0.slots t)) = bodyAt0 t := rfl
theorem bodyAt_is : bodyAt0 (F := F) t0_0 = theBody := rfl

theorem wp_is (c : Dev nD) (Q : PUnit → sProp 𝕄) :
    wp frame (wpE (defs₀ (F := F)) 𝒱₀ (c : Thread nD τ) none) Set.univ ((defs₀ (F := F)) .tc cfg0.body (cfg0.bodyArgs t0_0 (cfg0.slots t0_0))) Q = wpc c theBody Q := by
  rw [body_is, bodyAt_is]

theorem stg0 (c : Dev nD) (f) : (owns (c : Thread nD τ) (stage0_0 0) fullShare f : sProp 𝕄) = owns (c : Thread nD τ) metaM fullShare f := rfl
theorem stg1 (c : Dev nD) (f) : (owns (c : Thread nD τ) (stage0_1 0) fullShare f : sProp 𝕄) = owns (c : Thread nD τ) xM fullShare f := rfl
theorem stg2 (c : Dev nD) (f) : (owns (c : Thread nD τ) (stage0_2 0) fullShare f : sProp 𝕄) = owns (c : Thread nD τ) wM fullShare f := rfl
theorem stg3 (c : Dev nD) (f) : (owns (c : Thread nD τ) (stage0_3 0) fullShare f : sProp 𝕄) = owns (c : Thread nD τ) oM fullShare f := rfl

theorem body_obligation (c : Dev nD) (hM : MetaOK (Mv m) c) : BodyObligation (dat0 m c) (defs₀ (F := F)) 𝒱₀ 0 Set.univ := fun t => by
  obtain rfl := fin_N0 t
  have h := body_runs m c hM
  unfold bodyPre bodyPost at h
  rw [← after0 m c t0_0, ← after1 m c t0_0, ← after2 m c t0_0, ← after3 m c t0_0] at h
  rw [bigSep_W0, bigSep_W0, Phi_first, Phi_end]
  dsimp only
  rw [wp_is]
  refine BI.Entails.trans ?_ (BI.Entails.trans h ?_)
  · refine BI.sep_mono (.refl _) (BI.sep_mono (.refl _) ?_)
    exact BI.sep_mono (.refl _) (BI.sep_mono (.refl _) (BI.sep_mono (.refl _) (.refl _)))
  · refine wp_mono _ _ _ fun _ => ?_
    exact BI.sep_mono (.refl _) (BI.sep_mono (.refl _) (BI.sep_mono (.refl _) (BI.sep_mono (.refl _) (BI.sep_mono (.refl _) (.refl _)))))

/-! ## The region as a segment -/

def pdats : (p : Fin 1) → (c : Dev nD) → Dat τ (Elt F) ℕ ℕ UU ℕ (cfgs p) c
  | 0 => dat0 m

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The result array's contents after the region, as the generated valuation takes them. -/
def outs : Outs (F := F) := fun _ r c => if h : r = main_v51 then h ▸ (outC (Xv m) (Wv m) c : main_v51.ty.Contents (Elt F)) else m ((c : Thread nD τ).loc r)
theorem outs_v51 (c : Dev nD) : outs m 10 main_v51 c = (outC (Xv m) (Wv m) c : main_v51.ty.Contents (Elt F)) := by unfold outs; rw [dif_pos rfl]

/-- The unscoped buffers that are no window's array. -/
abbrev Sr : Finset (DevRef τ sig) := Pipeline.ucRefs τ sig \ Pipeline.arrRefs spec0

theorem owed0 (c : Dev nD) : (pdats m 0 c).owed 0 = O₀ c := rfl
theorem owedN (c : Dev nD) : (pdats m 0 c).owed (Fin.last _) = 0 := rfl

theorem O₀_above (c : Dev nD) : Above (O₀ c) 1 :=
  Above.add (Above.add ((S0_above c).mono (by omega)) (Above.tally _ _ _ _ _ (by omega) (le_refl 1))) (Above.tally _ _ _ _ _ (by omega) (le_refl 1))

theorem cut (c : Dev nD) (t) (g : GSem nD τ sig) (i : ℕ) (h : 0 < (pdats m 0 c).owed t g i) : i ∈ L g ∧ 0 < lv g i := by
  have e : (pdats m 0 c).owed t = if t.val = 0 then O₀ c else 0 := rfl
  rw [e] at h
  split at h
  · exact O₀_above c g i h
  · exact absurd h (Nat.lt_irrefl 0)

theorem V10_at (c : Dev nD) : V10 m (outs m) c main_v51 = (outC (Xv m) (Wv m) c : main_v51.ty.Contents (Elt F)) := by
  show Function.update (V9 m c) _ _ _ = _
  rw [Function.update_self, outs_v51]

theorem hrest (c : Dev nD) : ∀ b ∈ Sr \ (∅ : Finset (DevRef τ sig)), V10 m (outs m) c b = V9 m c b := fun b hb => by
  refine Function.update_of_ne (fun e => ?_) _ _
  rw [Finset.sdiff_empty, Finset.mem_sdiff] at hb
  subst e
  exact hb.2 (by decide)

theorem hW0 (c : Dev nD) (w : Fin 4) : (pdats m 0 c).arrAt w 0 = V9 m c (Proc.devRef .tc (Pipeline.arrRef spec0 w)) := rfl
theorem hWN (c : Dev nD) (w : Fin 4) : (pdats m 0 c).arrAt w cfg0.N = V10 m (outs m) c (Proc.devRef .tc (Pipeline.arrRef spec0 w)) := by
  match w with
  | ⟨0, _⟩ => exact ((dat0 m c).arrAt_in 0 rfl _).trans (V10_of m (outs m) c main_v50 (by decide)).symm
  | ⟨1, _⟩ => exact ((dat0 m c).arrAt_in 1 rfl _).trans (V10_of m (outs m) c main_arg0 (by decide)).symm
  | ⟨2, _⟩ => exact ((dat0 m c).arrAt_in 2 rfl _).trans (V10_of m (outs m) c main_arg1 (by decide)).symm
  | ⟨3, _⟩ => exact (end3 m c).trans (V10_at m c).symm

theorem hin (c : Dev nD) : iprop(Pipeline.scopedRest spec0 c ∗ (∃ r, prngReg c r) ∗ StableHlo.held (c.tc : Thread nD τ) ∅ (V9 m c) ∗ Opened (Xv m) (Wv m) c)
    ⊢ (pdats m 0 c).Φ 0 := by
  rw [show (pdats m 0 c).Φ 0 = iprop(Opened (Xv m) (Wv m) c ∗ Pipeline.scopedRest spec0 c ∗ (∃ r, prngReg c r)) from rfl]
  iintro ⟨Hs, Hp, -, Ho⟩
  isplitl [Ho]; · iexact Ho
  isplitl [Hs] <;> iassumption

theorem hout (c : Dev nD) : (pdats m 0 c).Φ (Fin.last (Pipeline.pin (pcfgs (F := F)) adm 0).N)
    ⊢ iprop(Pipeline.scopedRest spec0 c ∗ (∃ r, prngReg c r) ∗ StableHlo.held (c.tc : Thread nD τ) ∅ (V10 m (outs m) c) ∗ Pipeline.ownSems0 osem c ∗ semVal (cell c .bar) 0) := by
  rw [show (pdats m 0 c).Φ (Fin.last _) = PhiEnd c from rfl]
  have e : (StableHlo.held (c.tc : Thread nD τ) ∅ (V10 m (outs m) c) : sProp 𝕄) = iprop(emp) := by unfold StableHlo.held; exact bigSep_empty
  rw [e]
  unfold PhiEnd
  iintro ⟨Hs, Hp, Ho, Hb⟩
  isplitl [Hs]; · iexact Hs
  isplitl [Hp]; · iexact Hp
  isplitr; · iempintro
  isplitl [Ho] <;> iassumption

theorem stage_lv (c : Dev nD) (w : Fin 4) (s : Fin (spec0 w).nbuf) : lv ((c : Thread nD τ), .dma ((spec0 w).sem s)) 0 ≤ 0 := by
  have h : ∀ (w : Fin 4) (s : Fin (spec0 w).nbuf), lvOf (kd (.dma ((spec0 w).sem s))) 0 ≤ 0 := by decide
  exact h w s

set_option backward.isDefEq.respectTransparency.types false in
def region (hM : ∀ c, MetaOK (Mv m) c) : RegionSeg (pcfgs (F := F)) adm (pdats m) 0 defs₀ 𝒱₀ L lv 0 :=
  Pipeline.RegionSeg.ofTalk (pcfgs (F := F)) adm (pdats m) 0 defs₀ 𝒱₀ L lv 0 osem ownFacts
    ∅ Sr (Finset.empty_subset _) kitP rfl (fun c => (body_obligation m c (hM c)).loose)
    (fun _ => 0) O₀ (fun c => (owed0 m c).trans (zero_add _).symm) (owedN m) (fun _ => rfl) (fun c w => (dat0 m c).share_full (fun _ => rfl) w)
    (V9 m) (V10 m (outs m)) (hrest m)
    (fun c => Launched (Xv m) (Wv m) c) (fun c => semVal (cell c .bar) 0) (fun c => Opened (Xv m) (Wv m) c) (fun c => semVal (cell c .bar) 0)
    (hopen0 (Xv m) (Wv m)) (hin m) (hout m)
    (fun c => by iintro H; imodintro; iexact H)
    (fun _ => 0)
    ⟨fun c w s => by rw [L_cell]; exact Finset.mem_range.mpr (by decide), fun c w s => stage_lv c w s, fun c t g i h => cut m c t g i h⟩
    (fun _ => iprop(emp))
    (hW0 m) (hWN m)

end Rec
end Cert.RingProof
-- ==== Proof.Launch.lean ====
/-
# The run

The launch deals every device its share of the protocol, the host operations and the region run, and the last memory is read off.
-/
module

public import proofs.«01_k».proof.Proof.Record
public import Idealize.ShloMosaic.Lib.Pipeline.SiteBlocks

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (Dat Seg HostSeg RegionSeg BodyObligation)

section Run
variable (m : (ℓ : Loc nD τ sig) → Buf (Elt F) ℓ)

/-- What rides beside the buffers: before the region and after it. -/
def Ride : Fin 2 → Dev nD → sProp 𝕄
  | 0, c => iprop((∃ r, prngReg c r) ∗ Launched (Xv m) (Wv m) c ∗ ∃ Wd, owes (c : Thread nD τ) (O₀ c) Wd)
  | 1, c => iprop((∃ r, prngReg c r) ∗ semVal (cell c .bar) 0 ∗ ∃ Wd, owes (c : Thread nD τ) (0 : CellTallies nD τ sig ℕ) Wd)

theorem arr_sub : Pipeline.arrRefs (τ := τ) spec0 ⊆ Pipeline.ucRefs τ sig := by decide
theorem held_split (c : Dev nD) (V : Valuation τ sig (Elt F)) :
    (StableHlo.held (c : Thread nD τ) (Pipeline.ucRefs τ sig) V : sProp 𝕄)
      = iprop(StableHlo.held (c : Thread nD τ) (Pipeline.arrRefs spec0) V ∗ StableHlo.held (c : Thread nD τ) Sr V) :=
  StableHlo.held_sub_split (c : Thread nD τ) arr_sub V

theorem hpre (hM : ∀ c, MetaOK (Mv m) c) (c : Dev nD) :
    iprop(StableHlo.held (c : Thread nD τ) (Pipeline.ucRefs τ sig) (V9 m c) ∗ Ride m 0 c) ⊢ (region m hM).pre c := by
  show _ ⊢ iprop(StableHlo.held (c.tc : Thread nD τ) (Pipeline.arrRefs (τ := τ) spec0) (V9 m c) ∗ (∃ r, prngReg c r)
    ∗ (StableHlo.held (c.tc : Thread nD τ) Sr (V9 m c) ∗ emp) ∗ Launched (Xv m) (Wv m) c ∗ ∃ Wd, owes (c : Thread nD τ) (0 + O₀ c) Wd)
  rw [held_split, zero_add]
  unfold Ride
  iintro ⟨⟨Ha, Hs⟩, Hp, HL, HO⟩
  isplitl [Ha]; · iexact Ha
  isplitl [Hp]; · iexact Hp
  isplitl [Hs]
  · isplitl [Hs]; · iexact Hs
    iempintro
  isplitl [HL] <;> iassumption
theorem hpost (hM : ∀ c, MetaOK (Mv m) c) (c : Dev nD) :
    (region m hM).post c ⊢ iprop(StableHlo.held (c : Thread nD τ) (Pipeline.ucRefs τ sig) (V10 m (outs m) c) ∗ Ride m 1 c) := by
  show iprop(StableHlo.held (c.tc : Thread nD τ) (Pipeline.arrRefs (τ := τ) spec0) (V10 m (outs m) c) ∗ (∃ r, prngReg c r)
    ∗ (StableHlo.held (c.tc : Thread nD τ) Sr (V10 m (outs m) c) ∗ emp) ∗ semVal (cell c .bar) 0 ∗ ∃ Wd, owes (c : Thread nD τ) (0 : CellTallies nD τ sig ℕ) Wd) ⊢ _
  rw [held_split]
  unfold Ride
  iintro ⟨Ha, Hp, ⟨Hs, -⟩, HL, HO⟩
  isplitl [Ha Hs]
  · isplitl [Ha] <;> iassumption
  isplitl [Hp]; · iexact Hp
  isplitl [HL] <;> iassumption

/-! ## The launch -/

def ghosts : sProp 𝕄 := iprop(BI.own (ER (launchOf Sb Sd Tk0)) ∗ BI.own (ES (initSlots Finset.univ 16)))
def u₀ : UU := (initOf (Pipeline.cells cfgs cellOf_inj) (Pipeline.launchToks cfgs cellOf_inj), (launchOf Sb Sd Tk0, initSlots Finset.univ 16))
theorem own_pair (a : URounds (GSem nD τ sig) ℕ) (b : USlots Key) :
    (BI.own ((embR : Emb (URounds (GSem nD τ sig) ℕ × USlots Key) 𝕄) (a, b)) : sProp 𝕄) ⊢ iprop(BI.own (ER a) ∗ BI.own (ES b)) := by
  exact own_pair_emb (embR : Emb (URounds (GSem nD τ sig) ℕ × USlots Key) 𝕄) a b
theorem hu₀ : (ownU u₀ : sProp 𝕄) ⊢ |={Set.univ}=> iprop(BI.own (EP (initOf (Pipeline.cells cfgs cellOf_inj) (Pipeline.launchToks cfgs cellOf_inj)))
    ∗ bigSep Finset.univ (SiteBlocks.onDev (0 : Dev nD) (ghosts (F := F)))) := by
  rw [SiteBlocks.bigSep_onDev]
  unfold u₀ ghosts
  have h := own_pair (F := F) (launchOf Sb Sd Tk0) (initSlots Finset.univ 16)
  iintro Hu
  ihave H := (ownU_pair _ _) $$ Hu
  icases H with ⟨H1, H2⟩
  ihave H2 := h $$ H2
  imodintro
  isplitl [H1]; · iexact H1
  iexact H2

theorem sems_eq (c : Dev nD) : (unscopedSems0 c : sProp 𝕄) = semVal (cell c .bar) 0 := by
  unfold unscopedSems0
  rw [show (Finset.univ.filter fun sm : SemLoc sig => ¬ sm.isScoped .tc) = {semOf .bar} from by decide, BI.bigSep_singleton]

theorem launch_ride (ρ : Dev nD → PrngReg) :
    iprop((bigSep Finset.univ fun c : Dev nD => iprop(unscopedSems0 c ∗ owes (c : Thread nD τ) (O₀ c) ∅ ∗ Pipeline.launchCred O₀ c ∗ prngReg c (ρ c)
        ∗ SiteBlocks.onDev (0 : Dev nD) (ghosts (F := F)) c)) ∗ levAts L lv)
      ⊢ (|={Set.univ}=> bigSep Finset.univ (Ride m 0) : sProp 𝕄) := by
  have hf := fund (Xv m) (Wv m)
  have hj : iprop((bigSep Finset.univ fun c : Dev nD => Launched (Xv m) (Wv m) c) ∗ (bigSep Finset.univ fun c : Dev nD => owes (c : Thread nD τ) (O₀ c) ∅)
      ∗ (bigSep Finset.univ fun c : Dev nD => prngReg c (ρ c))) ⊢ (bigSep Finset.univ (Ride m 0) : sProp 𝕄) := by
    rw [← bigSep_sep', ← bigSep_sep']
    refine bigSep_mono fun c _ => ?_
    have hc : iprop(Launched (Xv m) (Wv m) c ∗ owes (c : Thread nD τ) (O₀ c) ∅ ∗ prngReg c (ρ c))
        ⊢ (iprop((∃ r, prngReg c r) ∗ Launched (Xv m) (Wv m) c ∗ ∃ Wd, owes (c : Thread nD τ) (O₀ c) Wd) : sProp 𝕄) := ?_
    · exact hc
    iintro ⟨HL, HO, Hp⟩
    isplitl [Hp]; · iexists _; iexact Hp
    isplitl [HL]; · iexact HL
    iexists _; iexact HO
  have hs : (bigSep Finset.univ fun c : Dev nD => iprop(unscopedSems0 c ∗ owes (c : Thread nD τ) (O₀ c) ∅ ∗ Pipeline.launchCred O₀ c ∗ prngReg c (ρ c)
        ∗ SiteBlocks.onDev (0 : Dev nD) (ghosts (F := F)) c) : sProp 𝕄)
      ⊢ iprop((bigSep Finset.univ fun c : Dev nD => semVal (cell c .bar) 0) ∗ (bigSep Finset.univ fun c : Dev nD => owes (c : Thread nD τ) (O₀ c) ∅)
        ∗ (bigSep Finset.univ fun c : Dev nD => Pipeline.launchCred O₀ c) ∗ (bigSep Finset.univ fun c : Dev nD => prngReg c (ρ c)) ∗ ghosts) := by
    simp only [sems_eq]
    rw [bigSep_sep', bigSep_sep', bigSep_sep', bigSep_sep', SiteBlocks.bigSep_onDev]
  iintro ⟨H, Hl⟩
  ihave H := hs $$ H
  unfold ghosts
  icases H with ⟨Hb, HO, Hc, Hp, H1, H2⟩
  imod hf $$ [Hb Hc H1 H2 Hl] with HL
  · isplitl [Hb]; · iexact Hb
    isplitl [Hc]; · iexact Hc
    isplitl [H1]; · iexact H1
    isplitl [H2] <;> iassumption
  imodintro
  iapply hj
  isplitl [HL]; · iexact HL
  isplitl [HO] <;> iassumption

/-! ## The run of the program -/

/-- What the claims read of device `c`'s last memory. -/
def Final (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v51) = (outC (Xv m) (Wv m) c : main_v51.ty.Contents (Elt F))
    ∧ s.sem (cell c .bar) = 0

theorem only_bar : ∀ sm : SemLoc sig, sm.isScoped .tc = false → sm = semOf .bar := by decide

set_option backward.isDefEq.respectTransparency.types false in
theorem run_kernel (hM : ∀ c, MetaOK (Mv m) c) (ρ : Dev nD → PrngReg) :
    θ_run defs (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (pdats m) 0 cellOf_inj EP defs₀ 𝒱₀ L lv m ρ main
    (segs m 𝒱₀ L lv (Ride m) 0 (pdats m) (region m hM))
    (fun c Q => by
      rewrite [main_chain c, Seg.run_eq_chain,
        show (segs m 𝒱₀ L lv (Ride m) 0 (pdats m) (region m hM) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne
    (SiteBlocks.onDev (0 : Dev nD) (ghosts (F := F))) u₀ hu₀
    (T₀ := fun c => iprop(StableHlo.held (c : Thread nD τ) (Pipeline.ucRefs τ sig) (V0 m c) ∗ Ride m 0 c))
    (Tₙ := fun c => iprop(StableHlo.held (c : Thread nD τ) (Pipeline.ucRefs τ sig) (V10 m (outs m) c) ∗ semVal (cell c .bar) 0))
    (hch := fun c => ⟨.rfl, .rfl, .rfl, .rfl, .rfl, .rfl, .rfl, .rfl, .rfl, hpre m hM c, (hpost m hM c).trans ?_⟩)
    (hinit := ?_) (QY := fun c s => Final m c s)
    (hfin := fun c s' => ?_) (hQ := fun s h h0 => ⟨h, ?_⟩)
  · unfold Ride
    iintro ⟨Hh, -, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ SiteBlocks.onDev (0 : Dev nD) (ghosts (F := F)) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c)
              ∗ SiteBlocks.onDev (0 : Dev nD) (ghosts (F := F)) c)) : sProp 𝕄) := by
      rw [← bigSep_sep']
      exact bigSep_mono fun c _ => by rw [← Pipeline.unscopedBufs_held (Ix := ℕ) (Name := ℕ) (U := UU) (Lvl := ℕ) c (V0 m c)]; exact BI.Entails.refl _
    have hr := launch_ride m ρ
    iintro ⟨H, Hla⟩
    ihave H' := hsplit $$ H
    icases H' with ⟨Hh, Hr⟩
    imod hr $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c),
        (h (Proc.devRef .tc main_v51) (Finset.mem_filter.mpr ⟨StableHlo.devRef_mem_tcRefs main_v51, by decide⟩)).trans (V10_at m c),
        by simpa using hb⟩
    · iexact HSI
  · funext g
    obtain ⟨⟨d, p⟩, sm⟩ := g
    by_cases hp : p = .tc
    · subst hp
      by_cases hs : sm.isScoped .tc = true
      · exact h0 _ (Or.inr hs)
      · rw [only_bar sm (by simpa using hs)]
        exact (h d).2.2.2
    · exact h0 _ (Or.inl hp)

end Run
end Cert.RingProof
-- ==== Proof.Host.lean ====
/-
# The table of words

The host operations before the region compute, on every device, the neighbours' numbers and the chunks' numbers.
-/
module

public import proofs.«01_k».proof.Proof.Launch
public import Idealize.ShloMosaic.Lib.StableHlo.RunClose

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The host operations as functions of words -/

/-- The remainder of the dividend `x` by `y`, with the divisor's sign. -/
def rem0 (x y : IVec S_ 32) : IVec S_ 32 :=
  let d : IVec S_ 32 := select (cmpi .eq y (constantI S_ 32 0#32)) (constantI S_ 32 1#32) y
  let r := Host.remsi x d
  select (andi (cmpi .ne (cmpi .slt r (constantI S_ 32 0#32)) (cmpi .slt d (constantI S_ 32 0#32))) (cmpi .ne r (constantI S_ 32 0#32))) (addi r d) r
/-- The same on 31 dividends at once. -/
def rem31 (x : IVec S31 32) (y : IVec S_ 32) : IVec S31 32 :=
  let d : IVec S_ 32 := select (cmpi .eq y (constantI S_ 32 0#32)) (constantI S_ 32 1#32) y
  let b (v : IVec S_ 32) : IVec S31 32 := broadcastInDim S31 ![] bcast_S_S31 v
  let r := Host.remsi x (b d)
  select (andi (cmpi .ne (cmpi .slt r (b (constantI S_ 32 0#32))) (broadcastInDim S31 ![] bcast_S_S31 (cmpi .slt d (constantI S_ 32 0#32))))
    (cmpi .ne r (b (constantI S_ 32 0#32)))) (addi r (b d)) r
/-- A negative index counted from the end. -/
def wrapI (x : IVec S_ 32) : IVec S_ 32 := select (cmpi .slt x (constantI S_ 32 0#32)) (addi x (constantI S_ 32 32#32)) x
def wrap31 (x : IVec S31 32) : IVec S31 32 :=
  let b (v : IVec S_ 32) : IVec S31 32 := broadcastInDim S31 ![] bcast_S_S31 v
  select (cmpi .slt x (b (constantI S_ 32 0#32))) (addi x (b (constantI S_ 32 32#32))) x
/-- The table's entry at an index. -/
def at0 (T : IVec S32 32) (x : IVec S_ 32) : IVec S_ 32 :=
  shapeCast S_ (Host.dynamicSlice S1 T (fun k => ((![x] : Fin 1 → IVec S_ 32) k (Shape.Idx.first h_S_)).toInt) sliceFits_S32_S1) shapeCasts_S1_S_
def at31 (T : IVec S32 32) (x : IVec S31 32) : IVec S31 32 :=
  Host.gather gather_S32_S31x1_S31_n_0_n_n_0_1_1 T (broadcastInDim S31x1 ![0] bcast_S31_S31x1_0 x)
def T0 : IVec S32 32 := fun i => lit0 (S32.rowMajor i)
def T1 : IVec S32 32 := fun i => lit1 (S32.rowMajor i)
def c0 (b : BitVec 32) : IVec S_ 32 := constantI S_ 32 b
/-- The device's own number, as read from the table. -/
def selfW (c : Dev nD) : IVec S_ 32 := at0 T1 (wrapI (Host.remui (Host.divui (c0 (Dev.word c)) (c0 1#32)) (c0 32#32)))
def pair0 (x y : IVec S_ 32) : IVec S2 32 :=
  concatenate S2 0 [⟨S1, broadcastInDim S1 ![] bcast_S_S1 x⟩, ⟨S1, broadcastInDim S1 ![] bcast_S_S1 y⟩] concatenates_S1_S1_S2_d0
def all64 (x : IVec S2 32) (y z : IVec S31 32) : IVec S64 32 := concatenate S64 0 [⟨S2, x⟩, ⟨S31, y⟩, ⟨S31, z⟩] concatenates_S2_S31_S31_S64_d0
def b31 (v : IVec S_ 32) : IVec S31 32 := broadcastInDim S31 ![] bcast_S_S31 v

theorem pair_congr {x y x' y' : IVec S1 32} (h : x = x') (h' : y = y') :
    concatenate S2 0 [⟨S1, x⟩, ⟨S1, y⟩] concatenates_S1_S1_S2_d0 = concatenate S2 0 [⟨S1, x'⟩, ⟨S1, y'⟩] concatenates_S1_S1_S2_d0 := by subst h h'; rfl
theorem all_congr {x x' : IVec S2 32} {y y' z z' : IVec S31 32} (hx : x = x') (hy : y = y') (hz : z = z') :
    concatenate S64 0 [⟨S2, x⟩, ⟨S31, y⟩, ⟨S31, z⟩] concatenates_S2_S31_S31_S64_d0 = all64 x' y' z' := by subst hx hy hz; rfl

section Tab
variable (V : Valuation τ sig (Elt F))

theorem h1_c (c : Dev nD) : StableHlo.after (hostOps0 c) V main_c = T0 := by after_results_simp_entrywise; rfl
theorem h1_v9 (c : Dev nD) : StableHlo.after (hostOps0 c) V main_v9 = selfW c := by after_results_simp_entrywise; rfl
theorem h1_v10 (c : Dev nD) : StableHlo.after (hostOps0 c) V main_v10 = iotaInDim S31 32 0 := by after_results_simp_entrywise
theorem h1_v11 (c : Dev nD) : StableHlo.after (hostOps0 c) V main_v11 = addi (selfW c) (c0 1#32) := by after_results_simp_entrywise; rfl
theorem h1_c6 (c : Dev nD) : StableHlo.after (hostOps0 c) V main_c_6 = c0 32#32 := by after_results_simp_entrywise; rfl
theorem h2 : StableHlo.after hostOps0_1 V main_v12 = rem0 (V main_v11) (V main_c_6) := by
  after_results_simp_entrywise
  simp only [StableHlo.TRef.ofBuf_toBuf]
  rfl
theorem h3_v17 : StableHlo.after hostOps0_2 V main_v17 = at0 (V main_c) (wrapI (V main_v12)) := by after_results_simp_entrywise; rfl
theorem h3_v18 : StableHlo.after hostOps0_2 V main_v18 = subi (V main_v9) (c0 1#32) := by after_results_simp_entrywise; rfl
theorem h3_c10 : StableHlo.after hostOps0_2 V main_c_10 = c0 32#32 := by after_results_simp_entrywise; rfl
theorem h4 : StableHlo.after hostOps0_3 V main_v19 = rem0 (V main_v18) (V main_c_10) := by
  after_results_simp_entrywise
  simp only [StableHlo.TRef.ofBuf_toBuf]
  rfl
theorem h5_v27 : StableHlo.after hostOps0_4 V main_v27 = pair0 (V main_v17) (at0 (V main_c) (wrapI (V main_v19))) := by
  rw [StableHlo.after_cons]
  after_results_simp_entrywise
  refine pair_congr ?_ ?_
  · after_results_simp_entrywise
  · after_results_simp_entrywise
    rfl
theorem h5_v30 : StableHlo.after hostOps0_4 V main_v30 = subi (b31 (subi (V main_v9) (c0 1#32))) (V main_v10) := by after_results_simp_entrywise; rfl
theorem h5_c14 : StableHlo.after hostOps0_4 V main_c_14 = c0 32#32 := by after_results_simp_entrywise; rfl
theorem h6 : StableHlo.after hostOps0_5 V main_v31 = rem31 (V main_v30) (V main_c_14) := by
  after_results_simp_entrywise
  simp only [StableHlo.TRef.ofBuf_toBuf]
  unfold rem31
  rfl
theorem h7_v38 : StableHlo.after hostOps0_6 V main_v38 = at31 (V main_c) (wrap31 (V main_v31)) := by after_results_simp_entrywise; rfl
theorem h7_v41 : StableHlo.after hostOps0_6 V main_v41 = addi (b31 (addi (V main_v9) (c0 1#32))) (V main_v10) := by after_results_simp_entrywise; rfl
theorem h7_c18 : StableHlo.after hostOps0_6 V main_c_18 = c0 32#32 := by after_results_simp_entrywise; rfl
theorem h8 : StableHlo.after hostOps0_7 V main_v42 = rem31 (V main_v41) (V main_c_18) := by
  after_results_simp_entrywise
  simp only [StableHlo.TRef.ofBuf_toBuf]
  unfold rem31
  rfl
theorem h9 : StableHlo.after hostOps0_8 V main_v50 = all64 (V main_v27) (V main_v38) (at31 (V main_c) (wrap31 (V main_v42))) := by
  after_results_simp_entrywise
  refine all_congr ?_ ?_ ?_
  · dsimp only [Matrix.cons_val]
    after_results_simp_entrywise
  · dsimp only [Matrix.cons_val]
    after_results_simp_entrywise
  · dsimp only [Matrix.cons_val]
    after_results_simp_entrywise
    rfl
end Tab

/-! ## The whole table -/

def tabF (c : Dev nD) : IVec S31 32 := at31 T0 (wrap31 (rem31 (subi (b31 (subi (selfW c) (c0 1#32))) (iotaInDim S31 32 0)) (c0 32#32)))
def tabB (c : Dev nD) : IVec S31 32 := at31 T0 (wrap31 (rem31 (addi (b31 (addi (selfW c) (c0 1#32))) (iotaInDim S31 32 0)) (c0 32#32)))
def tabN (c : Dev nD) : IVec S2 32 :=
  pair0 (at0 T0 (wrapI (rem0 (addi (selfW c) (c0 1#32)) (c0 32#32)))) (at0 T0 (wrapI (rem0 (subi (selfW c) (c0 1#32)) (c0 32#32))))
def tab (c : Dev nD) : IVec S64 32 := all64 (tabN c) (tabF c) (tabB c)

section Whole
variable (m : (ℓ : Loc nD τ sig) → Buf (Elt F) ℓ) (c : Dev nD)

theorem c_at8 : V8 m c main_c = T0 := by
  rw [V8_of m c main_c (by decide), V7_of m c main_c (by decide), V6_of m c main_c (by decide), V5_of m c main_c (by decide),
    V4_of m c main_c (by decide), V3_of m c main_c (by decide), V2_of m c main_c (by decide)]
  exact h1_c (V0 m c) c
theorem c_at6 : V6 m c main_c = T0 := by
  rw [V6_of m c main_c (by decide), V5_of m c main_c (by decide),
    V4_of m c main_c (by decide), V3_of m c main_c (by decide), V2_of m c main_c (by decide)]
  exact h1_c (V0 m c) c
theorem c_at4 : V4 m c main_c = T0 := by
  rw [V4_of m c main_c (by decide), V3_of m c main_c (by decide), V2_of m c main_c (by decide)]
  exact h1_c (V0 m c) c
theorem c_at2 : V2 m c main_c = T0 := by
  rw [V2_of m c main_c (by decide)]
  exact h1_c (V0 m c) c
theorem v9_at6 : V6 m c main_v9 = selfW c := by
  rw [V6_of m c main_v9 (by decide), V5_of m c main_v9 (by decide),
    V4_of m c main_v9 (by decide), V3_of m c main_v9 (by decide), V2_of m c main_v9 (by decide)]
  exact h1_v9 (V0 m c) c
theorem v9_at4 : V4 m c main_v9 = selfW c := by
  rw [V4_of m c main_v9 (by decide), V3_of m c main_v9 (by decide), V2_of m c main_v9 (by decide)]
  exact h1_v9 (V0 m c) c
theorem v9_at2 : V2 m c main_v9 = selfW c := by
  rw [V2_of m c main_v9 (by decide)]
  exact h1_v9 (V0 m c) c
theorem v10_at6 : V6 m c main_v10 = iotaInDim S31 32 0 := by
  rw [V6_of m c main_v10 (by decide), V5_of m c main_v10 (by decide),
    V4_of m c main_v10 (by decide), V3_of m c main_v10 (by decide), V2_of m c main_v10 (by decide)]
  exact h1_v10 (V0 m c) c
theorem v10_at4 : V4 m c main_v10 = iotaInDim S31 32 0 := by
  rw [V4_of m c main_v10 (by decide), V3_of m c main_v10 (by decide), V2_of m c main_v10 (by decide)]
  exact h1_v10 (V0 m c) c

theorem v12_at : V2 m c main_v12 = rem0 (addi (selfW c) (c0 1#32)) (c0 32#32) := by
  rw [show V2 m c main_v12 = rem0 (V1 m c main_v11) (V1 m c main_c_6) from h2 (V1 m c),
    show V1 m c main_v11 = _ from h1_v11 (V0 m c) c, show V1 m c main_c_6 = _ from h1_c6 (V0 m c) c]
theorem v17_at : V3 m c main_v17 = at0 T0 (wrapI (rem0 (addi (selfW c) (c0 1#32)) (c0 32#32))) := by
  rw [show V3 m c main_v17 = at0 (V2 m c main_c) (wrapI (V2 m c main_v12)) from h3_v17 (V2 m c), c_at2, v12_at]
theorem v19_at : V4 m c main_v19 = rem0 (subi (selfW c) (c0 1#32)) (c0 32#32) := by
  rw [show V4 m c main_v19 = rem0 (V3 m c main_v18) (V3 m c main_c_10) from h4 (V3 m c),
    show V3 m c main_v18 = subi (V2 m c main_v9) (c0 1#32) from h3_v18 (V2 m c), v9_at2, show V3 m c main_c_10 = _ from h3_c10 (V2 m c)]
theorem v27_at : V8 m c main_v27 = tabN c := by
  rw [V8_of m c main_v27 (by decide), V7_of m c main_v27 (by decide), V6_of m c main_v27 (by decide),
    show V5 m c main_v27 = pair0 (V4 m c main_v17) (at0 (V4 m c main_c) (wrapI (V4 m c main_v19))) from h5_v27 (V4 m c),
    V4_of m c main_v17 (by decide), v17_at, c_at4, v19_at]
  rfl
theorem v38_at : V8 m c main_v38 = tabF c := by
  rw [V8_of m c main_v38 (by decide), show V7 m c main_v38 = at31 (V6 m c main_c) (wrap31 (V6 m c main_v31)) from h7_v38 (V6 m c), c_at6,
    show V6 m c main_v31 = rem31 (V5 m c main_v30) (V5 m c main_c_14) from h6 (V5 m c),
    show V5 m c main_v30 = subi (b31 (subi (V4 m c main_v9) (c0 1#32))) (V4 m c main_v10) from h5_v30 (V4 m c), v9_at4, v10_at4,
    show V5 m c main_c_14 = _ from h5_c14 (V4 m c)]
  rfl
theorem v42_at : at31 (V8 m c main_c) (wrap31 (V8 m c main_v42)) = tabB c := by
  rw [c_at8, show V8 m c main_v42 = rem31 (V7 m c main_v41) (V7 m c main_c_18) from h8 (V7 m c),
    show V7 m c main_v41 = addi (b31 (addi (V6 m c main_v9) (c0 1#32))) (V6 m c main_v10) from h7_v41 (V6 m c), v9_at6, v10_at6,
    show V7 m c main_c_18 = _ from h7_c18 (V6 m c)]
  rfl
theorem v50_at : V9 m c main_v50 = tab c := by
  rw [show V9 m c main_v50 = all64 (V8 m c main_v27) (V8 m c main_v38) (at31 (V8 m c main_c) (wrap31 (V8 m c main_v42))) from h9 (V8 m c),
    v27_at, v38_at, v42_at]
  rfl
end Whole

end Cert.RingProof
-- ==== Proof.Words.lean ====
/-
# The words of the table

Word 0 names the next device, word 1 the previous one; the next 31 words name the chunks in forward order and the last 31 in backward order.
-/
module

public import proofs.«01_k».proof.Proof.Host
public import Idealize.ShloMosaic.Lib.Routing.OpsSet
public import Idealize.ShloMosaic.Lib.WordCmp
public import Idealize.ShloMosaic.Lib.Pipeline.Value

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## One element at a time -/

def z0 : S_.Idx := Shape.Idx.first h_S_
abbrev i32 (k : Fin 32) : S32.Idx := ValueIdx.ix1 k
abbrev i31 (k : Fin 31) : S31.Idx := ValueIdx.ix1 k

theorem T0_at : ∀ k : Fin 32, T0 (i32 k) = BitVec.ofNat 32 k.val := by decide
theorem T1_at : ∀ k : Fin 32, T1 (i32 k) = BitVec.ofNat 32 k.val := by decide

theorem at0_at (T : IVec S32 32) (x : IVec S_ 32) (k : Fin 32) (hx : x z0 = BitVec.ofNat 32 k.val) (j : S_.Idx) : at0 T x j = T (i32 k) := by
  unfold at0
  have hk : S32.Slices (fun _ => k.val) S1 := ⟨rfl, fun a => by
    have h0 : a = 0 := Subsingleton.elim _ _
    subst h0
    have := k.isLt
    show k.val + 1 ≤ 32
    omega⟩
  rw [WordCmp.dynamicSlice_eq_extract S1 T _ sliceFits_S32_S1 (fun _ => k.val) hk (fun a => by
    have h0 : a = 0 := Subsingleton.elim _ _
    subst h0
    show (x z0).toInt = _
    rw [hx]
    exact StableHlo.Predicate.toInt_ofNat_small _ (by have := k.isLt; omega))]
  unfold shapeCast extractStridedSlice
  refine congrArg T (funext fun a => ?_)
  have h0 : a = 0 := Subsingleton.elim _ _
  subst h0
  apply Fin.ext
  show k.val + Fin.val _ = k.val
  rw [Nat.add_eq_left]
  exact Nat.lt_one_iff.mp (Fin.isLt _)

theorem at31_at (T : IVec S32 32) (x : IVec S31 32) (s : Fin 31) (k : Fin 32) (hx : x (i31 s) = BitVec.ofNat 32 k.val) : at31 T x (i31 s) = T (i32 k) := by
  unfold at31
  refine Routing.gather_take1 gather_S32_S31x1_S31_n_0_n_n_0_1_1 rfl rfl rfl rfl T _ s k ?_ (by decide)
  refine Eq.trans (congrArg x (funext fun a => ?_)) hx
  have h0 : a = 0 := Subsingleton.elim _ _
  subst h0
  rfl

/-- The wrapped remainder of one word by 32. -/
def wrapRem (v : BitVec 32) : BitVec 32 := wrapI (rem0 (fun _ => v) (c0 32#32)) z0
theorem wrapRem_at : ∀ k : Fin 128, wrapRem (BitVec.ofNat 32 k.val - 64#32) = BitVec.ofNat 32 (k.val % 32) := by decide +kernel
theorem wrapRem0 (x : IVec S_ 32) (j : S_.Idx) : wrapI (rem0 x (c0 32#32)) j = wrapRem (x j) := by
  dsimp only [wrapRem, wrapI, rem0, select, cmpi, addi, andi, Host.remsi, constantI, c0]
theorem wrapRem31 (x : IVec S31 32) (j : S31.Idx) : wrap31 (rem31 x (c0 32#32)) j = wrapRem (x j) := by
  dsimp only [wrapRem, wrapI, wrap31, rem31, rem0, select, cmpi, addi, andi, Host.remsi, constantI, c0, broadcastInDim]

theorem selfW_at (c : Dev nD) (j : S_.Idx) : selfW c j = BitVec.ofNat 32 c.val := by
  unfold selfW
  rw [at0_at T1 _ c ?_ j, T1_at]
  revert c
  decide +kernel

theorem wF (c : Fin 32) (s : Fin 31) : BitVec.ofNat 32 c.val - 1#32 - BitVec.ofNat 32 s.val = BitVec.ofNat 32 (c.val + 63 - s.val) - 64#32 := by
  have := c.isLt; have := s.isLt
  apply BitVec.eq_of_toNat_eq
  simp only [BitVec.toNat_sub, BitVec.toNat_ofNat]
  omega
theorem wB (c : Fin 32) (s : Fin 31) : BitVec.ofNat 32 c.val + 1#32 + BitVec.ofNat 32 s.val = BitVec.ofNat 32 (c.val + 65 + s.val) - 64#32 := by
  have := c.isLt; have := s.isLt
  apply BitVec.eq_of_toNat_eq
  simp only [BitVec.toNat_sub, BitVec.toNat_add, BitVec.toNat_ofNat]
  omega
theorem wP (c : Fin 32) : BitVec.ofNat 32 c.val - 1#32 = BitVec.ofNat 32 (c.val + 63) - 64#32 := by
  have := c.isLt
  apply BitVec.eq_of_toNat_eq
  simp only [BitVec.toNat_sub, BitVec.toNat_ofNat]
  omega
theorem wN (c : Fin 32) : BitVec.ofNat 32 c.val + 1#32 = BitVec.ofNat 32 (c.val + 65) - 64#32 := by
  have := c.isLt
  apply BitVec.eq_of_toNat_eq
  simp only [BitVec.toNat_sub, BitVec.toNat_add, BitVec.toNat_ofNat]
  omega

theorem tabF_at (c : Dev nD) (s : Fin 31) : tabF c (i31 s) = BitVec.ofNat 32 (cF c s.val).val := by
  unfold tabF
  have h1 := c.isLt; have h2 := s.isLt
  rw [at31_at T0 _ s (cF c s.val) ?_, T0_at]
  rw [wrapRem31]
  show wrapRem (selfW c _ - 1#32 - BitVec.ofNat 32 s.val) = _
  rw [selfW_at, wF c s, wrapRem_at ⟨c.val + 63 - s.val, by have : c.val < 32 := h1; omega⟩]
  congr 1
  show (c.val + 63 - s.val) % 32 = (c.val + 31 + 32 * s.val - s.val) % 32
  omega
theorem tabB_at (c : Dev nD) (s : Fin 31) : tabB c (i31 s) = BitVec.ofNat 32 (cB c s.val).val := by
  unfold tabB
  have h1 : c.val < 32 := c.isLt; have h2 := s.isLt
  rw [at31_at T0 _ s (cB c s.val) ?_, T0_at]
  rw [wrapRem31]
  show wrapRem (selfW c _ + 1#32 + BitVec.ofNat 32 s.val) = _
  rw [selfW_at, wB c s, wrapRem_at ⟨c.val + 65 + s.val, by omega⟩]
  congr 1
  show (c.val + 65 + s.val) % 32 = (c.val + 1 + s.val) % 32
  omega
theorem nxt_at (c : Dev nD) (j : S_.Idx) : at0 T0 (wrapI (rem0 (addi (selfW c) (c0 1#32)) (c0 32#32))) j = BitVec.ofNat 32 (nxt c).val := by
  have h1 : c.val < 32 := c.isLt
  rw [at0_at T0 _ (nxt c) ?_ j, T0_at]
  rw [wrapRem0]
  show wrapRem (selfW c _ + 1#32) = _
  rw [selfW_at, wN c, wrapRem_at ⟨c.val + 65, by omega⟩]
  congr 1
  show (c.val + 65) % 32 = (c.val + 1) % 32
  omega
theorem prv_at (c : Dev nD) (j : S_.Idx) : at0 T0 (wrapI (rem0 (subi (selfW c) (c0 1#32)) (c0 32#32))) j = BitVec.ofNat 32 (prv c).val := by
  have h1 : c.val < 32 := c.isLt
  rw [at0_at T0 _ (prv c) ?_ j, T0_at]
  rw [wrapRem0]
  show wrapRem (selfW c _ - 1#32) = _
  rw [selfW_at, wP c, wrapRem_at ⟨c.val + 63, by omega⟩]
  congr 1
  show (c.val + 63) % 32 = (c.val + 31) % 32
  omega

/-! ## The words at their places -/

abbrev i64 (j : ℕ) (h : j < 64) : S64.Idx := ValueIdx.ix1 ⟨j, h⟩
theorem all64_0 (x : IVec S2 32) (y z : IVec S31 32) (j : ℕ) (hj : j < 2) : all64 x y z (i64 j (by omega)) = x (ValueIdx.ix1 ⟨j, hj⟩) := by
  unfold all64
  exact concatenate_apply_piece 0 [⟨S2, x⟩, ⟨S31, y⟩, ⟨S31, z⟩] concatenates_S2_S31_S31_S64_d0 (i64 j (by omega)) 0 (by show 0 < 3; decide) S2 x rfl rfl 0 rfl (ValueIdx.ix1 ⟨j, hj⟩) (fun b hb => absurd (Subsingleton.elim _ _) hb) (Nat.zero_add j)
theorem all64_1 (x : IVec S2 32) (y z : IVec S31 32) (s : ℕ) (hs : s < 31) : all64 x y z (i64 (2 + s) (by omega)) = y (i31 ⟨s, hs⟩) := by
  unfold all64
  exact concatenate_apply_piece 0 [⟨S2, x⟩, ⟨S31, y⟩, ⟨S31, z⟩] concatenates_S2_S31_S31_S64_d0 (i64 (2 + s) (by omega)) 1 (by show 1 < 3; decide) S31 y rfl rfl 2 rfl (i31 ⟨s, hs⟩) (fun b hb => absurd (Subsingleton.elim _ _) hb) rfl
theorem all64_2 (x : IVec S2 32) (y z : IVec S31 32) (s : ℕ) (hs : s < 31) : all64 x y z (i64 (33 + s) (by omega)) = z (i31 ⟨s, hs⟩) := by
  unfold all64
  exact concatenate_apply_piece 0 [⟨S2, x⟩, ⟨S31, y⟩, ⟨S31, z⟩] concatenates_S2_S31_S31_S64_d0 (i64 (33 + s) (by omega)) 2 (by show 2 < 3; decide) S31 z rfl rfl 33 rfl (i31 ⟨s, hs⟩) (fun b hb => absurd (Subsingleton.elim _ _) hb) rfl
theorem pair0_0 (x y : IVec S_ 32) : pair0 x y (ValueIdx.ix1 ⟨0, by decide⟩) = x z0 := by
  unfold pair0
  exact (concatenate_apply_piece 0 [⟨S1, broadcastInDim S1 ![] bcast_S_S1 x⟩, ⟨S1, broadcastInDim S1 ![] bcast_S_S1 y⟩] concatenates_S1_S1_S2_d0 (ValueIdx.ix1 ⟨0, by decide⟩) 0 (by show 0 < 2; decide) S1 (broadcastInDim S1 ![] bcast_S_S1 x) rfl rfl 0 rfl (ValueIdx.ix1 (0 : Fin 1)) (fun b hb => absurd (Subsingleton.elim _ _) hb) rfl).trans
    (congrArg x (funext fun a => a.elim0))
theorem pair0_1 (x y : IVec S_ 32) : pair0 x y (ValueIdx.ix1 ⟨1, by decide⟩) = y z0 := by
  unfold pair0
  exact (concatenate_apply_piece 0 [⟨S1, broadcastInDim S1 ![] bcast_S_S1 x⟩, ⟨S1, broadcastInDim S1 ![] bcast_S_S1 y⟩] concatenates_S1_S1_S2_d0 (ValueIdx.ix1 ⟨1, by decide⟩) 1 (by show 1 < 2; decide) S1 (broadcastInDim S1 ![] bcast_S_S1 y) rfl rfl 1 rfl (ValueIdx.ix1 (0 : Fin 1)) (fun b hb => absurd (Subsingleton.elim _ _) hb) rfl).trans
    (congrArg y (funext fun a => a.elim0))

theorem tab_nxt (c : Dev nD) : tab c (i64 0 (by decide)) = BitVec.ofNat 32 (nxt c).val :=
  (all64_0 _ _ _ 0 (by decide)).trans ((pair0_0 _ _).trans (nxt_at c z0))
theorem tab_prv (c : Dev nD) : tab c (i64 1 (by decide)) = BitVec.ofNat 32 (prv c).val :=
  (all64_0 _ _ _ 1 (by decide)).trans ((pair0_1 _ _).trans (prv_at c z0))
theorem tab_cF (c : Dev nD) (s : ℕ) (hs : s < 31) : tab c (i64 (2 + s) (by omega)) = BitVec.ofNat 32 (cF c s).val :=
  (all64_1 _ _ _ s hs).trans (tabF_at c ⟨s, hs⟩)
theorem tab_cB (c : Dev nD) (s : ℕ) (hs : s < 31) : tab c (i64 (33 + s) (by omega)) = BitVec.ofNat 32 (cB c s).val :=
  (all64_2 _ _ _ s hs).trans (tabB_at c ⟨s, hs⟩)

/-! ## What the region asks of the table -/

theorem devOf_at (d : Dev nD) : devOf (BitVec.ofNat 32 d.val) = d.val := by
  have h1 : d.val < 32 := d.isLt
  show ((0#32 : BitVec 32) + BitVec.ofNat 32 d.val * 1#32).toNat = _
  simp only [BitVec.toNat_add, BitVec.toNat_mul, BitVec.toNat_ofNat]
  omega
theorem rowOff_at (k : Fin 32) : rowOff (BitVec.ofNat 32 k.val) = ![128 * k.val, 0] := by
  revert k; decide +kernel

theorem chk1_of (v : BitVec 32) (h : devOf v < nD) : k0_chk1 v := by
  refine ⟨?_, ?_, ?_, ?_, ?_, ?_, ?_, ?_⟩ <;> exact (by repeat' (first | exact h | constructor))
theorem chk2_of (v : BitVec 32) (h : devOf v < nD) : k0_chk2 v := by
  refine ⟨?_, ?_, ?_, ?_, ?_, ?_, ?_, ?_⟩ <;> exact (by repeat' (first | exact h | constructor))

section OK
variable (m : (ℓ : Loc nD τ sig) → Buf (Elt F) ℓ)

theorem word_at (c : Dev nD) (j : ℕ) (h : j < 64) : word (metaF (Mv m) c j h) = tab c (i64 j h) := by
  rw [← v50_at m c]
  show V9 m c main_v50 _ = V9 m c main_v50 _
  congr 1
  funext b
  have hb : b = (0 : Fin 1) := Subsingleton.elim (α := Fin 1) _ _
  subst hb
  refine Fin.ext ?_
  show j + 1 * Fin.val _ = j
  rw [Nat.add_eq_left, one_mul]
  exact Nat.lt_one_iff.mp (Fin.isLt _)

theorem table_ok (c : Dev nD) : MetaOK (Mv m) c where
  chk2 := chk2_of _ (by rw [word_at, tab_nxt, devOf_at]; exact (nxt c).isLt)
  chk1 := chk1_of _ (by rw [word_at, tab_prv, devOf_at]; exact (prv c).isLt)
  names := ⟨by rw [word_at, tab_nxt, devOf_at], by rw [word_at, tab_prv, devOf_at]⟩
  rowF := fun s hs => by rw [word_at, tab_cF c s hs, rowOff_at]
  rowB := fun s hs => by rw [word_at, tab_cB c s hs, rowOff_at]

/-- The run of the program, from any memory. -/
theorem run_main (ρ : Dev nD → PrngReg) :
    θ_run defs (onTc (τ := τ) (main (F := F))) ⟨m, fun _ => 0, ρ⟩ (fun r => (∀ c : Dev nD, Final m c r.2) ∧ r.2.sem = fun _ => 0) :=
  run_kernel m (table_ok m) ρ
end OK

end Cert.RingProof
-- ==== Proof.Sum.lean ====
/-
# The ring's sum, in exact arithmetic

A ring carries one chunk of rows the whole way round: each device adds its own product to it. So what arrives last,
with the last product added, is the sum over all devices of the products of that chunk.
-/
module

public import proofs.«01_k».proof.Proof.Record
public import Idealize.ShloMosaic.Lib.ValueIdx
public import Idealize.ShloMosaic.Lib.MatmulPlain
public import Idealize.ShloMosaic.Lib.Pipeline.Value

@[expose] public section

noncomputable section

namespace Cert.RingProof

open Cert.KernelIdeal Cert.KernelIdeal.Gen
open Idealize.ShloMosaic Idealize.ShloMosaic.TcCoe
open Idealize.ShloMosaic.ValueIdx
open scoped BigOperators

/-! ## One product -/

theorem prod_at (w : Vec Ideal S128x8192 .bf16) (b : Bool) (xs : Vec Ideal S128x128 .bf16) (r : Fin 128) (n : Fin 4096) :
    prod w b xs (ix2 r n) = ∑ k : Fin 128, (xs (ix2 r k) : EReal) * half w b (ix2 k n) := by
  unfold prod
  rw [shapeCast_self]
  have h := Ideal.matmul_plain_apply (M := 128) (K := 128) (N := 4096) (φ₁ := .bf16) (φ₂ := .bf16) none xs (half w b) (constant S128x4096 .f32 0x00000000#32) r n
  refine Eq.trans h ?_
  rw [constant_apply, Ideal.ofBits_zero_f32, zero_add]

/-- Where the half of the weights a ring uses starts. -/
def base (b : Bool) : ℕ := bif b then 0 else 4096
theorem half_at (w : Vec Ideal S128x8192 .bf16) (b : Bool) (k : Fin 128) (n : Fin 4096) (l : Fin 8192) (hl : l.val = base b + n.val) :
    half w b (ix2 k n) = w (ix2 k l) := by
  cases b
  · unfold half
    rw [shapeCast_self]
    refine extractStridedSlice_apply _ _ _ _ _ fun a => ?_
    match a with
    | ⟨0, _⟩ => show k.val = 0 + k.val; omega
    | ⟨1, _⟩ => exact hl
  · unfold half
    rw [shapeCast_self]
    refine extractStridedSlice_apply _ _ _ _ _ fun a => ?_
    match a with
    | ⟨0, _⟩ => show k.val = 0 + k.val; omega
    | ⟨1, _⟩ => exact hl
/-- Where a ring's columns start in its half. -/
def coff (i : Fin 8) : ℕ := 1024 * (i.val % 4)
theorem cols_at (p : FVec Ideal S128x4096 .f32) (i : Fin 8) (r : Fin 128) (n : Fin 1024) (l : Fin 4096) (hl : l.val = coff i + n.val) :
    cols p i (ix2 r n) = p (ix2 r l) := by
  unfold cols
  fin_cases i <;>
  · refine extractStridedSlice_apply _ _ _ _ _ fun a => ?_
    match a with
    | ⟨0, _⟩ => show r.val = 0 + r.val; omega
    | ⟨1, _⟩ => exact hl
theorem base_coff (i : Fin 8) : base (fwd i) + coff i = 1024 * i.val := by revert i; decide
theorem coff_le (i : Fin 8) : coff i ≤ 3072 := by revert i; decide

/-- Ring `i`'s columns of the product of one chunk with the weights. -/
theorem partOf_at (w : Vec Ideal S128x8192 .bf16) (xs : Vec Ideal S128x128 .bf16) (i : Fin 8) (r : Fin 128) (n : Fin 1024)
    (l : Fin 8192) (hl : l.val = 1024 * i.val + n.val) :
    partOf w xs i (ix2 r n) = ∑ k : Fin 128, (xs (ix2 r k) : EReal) * w (ix2 k l) := by
  have hn := n.isLt
  have hc := coff_le i
  have hb := base_coff i
  unfold partOf
  rw [cols_at _ i r n ⟨coff i + n.val, by omega⟩ rfl, prod_at]
  exact Finset.sum_congr rfl fun k _ => by rw [half_at w (fwd i) k _ l (by show l.val = base (fwd i) + (coff i + n.val); omega)]

/-! ## A device's part -/

section Dev
variable (X : Dev nD → S4096x128.Idx → EReal) (W : Dev nD → S128x8192.Idx → EReal)

/-- The product at row `128 t + r` and column `l` of device `d`'s columns and rows. -/
def term (t : Fin 32) (r : Fin 128) (l : Fin 8192) (d : Dev nD) : EReal :=
  ∑ k : Fin 128, X d (ix2 ⟨128 * t.val + r.val, by have := t.isLt; have := r.isLt; omega⟩ k) * W d (ix2 k l)

theorem chunk_at (x : S4096x128.Idx → EReal) (t : Fin 32) (r k : Fin 128) :
    chunk (F := Ideal) x t (ix2 r k) = x (ix2 ⟨128 * t.val + r.val, by have := t.isLt; have := r.isLt; omega⟩ k) := by
  show x _ = x _
  congr 1
  funext a
  match a with
  | ⟨0, _⟩ => refine Fin.ext ?_; show 128 * t.val + 1 * r.val = 128 * t.val + r.val; omega
  | ⟨1, _⟩ => refine Fin.ext ?_; show 0 + 1 * k.val = k.val; omega
theorem weights_at (w : S128x8192.Idx → EReal) : weights (F := Ideal) w = w := by
  funext j
  show w _ = w _
  congr 1
  funext a
  match a with
  | ⟨0, _⟩ => refine Fin.ext ?_; show 0 + 1 * (j 0).val = (j 0).val; omega
  | ⟨1, _⟩ => refine Fin.ext ?_; show 0 + 1 * (j 1).val = (j 1).val; omega

/-- The chunk ring `i` of device `c` works on at step `s`. -/
def row (c : Dev nD) (i : Fin 8) (s : ℕ) : Fin 32 := bif fwd i then cF c s else cB c s
theorem pick_row (c : Dev nD) (i : Fin 8) (s : ℕ) (x : S4096x128.Idx → EReal) :
    pick (chunk (F := Ideal) x (cF c s)) (chunk (F := Ideal) x (cB c s)) i = chunk (F := Ideal) x (row c i s) := by
  unfold pick row; cases fwd i <;> rfl
theorem row_from (c : Dev nD) (i : Fin 8) (s : ℕ) (hs : s < 31) : row (fromD c i) i s = row c i (s + 1) := by
  have h : c.val < 32 := c.isLt
  unfold row fromD
  cases fwd i
  · refine Fin.ext ?_
    show ((c.val + 1) % 32 + 1 + s) % 32 = (c.val + 1 + (s + 1)) % 32
    omega
  · refine Fin.ext ?_
    show ((c.val + 31) % 32 + 31 + 32 * s - s) % 32 = (c.val + 31 + 32 * (s + 1) - (s + 1)) % 32
    omega
theorem row_last (c : Dev nD) (i : Fin 8) : row c i 31 = c := by
  have h : c.val < 32 := c.isLt
  unfold row
  cases fwd i
  · refine Fin.ext ?_
    show (c.val + 1 + 31) % 32 = c.val
    omega
  · refine Fin.ext ?_
    show (c.val + 31 + 32 * 31 - 31) % 32 = c.val
    omega

theorem part_at (c : Dev nD) (i : Fin 8) (s : ℕ) (r : Fin 128) (n : Fin 1024) (l : Fin 8192) (hl : l.val = 1024 * i.val + n.val) :
    part (F := Ideal) X W c i s (ix2 r n) = term X W (row c i s) r l c := by
  unfold part
  rw [pick_row, weights_at, partOf_at _ _ i r n l hl]
  exact Finset.sum_congr rfl fun k _ => by rw [chunk_at]

/-! ## Round the ring -/

/-- The device `t` hops back along ring `i`. -/
def hop (i : Fin 8) (c : Dev nD) (t : ℕ) : Dev nD :=
  bif fwd i then ⟨(c.val + 31 * t) % 32, Nat.mod_lt _ (by decide)⟩ else ⟨(c.val + 1 * t) % 32, Nat.mod_lt _ (by decide)⟩
theorem hop_zero (i : Fin 8) (c : Dev nD) : hop i c 0 = c := by
  have h : c.val < 32 := c.isLt
  unfold hop
  cases fwd i
  · refine Fin.ext ?_; show (c.val + 1 * 0) % 32 = c.val; omega
  · refine Fin.ext ?_; show (c.val + 31 * 0) % 32 = c.val; omega
theorem hop_succ (i : Fin 8) (c : Dev nD) (t : ℕ) : hop i (fromD c i) t = hop i c (t + 1) := by
  unfold hop fromD
  cases fwd i
  · refine Fin.ext ?_
    show ((c.val + 1) % 32 + 1 * t) % 32 = (c.val + 1 * (t + 1)) % 32
    omega
  · refine Fin.ext ?_
    show ((c.val + 31) % 32 + 31 * t) % 32 = (c.val + 31 * (t + 1)) % 32
    omega
theorem hop_inj (i : Fin 8) (c : Dev nD) : Function.Injective fun t : Fin 32 => hop i c t.val := by
  intro t u h
  have ht := t.isLt
  have hu := u.isLt
  have h : hop i c t.val = hop i c u.val := h
  refine Fin.ext ?_
  unfold hop at h
  revert h
  cases fwd i
  · intro h
    have h' : (c.val + 1 * t.val) % 32 = (c.val + 1 * u.val) % 32 := congrArg Fin.val h
    omega
  · intro h
    have h' : (c.val + 31 * t.val) % 32 = (c.val + 31 * u.val) % 32 := congrArg Fin.val h
    omega

theorem wire0_at (p : FVec Ideal S128x1024 .f32) (r : Fin 128) (n : Fin 1024) :
    shapeCast S128x1024 (wire0 p) shapeCasts_S1x128x1024_S128x1024 (ix2 r n) = p (ix2 r n) := by
  unfold wire0
  rw [shapeCast_shapeCast]
  rfl

theorem addIn_at (p : FVec Ideal S128x1024 .f32) (x : Vec Ideal S1x128x1024 .bf16) (r : Fin 128) (n : Fin 1024) :
    addIn p x (ix2 r n) = p (ix2 r n) + shapeCast S128x1024 x shapeCasts_S1x128x1024_S128x1024 (ix2 r n) := rfl

theorem sendV_at (i : Fin 8) (r : Fin 128) (n : Fin 1024) (l : Fin 8192) (hl : l.val = 1024 * i.val + n.val) (s : ℕ) (hs : s < 31) (c : Dev nD) :
    shapeCast S128x1024 (sendV (F := Ideal) X W i s c) shapeCasts_S1x128x1024_S128x1024 (ix2 r n)
      = ∑ t ∈ Finset.range (s + 1), term X W (row c i s) r l (hop i c t) := by
  induction s generalizing c with
  | zero =>
    rw [Finset.sum_range_one, hop_zero]
    unfold sendV
    rw [wire0_at, part_at X W c i 0 r n l hl]
  | succ s ih =>
    rw [Finset.sum_range_succ', hop_zero]
    unfold sendV
    rw [wire0_at, addIn_at, part_at X W c i (s + 1) r n l hl, ih (by omega), add_comm, row_from c i s (by omega)]
    congr 1
    exact Finset.sum_congr rfl fun t _ => by rw [hop_succ]

/-- What the last receive of ring `i` adds up to: the sum over all devices. -/
theorem total_at (c : Dev nD) (i : Fin 8) (r : Fin 128) (n : Fin 1024) (l : Fin 8192) (hl : l.val = 1024 * i.val + n.val) :
    addIn (part (F := Ideal) X W c i 31) (sendV (F := Ideal) X W i 30 (fromD c i)) (ix2 r n) = ∑ d : Fin 32, term X W c r l d := by
  rw [addIn_at, part_at X W c i 31 r n l hl, sendV_at X W i r n l hl 30 (by omega), row_from c i 30 (by omega), row_last]
  have h1 : ∑ d : Fin 32, term X W c r l d = ∑ t : Fin 32, term X W c r l (hop i c t.val) :=
    (Function.Bijective.sum_comp (Finite.injective_iff_bijective.mp (hop_inj i c)) fun d => term X W c r l d).symm
  rw [h1, Fin.sum_univ_eq_sum_range (fun t => term X W c r l (hop i c t)) 32,
    Finset.sum_range_succ' (fun t => term X W c r l (hop i c t)) 31, add_comm]
  beta_reduce
  rw [hop_zero]
  congr 1
  exact Finset.sum_congr rfl fun t _ => by rw [hop_succ]

end Dev

end Cert.RingProof
-- ==== Proof.Value.lean ====
/-
# The result is the reference's

The reference multiplies the whole arrays and applies the activation to every element. Its sum over 4096 columns is
the ring's sum over 32 devices of 128 columns each; the activation differs only in how a product of four factors is
bracketed.
-/
module

public import proofs.«01_k».proof.Proof.Sum
public import proofs.«01_k».proof.Proof.Gen.ReferenceIdeal.Run
public import Idealize.ShloMosaic.Lib.StackMember
public import Idealize.ShloMosaic.Lib.Layout

@[expose] public section

noncomputable section

namespace Cert.RingProof

open Cert.KernelIdeal Cert.KernelIdeal.Gen
open Idealize.ShloMosaic Idealize.ShloMosaic.TcCoe
open Idealize.ShloMosaic.ValueIdx
open scoped BigOperators

/-- The activation of one element. -/
def act (y : EReal) : EReal :=
  (Ideal.ofBits .f32 0x3F000000#32 : EReal) * y * ((Ideal.ofBits .f32 0x3F800000#32 : EReal)
    + FloatOps.tanh (F := Ideal) (φ := .f32) ((Ideal.ofBits .f32 0x3F4C422A#32 : EReal)
      * (y + (Ideal.ofBits .f32 0x3D372713#32 : EReal) * (y * y * y))))

theorem gelu_at (y : FVec Ideal S128x1024 .f32) (j : S128x1024.Idx) : gelu y j = act (y j) := by
  have h : gelu y j = (Ideal.ofBits .f32 0x3F000000#32 : EReal) * y j * ((Ideal.ofBits .f32 0x3F800000#32 : EReal)
    + FloatOps.tanh (F := Ideal) (φ := .f32) ((Ideal.ofBits .f32 0x3F4C422A#32 : EReal)
      * (y j + (Ideal.ofBits .f32 0x3D372713#32 : EReal) * y j * y j * y j))) := rfl
  rw [h]
  unfold act
  rw [mul_assoc (Ideal.ofBits .f32 0x3D372713#32 : EReal) (y j) (y j), mul_assoc (Ideal.ofBits .f32 0x3D372713#32 : EReal) (y j * y j) (y j)]

/-- The result at row `r`, column `l` of device `c`. -/
theorem outC_at (X : Dev nD → S4096x128.Idx → EReal) (W : Dev nD → S128x8192.Idx → EReal) (c : Dev nD) (r : Fin 128) (l : Fin 8192) :
    outC (F := Ideal) X W c (ix2 r l) = act (∑ d : Fin 32, term X W c r l d) := by
  have hl := l.isLt
  have h : outC (F := Ideal) X W c (ix2 r l)
      = resV (F := Ideal) X W c ⟨l.val / 1024, by omega⟩ (ix2 r ⟨l.val % 1024, Nat.mod_lt _ (by decide)⟩) := by
    unfold outC
    congr 1
    funext a
    match a with
    | ⟨0, _⟩ => rfl
    | ⟨1, _⟩ => rfl
  rw [h]
  unfold resV
  rw [gelu_at, total_at X W c _ r _ l (by show l.val = 1024 * (l.val / 1024) + l.val % 1024; omega)]

/-! ## The reference -/

abbrev AX := Cert.ReferenceIdeal.S4096x4096.Idx → EReal
abbrev AW := Cert.ReferenceIdeal.S4096x8192.Idx → EReal

/-- What the reference's run leaves in its result. -/
def refOut (x : AX) (w : AW) : AW := fun j => act (Host.dotGeneral (F := Ideal) (φ₁ := .f32) (φ₂ := .f32)
  Cert.ReferenceIdeal.dot_S4096x4096_S4096x8192_S4096x8192_1_0_0_1_n_n none x w j)

theorem dot_at (x : AX) (w : AW) (a : Fin 4096) (l : Fin 8192) :
    Host.dotGeneral (F := Ideal) (φ₁ := .f32) (φ₂ := .f32) Cert.ReferenceIdeal.dot_S4096x4096_S4096x8192_S4096x8192_1_0_0_1_n_n none x w (ix2 a l)
      = ∑ k : Fin 4096, x (ix2 a k) * w (ix2 k l) :=
  StackMember.dotGeneral_plain_apply (m := 4096) (k := 4096) (n := 8192) (φ₁ := .f32) (φ₂ := .f32) none x w a l

/-- The reference's sum, by devices. -/
theorem split_sum (f : Fin 4096 → EReal) :
    ∑ k : Fin 4096, f k = ∑ d : Fin 32, ∑ k : Fin 128, f ⟨128 * d.val + k.val, by have := d.isLt; have := k.isLt; omega⟩ := by
  rw [← Fintype.sum_prod_type', ← Equiv.sum_comp (finProdFinEquiv (m := 32) (n := 128)) f]
  refine Finset.sum_congr rfl fun p _ => congrArg f (Fin.ext ?_)
  show p.2.val + 128 * p.1.val = 128 * p.1.val + p.2.val
  omega

theorem block_eq (X : Dev nD → S4096x128.Idx → EReal) (W : Dev nD → S128x8192.Idx → EReal) (x : AX) (w : AW)
    (hX : ∀ d : Dev nD, X d = Layout.block ⟨2, ![4096, 128]⟩ ⟨2, ![4096, 4096]⟩ 1 32 d x)
    (hW : ∀ d : Dev nD, W d = Layout.block ⟨2, ![128, 8192]⟩ ⟨2, ![4096, 8192]⟩ 0 32 d w) (c : Dev nD) :
    outC (F := Ideal) X W c = Layout.block ⟨2, ![128, 8192]⟩ ⟨2, ![4096, 8192]⟩ 0 32 c (refOut x w) := by
  funext j
  obtain ⟨r, l, rfl⟩ : ∃ (r : Fin 128) (l : Fin 8192), j = ix2 r l := ⟨_, _, eq_ix2 j⟩
  have hc : c.val < 32 := c.isLt
  have hr := r.isLt
  rw [outC_at]
  have hi : Layout.Tiles.idx (S := ⟨2, ![128, 8192]⟩) (T := ⟨2, ![4096, 8192]⟩) (a := 0) (k := 32) (by decide) c (ix2 r l)
      = ix2 (⟨128 * c.val + r.val, by omega⟩ : Fin 4096) l := by
    funext a
    match a with
    | ⟨0, _⟩ => refine Fin.ext ?_; show c.val * 128 + r.val = 128 * c.val + r.val; omega
    | ⟨1, _⟩ => rfl
  show _ = refOut x w (Layout.Tiles.idx (S := ⟨2, ![128, 8192]⟩) (T := ⟨2, ![4096, 8192]⟩) (a := 0) (k := 32) (by decide) c (ix2 r l))
  rw [hi]
  unfold refOut
  rw [dot_at, split_sum]
  congr 1
  refine Finset.sum_congr rfl fun d _ => ?_
  unfold term
  refine Finset.sum_congr rfl fun k _ => ?_
  have hd := d.isLt
  have hk := k.isLt
  rw [hX d, hW d]
  refine congrArg₂ (· * ·) (congrArg x ?_) (congrArg w ?_)
  · funext a
    match a with
    | ⟨0, _⟩ => rfl
    | ⟨1, _⟩ => refine Fin.ext ?_; show d.val * 128 + k.val = 128 * d.val + k.val; omega
  · funext a
    match a with
    | ⟨0, _⟩ => refine Fin.ext ?_; show d.val * 128 + k.val = 128 * d.val + k.val; omega
    | ⟨1, _⟩ => rfl

/-! ## The arguments as the region finds them -/

section Args
variable {F : FTy → Type} [FloatOps F] (m : (ℓ : Loc nD τ sig) → Buf (Elt F) ℓ)
theorem Xv_eq (c : Dev nD) : Xv m c = m ((c : Thread nD τ).loc main_arg0) :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem Wv_eq (c : Dev nD) : Wv m c = m ((c : Thread nD τ).loc main_arg1) :=
  (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
end Args

/-- The reference's run, its result read as `refOut`. -/
theorem ref_run (m' : (ℓ : Loc Cert.ReferenceIdeal.nD Cert.ReferenceIdeal.τ Cert.ReferenceIdeal.sig) → Buf (Elt Ideal) ℓ) (x : AX) (w : AW)
    (hx : x = m' (((0 : Dev Cert.ReferenceIdeal.nD).tc : Thread Cert.ReferenceIdeal.nD Cert.ReferenceIdeal.τ).loc Cert.ReferenceIdeal.main_arg0))
    (hw : w = m' (((0 : Dev Cert.ReferenceIdeal.nD).tc : Thread Cert.ReferenceIdeal.nD Cert.ReferenceIdeal.τ).loc Cert.ReferenceIdeal.main_arg1)) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v15) = refOut x w
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine (θ_run Cert.ReferenceIdeal.defs _ _).mono (fun r h => ⟨(h 0).1.trans ?_, (h 0).2.1, (h 0).2.2⟩) (Cert.ReferenceIdeal.Value.run (F := Ideal) m' g')
  subst hx hw
  rfl

end Cert.RingProof
-- ==== Proof.SameMain.lean ====
/- The two printings of the program have the same text: here the operations before the region. -/
module

public import proofs.«01_k».proof.Proof.Gen.Kernel
public import proofs.«01_k».proof.Proof.Gen.KernelIdeal

@[expose] public section

noncomputable section

namespace Cert.RingProof

open Idealize.ShloMosaic Idealize.SL.Sem

variable {F : FTy → Type} [FloatOps F]

set_option maxHeartbeats 40000000 in
/-- The two printings prepare the peer table and enter the region alike. -/
theorem main_same : Cert.Kernel.main (F := F) = Cert.KernelIdeal.main (F := F) := (rfl)

end Cert.RingProof

end
-- ==== Proof.SameBody.lean ====
/- The two printings of the program have the same text: here the kernel's body and the table that holds it. -/
module

public import proofs.«01_k».proof.Proof.Gen.Kernel
public import proofs.«01_k».proof.Proof.Gen.KernelIdeal

@[expose] public section

noncomputable section

namespace Cert.RingProof

open Idealize.ShloMosaic Idealize.SL.Sem

variable {F : FTy → Type} [FloatOps F]

set_option maxHeartbeats 40000000 in
/-- The two printings of the kernel's body are one function. -/
theorem body_same : Cert.Kernel.cc0_body (F := F) = Cert.KernelIdeal.cc0_body (F := F) := (rfl)

set_option maxHeartbeats 40000000 in
/-- So are the tables of kernel bodies. -/
theorem bodies_same : Cert.Kernel.defs₀ (F := F) = Cert.KernelIdeal.defs₀ (F := F) := by
  funext p ℓ a
  cases p with
  | tc =>
    obtain ⟨i, h⟩ : Fin 1 := ℓ
    cases i with
    | zero =>
      obtain ⟨t, s⟩ := a
      exact rfl
    | succ n => exact absurd h (by omega)
  | scScalar _ => exact rfl
  | scVector _ _ => exact rfl

/-- And the tables with the region's pipeline added. -/
theorem defs_same : Cert.Kernel.defs (F := F) = Cert.KernelIdeal.defs (F := F) :=
  congrArg (Pipeline.defs (Cert.KernelIdeal.pcfgs (F := F))) bodies_same

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Words
public import proofs.«01_k».proof.Proof.Value
public import proofs.«01_k».proof.Proof.SameMain
public import proofs.«01_k».proof.Proof.SameBody
public import Idealize.ShloMosaic.Adequacy
public import Idealize.ShloMosaic.Init

@[expose] public section

noncomputable section

namespace Cert.Proof

open Idealize.ShloMosaic Idealize.SL.Sem

/-- The run in exact arithmetic keeps the arguments and ends with every counter at zero. -/
theorem frame_ideal : Cert.quiescent_KernelIdeal := fun m ρ _ =>
  (θ_run Cert.KernelIdeal.defs _ _).mono (fun _ h => ⟨fun c => ⟨(h.1 c).1, (h.1 c).2.1⟩, h.2⟩)
    (Cert.RingProof.run_main (F := Ideal) m ρ)

/-- The reference runs operation by operation and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal program is the program's own text. -/
theorem preserved : Cert.preserves_Kernel_KernelIdeal := trivial

/-- Every device's result is its block of rows of the reference's result. -/
theorem equal : Cert.algebraic_KernelIdeal_ReferenceIdeal := by
  intro m g m' g' _ hag
  refine ⟨Cert.RingProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, Cert.RingProof.ref_run m' _ _ rfl rfl g'⟩
  refine (θ_run Cert.KernelIdeal.defs _ _).mono (fun r h c => ⟨(h.1 c).2.2.1.trans ?_, (h.1 c).1, (h.1 c).2.1⟩) (Cert.RingProof.run_main (F := Ideal) m g)
  exact Cert.RingProof.block_eq (Cert.RingProof.Xv m) (Cert.RingProof.Wv m) _ _
    (fun d => (Cert.RingProof.Xv_eq m d).trans (hag d).1) (fun d => (Cert.RingProof.Wv_eq m d).trans (hag d).2) c

/-- The run over bit patterns keeps the arguments and ends with every counter at zero. -/
theorem run_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩)
    (Cert.RingProof.run_main (F := Bits) m ρ)

/-- The same run in the program's own arithmetic: the two printings are one program. -/
theorem frame_kernel : Cert.quiescent_Kernel := by
  intro m ρ _
  have h := run_bits m ρ
  rw [← Cert.RingProof.defs_same, ← Cert.RingProof.main_same] at h
  exact h

theorem claim : Cert.Claim := ⟨Cert.Kernel.Gen.facts, Cert.KernelIdeal.Gen.facts, Cert.ReferenceIdeal.Gen.facts,
  frame_kernel, frame_ideal, frame_reference, preserved, equal⟩

end Cert.Proof

end
